-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_real_statistics [hPre_real_statistics : Cert.Pre_real_statistics.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_real_statistics.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_real_statistics.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_real_statistics.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.1 = (fun _ => 1#1)
    ∧ (Cert.Pre_real_statistics.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.1 = (fun _ => 1#1)
    ∧ (Cert.Pre_real_statistics.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.1 = (fun _ => 1#1)
    ∧ (Cert.Pre_real_statistics.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_real_statistics [hPre_real_statistics : Cert.Pre_real_statistics.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_real_statistics.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_real_statistics.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_real_statistics.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.1 = (fun _ => 1#1)
    ∧ (Cert.Pre_real_statistics.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.1 = (fun _ => 1#1)
    ∧ (Cert.Pre_real_statistics.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.1 = (fun _ => 1#1)
    ∧ (Cert.Pre_real_statistics.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_real_statistics [hKernel3Ideal : Cert.Kernel3Ideal.Facts] [hPre_real_statistics : Cert.Pre_real_statistics.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_real_statistics m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_real_statistics [hReference3Ideal : Cert.Reference3Ideal.Facts] [hPre_real_statistics : Cert.Pre_real_statistics.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_real_statistics m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)) (v3 : (c : Dev Cert.Kernel2Ideal.nD) → Buf (Elt Ideal) ((c.tc : Thread Cert.Kernel2Ideal.nD Cert.Kernel2Ideal.τ).loc Cert.Kernel2Ideal.main_v32_3)) (v4 : (c : Dev Cert.Kernel2Ideal.nD) → Buf (Elt Ideal) ((c.tc : Thread Cert.Kernel2Ideal.nD Cert.Kernel2Ideal.τ).loc Cert.Kernel2Ideal.main_v32_4)) (v5 : (c : Dev Cert.Kernel2Ideal.nD) → Buf (Elt Ideal) ((c.tc : Thread Cert.Kernel2Ideal.nD Cert.Kernel2Ideal.τ).loc Cert.Kernel2Ideal.main_v32_5)) (v6 : (c : Dev Cert.Kernel2Ideal.nD) → Buf (Elt Ideal) ((c.tc : Thread Cert.Kernel2Ideal.nD Cert.Kernel2Ideal.τ).loc Cert.Kernel2Ideal.main_v32_6)) (v7 : (c : Dev Cert.Kernel2Ideal.nD) → Buf (Elt Ideal) ((c.tc : Thread Cert.Kernel2Ideal.nD Cert.Kernel2Ideal.τ).loc Cert.Kernel2Ideal.main_v32_7)) (v8 : (c : Dev Cert.Kernel2Ideal.nD) → Buf (Elt Ideal) ((c.tc : Thread Cert.Kernel2Ideal.nD Cert.Kernel2Ideal.τ).loc Cert.Kernel2Ideal.main_v32_8)) (v9 : (c : Dev Cert.Kernel2Ideal.nD) → Buf (Elt Ideal) ((c.tc : Thread Cert.Kernel2Ideal.nD Cert.Kernel2Ideal.τ).loc Cert.Kernel2Ideal.main_v32_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_v32_3) = v3 c
          ∧ r.2.mem ((c.tc : Thread Cert.Kernel2Ideal.nD Cert.Kernel2Ideal.τ).loc Cert.Kernel2Ideal.main_v32_4) = v4 c
          ∧ r.2.mem ((c.tc : Thread Cert.Kernel2Ideal.nD Cert.Kernel2Ideal.τ).loc Cert.Kernel2Ideal.main_v32_5) = v5 c
          ∧ r.2.mem ((c.tc : Thread Cert.Kernel2Ideal.nD Cert.Kernel2Ideal.τ).loc Cert.Kernel2Ideal.main_v32_6) = v6 c
          ∧ r.2.mem ((c.tc : Thread Cert.Kernel2Ideal.nD Cert.Kernel2Ideal.τ).loc Cert.Kernel2Ideal.main_v32_7) = v7 c
          ∧ r.2.mem ((c.tc : Thread Cert.Kernel2Ideal.nD Cert.Kernel2Ideal.τ).loc Cert.Kernel2Ideal.main_v32_8) = v8 c
          ∧ r.2.mem ((c.tc : Thread Cert.Kernel2Ideal.nD Cert.Kernel2Ideal.τ).loc Cert.Kernel2Ideal.main_v32_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_v95) = v3 c
          ∧ r.2.mem ((c.tc : Thread Cert.Reference2Ideal.nD Cert.Reference2Ideal.τ).loc Cert.Reference2Ideal.main_v100) = v4 c
          ∧ r.2.mem ((c.tc : Thread Cert.Reference2Ideal.nD Cert.Reference2Ideal.τ).loc Cert.Reference2Ideal.main_v105) = v5 c
          ∧ r.2.mem ((c.tc : Thread Cert.Reference2Ideal.nD Cert.Reference2Ideal.τ).loc Cert.Reference2Ideal.main_v110) = v6 c
          ∧ r.2.mem ((c.tc : Thread Cert.Reference2Ideal.nD Cert.Reference2Ideal.τ).loc Cert.Reference2Ideal.main_v115) = v7 c
          ∧ r.2.mem ((c.tc : Thread Cert.Reference2Ideal.nD Cert.Reference2Ideal.τ).loc Cert.Reference2Ideal.main_v120) = v8 c
          ∧ r.2.mem ((c.tc : Thread Cert.Reference2Ideal.nD Cert.Reference2Ideal.τ).loc Cert.Reference2Ideal.main_v122) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_real_statistics [hKernel3Ideal : Cert.Kernel3Ideal.Facts] [hReference3Ideal : Cert.Reference3Ideal.Facts] [hPre_real_statistics : Cert.Pre_real_statistics.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_real_statistics m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_real_statistics : Cert.Pre_real_statistics.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_real_statistics (hKernel3Ideal := hKernel3Ideal) (hPre_real_statistics := hPre_real_statistics)
    ∧ quiescent_Reference3Ideal (hReference3Ideal := hReference3Ideal)
    ∧ quiescent_Reference3Ideal_pre_real_statistics (hReference3Ideal := hReference3Ideal) (hPre_real_statistics := hPre_real_statistics)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_real_statistics (hKernel3Ideal := hKernel3Ideal) (hReference3Ideal := hReference3Ideal) (hPre_real_statistics := hPre_real_statistics)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_real_statistics.lean ====
abbrev S2x4x16x1x128x1024 : Shape := ⟨6, ![2, 4, 16, 1, 128, 1024]⟩
abbrev S2x4x4x4x128x1024 : Shape := ⟨6, ![2, 4, 4, 4, 128, 1024]⟩
abbrev S2x4x1x16x128x1024 : Shape := ⟨6, ![2, 4, 1, 16, 128, 1024]⟩
abbrev S2x4x16x1x128x128 : Shape := ⟨6, ![2, 4, 16, 1, 128, 128]⟩
abbrev S2x4x4x4x128x128 : Shape := ⟨6, ![2, 4, 4, 4, 128, 128]⟩
abbrev S2x4x1x16x128x128 : Shape := ⟨6, ![2, 4, 1, 16, 128, 128]⟩
abbrev S16384x1024 : Shape := ⟨2, ![16384, 1024]⟩
abbrev S1024x1024 : Shape := ⟨2, ![1024, 1024]⟩
abbrev S2x1024 : Shape := ⟨2, ![2, 1024]⟩
abbrev S2x4x16x1x128x8x16 : Shape := ⟨7, ![2, 4, 16, 1, 128, 8, 16]⟩
abbrev S2x4x16x1x128x8x1 : Shape := ⟨7, ![2, 4, 16, 1, 128, 8, 1]⟩
abbrev S2x4x16x1x128x8 : Shape := ⟨6, ![2, 4, 16, 1, 128, 8]⟩
abbrev S_ : Shape := ⟨0, ![]⟩
abbrev S2x4x4x4x128x8x16 : Shape := ⟨7, ![2, 4, 4, 4, 128, 8, 16]⟩
abbrev S2x4x4x4x128x8x1 : Shape := ⟨7, ![2, 4, 4, 4, 128, 8, 1]⟩
abbrev S2x4x4x4x128x8 : Shape := ⟨6, ![2, 4, 4, 4, 128, 8]⟩
abbrev S2x4x1x16x128x8x16 : Shape := ⟨7, ![2, 4, 1, 16, 128, 8, 16]⟩
abbrev S2x4x1x16x128x8x1 : Shape := ⟨7, ![2, 4, 1, 16, 128, 8, 1]⟩
abbrev S2x4x1x16x128x8 : Shape := ⟨6, ![2, 4, 1, 16, 128, 8]⟩

class Facts : Prop where
  shapeCasts_S2x4x16x1x128x128_S2x4x16x1x128x8x16 : S2x4x16x1x128x128.ShapeCasts S2x4x16x1x128x8x16
  slices_S2x4x16x1x128x8x16_S2x4x16x1x128x8x1_0_0_0_0_0_0_0 : S2x4x16x1x128x8x16.Slices ![0, 0, 0, 0, 0, 0, 0] S2x4x16x1x128x8x1
  shapeCasts_S2x4x16x1x128x8x1_S2x4x16x1x128x8 : S2x4x16x1x128x8x1.ShapeCasts S2x4x16x1x128x8
  bcast_S_S2x4x16x1x128x8 : S_.BroadcastsInDim S2x4x16x1x128x8 (![] : Fin 0 → Fin S2x4x16x1x128x8.rank)
  slices_S2x4x16x1x128x8x16_S2x4x16x1x128x8x1_0_0_0_0_0_0_8 : S2x4x16x1x128x8x16.Slices ![0, 0, 0, 0, 0, 0, 8] S2x4x16x1x128x8x1
  shapeCasts_S2x4x4x4x128x128_S2x4x4x4x128x8x16 : S2x4x4x4x128x128.ShapeCasts S2x4x4x4x128x8x16
  slices_S2x4x4x4x128x8x16_S2x4x4x4x128x8x1_0_0_0_0_0_0_0 : S2x4x4x4x128x8x16.Slices ![0, 0, 0, 0, 0, 0, 0] S2x4x4x4x128x8x1
  shapeCasts_S2x4x4x4x128x8x1_S2x4x4x4x128x8 : S2x4x4x4x128x8x1.ShapeCasts S2x4x4x4x128x8
  bcast_S_S2x4x4x4x128x8 : S_.BroadcastsInDim S2x4x4x4x128x8 (![] : Fin 0 → Fin S2x4x4x4x128x8.rank)
  slices_S2x4x4x4x128x8x16_S2x4x4x4x128x8x1_0_0_0_0_0_0_8 : S2x4x4x4x128x8x16.Slices ![0, 0, 0, 0, 0, 0, 8] S2x4x4x4x128x8x1
  shapeCasts_S2x4x1x16x128x128_S2x4x1x16x128x8x16 : S2x4x1x16x128x128.ShapeCasts S2x4x1x16x128x8x16
  slices_S2x4x1x16x128x8x16_S2x4x1x16x128x8x1_0_0_0_0_0_0_0 : S2x4x1x16x128x8x16.Slices ![0, 0, 0, 0, 0, 0, 0] S2x4x1x16x128x8x1
  shapeCasts_S2x4x1x16x128x8x1_S2x4x1x16x128x8 : S2x4x1x16x128x8x1.ShapeCasts S2x4x1x16x128x8
  bcast_S_S2x4x1x16x128x8 : S_.BroadcastsInDim S2x4x1x16x128x8 (![] : Fin 0 → Fin S2x4x1x16x128x8.rank)
  slices_S2x4x1x16x128x8x16_S2x4x1x16x128x8x1_0_0_0_0_0_0_8 : S2x4x1x16x128x8x16.Slices ![0, 0, 0, 0, 0, 0, 8] S2x4x1x16x128x8x1

variable [Facts]

def fn_part3 {F : FTy → Type} [FloatOps F] (main_v10 : IVec S2x4x16x1x128x8 1) (main_v21 : IVec S2x4x16x1x128x8 1) (main_v32 : IVec S2x4x4x4x128x8 1) (main_v43 : IVec S2x4x4x4x128x8 1) (main_v54 : IVec S2x4x1x16x128x8 1) (main_v59 : IVec S2x4x1x16x128x8 1) (main_v60 : FVec F S2x4x1x16x128x8x16 .f32) : IVec S2x4x16x1x128x8 1 × IVec S2x4x16x1x128x8 1 × IVec S2x4x4x4x128x8 1 × IVec S2x4x4x4x128x8 1 × IVec S2x4x1x16x128x8 1 × IVec S2x4x1x16x128x8 1 :=
  let main_v61 : FVec F S2x4x1x16x128x8x1 .f32 := (extractStridedSlice S2x4x1x16x128x8x1 ![0, 0, 0, 0, 0, 0, 8] · slices_S2x4x1x16x128x8x16_S2x4x1x16x128x8x1_0_0_0_0_0_0_8) main_v60
  let main_v62 : FVec F S2x4x1x16x128x8 .f32 := shapeCast S2x4x1x16x128x8 main_v61 shapeCasts_S2x4x1x16x128x8x1_S2x4x1x16x128x8
  let main_cst_10 : FVec F S_ .f32 := constant S_ .f32 0x7F800000#32
  let main_v63 : FVec F S2x4x1x16x128x8 .f32 := broadcastInDim S2x4x1x16x128x8 ![] bcast_S_S2x4x1x16x128x8 main_cst_10
  let main_v64 : IVec S2x4x1x16x128x8 1 := cmpf .olt main_v62 main_v63
  let main_v65 : IVec S2x4x1x16x128x8 1 := andi main_v59 main_v64
  (main_v10, main_v21, main_v32, main_v43, main_v54, main_v65)

def fn_part2 {F : FTy → Type} [FloatOps F] (main_arg5 : FVec F S2x4x1x16x128x128 .f32) (main_v10 : IVec S2x4x16x1x128x8 1) (main_v21 : IVec S2x4x16x1x128x8 1) (main_v32 : IVec S2x4x4x4x128x8 1) (main_v37 : IVec S2x4x4x4x128x8 1) (main_v40 : FVec F S2x4x4x4x128x8 .f32) : IVec S2x4x16x1x128x8 1 × IVec S2x4x16x1x128x8 1 × IVec S2x4x4x4x128x8 1 × IVec S2x4x4x4x128x8 1 × IVec S2x4x1x16x128x8 1 × IVec S2x4x1x16x128x8 1 :=
  let main_cst_6 : FVec F S_ .f32 := constant S_ .f32 0x7F800000#32
  let main_v41 : FVec F S2x4x4x4x128x8 .f32 := broadcastInDim S2x4x4x4x128x8 ![] bcast_S_S2x4x4x4x128x8 main_cst_6
  let main_v42 : IVec S2x4x4x4x128x8 1 := cmpf .olt main_v40 main_v41
  let main_v43 : IVec S2x4x4x4x128x8 1 := andi main_v37 main_v42
  let main_v44 : FVec F S2x4x1x16x128x8x16 .f32 := shapeCast S2x4x1x16x128x8x16 main_arg5 shapeCasts_S2x4x1x16x128x128_S2x4x1x16x128x8x16
  let main_v45 : FVec F S2x4x1x16x128x8x1 .f32 := (extractStridedSlice S2x4x1x16x128x8x1 ![0, 0, 0, 0, 0, 0, 0] · slices_S2x4x1x16x128x8x16_S2x4x1x16x128x8x1_0_0_0_0_0_0_0) main_v44
  let main_v46 : FVec F S2x4x1x16x128x8 .f32 := shapeCast S2x4x1x16x128x8 main_v45 shapeCasts_S2x4x1x16x128x8x1_S2x4x1x16x128x8
  let main_cst_7 : FVec F S_ .f32 := constant S_ .f32 0xFF800000#32
  let main_v47 : FVec F S2x4x1x16x128x8 .f32 := broadcastInDim S2x4x1x16x128x8 ![] bcast_S_S2x4x1x16x128x8 main_cst_7
  let main_v48 : IVec S2x4x1x16x128x8 1 := cmpf .ogt main_v46 main_v47
  let main_v49 : FVec F S2x4x1x16x128x8x16 .f32 := shapeCast S2x4x1x16x128x8x16 main_arg5 shapeCasts_S2x4x1x16x128x128_S2x4x1x16x128x8x16
  let main_v50 : FVec F S2x4x1x16x128x8x1 .f32 := (extractStridedSlice S2x4x1x16x128x8x1 ![0, 0, 0, 0, 0, 0, 0] · slices_S2x4x1x16x128x8x16_S2x4x1x16x128x8x1_0_0_0_0_0_0_0) main_v49
  let main_v51 : FVec F S2x4x1x16x128x8 .f32 := shapeCast S2x4x1x16x128x8 main_v50 shapeCasts_S2x4x1x16x128x8x1_S2x4x1x16x128x8
  let main_cst_8 : FVec F S_ .f32 := constant S_ .f32 0x7F800000#32
  let main_v52 : FVec F S2x4x1x16x128x8 .f32 := broadcastInDim S2x4x1x16x128x8 ![] bcast_S_S2x4x1x16x128x8 main_cst_8
  let main_v53 : IVec S2x4x1x16x128x8 1 := cmpf .olt main_v51 main_v52
  let main_v54 : IVec S2x4x1x16x128x8 1 := andi main_v48 main_v53
  let main_v55 : FVec F S2x4x1x16x128x8x16 .f32 := shapeCast S2x4x1x16x128x8x16 main_arg5 shapeCasts_S2x4x1x16x128x128_S2x4x1x16x128x8x16
  let main_v56 : FVec F S2x4x1x16x128x8x1 .f32 := (extractStridedSlice S2x4x1x16x128x8x1 ![0, 0, 0, 0, 0, 0, 8] · slices_S2x4x1x16x128x8x16_S2x4x1x16x128x8x1_0_0_0_0_0_0_8) main_v55
  let main_v57 : FVec F S2x4x1x16x128x8 .f32 := shapeCast S2x4x1x16x128x8 main_v56 shapeCasts_S2x4x1x16x128x8x1_S2x4x1x16x128x8
  let main_cst_9 : FVec F S_ .f32 := constant S_ .f32 0x00000000#32
  let main_v58 : FVec F S2x4x1x16x128x8 .f32 := broadcastInDim S2x4x1x16x128x8 ![] bcast_S_S2x4x1x16x128x8 main_cst_9
  let main_v59 : IVec S2x4x1x16x128x8 1 := cmpf .ogt main_v57 main_v58
  let main_v60 : FVec F S2x4x1x16x128x8x16 .f32 := shapeCast S2x4x1x16x128x8x16 main_arg5 shapeCasts_S2x4x1x16x128x128_S2x4x1x16x128x8x16
  fn_part3 (F := F) main_v10 main_v21 main_v32 main_v43 main_v54 main_v59 main_v60

def fn_part1 {F : FTy → Type} [FloatOps F] (main_arg4 : FVec F S2x4x4x4x128x128 .f32) (main_arg5 : FVec F S2x4x1x16x128x128 .f32) (main_v10 : IVec S2x4x16x1x128x8 1) (main_v15 : IVec S2x4x16x1x128x8 1) (main_v18 : FVec F S2x4x16x1x128x8 .f32) (main_v19 : FVec F S2x4x16x1x128x8 .f32) : IVec S2x4x16x1x128x8 1 × IVec S2x4x16x1x128x8 1 × IVec S2x4x4x4x128x8 1 × IVec S2x4x4x4x128x8 1 × IVec S2x4x1x16x128x8 1 × IVec S2x4x1x16x128x8 1 :=
  let main_v20 : IVec S2x4x16x1x128x8 1 := cmpf .olt main_v18 main_v19
  let main_v21 : IVec S2x4x16x1x128x8 1 := andi main_v15 main_v20
  let main_v22 : FVec F S2x4x4x4x128x8x16 .f32 := shapeCast S2x4x4x4x128x8x16 main_arg4 shapeCasts_S2x4x4x4x128x128_S2x4x4x4x128x8x16
  let main_v23 : FVec F S2x4x4x4x128x8x1 .f32 := (extractStridedSlice S2x4x4x4x128x8x1 ![0, 0, 0, 0, 0, 0, 0] · slices_S2x4x4x4x128x8x16_S2x4x4x4x128x8x1_0_0_0_0_0_0_0) main_v22
  let main_v24 : FVec F S2x4x4x4x128x8 .f32 := shapeCast S2x4x4x4x128x8 main_v23 shapeCasts_S2x4x4x4x128x8x1_S2x4x4x4x128x8
  let main_cst_3 : FVec F S_ .f32 := constant S_ .f32 0xFF800000#32
  let main_v25 : FVec F S2x4x4x4x128x8 .f32 := broadcastInDim S2x4x4x4x128x8 ![] bcast_S_S2x4x4x4x128x8 main_cst_3
  let main_v26 : IVec S2x4x4x4x128x8 1 := cmpf .ogt main_v24 main_v25
  let main_v27 : FVec F S2x4x4x4x128x8x16 .f32 := shapeCast S2x4x4x4x128x8x16 main_arg4 shapeCasts_S2x4x4x4x128x128_S2x4x4x4x128x8x16
  let main_v28 : FVec F S2x4x4x4x128x8x1 .f32 := (extractStridedSlice S2x4x4x4x128x8x1 ![0, 0, 0, 0, 0, 0, 0] · slices_S2x4x4x4x128x8x16_S2x4x4x4x128x8x1_0_0_0_0_0_0_0) main_v27
  let main_v29 : FVec F S2x4x4x4x128x8 .f32 := shapeCast S2x4x4x4x128x8 main_v28 shapeCasts_S2x4x4x4x128x8x1_S2x4x4x4x128x8
  let main_cst_4 : FVec F S_ .f32 := constant S_ .f32 0x7F800000#32
  let main_v30 : FVec F S2x4x4x4x128x8 .f32 := broadcastInDim S2x4x4x4x128x8 ![] bcast_S_S2x4x4x4x128x8 main_cst_4
  let main_v31 : IVec S2x4x4x4x128x8 1 := cmpf .olt main_v29 main_v30
  let main_v32 : IVec S2x4x4x4x128x8 1 := andi main_v26 main_v31
  let main_v33 : FVec F S2x4x4x4x128x8x16 .f32 := shapeCast S2x4x4x4x128x8x16 main_arg4 shapeCasts_S2x4x4x4x128x128_S2x4x4x4x128x8x16
  let main_v34 : FVec F S2x4x4x4x128x8x1 .f32 := (extractStridedSlice S2x4x4x4x128x8x1 ![0, 0, 0, 0, 0, 0, 8] · slices_S2x4x4x4x128x8x16_S2x4x4x4x128x8x1_0_0_0_0_0_0_8) main_v33
  let main_v35 : FVec F S2x4x4x4x128x8 .f32 := shapeCast S2x4x4x4x128x8 main_v34 shapeCasts_S2x4x4x4x128x8x1_S2x4x4x4x128x8
  let main_cst_5 : FVec F S_ .f32 := constant S_ .f32 0x00000000#32
  let main_v36 : FVec F S2x4x4x4x128x8 .f32 := broadcastInDim S2x4x4x4x128x8 ![] bcast_S_S2x4x4x4x128x8 main_cst_5
  let main_v37 : IVec S2x4x4x4x128x8 1 := cmpf .ogt main_v35 main_v36
  let main_v38 : FVec F S2x4x4x4x128x8x16 .f32 := shapeCast S2x4x4x4x128x8x16 main_arg4 shapeCasts_S2x4x4x4x128x128_S2x4x4x4x128x8x16
  let main_v39 : FVec F S2x4x4x4x128x8x1 .f32 := (extractStridedSlice S2x4x4x4x128x8x1 ![0, 0, 0, 0, 0, 0, 8] · slices_S2x4x4x4x128x8x16_S2x4x4x4x128x8x1_0_0_0_0_0_0_8) main_v38
  let main_v40 : FVec F S2x4x4x4x128x8 .f32 := shapeCast S2x4x4x4x128x8 main_v39 shapeCasts_S2x4x4x4x128x8x1_S2x4x4x4x128x8
  fn_part2 (F := F) main_arg5 main_v10 main_v21 main_v32 main_v37 main_v40

def fn {F : FTy → Type} [FloatOps F] (main_arg0 : FVec F S2x4x16x1x128x1024 .bf16) (main_arg1 : FVec F S2x4x4x4x128x1024 .bf16) (main_arg2 : FVec F S2x4x1x16x128x1024 .bf16) (main_arg3 : FVec F S2x4x16x1x128x128 .f32) (main_arg4 : FVec F S2x4x4x4x128x128 .f32) (main_arg5 : FVec F S2x4x1x16x128x128 .f32) (main_arg6 : FVec F S16384x1024 .bf16) (main_arg7 : FVec F S16384x1024 .f32) (main_arg8 : FVec F S1024x1024 .bf16) (main_arg9 : FVec F S2x1024 .f32) (main_arg10 : FVec F S2x1024 .f32) : IVec S2x4x16x1x128x8 1 × IVec S2x4x16x1x128x8 1 × IVec S2x4x4x4x128x8 1 × IVec S2x4x4x4x128x8 1 × IVec S2x4x1x16x128x8 1 × IVec S2x4x1x16x128x8 1 :=
  let main_v0 : FVec F S2x4x16x1x128x8x16 .f32 := shapeCast S2x4x16x1x128x8x16 main_arg3 shapeCasts_S2x4x16x1x128x128_S2x4x16x1x128x8x16
  let main_v1 : FVec F S2x4x16x1x128x8x1 .f32 := (extractStridedSlice S2x4x16x1x128x8x1 ![0, 0, 0, 0, 0, 0, 0] · slices_S2x4x16x1x128x8x16_S2x4x16x1x128x8x1_0_0_0_0_0_0_0) main_v0
  let main_v2 : FVec F S2x4x16x1x128x8 .f32 := shapeCast S2x4x16x1x128x8 main_v1 shapeCasts_S2x4x16x1x128x8x1_S2x4x16x1x128x8
  let main_cst : FVec F S_ .f32 := constant S_ .f32 0xFF800000#32
  let main_v3 : FVec F S2x4x16x1x128x8 .f32 := broadcastInDim S2x4x16x1x128x8 ![] bcast_S_S2x4x16x1x128x8 main_cst
  let main_v4 : IVec S2x4x16x1x128x8 1 := cmpf .ogt main_v2 main_v3
  let main_v5 : FVec F S2x4x16x1x128x8x16 .f32 := shapeCast S2x4x16x1x128x8x16 main_arg3 shapeCasts_S2x4x16x1x128x128_S2x4x16x1x128x8x16
  let main_v6 : FVec F S2x4x16x1x128x8x1 .f32 := (extractStridedSlice S2x4x16x1x128x8x1 ![0, 0, 0, 0, 0, 0, 0] · slices_S2x4x16x1x128x8x16_S2x4x16x1x128x8x1_0_0_0_0_0_0_0) main_v5
  let main_v7 : FVec F S2x4x16x1x128x8 .f32 := shapeCast S2x4x16x1x128x8 main_v6 shapeCasts_S2x4x16x1x128x8x1_S2x4x16x1x128x8
  let main_cst_0 : FVec F S_ .f32 := constant S_ .f32 0x7F800000#32
  let main_v8 : FVec F S2x4x16x1x128x8 .f32 := broadcastInDim S2x4x16x1x128x8 ![] bcast_S_S2x4x16x1x128x8 main_cst_0
  let main_v9 : IVec S2x4x16x1x128x8 1 := cmpf .olt main_v7 main_v8
  let main_v10 : IVec S2x4x16x1x128x8 1 := andi main_v4 main_v9
  let main_v11 : FVec F S2x4x16x1x128x8x16 .f32 := shapeCast S2x4x16x1x128x8x16 main_arg3 shapeCasts_S2x4x16x1x128x128_S2x4x16x1x128x8x16
  let main_v12 : FVec F S2x4x16x1x128x8x1 .f32 := (extractStridedSlice S2x4x16x1x128x8x1 ![0, 0, 0, 0, 0, 0, 8] · slices_S2x4x16x1x128x8x16_S2x4x16x1x128x8x1_0_0_0_0_0_0_8) main_v11
  let main_v13 : FVec F S2x4x16x1x128x8 .f32 := shapeCast S2x4x16x1x128x8 main_v12 shapeCasts_S2x4x16x1x128x8x1_S2x4x16x1x128x8
  let main_cst_1 : FVec F S_ .f32 := constant S_ .f32 0x00000000#32
  let main_v14 : FVec F S2x4x16x1x128x8 .f32 := broadcastInDim S2x4x16x1x128x8 ![] bcast_S_S2x4x16x1x128x8 main_cst_1
  let main_v15 : IVec S2x4x16x1x128x8 1 := cmpf .ogt main_v13 main_v14
  let main_v16 : FVec F S2x4x16x1x128x8x16 .f32 := shapeCast S2x4x16x1x128x8x16 main_arg3 shapeCasts_S2x4x16x1x128x128_S2x4x16x1x128x8x16
  let main_v17 : FVec F S2x4x16x1x128x8x1 .f32 := (extractStridedSlice S2x4x16x1x128x8x1 ![0, 0, 0, 0, 0, 0, 8] · slices_S2x4x16x1x128x8x16_S2x4x16x1x128x8x1_0_0_0_0_0_0_8) main_v16
  let main_v18 : FVec F S2x4x16x1x128x8 .f32 := shapeCast S2x4x16x1x128x8 main_v17 shapeCasts_S2x4x16x1x128x8x1_S2x4x16x1x128x8
  let main_cst_2 : FVec F S_ .f32 := constant S_ .f32 0x7F800000#32
  let main_v19 : FVec F S2x4x16x1x128x8 .f32 := broadcastInDim S2x4x16x1x128x8 ![] bcast_S_S2x4x16x1x128x8 main_cst_2
  fn_part1 (F := F) main_arg4 main_arg5 main_v10 main_v15 main_v18 main_v19
-- ==== Kernel.lean ====
abbrev S2x8192x8x128 : Shape := ⟨4, ![2, 8192, 8, 128]⟩
abbrev S2x8192x2x128 : Shape := ⟨4, ![2, 8192, 2, 128]⟩
abbrev S2x4x1x128x16x1024 : Shape := ⟨6, ![2, 4, 1, 128, 16, 1024]⟩
abbrev S2x4x1x16x128x1024 : Shape := ⟨6, ![2, 4, 1, 16, 128, 1024]⟩
abbrev S2x4x1x128x16x256 : Shape := ⟨6, ![2, 4, 1, 128, 16, 256]⟩
abbrev S2x4x1x16x128x256 : Shape := ⟨6, ![2, 4, 1, 16, 128, 256]⟩
abbrev S2x4x1x16x128x128 : Shape := ⟨6, ![2, 4, 1, 16, 128, 128]⟩
abbrev S1x1x1x16x128x1024 : Shape := ⟨6, ![1, 1, 1, 16, 128, 1024]⟩
abbrev S1x1x1x16x128x256 : Shape := ⟨6, ![1, 1, 1, 16, 128, 256]⟩
abbrev S1x1x1x16x128x128 : Shape := ⟨6, ![1, 1, 1, 16, 128, 128]⟩
abbrev S2x128x256 : Shape := ⟨3, ![2, 128, 256]⟩
abbrev S128x256 : Shape := ⟨2, ![128, 256]⟩
abbrev S1x128x256 : Shape := ⟨3, ![1, 128, 256]⟩
abbrev S128x128 : Shape := ⟨2, ![128, 128]⟩
abbrev S256x128 : Shape := ⟨2, ![256, 128]⟩
abbrev S1x1x1x1x128x512 : Shape := ⟨6, ![1, 1, 1, 1, 128, 512]⟩
abbrev S128x512 : Shape := ⟨2, ![128, 512]⟩
abbrev S512x128 : Shape := ⟨2, ![512, 128]⟩
abbrev S1x1x1x1x128x128 : Shape := ⟨6, ![1, 1, 1, 1, 128, 128]⟩
abbrev S512x256 : Shape := ⟨2, ![512, 256]⟩
abbrev S4x128x256 : Shape := ⟨3, ![4, 128, 256]⟩
abbrev S512 : Shape := ⟨1, ![512]⟩
abbrev S512x1 : Shape := ⟨2, ![512, 1]⟩
abbrev S256x256 : Shape := ⟨2, ![256, 256]⟩
abbrev S128x1 : Shape := ⟨2, ![128, 1]⟩

abbrev nBuf : Space → Nat
  | .hbm => 14
  | .vmem => 15
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S2x8192x8x128, .bf16⟩
  | .hbm, ⟨4, _⟩ => ⟨S2x4x1x128x16x1024, .bf16⟩
  | .hbm, ⟨5, _⟩ => ⟨S2x4x1x16x128x1024, .bf16⟩
  | .hbm, ⟨6, _⟩ => ⟨S2x8192x2x128, .bf16⟩
  | .hbm, ⟨7, _⟩ => ⟨S2x4x1x128x16x256, .bf16⟩
  | .hbm, ⟨8, _⟩ => ⟨S2x4x1x16x128x256, .bf16⟩
  | .hbm, ⟨9, _⟩ => ⟨S2x8192x2x128, .bf16⟩
  | .hbm, ⟨10, _⟩ => ⟨S2x4x1x128x16x256, .bf16⟩
  | .hbm, ⟨11, _⟩ => ⟨S2x4x1x16x128x256, .bf16⟩
  | .hbm, ⟨12, _⟩ => ⟨S2x4x1x16x128x1024, .bf16⟩
  | .hbm, ⟨13, _⟩ => ⟨S2x4x1x16x128x128, .f32⟩
  | .local _ .vmem, ⟨0, _⟩ => ⟨S1x1x1x16x128x1024, .bf16⟩
  | .local _ .vmem, ⟨1, _⟩ => ⟨S1x1x1x16x128x1024, .bf16⟩
  | .local _ .vmem, ⟨2, _⟩ => ⟨S1x1x1x16x128x256, .bf16⟩
  | .local _ .vmem, ⟨3, _⟩ => ⟨S1x1x1x16x128x256, .bf16⟩
  | .local _ .vmem, ⟨4, _⟩ => ⟨S1x1x1x16x128x256, .bf16⟩
  | .local _ .vmem, ⟨5, _⟩ => ⟨S1x1x1x16x128x256, .bf16⟩
  | .local _ .vmem, ⟨6, _⟩ => ⟨S1x1x1x16x128x256, .bf16⟩
  | .local _ .vmem, ⟨7, _⟩ => ⟨S1x1x1x16x128x256, .bf16⟩
  | .local _ .vmem, ⟨8, _⟩ => ⟨S1x1x1x16x128x256, .bf16⟩
  | .local _ .vmem, ⟨9, _⟩ => ⟨S1x1x1x16x128x256, .bf16⟩
  | .local _ .vmem, ⟨10, _⟩ => ⟨S1x1x1x16x128x1024, .bf16⟩
  | .local _ .vmem, ⟨11, _⟩ => ⟨S1x1x1x16x128x1024, .bf16⟩
  | .local _ .vmem, ⟨12, _⟩ => ⟨S1x1x1x16x128x128, .f32⟩
  | .local _ .vmem, ⟨13, _⟩ => ⟨S1x1x1x16x128x128, .f32⟩
  | .local _ .vmem, ⟨14, _⟩ => ⟨S2x128x256, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg1 : BitVec 32 := BitVec.ofNat 32 (i 1).val
  let c0_i32_15 : BitVec 32 := 0#32
  let v51 : BitVec 1 := Scalar.cmpi .eq arg1 c0_i32_15
  let c1_i32_16 : BitVec 32 := 1#32
  let c0_i32_17 : BitVec 32 := 0#32
  let v52 : BitVec 32 := Scalar.select v51 c1_i32_16 c0_i32_17
  let v53 : Index := Scalar.indexCast v52
  let c0_18 : Index := 0#32
  let c0_19 : Index := 0#32
  ![v53.toNat, 0, 0]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, v1.toNat, c0_i32_0.toNat, c0_i32_1.toNat, c0_i32_2.toNat, c0_i32_3.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_4 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, v1.toNat, c0_i32_0.toNat, c0_i32_1.toNat, c0_i32_2.toNat, c0_i32_3.toNat]

def cc0_transform_5 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_6 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x1x1x16x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x16x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x8192x8x128 : Shape := ⟨4, ![2, 8192, 8, 128]⟩
abbrev S2x8192x2x128 : Shape := ⟨4, ![2, 8192, 2, 128]⟩
abbrev S2x512x16x8x128 : Shape := ⟨5, ![2, 512, 16, 8, 128]⟩
abbrev S2x16x512x8x128 : Shape := ⟨5, ![2, 16, 512, 8, 128]⟩
abbrev S2x16x4x128x8x128 : Shape := ⟨6, ![2, 16, 4, 128, 8, 128]⟩
abbrev S2x16x4x128x2x4x128 : Shape := ⟨7, ![2, 16, 4, 128, 2, 4, 128]⟩
abbrev S2x512x16x2x128 : Shape := ⟨5, ![2, 512, 16, 2, 128]⟩
abbrev S2x16x512x2x128 : Shape := ⟨5, ![2, 16, 512, 2, 128]⟩
abbrev S2x16x4x128x2x128 : Shape := ⟨6, ![2, 16, 4, 128, 2, 128]⟩
abbrev S_ : Shape := ⟨0, ![]⟩
abbrev S2x16x5x128x2x128 : Shape := ⟨6, ![2, 16, 5, 128, 2, 128]⟩
abbrev S2x16x4x256x2x128 : Shape := ⟨6, ![2, 16, 4, 256, 2, 128]⟩
abbrev S2x16x4x2x256x128x4 : Shape := ⟨7, ![2, 16, 4, 2, 256, 128, 4]⟩
abbrev S2x16x4x2x4x128x256 : Shape := ⟨7, ![2, 16, 4, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S4x128x256 : Shape := ⟨3, ![4, 128, 256]⟩
abbrev S1x1x4x1x1x128x256 : Shape := ⟨7, ![1, 1, 4, 1, 1, 128, 256]⟩
abbrev S2x16x4x2x4x128 : Shape := ⟨6, ![2, 16, 4, 2, 4, 128]⟩
abbrev S2x16x4x2x4x128x1 : Shape := ⟨7, ![2, 16, 4, 2, 4, 128, 1]⟩
abbrev S2x16x4x2x128x4x128 : Shape := ⟨7, ![2, 16, 4, 2, 128, 4, 128]⟩
abbrev S2x16x4x128x2x4 : Shape := ⟨6, ![2, 16, 4, 128, 2, 4]⟩
abbrev S2x16x4x128x2x4x1 : Shape := ⟨7, ![2, 16, 4, 128, 2, 4, 1]⟩
abbrev S2x16x4x128x2x4x2 : Shape := ⟨7, ![2, 16, 4, 128, 2, 4, 2]⟩
abbrev S2x16x4x128x2x4x2x1 : Shape := ⟨8, ![2, 16, 4, 128, 2, 4, 2, 1]⟩
abbrev S2x16x4x128x2x4x2x8 : Shape := ⟨8, ![2, 16, 4, 128, 2, 4, 2, 8]⟩
abbrev S2x16x4x1x128x1024 : Shape := ⟨6, ![2, 16, 4, 1, 128, 1024]⟩
abbrev S2x4x1x16x128x1024 : Shape := ⟨6, ![2, 4, 1, 16, 128, 1024]⟩
abbrev S2x16x4x1x128x128 : Shape := ⟨6, ![2, 16, 4, 1, 128, 128]⟩
abbrev S2x4x1x16x128x128 : Shape := ⟨6, ![2, 4, 1, 16, 128, 128]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S2x512x16x8x128, .f32⟩
  | .hbm, ⟨4, _⟩ => ⟨S2x16x512x8x128, .f32⟩
  | .hbm, ⟨5, _⟩ => ⟨S2x16x4x128x8x128, .f32⟩
  | .hbm, ⟨6, _⟩ => ⟨S2x16x4x128x2x4x128, .f32⟩
  | .hbm, ⟨7, _⟩ => ⟨S2x512x16x2x128, .f32⟩
  | .hbm, ⟨8, _⟩ => ⟨S2x16x512x2x128, .f32⟩
  | .hbm, ⟨9, _⟩ => ⟨S2x16x4x128x2x128, .f32⟩
  | .hbm, ⟨10, _⟩ => ⟨S2x512x16x2x128, .f32⟩
  | .hbm, ⟨11, _⟩ => ⟨S2x16x512x2x128, .f32⟩
  | .hbm, ⟨12, _⟩ => ⟨S2x16x4x128x2x128, .f32⟩
  | .hbm, ⟨13, _⟩ => ⟨S_, .i32⟩
  | .hbm, ⟨14, _⟩ => ⟨S_, .f32⟩
  | .hbm, ⟨15, _⟩ => ⟨S2x16x5x128x2x128, .f32⟩
  | .hbm, ⟨16, _⟩ => ⟨S2x16x4x128x2x128, .f32⟩
  | .hbm, ⟨17, _⟩ => ⟨S2x16x4x256x2x128, .f32⟩
  | .hbm, ⟨18, _⟩ => ⟨S_, .i32⟩
  | .hbm, ⟨19, _⟩ => ⟨S_, .f32⟩
  | .hbm, ⟨20, _⟩ => ⟨S2x16x5x128x2x128, .f32⟩
  | .hbm, ⟨21, _⟩ => ⟨S2x16x4x128x2x128, .f32⟩
  | .hbm, ⟨22, _⟩ => ⟨S2x16x4x256x2x128, .f32⟩
  | .hbm, ⟨23, _⟩ => ⟨S2x16x4x2x256x128x4, .f32⟩
  | .hbm, ⟨24, _⟩ => ⟨S2x16x4x2x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S1x128x256, .i1⟩
  | .hbm, ⟨43, _⟩ => ⟨S4, .i32⟩
  | .hbm, ⟨44, _⟩ => ⟨S4x1x1, .i32⟩
  | .hbm, ⟨45, _⟩ => ⟨S_, .i32⟩
  | .hbm, ⟨46, _⟩ => ⟨S4x1x1, .i32⟩
  | .hbm, ⟨47, _⟩ => ⟨S4x1x1, .i1⟩
  | .hbm, ⟨48, _⟩ => ⟨S1x1x256, .i32⟩
  | .hbm, ⟨49, _⟩ => ⟨S_, .i32⟩
  | .hbm, ⟨50, _⟩ => ⟨S1x1x256, .i32⟩
  | .hbm, ⟨51, _⟩ => ⟨S1x1x256, .i1⟩
  | .hbm, ⟨52, _⟩ => ⟨S4x1x256, .i1⟩
  | .hbm, ⟨53, _⟩ => ⟨S4x1x256, .i1⟩
  | .hbm, ⟨54, _⟩ => ⟨S4x1x256, .i1⟩
  | .hbm, ⟨55, _⟩ => ⟨S4x128x256, .i1⟩
  | .hbm, ⟨56, _⟩ => ⟨S4x128x256, .i1⟩
  | .hbm, ⟨57, _⟩ => ⟨S4x128x256, .i1⟩
  | .hbm, ⟨58, _⟩ => ⟨S1x1x4x1x1x128x256, .i1⟩
  | .hbm, ⟨59, _⟩ => ⟨S_, .f32⟩
  | .hbm, ⟨60, _⟩ => ⟨S_, .f32⟩
  | .hbm, ⟨61, _⟩ => ⟨S2x16x4x2x4x128x256, .i1⟩
  | .hbm, ⟨62, _⟩ => ⟨S2x16x4x2x4x128x256, .f32⟩
  | .hbm, ⟨63, _⟩ => ⟨S2x16x4x2x4x128x256, .f32⟩
  | .hbm, ⟨64, _⟩ => ⟨S_, .f32⟩
  | .hbm, ⟨65, _⟩ => ⟨S2x16x4x2x4x128, .f32⟩
  | .hbm, ⟨66, _⟩ => ⟨S2x16x4x2x4x128x1, .f32⟩
  | .hbm, ⟨67, _⟩ => ⟨S2x16x4x2x4x128x256, .f32⟩
  | .hbm, ⟨68, _⟩ => ⟨S2x16x4x2x4x128x256, .f32⟩
  | .hbm, ⟨69, _⟩ => ⟨S2x16x4x2x4x128x256, .f32⟩
  | .hbm, ⟨70, _⟩ => ⟨S_, .f32⟩
  | .hbm, ⟨71, _⟩ => ⟨S2x16x4x2x4x128, .f32⟩
  | .hbm, ⟨72, _⟩ => ⟨S2x16x4x2x128x4x128, .f32⟩
  | .hbm, ⟨73, _⟩ => ⟨S2x16x4x128x2x4x128, .f32⟩
  | .hbm, ⟨74, _⟩ => ⟨S2x16x4x2x4x128, .f32⟩
  | .hbm, ⟨75, _⟩ => ⟨S2x16x4x128x2x4, .f32⟩
  | .hbm, ⟨76, _⟩ => ⟨S2x16x4x128x2x4, .f32⟩
  | .hbm, ⟨77, _⟩ => ⟨S2x16x4x128x2x4x1, .f32⟩
  | .hbm, ⟨78, _⟩ => ⟨S2x16x4x128x2x4x1, .f32⟩
  | .hbm, ⟨79, _⟩ => ⟨S2x16x4x128x2x4x2, .f32⟩
  | .hbm, ⟨80, _⟩ => ⟨S2x16x4x128x2x4x2x1, .f32⟩
  | .hbm, ⟨81, _⟩ => ⟨S2x16x4x128x2x4x2x8, .f32⟩
  | .hbm, ⟨82, _⟩ => ⟨S2x16x4x1x128x1024, .f32⟩
  | .hbm, ⟨83, _⟩ => ⟨S2x4x1x16x128x1024, .f32⟩
  | .hbm, ⟨84, _⟩ => ⟨S2x4x1x16x128x1024, .bf16⟩
  | .hbm, ⟨85, _⟩ => ⟨S2x16x4x1x128x128, .f32⟩
  | .hbm, ⟨86, _⟩ => ⟨S2x4x1x16x128x128, .f32⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x1536 : Shape := ⟨2, ![1024, 1536]⟩
abbrev S1024x4096 : Shape := ⟨2, ![1024, 4096]⟩
abbrev S1024x5632 : Shape := ⟨2, ![1024, 5632]⟩
abbrev S16384x1024 : Shape := ⟨2, ![16384, 1024]⟩
abbrev S64 : Shape := ⟨1, ![64]⟩
abbrev S_ : Shape := ⟨0, ![]⟩
abbrev S128 : Shape := ⟨1, ![128]⟩
abbrev S1x128 : Shape := ⟨2, ![1, 128]⟩
abbrev S8 : Shape := ⟨1, ![8]⟩
abbrev S8x1 : Shape := ⟨2, ![8, 1]⟩
abbrev S8x128 : Shape := ⟨2, ![8, 128]⟩
abbrev S1024 : Shape := ⟨1, ![1024]⟩
abbrev S1024x1 : Shape := ⟨2, ![1024, 1]⟩
abbrev S1024x128 : Shape := ⟨2, ![1024, 128]⟩
abbrev S2x4x16x1x128x256 : Shape := ⟨6, ![2, 4, 16, 1, 128, 256]⟩
abbrev S2x4x4x4x128x256 : Shape := ⟨6, ![2, 4, 4, 4, 128, 256]⟩
abbrev S2x4x1x16x128x256 : Shape := ⟨6, ![2, 4, 1, 16, 128, 256]⟩
abbrev S2x4x16x1x128x1024 : Shape := ⟨6, ![2, 4, 16, 1, 128, 1024]⟩
abbrev S2x4x4x4x128x1024 : Shape := ⟨6, ![2, 4, 4, 4, 128, 1024]⟩
abbrev S2x4x1x16x128x1024 : Shape := ⟨6, ![2, 4, 1, 16, 128, 1024]⟩
abbrev S1024x1024 : Shape := ⟨2, ![1024, 1024]⟩
abbrev S1x1x8x1x128x256 : Shape := ⟨6, ![1, 1, 8, 1, 128, 256]⟩
abbrev S1x1x2x4x128x256 : Shape := ⟨6, ![1, 1, 2, 4, 128, 256]⟩
abbrev S1x1x1x16x64x256 : Shape := ⟨6, ![1, 1, 1, 16, 64, 256]⟩
abbrev S1x1x8x1x128x1024 : Shape := ⟨6, ![1, 1, 8, 1, 128, 1024]⟩
abbrev S1x1x2x4x128x1024 : Shape := ⟨6, ![1, 1, 2, 4, 128, 1024]⟩
abbrev S1x1x1x16x64x1024 : Shape := ⟨6, ![1, 1, 1, 16, 64, 1024]⟩
abbrev S8x1024x128 : Shape := ⟨3, ![8, 1024, 128]⟩
abbrev S4x1024x128 : Shape := ⟨3, ![4, 1024, 128]⟩
abbrev S1x1024x128 : Shape := ⟨3, ![1, 1024, 128]⟩
abbrev S1024x256 : Shape := ⟨2, ![1024, 256]⟩
abbrev S8x1x128x128 : Shape := ⟨4, ![8, 1, 128, 128]⟩
abbrev S1x1x8x1x128x128 : Shape := ⟨6, ![1, 1, 8, 1, 128, 128]⟩
abbrev S1x128x128 : Shape := ⟨3, ![1, 128, 128]⟩
abbrev S128x128 : Shape := ⟨2, ![128, 128]⟩
abbrev S1x1x1x1x128x128 : Shape := ⟨6, ![1, 1, 1, 1, 128, 128]⟩
abbrev S1x64x128 : Shape := ⟨3, ![1, 64, 128]⟩
abbrev S64x128 : Shape := ⟨2, ![64, 128]⟩
abbrev S1x1x1x1x64x128 : Shape := ⟨6, ![1, 1, 1, 1, 64, 128]⟩

abbrev nBuf : Space → Nat
  | .hbm => 49
  | .vmem => 29
  | .smem => 0
  | _ => 0

abbrev bufTy : (tb : Table) → Fin (tcTables nBuf tb) → BufTy
  | .hbm, ⟨0, _⟩ => ⟨S2x8192x1024, .f32⟩
  | .hbm, ⟨1, _⟩ => ⟨S1024x1536, .f32⟩
  | .hbm, ⟨2, _⟩ => ⟨S1024x4096, .f32⟩
  | .hbm, ⟨3, _⟩ => ⟨S1024x1536, .bf16⟩
  | .hbm, ⟨4, _⟩ => ⟨S1024x4096, .bf16⟩
  | .hbm, ⟨5, _⟩ => ⟨S1024x5632, .bf16⟩
  | .hbm, ⟨6, _⟩ => ⟨S16384x1024, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x128, .f32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .f32⟩
  | .hbm, ⟨25, _⟩ => ⟨S8x1, .f32⟩
  | .hbm, ⟨26, _⟩ => ⟨S8x128, .f32⟩
  | .hbm, ⟨27, _⟩ => ⟨S8x128, .f32⟩
  | .hbm, ⟨28, _⟩ => ⟨S8x128, .f32⟩
  | .hbm, ⟨29, _⟩ => ⟨S1024, .i32⟩
  | .hbm, ⟨30, _⟩ => ⟨S1024, .f32⟩
  | .hbm, ⟨31, _⟩ => ⟨S1024x1, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S8x128, .f32⟩
  | .hbm, ⟨36, _⟩ => ⟨S8x128, .f32⟩
  | .hbm, ⟨37, _⟩ => ⟨S1024x128, .f32⟩
  | .hbm, ⟨38, _⟩ => ⟨S1024x128, .f32⟩
  | .hbm, ⟨39, _⟩ => ⟨S2x4x16x1x128x256, .bf16⟩
  | .hbm, ⟨40, _⟩ => ⟨S2x4x4x4x128x256, .bf16⟩
  | .hbm, ⟨41, _⟩ => ⟨S2x4x1x16x128x256, .bf16⟩
  | .hbm, ⟨42, _⟩ => ⟨S2x4x16x1x128x256, .bf16⟩
  | .hbm, ⟨43, _⟩ => ⟨S2x4x4x4x128x256, .bf16⟩
  | .hbm, ⟨44, _⟩ => ⟨S2x4x1x16x128x256, .bf16⟩
  | .hbm, ⟨45, _⟩ => ⟨S2x4x16x1x128x1024, .bf16⟩
  | .hbm, ⟨46, _⟩ => ⟨S2x4x4x4x128x1024, .bf16⟩
  | .hbm, ⟨47, _⟩ => ⟨S2x4x1x16x128x1024, .bf16⟩
  | .hbm, ⟨48, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S8x128, .f32⟩
  | .local _ .vmem, ⟨4, _⟩ => ⟨S8x128, .f32⟩
  | .local _ .vmem, ⟨5, _⟩ => ⟨S1024x128, .f32⟩
  | .local _ .vmem, ⟨6, _⟩ => ⟨S1024x128, .f32⟩
  | .local _ .vmem, ⟨7, _⟩ => ⟨S1x1x8x1x128x256, .bf16⟩
  | .local _ .vmem, ⟨8, _⟩ => ⟨S1x1x8x1x128x256, .bf16⟩
  | .local _ .vmem, ⟨9, _⟩ => ⟨S1x1x2x4x128x256, .bf16⟩
  | .local _ .vmem, ⟨10, _⟩ => ⟨S1x1x2x4x128x256, .bf16⟩
  | .local _ .vmem, ⟨11, _⟩ => ⟨S1x1x1x16x64x256, .bf16⟩
  | .local _ .vmem, ⟨12, _⟩ => ⟨S1x1x1x16x64x256, .bf16⟩
  | .local _ .vmem, ⟨13, _⟩ => ⟨S1x1x8x1x128x256, .bf16⟩
  | .local _ .vmem, ⟨14, _⟩ => ⟨S1x1x8x1x128x256, .bf16⟩
  | .local _ .vmem, ⟨15, _⟩ => ⟨S1x1x2x4x128x256, .bf16⟩
  | .local _ .vmem, ⟨16, _⟩ => ⟨S1x1x2x4x128x256, .bf16⟩
  | .local _ .vmem, ⟨17, _⟩ => ⟨S1x1x1x16x64x256, .bf16⟩
  | .local _ .vmem, ⟨18, _⟩ => ⟨S1x1x1x16x64x256, .bf16⟩
  | .local _ .vmem, ⟨19, _⟩ => ⟨S1x1x8x1x128x1024, .bf16⟩
  | .local _ .vmem, ⟨20, _⟩ => ⟨S1x1x8x1x128x1024, .bf16⟩
  | .local _ .vmem, ⟨21, _⟩ => ⟨S1x1x2x4x128x1024, .bf16⟩
  | .local _ .vmem, ⟨22, _⟩ => ⟨S1x1x2x4x128x1024, .bf16⟩
  | .local _ .vmem, ⟨23, _⟩ => ⟨S1x1x1x16x64x1024, .bf16⟩
  | .local _ .vmem, ⟨24, _⟩ => ⟨S1x1x1x16x64x1024, .bf16⟩
  | .local _ .vmem, ⟨25, _⟩ => ⟨S1024x1024, .bf16⟩
  | .local _ .vmem, ⟨26, _⟩ => ⟨S1024x1024, .bf16⟩
  | .local _ .vmem, ⟨27, _⟩ => ⟨S8x1024x128, .f32⟩
  | .local _ .vmem, ⟨28, _⟩ => ⟨S4x1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v32_5 : Ref sig .tc := ⟨.hbm, 44, rfl⟩
abbrev main_v32_6 : Ref sig .tc := ⟨.hbm, 45, rfl⟩
abbrev main_v32_7 : Ref sig .tc := ⟨.hbm, 46, rfl⟩
abbrev main_v32_8 : Ref sig .tc := ⟨.hbm, 47, rfl⟩
abbrev main_v32_9 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨3, ![2, 4, 2], ![false, false, false]⟩

def k0_off1 (i : grid0.Coords) : Fin 2 → Nat :=
  let arg1 : BitVec 32 := BitVec.ofNat 32 (i 1).val
  let c2_i32 : BitVec 32 := 2#32
  let v3 : BitVec 32 := Scalar.muli arg1 c2_i32
  let arg2 : BitVec 32 := BitVec.ofNat 32 (i 2).val
  let v4 : BitVec 32 := Scalar.addi v3 arg2
  let v5 : Index := Scalar.indexCast v4
  let c0_1 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_7 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_8 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, arg1.toNat, v16.toNat, c0_i32_10.toNat, v26.toNat, c0_i32_11.toNat]

def cc0_transform_9 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_10 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_11 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, arg1.toNat, v16.toNat, c0_i32_10.toNat, v26.toNat, c0_i32_11.toNat]

def cc0_transform_12 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_13 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_14 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, arg1.toNat, v16.toNat, c0_i32_10.toNat, v26.toNat, c0_i32_11.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x8x1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2x4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x16x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x8x1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x2x4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x16x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x8x1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x2x4x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x1x16x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== Reference2Ideal.lean ====
abbrev S2x8192x1024 : Shape := ⟨3, ![2, 8192, 1024]⟩
abbrev S1024x1536 : Shape := ⟨2, ![1024, 1536]⟩
abbrev S1024x4096 : Shape := ⟨2, ![1024, 4096]⟩
abbrev S8192 : Shape := ⟨1, ![8192]⟩
abbrev S2x8192x1536 : Shape := ⟨3, ![2, 8192, 1536]⟩
abbrev S2x8192x768 : Shape := ⟨3, ![2, 8192, 768]⟩
abbrev S2x8192x6x128 : Shape := ⟨4, ![2, 8192, 6, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S2x8192x6x64 : Shape := ⟨4, ![2, 8192, 6, 64]⟩
abbrev S2x8192x3x2x128 : Shape := ⟨5, ![2, 8192, 3, 2, 128]⟩
abbrev S2x8192x4096 : Shape := ⟨3, ![2, 8192, 4096]⟩
abbrev S2x8192x3072 : Shape := ⟨3, ![2, 8192, 3072]⟩
abbrev S2x8192x24x128 : Shape := ⟨4, ![2, 8192, 24, 128]⟩
abbrev S2x8192x24x64 : Shape := ⟨4, ![2, 8192, 24, 64]⟩
abbrev S2x8192x3x8x128 : Shape := ⟨5, ![2, 8192, 3, 8, 128]⟩
abbrev S2x8192x1x2x128 : Shape := ⟨5, ![2, 8192, 1, 2, 128]⟩
abbrev S2x8192x2x128 : Shape := ⟨4, ![2, 8192, 2, 128]⟩
abbrev S2x4x16x128x1x256 : Shape := ⟨6, ![2, 4, 16, 128, 1, 256]⟩
abbrev S2x4x16x1x128x256 : Shape := ⟨6, ![2, 4, 16, 1, 128, 256]⟩
abbrev S2x4x4x128x4x256 : Shape := ⟨6, ![2, 4, 4, 128, 4, 256]⟩
abbrev S2x4x4x4x128x256 : Shape := ⟨6, ![2, 4, 4, 4, 128, 256]⟩
abbrev S2x4x1x128x16x256 : Shape := ⟨6, ![2, 4, 1, 128, 16, 256]⟩
abbrev S2x4x1x16x128x256 : Shape := ⟨6, ![2, 4, 1, 16, 128, 256]⟩
abbrev S2x8192x1x8x128 : Shape := ⟨5, ![2, 8192, 1, 8, 128]⟩
abbrev S2x8192x8x128 : Shape := ⟨4, ![2, 8192, 8, 128]⟩
abbrev S2x4x16x128x1x1024 : Shape := ⟨6, ![2, 4, 16, 128, 1, 1024]⟩
abbrev S2x4x16x1x128x1024 : Shape := ⟨6, ![2, 4, 16, 1, 128, 1024]⟩
abbrev S2x4x4x128x4x1024 : Shape := ⟨6, ![2, 4, 4, 128, 4, 1024]⟩
abbrev S2x4x4x4x128x1024 : Shape := ⟨6, ![2, 4, 4, 4, 128, 1024]⟩
abbrev S2x4x1x128x16x1024 : Shape := ⟨6, ![2, 4, 1, 128, 16, 1024]⟩
abbrev S2x4x1x16x128x1024 : Shape := ⟨6, ![2, 4, 1, 16, 128, 1024]⟩
abbrev S16384x1024 : Shape := ⟨2, ![16384, 1024]⟩

abbrev nBuf : Space → Nat
  | .hbm => 133
  | .vmem => 0
  | .smem => 0
  | _ => 0

abbrev hbmTy0_0 (i : Nat) : BufTy := match i % 128 with
  | 0 => ⟨S2x8192x1024, .f32⟩
  | 1 => ⟨S1024x1536, .f32⟩
  | 2 => ⟨S1024x4096, .f32⟩
  | 3 => ⟨S8192, .i32⟩
  | 4 => ⟨S2x8192x1536, .f32⟩
  | 5 => ⟨S2x8192x768, .f32⟩
  | 6 => ⟨S2x8192x768, .f32⟩
  | 7 => ⟨S2x8192x6x128, .f32⟩
  | 8 => ⟨S64, .f32⟩
  | 9 => ⟨S_, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S8192, .f32⟩
  | 20 => ⟨S8192x1, .f32⟩
  | 21 => ⟨S1x64, .f32⟩
  | 22 => ⟨S8192x64, .f32⟩
  | 23 => ⟨S8192x64, .f32⟩
  | 24 => ⟨S8192x64, .f32⟩
  | 25 => ⟨S8192x64, .f32⟩
  | 26 => ⟨S1x8192x1x64, .f32⟩
  | 27 => ⟨S8192x64, .f32⟩
  | 28 => ⟨S1x8192x1x64, .f32⟩
  | 29 => ⟨S2x8192x6x64, .f32⟩
  | 30 => ⟨S2x8192x6x64, .f32⟩
  | 31 => ⟨S2x8192x6x64, .f32⟩
  | 32 => ⟨S2x8192x6x64, .f32⟩
  | 33 => ⟨S2x8192x6x64, .f32⟩
  | 34 => ⟨S2x8192x6x64, .f32⟩
  | 35 => ⟨S2x8192x6x64, .f32⟩
  | 36 => ⟨S2x8192x6x64, .f32⟩
  | 37 => ⟨S2x8192x6x64, .f32⟩
  | 38 => ⟨S2x8192x6x64, .f32⟩
  | 39 => ⟨S2x8192x6x64, .f32⟩
  | 40 => ⟨S2x8192x6x64, .f32⟩
  | 41 => ⟨S2x8192x6x128, .f32⟩
  | 42 => ⟨S2x8192x3x2x128, .f32⟩
  | 43 => ⟨S2x8192x3x2x128, .f32⟩
  | 44 => ⟨S2x8192x4096, .f32⟩
  | 45 => ⟨S2x8192x3072, .f32⟩
  | 46 => ⟨S2x8192x1024, .f32⟩
  | 47 => ⟨S2x8192x24x128, .f32⟩
  | 48 => ⟨S64, .f32⟩
  | 49 => ⟨S_, .f32⟩
  | 50 => ⟨S64, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S8192, .f32⟩
  | 60 => ⟨S8192x1, .f32⟩
  | 61 => ⟨S1x64, .f32⟩
  | 62 => ⟨S8192x64, .f32⟩
  | 63 => ⟨S8192x64, .f32⟩
  | 64 => ⟨S8192x64, .f32⟩
  | 65 => ⟨S8192x64, .f32⟩
  | 66 => ⟨S1x8192x1x64, .f32⟩
  | 67 => ⟨S8192x64, .f32⟩
  | 68 => ⟨S1x8192x1x64, .f32⟩
  | 69 => ⟨S2x8192x24x64, .f32⟩
  | 70 => ⟨S2x8192x24x64, .f32⟩
  | 71 => ⟨S2x8192x24x64, .f32⟩
  | 72 => ⟨S2x8192x24x64, .f32⟩
  | 73 => ⟨S2x8192x24x64, .f32⟩
  | 74 => ⟨S2x8192x24x64, .f32⟩
  | 75 => ⟨S2x8192x24x64, .f32⟩
  | 76 => ⟨S2x8192x24x64, .f32⟩
  | 77 => ⟨S2x8192x24x64, .f32⟩
  | 78 => ⟨S2x8192x24x64, .f32⟩
  | 79 => ⟨S2x8192x24x64, .f32⟩
  | 80 => ⟨S2x8192x24x64, .f32⟩
  | 81 => ⟨S2x8192x24x128, .f32⟩
  | 82 => ⟨S_, .f32⟩
  | 83 => ⟨S2x8192x24x128, .f32⟩
  | 84 => ⟨S2x8192x24x128, .f32⟩
  | 85 => ⟨S2x8192x3x8x128, .f32⟩
  | 86 => ⟨S2x8192x1x2x128, .f32⟩
  | 87 => ⟨S2x8192x2x128, .f32⟩
  | 88 => ⟨S2x8192x2x128, .bf16⟩
  | 89 => ⟨S2x4x16x128x1x256, .bf16⟩
  | 90 => ⟨S2x4x16x1x128x256, .bf16⟩
  | 91 => ⟨S2x8192x1x2x128, .f32⟩
  | 92 => ⟨S2x8192x2x128, .f32⟩
  | 93 => ⟨S2x8192x2x128, .bf16⟩
  | 94 => ⟨S2x4x4x128x4x256, .bf16⟩
  | 95 => ⟨S2x4x4x4x128x256, .bf16⟩
  | 96 => ⟨S2x8192x1x2x128, .f32⟩
  | 97 => ⟨S2x8192x2x128, .f32⟩
  | 98 => ⟨S2x8192x2x128, .bf16⟩
  | 99 => ⟨S2x4x1x128x16x256, .bf16⟩
  | 100 => ⟨S2x4x1x16x128x256, .bf16⟩
  | 101 => ⟨S2x8192x1x2x128, .f32⟩
  | 102 => ⟨S2x8192x2x128, .f32⟩
  | 103 => ⟨S2x8192x2x128, .bf16⟩
  | 104 => ⟨S2x4x16x128x1x256, .bf16⟩
  | 105 => ⟨S2x4x16x1x128x256, .bf16⟩
  | 106 => ⟨S2x8192x1x2x128, .f32⟩
  | 107 => ⟨S2x8192x2x128, .f32⟩
  | 108 => ⟨S2x8192x2x128, .bf16⟩
  | 109 => ⟨S2x4x4x128x4x256, .bf16⟩
  | 110 => ⟨S2x4x4x4x128x256, .bf16⟩
  | 111 => ⟨S2x8192x1x2x128, .f32⟩
  | 112 => ⟨S2x8192x2x128, .f32⟩
  | 113 => ⟨S2x8192x2x128, .bf16⟩
  | 114 => ⟨S2x4x1x128x16x256, .bf16⟩
  | 115 => ⟨S2x4x1x16x128x256, .bf16⟩
  | 116 => ⟨S2x8192x1x8x128, .f32⟩
  | 117 => ⟨S2x8192x8x128, .f32⟩
  | 118 => ⟨S2x8192x8x128, .bf16⟩
  | 119 => ⟨S2x4x16x128x1x1024, .bf16⟩
  | 120 => ⟨S2x4x16x1x128x1024, .bf16⟩
  | 121 => ⟨S2x8192x1x8x128, .f32⟩
  | 122 => ⟨S2x8192x8x128, .f32⟩
  | 123 => ⟨S2x8192x8x128, .bf16⟩
  | 124 => ⟨S2x4x4x128x4x1024, .bf16⟩
  | 125 => ⟨S2x4x4x4x128x1024, .bf16⟩
  | 126 => ⟨S2x8192x1x8x128, .f32⟩
  | 127 => ⟨S2x8192x8x128, .f32⟩
  | _ => ⟨S2x8192x1024, .f32⟩

abbrev hbmTy0_1 (i : Nat) : BufTy := match i % 128 with
  | 0 => ⟨S2x8192x8x128, .bf16⟩
  | 1 => ⟨S2x4x1x128x16x1024, .bf16⟩
  | 2 => ⟨S2x4x1x16x128x1024, .bf16⟩
  | 3 => ⟨S16384x1024, .f32⟩
  | 4 => ⟨S16384x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_5 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩

abbrev nD : Nat := 1
abbrev τ : Topo := Topo.v7x

variable {F : FTy → Type} [FloatOps F]
-- ==== Kernel3.lean ====
abbrev S2x4x16x1x128x1024 : Shape := ⟨6, ![2, 4, 16, 1, 128, 1024]⟩
abbrev S2x4x4x4x128x1024 : Shape := ⟨6, ![2, 4, 4, 4, 128, 1024]⟩
abbrev S2x4x1x16x128x1024 : Shape := ⟨6, ![2, 4, 1, 16, 128, 1024]⟩
abbrev S2x4x16x1x128x128 : Shape := ⟨6, ![2, 4, 16, 1, 128, 128]⟩
abbrev S2x4x4x4x128x128 : Shape := ⟨6, ![2, 4, 4, 4, 128, 128]⟩
abbrev S2x4x1x16x128x128 : Shape := ⟨6, ![2, 4, 1, 16, 128, 128]⟩
abbrev S16384x1024 : Shape := ⟨2, ![16384, 1024]⟩
abbrev S1024x1024 : Shape := ⟨2, ![1024, 1024]⟩
abbrev S2x1024 : Shape := ⟨2, ![2, 1024]⟩
abbrev S1x1x8x1x128x1024 : Shape := ⟨6, ![1, 1, 8, 1, 128, 1024]⟩
abbrev S1x1x2x4x128x1024 : Shape := ⟨6, ![1, 1, 2, 4, 128, 1024]⟩
abbrev S1x1x1x16x64x1024 : Shape := ⟨6, ![1, 1, 1, 16, 64, 1024]⟩
abbrev S1x1x8x1x128x128 : Shape := ⟨6, ![1, 1, 8, 1, 128, 128]⟩
abbrev S1x1x2x4x128x128 : Shape := ⟨6, ![1, 1, 2, 4, 128, 128]⟩
abbrev S1x1x1x16x64x128 : Shape := ⟨6, ![1, 1, 1, 16, 64, 128]⟩
abbrev S3x1024x128 : Shape := ⟨3, ![3, 1024, 128]⟩
abbrev S8x1024x128 : Shape := ⟨3, ![8, 1024, 128]⟩
abbrev S8x1x128x128 : Shape := ⟨4, ![8, 1, 128, 128]⟩
abbrev S1024x128 : Shape := ⟨2, ![1024, 128]⟩
abbrev S1x1x1x1x128x128 : Shape := ⟨6, ![1, 1, 1, 1, 128, 128]⟩
abbrev S128x128 : Shape := ⟨2, ![128, 128]⟩
abbrev S1x1024x128 : Shape := ⟨3, ![1, 1024, 128]⟩
abbrev S1x128x128 : Shape := ⟨3, ![1, 128, 128]⟩
abbrev S1x1x1x1x64x128 : Shape := ⟨6, ![1, 1, 1, 1, 64, 128]⟩
abbrev S64x128 : Shape := ⟨2, ![64, 128]⟩
abbrev S1x64x128 : Shape := ⟨3, ![1, 64, 128]⟩
abbrev S128x1024 : Shape := ⟨2, ![128, 1024]⟩
abbrev S8x1x128x1024 : Shape := ⟨4, ![8, 1, 128, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 12
  | .vmem => 23
  | .smem => 0
  | _ => 0

abbrev bufTy : (tb : Table) → Fin (tcTables nBuf tb) → BufTy
  | .hbm, ⟨0, _⟩ => ⟨S2x4x16x1x128x1024, .bf16⟩
  | .hbm, ⟨1, _⟩ => ⟨S2x4x4x4x128x1024, .bf16⟩
  | .hbm, ⟨2, _⟩ => ⟨S2x4x1x16x128x1024, .bf16⟩
  | .hbm, ⟨3, _⟩ => ⟨S2x4x16x1x128x128, .f32⟩
  | .hbm, ⟨4, _⟩ => ⟨S2x4x4x4x128x128, .f32⟩
  | .hbm, ⟨5, _⟩ => ⟨S2x4x1x16x128x128, .f32⟩
  | .hbm, ⟨6, _⟩ => ⟨S16384x1024, .bf16⟩
  | .hbm, ⟨7, _⟩ => ⟨S16384x1024, .f32⟩
  | .hbm, ⟨8, _⟩ => ⟨S1024x1024, .bf16⟩
  | .hbm, ⟨9, _⟩ => ⟨S2x1024, .f32⟩
  | .hbm, ⟨10, _⟩ => ⟨S2x1024, .f32⟩
  | .hbm, ⟨11, _⟩ => ⟨S16384x1024, .f32⟩
  | .local _ .vmem, ⟨0, _⟩ => ⟨S1x1x8x1x128x1024, .bf16⟩
  | .local _ .vmem, ⟨1, _⟩ => ⟨S1x1x8x1x128x1024, .bf16⟩
  | .local _ .vmem, ⟨2, _⟩ => ⟨S1x1x2x4x128x1024, .bf16⟩
  | .local _ .vmem, ⟨3, _⟩ => ⟨S1x1x2x4x128x1024, .bf16⟩
  | .local _ .vmem, ⟨4, _⟩ => ⟨S1x1x1x16x64x1024, .bf16⟩
  | .local _ .vmem, ⟨5, _⟩ => ⟨S1x1x1x16x64x1024, .bf16⟩
  | .local _ .vmem, ⟨6, _⟩ => ⟨S1x1x8x1x128x128, .f32⟩
  | .local _ .vmem, ⟨7, _⟩ => ⟨S1x1x8x1x128x128, .f32⟩
  | .local _ .vmem, ⟨8, _⟩ => ⟨S1x1x2x4x128x128, .f32⟩
  | .local _ .vmem, ⟨9, _⟩ => ⟨S1x1x2x4x128x128, .f32⟩
  | .local _ .vmem, ⟨10, _⟩ => ⟨S1x1x1x16x64x128, .f32⟩
  | .local _ .vmem, ⟨11, _⟩ => ⟨S1x1x1x16x64x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S2x1024, .f32⟩
  | .local _ .vmem, ⟨18, _⟩ => ⟨S2x1024, .f32⟩
  | .local _ .vmem, ⟨19, _⟩ => ⟨S1024x1024, .f32⟩
  | .local _ .vmem, ⟨20, _⟩ => ⟨S1024x1024, .f32⟩
  | .local _ .vmem, ⟨21, _⟩ => ⟨S3x1024x128, .f32⟩
  | .local _ .vmem, ⟨22, _⟩ => ⟨S8x1024x128, .f32⟩
  | _, _ => ⟨S2x4x16x1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_2 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, arg1.toNat, v16.toNat, c0_i32_10.toNat, v26.toNat, c0_i32_11.toNat]

def cc0_transform_3 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_4 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_5 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, arg1.toNat, v16.toNat, c0_i32_10.toNat, v26.toNat, c0_i32_11.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x1x8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Reference3Ideal.lean ====
abbrev S2x4x16x1x128x1024 : Shape := ⟨6, ![2, 4, 16, 1, 128, 1024]⟩
abbrev S2x4x4x4x128x1024 : Shape := ⟨6, ![2, 4, 4, 4, 128, 1024]⟩
abbrev S2x4x1x16x128x1024 : Shape := ⟨6, ![2, 4, 1, 16, 128, 1024]⟩
abbrev S2x4x16x1x128x128 : Shape := ⟨6, ![2, 4, 16, 1, 128, 128]⟩
abbrev S2x4x4x4x128x128 : Shape := ⟨6, ![2, 4, 4, 4, 128, 128]⟩
abbrev S2x4x1x16x128x128 : Shape := ⟨6, ![2, 4, 1, 16, 128, 128]⟩
abbrev S16384x1024 : Shape := ⟨2, ![16384, 1024]⟩
abbrev S1024x1024 : Shape := ⟨2, ![1024, 1024]⟩
abbrev S2x1024 : Shape := ⟨2, ![2, 1024]⟩
abbrev S2x4x16x128x1x128 : Shape := ⟨6, ![2, 4, 16, 128, 1, 128]⟩
abbrev S2x8192x8x16 : Shape := ⟨4, ![2, 8192, 8, 16]⟩
abbrev S2x8192x8x1 : Shape := ⟨4, ![2, 8192, 8, 1]⟩
abbrev S2x8192x8 : Shape := ⟨3, ![2, 8192, 8]⟩
abbrev S2x4x16x128x1x1024 : Shape := ⟨6, ![2, 4, 16, 128, 1, 1024]⟩
abbrev S2x8192x8x128 : Shape := ⟨4, ![2, 8192, 8, 128]⟩
abbrev S2x4x4x128x4x128 : Shape := ⟨6, ![2, 4, 4, 128, 4, 128]⟩
abbrev S2x4x4x128x4x1024 : Shape := ⟨6, ![2, 4, 4, 128, 4, 1024]⟩
abbrev S2x4x1x128x16x128 : Shape := ⟨6, ![2, 4, 1, 128, 16, 128]⟩
abbrev S2x4x1x128x16x1024 : Shape := ⟨6, ![2, 4, 1, 128, 16, 1024]⟩
abbrev S1x2x8192x8 : Shape := ⟨4, ![1, 2, 8192, 8]⟩
abbrev S3x2x8192x8 : Shape := ⟨4, ![3, 2, 8192, 8]⟩
abbrev S_ : Shape := ⟨0, ![]⟩
abbrev S3x2x8192x8x1 : Shape := ⟨5, ![3, 2, 8192, 8, 1]⟩
abbrev S1x2x8192x8x128 : Shape := ⟨5, ![1, 2, 8192, 8, 128]⟩
abbrev S3x2x8192x8x128 : Shape := ⟨5, ![3, 2, 8192, 8, 128]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩

abbrev nBuf : Space → Nat
  | .hbm => 129
  | .vmem => 0
  | .smem => 0
  | _ => 0

abbrev hbmTy0_0 (i : Nat) : BufTy := match i % 128 with
  | 0 => ⟨S2x4x16x1x128x1024, .bf16⟩
  | 1 => ⟨S2x4x4x4x128x1024, .bf16⟩
  | 2 => ⟨S2x4x1x16x128x1024, .bf16⟩
  | 3 => ⟨S2x4x16x1x128x128, .f32⟩
  | 4 => ⟨S2x4x4x4x128x128, .f32⟩
  | 5 => ⟨S2x4x1x16x128x128, .f32⟩
  | 6 => ⟨S16384x1024, .bf16⟩
  | 7 => ⟨S16384x1024, .f32⟩
  | 8 => ⟨S1024x1024, .bf16⟩
  | 9 => ⟨S2x1024, .f32⟩
  | 10 => ⟨S2x1024, .f32⟩
  | 11 => ⟨S2x4x16x128x1x128, .f32⟩
  | 12 => ⟨S2x8192x8x16, .f32⟩
  | 13 => ⟨S2x8192x8x1, .f32⟩
  | 14 => ⟨S2x8192x8, .f32⟩
  | 15 => ⟨S2x8192x8x1, .f32⟩
  | 16 => ⟨S2x8192x8, .f32⟩
  | 17 => ⟨S2x4x16x1x128x1024, .f32⟩
  | 18 => ⟨S2x4x16x128x1x1024, .f32⟩
  | 19 => ⟨S2x8192x8x128, .f32⟩
  | 20 => ⟨S2x8192x8x1, .f32⟩
  | 21 => ⟨S2x8192x8x128, .f32⟩
  | 22 => ⟨S2x8192x8x128, .f32⟩
  | 23 => ⟨S2x8192x8, .f32⟩
  | 24 => ⟨S2x8192x8, .f32⟩
  | 25 => ⟨S2x4x4x128x4x128, .f32⟩
  | 26 => ⟨S2x8192x8x16, .f32⟩
  | 27 => ⟨S2x8192x8x1, .f32⟩
  | 28 => ⟨S2x8192x8, .f32⟩
  | 29 => ⟨S2x8192x8x1, .f32⟩
  | 30 => ⟨S2x8192x8, .f32⟩
  | 31 => ⟨S2x4x4x4x128x1024, .f32⟩
  | 32 => ⟨S2x4x4x128x4x1024, .f32⟩
  | 33 => ⟨S2x8192x8x128, .f32⟩
  | 34 => ⟨S2x8192x8x1, .f32⟩
  | 35 => ⟨S2x8192x8x128, .f32⟩
  | 36 => ⟨S2x8192x8x128, .f32⟩
  | 37 => ⟨S2x8192x8, .f32⟩
  | 38 => ⟨S2x8192x8, .f32⟩
  | 39 => ⟨S2x4x1x128x16x128, .f32⟩
  | 40 => ⟨S2x8192x8x16, .f32⟩
  | 41 => ⟨S2x8192x8x1, .f32⟩
  | 42 => ⟨S2x8192x8, .f32⟩
  | 43 => ⟨S2x8192x8x1, .f32⟩
  | 44 => ⟨S2x8192x8, .f32⟩
  | 45 => ⟨S2x4x1x16x128x1024, .f32⟩
  | 46 => ⟨S2x4x1x128x16x1024, .f32⟩
  | 47 => ⟨S2x8192x8x128, .f32⟩
  | 48 => ⟨S2x8192x8x1, .f32⟩
  | 49 => ⟨S2x8192x8x128, .f32⟩
  | 50 => ⟨S2x8192x8x128, .f32⟩
  | 51 => ⟨S2x8192x8, .f32⟩
  | 52 => ⟨S2x8192x8, .f32⟩
  | 53 => ⟨S1x2x8192x8, .f32⟩
  | 54 => ⟨S1x2x8192x8, .f32⟩
  | 55 => ⟨S1x2x8192x8, .f32⟩
  | 56 => ⟨S3x2x8192x8, .f32⟩
  | 57 => ⟨S_, .f32⟩
  | 58 => ⟨S2x8192x8, .f32⟩
  | 59 => ⟨S_, .f32⟩
  | 60 => ⟨S2x8192x8, .f32⟩
  | 61 => ⟨S2x8192x8, .f32⟩
  | 62 => ⟨S1x2x8192x8, .f32⟩
  | 63 => ⟨S3x2x8192x8, .f32⟩
  | 64 => ⟨S3x2x8192x8, .f32⟩
  | 65 => ⟨S3x2x8192x8, .f32⟩
  | 66 => ⟨S_, .f32⟩
  | 67 => ⟨S2x8192x8, .f32⟩
  | 68 => ⟨S1x2x8192x8, .f32⟩
  | 69 => ⟨S3x2x8192x8, .f32⟩
  | 70 => ⟨S3x2x8192x8, .f32⟩
  | 71 => ⟨S3x2x8192x8x1, .f32⟩
  | 72 => ⟨S1x2x8192x8x128, .f32⟩
  | 73 => ⟨S1x2x8192x8x128, .f32⟩
  | 74 => ⟨S1x2x8192x8x128, .f32⟩
  | 75 => ⟨S3x2x8192x8x128, .f32⟩
  | 76 => ⟨S3x2x8192x8x128, .f32⟩
  | 77 => ⟨S3x2x8192x8x128, .f32⟩
  | 78 => ⟨S_, .f32⟩
  | 79 => ⟨S2x8192x8x128, .f32⟩
  | 80 => ⟨S16384x1024, .f32⟩
  | 81 => ⟨S16384x1024, .f32⟩
  | 82 => ⟨S16384x1024, .f32⟩
  | 83 => ⟨S16384x1024, .f32⟩
  | 84 => ⟨S_, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S16384x1024, .f32⟩
  | 92 => ⟨S1024x1024, .f32⟩
  | 93 => ⟨S16384x1024, .f32⟩
  | 94 => ⟨S_, .f32⟩
  | 95 => ⟨S16384x1024, .f32⟩
  | 96 => ⟨S16384x1024, .f32⟩
  | 97 => ⟨S16384x1024, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S16384x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S_, .f32⟩
  | 114 => ⟨S16384x1, .f32⟩
  | 115 => ⟨S16384x1, .f32⟩
  | 116 => ⟨S16384x1, .f32⟩
  | 117 => ⟨S16384x1024, .f32⟩
  | 118 => ⟨S16384x1024, .f32⟩
  | 119 => ⟨S1x1024, .f32⟩
  | 120 => ⟨S1024, .f32⟩
  | 121 => ⟨S1x1024, .f32⟩
  | 122 => ⟨S16384x1024, .f32⟩
  | 123 => ⟨S16384x1024, .f32⟩
  | 124 => ⟨S1x1024, .f32⟩
  | 125 => ⟨S1024, .f32⟩
  | 126 => ⟨S1x1024, .f32⟩
  | 127 => ⟨S16384x1024, .f32⟩
  | _ => ⟨S2x4x16x1x128x1024, .bf16⟩

abbrev hbmTy0_1 (i : Nat) : BufTy := match i % 128 with
  | 0 => ⟨S16384x1024, .f32⟩
  | _ => ⟨S2x4x16x1x128x1024, .bf16⟩

abbrev hbmTy (i : Nat) : BufTy := match i / 128 with
  | 0 => hbmTy0_0 i
  | 1 => hbmTy0_1 i
  | _ => ⟨S2x4x16x1x128x1024, .bf16⟩

abbrev bufTy : (tb : Table) → Fin (tcTables nBuf tb) → BufTy
  | .hbm, ⟨i, _⟩ => hbmTy i
  | _, _ => ⟨S2x4x16x1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev main_cst_0 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_1 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_3 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_4 : Ref sig .tc := ⟨.hbm, 98, rfl⟩
abbrev main_v74 : Ref sig .tc := ⟨.hbm, 99, rfl⟩
abbrev main_v75 : Ref sig .tc := ⟨.hbm, 100, rfl⟩
abbrev main_cst_5 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_6 : Ref sig .tc := ⟨.hbm, 107, rfl⟩
abbrev main_v81 : Ref sig .tc := ⟨.hbm, 108, rfl⟩
abbrev main_v82 : Ref sig .tc := ⟨.hbm, 109, rfl⟩
abbrev main_cst_7 : Ref sig .tc := ⟨.hbm, 110, rfl⟩
abbrev main_v83 : Ref sig .tc := ⟨.hbm, 111, rfl⟩
abbrev main_v84 : Ref sig .tc := ⟨.hbm, 112, rfl⟩
abbrev main_cst_8 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Kernel4.lean ====
abbrev S2x8192x8x128 : Shape := ⟨4, ![2, 8192, 8, 128]⟩
abbrev S2x8192x2x128 : Shape := ⟨4, ![2, 8192, 2, 128]⟩
abbrev S2x4x4x128x4x1024 : Shape := ⟨6, ![2, 4, 4, 128, 4, 1024]⟩
abbrev S2x4x4x4x128x1024 : Shape := ⟨6, ![2, 4, 4, 4, 128, 1024]⟩
abbrev S2x4x4x128x4x256 : Shape := ⟨6, ![2, 4, 4, 128, 4, 256]⟩
abbrev S2x4x4x4x128x256 : Shape := ⟨6, ![2, 4, 4, 4, 128, 256]⟩
abbrev S2x4x4x4x128x128 : Shape := ⟨6, ![2, 4, 4, 4, 128, 128]⟩
abbrev S1x1x4x4x128x1024 : Shape := ⟨6, ![1, 1, 4, 4, 128, 1024]⟩
abbrev S1x1x4x4x128x256 : Shape := ⟨6, ![1, 1, 4, 4, 128, 256]⟩
abbrev S1x1x1x4x128x256 : Shape := ⟨6, ![1, 1, 1, 4, 128, 256]⟩
abbrev S1x1x4x4x128x128 : Shape := ⟨6, ![1, 1, 4, 4, 128, 128]⟩
abbrev S2x128x256 : Shape := ⟨3, ![2, 128, 256]⟩
abbrev S128x256 : Shape := ⟨2, ![128, 256]⟩
abbrev S1x128x256 : Shape := ⟨3, ![1, 128, 256]⟩
abbrev S128x128 : Shape := ⟨2, ![128, 128]⟩
abbrev S256x128 : Shape := ⟨2, ![256, 128]⟩
abbrev S1x1x1x1x128x512 : Shape := ⟨6, ![1, 1, 1, 1, 128, 512]⟩
abbrev S128x512 : Shape := ⟨2, ![128, 512]⟩
abbrev S512x128 : Shape := ⟨2, ![512, 128]⟩
abbrev S1x1x1x1x128x128 : Shape := ⟨6, ![1, 1, 1, 1, 128, 128]⟩
abbrev S512x256 : Shape := ⟨2, ![512, 256]⟩
abbrev S4x128x256 : Shape := ⟨3, ![4, 128, 256]⟩
abbrev S512 : Shape := ⟨1, ![512]⟩
abbrev S512x1 : Shape := ⟨2, ![512, 1]⟩
abbrev S256x256 : Shape := ⟨2, ![256, 256]⟩
abbrev S128x1 : Shape := ⟨2, ![128, 1]⟩

abbrev nBuf : Space → Nat
  | .hbm => 14
  | .vmem => 15
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S2x8192x8x128, .bf16⟩
  | .hbm, ⟨4, _⟩ => ⟨S2x4x4x128x4x1024, .bf16⟩
  | .hbm, ⟨5, _⟩ => ⟨S2x4x4x4x128x1024, .bf16⟩
  | .hbm, ⟨6, _⟩ => ⟨S2x8192x2x128, .bf16⟩
  | .hbm, ⟨7, _⟩ => ⟨S2x4x4x128x4x256, .bf16⟩
  | .hbm, ⟨8, _⟩ => ⟨S2x4x4x4x128x256, .bf16⟩
  | .hbm, ⟨9, _⟩ => ⟨S2x8192x2x128, .bf16⟩
  | .hbm, ⟨10, _⟩ => ⟨S2x4x4x128x4x256, .bf16⟩
  | .hbm, ⟨11, _⟩ => ⟨S2x4x4x4x128x256, .bf16⟩
  | .hbm, ⟨12, _⟩ => ⟨S2x4x4x4x128x1024, .bf16⟩
  | .hbm, ⟨13, _⟩ => ⟨S2x4x4x4x128x128, .f32⟩
  | .local _ .vmem, ⟨0, _⟩ => ⟨S1x1x4x4x128x1024, .bf16⟩
  | .local _ .vmem, ⟨1, _⟩ => ⟨S1x1x4x4x128x1024, .bf16⟩
  | .local _ .vmem, ⟨2, _⟩ => ⟨S1x1x4x4x128x256, .bf16⟩
  | .local _ .vmem, ⟨3, _⟩ => ⟨S1x1x4x4x128x256, .bf16⟩
  | .local _ .vmem, ⟨4, _⟩ => ⟨S1x1x1x4x128x256, .bf16⟩
  | .local _ .vmem, ⟨5, _⟩ => ⟨S1x1x1x4x128x256, .bf16⟩
  | .local _ .vmem, ⟨6, _⟩ => ⟨S1x1x4x4x128x256, .bf16⟩
  | .local _ .vmem, ⟨7, _⟩ => ⟨S1x1x4x4x128x256, .bf16⟩
  | .local _ .vmem, ⟨8, _⟩ => ⟨S1x1x1x4x128x256, .bf16⟩
  | .local _ .vmem, ⟨9, _⟩ => ⟨S1x1x1x4x128x256, .bf16⟩
  | .local _ .vmem, ⟨10, _⟩ => ⟨S1x1x4x4x128x1024, .bf16⟩
  | .local _ .vmem, ⟨11, _⟩ => ⟨S1x1x4x4x128x1024, .bf16⟩
  | .local _ .vmem, ⟨12, _⟩ => ⟨S1x1x4x4x128x128, .f32⟩
  | .local _ .vmem, ⟨13, _⟩ => ⟨S1x1x4x4x128x128, .f32⟩
  | .local _ .vmem, ⟨14, _⟩ => ⟨S2x128x256, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg1 : BitVec 32 := BitVec.ofNat 32 (i 1).val
  let c0_i32_15 : BitVec 32 := 0#32
  let v51 : BitVec 1 := Scalar.cmpi .eq arg1 c0_i32_15
  let c1_i32_16 : BitVec 32 := 1#32
  let c0_i32_17 : BitVec 32 := 0#32
  let v52 : BitVec 32 := Scalar.select v51 c1_i32_16 c0_i32_17
  let v53 : Index := Scalar.indexCast v52
  let c0_18 : Index := 0#32
  let c0_19 : Index := 0#32
  ![v53.toNat, 0, 0]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  let c0_i32_2 : BitVec 32 := 0#32
  let c0_i32_3 : BitVec 32 := 0#32
  ![arg0.toNat, v1.toNat, c3_i32.toNat, c0_i32_0.toNat, c0_i32_1.toNat, c0_i32_2.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_4 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  let c0_i32_2 : BitVec 32 := 0#32
  let c0_i32_3 : BitVec 32 := 0#32
  ![arg0.toNat, v1.toNat, c3_i32.toNat, c0_i32_0.toNat, c0_i32_1.toNat, c0_i32_2.toNat]

def cc0_transform_5 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_6 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x1x4x4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x4x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x4x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x8192x8x128 : Shape := ⟨4, ![2, 8192, 8, 128]⟩
abbrev S2x8192x2x128 : Shape := ⟨4, ![2, 8192, 2, 128]⟩
abbrev S2x2048x4x8x128 : Shape := ⟨5, ![2, 2048, 4, 8, 128]⟩
abbrev S2x4x2048x8x128 : Shape := ⟨5, ![2, 4, 2048, 8, 128]⟩
abbrev S2x4x16x128x8x128 : Shape := ⟨6, ![2, 4, 16, 128, 8, 128]⟩
abbrev S2x4x16x128x2x4x128 : Shape := ⟨7, ![2, 4, 16, 128, 2, 4, 128]⟩
abbrev S2x2048x4x2x128 : Shape := ⟨5, ![2, 2048, 4, 2, 128]⟩
abbrev S2x4x2048x2x128 : Shape := ⟨5, ![2, 4, 2048, 2, 128]⟩
abbrev S2x4x16x128x2x128 : Shape := ⟨6, ![2, 4, 16, 128, 2, 128]⟩
abbrev S_ : Shape := ⟨0, ![]⟩
abbrev S2x4x17x128x2x128 : Shape := ⟨6, ![2, 4, 17, 128, 2, 128]⟩
abbrev S2x4x16x256x2x128 : Shape := ⟨6, ![2, 4, 16, 256, 2, 128]⟩
abbrev S2x4x16x2x256x128x4 : Shape := ⟨7, ![2, 4, 16, 2, 256, 128, 4]⟩
abbrev S2x4x16x2x4x128x256 : Shape := ⟨7, ![2, 4, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S1x1x16x1x1x128x256 : Shape := ⟨7, ![1, 1, 16, 1, 1, 128, 256]⟩
abbrev S2x4x16x2x4x128 : Shape := ⟨6, ![2, 4, 16, 2, 4, 128]⟩
abbrev S2x4x16x2x4x128x1 : Shape := ⟨7, ![2, 4, 16, 2, 4, 128, 1]⟩
abbrev S2x4x16x2x128x4x128 : Shape := ⟨7, ![2, 4, 16, 2, 128, 4, 128]⟩
abbrev S2x4x16x128x2x4 : Shape := ⟨6, ![2, 4, 16, 128, 2, 4]⟩
abbrev S2x4x16x128x2x4x1 : Shape := ⟨7, ![2, 4, 16, 128, 2, 4, 1]⟩
abbrev S2x4x16x128x2x4x2 : Shape := ⟨7, ![2, 4, 16, 128, 2, 4, 2]⟩
abbrev S2x4x16x128x2x4x2x1 : Shape := ⟨8, ![2, 4, 16, 128, 2, 4, 2, 1]⟩
abbrev S2x4x16x128x2x4x2x8 : Shape := ⟨8, ![2, 4, 16, 128, 2, 4, 2, 8]⟩
abbrev S2x4x4x4x128x1024 : Shape := ⟨6, ![2, 4, 4, 4, 128, 1024]⟩
abbrev S2x4x4x4x128x128 : Shape := ⟨6, ![2, 4, 4, 4, 128, 128]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S2x2048x4x8x128, .f32⟩
  | .hbm, ⟨4, _⟩ => ⟨S2x4x2048x8x128, .f32⟩
  | .hbm, ⟨5, _⟩ => ⟨S2x4x16x128x8x128, .f32⟩
  | .hbm, ⟨6, _⟩ => ⟨S2x4x16x128x2x4x128, .f32⟩
  | .hbm, ⟨7, _⟩ => ⟨S2x2048x4x2x128, .f32⟩
  | .hbm, ⟨8, _⟩ => ⟨S2x4x2048x2x128, .f32⟩
  | .hbm, ⟨9, _⟩ => ⟨S2x4x16x128x2x128, .f32⟩
  | .hbm, ⟨10, _⟩ => ⟨S2x2048x4x2x128, .f32⟩
  | .hbm, ⟨11, _⟩ => ⟨S2x4x2048x2x128, .f32⟩
  | .hbm, ⟨12, _⟩ => ⟨S2x4x16x128x2x128, .f32⟩
  | .hbm, ⟨13, _⟩ => ⟨S_, .i32⟩
  | .hbm, ⟨14, _⟩ => ⟨S_, .f32⟩
  | .hbm, ⟨15, _⟩ => ⟨S2x4x17x128x2x128, .f32⟩
  | .hbm, ⟨16, _⟩ => ⟨S2x4x16x128x2x128, .f32⟩
  | .hbm, ⟨17, _⟩ => ⟨S2x4x16x256x2x128, .f32⟩
  | .hbm, ⟨18, _⟩ => ⟨S_, .i32⟩
  | .hbm, ⟨19, _⟩ => ⟨S_, .f32⟩
  | .hbm, ⟨20, _⟩ => ⟨S2x4x17x128x2x128, .f32⟩
  | .hbm, ⟨21, _⟩ => ⟨S2x4x16x128x2x128, .f32⟩
  | .hbm, ⟨22, _⟩ => ⟨S2x4x16x256x2x128, .f32⟩
  | .hbm, ⟨23, _⟩ => ⟨S2x4x16x2x256x128x4, .f32⟩
  | .hbm, ⟨24, _⟩ => ⟨S2x4x16x2x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S1x128x256, .i1⟩
  | .hbm, ⟨43, _⟩ => ⟨S16, .i32⟩
  | .hbm, ⟨44, _⟩ => ⟨S16x1x1, .i32⟩
  | .hbm, ⟨45, _⟩ => ⟨S_, .i32⟩
  | .hbm, ⟨46, _⟩ => ⟨S16x1x1, .i32⟩
  | .hbm, ⟨47, _⟩ => ⟨S16x1x1, .i1⟩
  | .hbm, ⟨48, _⟩ => ⟨S1x1x256, .i32⟩
  | .hbm, ⟨49, _⟩ => ⟨S_, .i32⟩
  | .hbm, ⟨50, _⟩ => ⟨S1x1x256, .i32⟩
  | .hbm, ⟨51, _⟩ => ⟨S1x1x256, .i1⟩
  | .hbm, ⟨52, _⟩ => ⟨S16x1x256, .i1⟩
  | .hbm, ⟨53, _⟩ => ⟨S16x1x256, .i1⟩
  | .hbm, ⟨54, _⟩ => ⟨S16x1x256, .i1⟩
  | .hbm, ⟨55, _⟩ => ⟨S16x128x256, .i1⟩
  | .hbm, ⟨56, _⟩ => ⟨S16x128x256, .i1⟩
  | .hbm, ⟨57, _⟩ => ⟨S16x128x256, .i1⟩
  | .hbm, ⟨58, _⟩ => ⟨S1x1x16x1x1x128x256, .i1⟩
  | .hbm, ⟨59, _⟩ => ⟨S_, .f32⟩
  | .hbm, ⟨60, _⟩ => ⟨S_, .f32⟩
  | .hbm, ⟨61, _⟩ => ⟨S2x4x16x2x4x128x256, .i1⟩
  | .hbm, ⟨62, _⟩ => ⟨S2x4x16x2x4x128x256, .f32⟩
  | .hbm, ⟨63, _⟩ => ⟨S2x4x16x2x4x128x256, .f32⟩
  | .hbm, ⟨64, _⟩ => ⟨S_, .f32⟩
  | .hbm, ⟨65, _⟩ => ⟨S2x4x16x2x4x128, .f32⟩
  | .hbm, ⟨66, _⟩ => ⟨S2x4x16x2x4x128x1, .f32⟩
  | .hbm, ⟨67, _⟩ => ⟨S2x4x16x2x4x128x256, .f32⟩
  | .hbm, ⟨68, _⟩ => ⟨S2x4x16x2x4x128x256, .f32⟩
  | .hbm, ⟨69, _⟩ => ⟨S2x4x16x2x4x128x256, .f32⟩
  | .hbm, ⟨70, _⟩ => ⟨S_, .f32⟩
  | .hbm, ⟨71, _⟩ => ⟨S2x4x16x2x4x128, .f32⟩
  | .hbm, ⟨72, _⟩ => ⟨S2x4x16x2x128x4x128, .f32⟩
  | .hbm, ⟨73, _⟩ => ⟨S2x4x16x128x2x4x128, .f32⟩
  | .hbm, ⟨74, _⟩ => ⟨S2x4x16x2x4x128, .f32⟩
  | .hbm, ⟨75, _⟩ => ⟨S2x4x16x128x2x4, .f32⟩
  | .hbm, ⟨76, _⟩ => ⟨S2x4x16x128x2x4, .f32⟩
  | .hbm, ⟨77, _⟩ => ⟨S2x4x16x128x2x4x1, .f32⟩
  | .hbm, ⟨78, _⟩ => ⟨S2x4x16x128x2x4x1, .f32⟩
  | .hbm, ⟨79, _⟩ => ⟨S2x4x16x128x2x4x2, .f32⟩
  | .hbm, ⟨80, _⟩ => ⟨S2x4x16x128x2x4x2x1, .f32⟩
  | .hbm, ⟨81, _⟩ => ⟨S2x4x16x128x2x4x2x8, .f32⟩
  | .hbm, ⟨82, _⟩ => ⟨S2x4x4x4x128x1024, .f32⟩
  | .hbm, ⟨83, _⟩ => ⟨S2x4x4x4x128x1024, .f32⟩
  | .hbm, ⟨84, _⟩ => ⟨S2x4x4x4x128x1024, .bf16⟩
  | .hbm, ⟨85, _⟩ => ⟨S2x4x4x4x128x128, .f32⟩
  | .hbm, ⟨86, _⟩ => ⟨S2x4x4x4x128x128, .f32⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel5.lean ====
abbrev S2x8192x8x128 : Shape := ⟨4, ![2, 8192, 8, 128]⟩
abbrev S2x8192x2x128 : Shape := ⟨4, ![2, 8192, 2, 128]⟩
abbrev S2x4x16x128x1x1024 : Shape := ⟨6, ![2, 4, 16, 128, 1, 1024]⟩
abbrev S2x4x16x1x128x1024 : Shape := ⟨6, ![2, 4, 16, 1, 128, 1024]⟩
abbrev S2x4x16x128x1x256 : Shape := ⟨6, ![2, 4, 16, 128, 1, 256]⟩
abbrev S2x4x16x1x128x256 : Shape := ⟨6, ![2, 4, 16, 1, 128, 256]⟩
abbrev S2x4x16x1x128x128 : Shape := ⟨6, ![2, 4, 16, 1, 128, 128]⟩
abbrev S1x1x16x1x128x1024 : Shape := ⟨6, ![1, 1, 16, 1, 128, 1024]⟩
abbrev S1x1x16x1x128x256 : Shape := ⟨6, ![1, 1, 16, 1, 128, 256]⟩
abbrev S1x1x1x1x128x256 : Shape := ⟨6, ![1, 1, 1, 1, 128, 256]⟩
abbrev S1x1x16x1x128x128 : Shape := ⟨6, ![1, 1, 16, 1, 128, 128]⟩
abbrev S2x128x256 : Shape := ⟨3, ![2, 128, 256]⟩
abbrev S128x256 : Shape := ⟨2, ![128, 256]⟩
abbrev S1x128x256 : Shape := ⟨3, ![1, 128, 256]⟩
abbrev S128x128 : Shape := ⟨2, ![128, 128]⟩
abbrev S256x128 : Shape := ⟨2, ![256, 128]⟩
abbrev S1x1x1x1x128x512 : Shape := ⟨6, ![1, 1, 1, 1, 128, 512]⟩
abbrev S128x512 : Shape := ⟨2, ![128, 512]⟩
abbrev S512x128 : Shape := ⟨2, ![512, 128]⟩
abbrev S1x1x1x1x128x128 : Shape := ⟨6, ![1, 1, 1, 1, 128, 128]⟩
abbrev S512x256 : Shape := ⟨2, ![512, 256]⟩
abbrev S4x128x256 : Shape := ⟨3, ![4, 128, 256]⟩
abbrev S512 : Shape := ⟨1, ![512]⟩
abbrev S512x1 : Shape := ⟨2, ![512, 1]⟩
abbrev S256x256 : Shape := ⟨2, ![256, 256]⟩
abbrev S128x1 : Shape := ⟨2, ![128, 1]⟩

abbrev nBuf : Space → Nat
  | .hbm => 14
  | .vmem => 15
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S2x8192x8x128, .bf16⟩
  | .hbm, ⟨4, _⟩ => ⟨S2x4x16x128x1x1024, .bf16⟩
  | .hbm, ⟨5, _⟩ => ⟨S2x4x16x1x128x1024, .bf16⟩
  | .hbm, ⟨6, _⟩ => ⟨S2x8192x2x128, .bf16⟩
  | .hbm, ⟨7, _⟩ => ⟨S2x4x16x128x1x256, .bf16⟩
  | .hbm, ⟨8, _⟩ => ⟨S2x4x16x1x128x256, .bf16⟩
  | .hbm, ⟨9, _⟩ => ⟨S2x8192x2x128, .bf16⟩
  | .hbm, ⟨10, _⟩ => ⟨S2x4x16x128x1x256, .bf16⟩
  | .hbm, ⟨11, _⟩ => ⟨S2x4x16x1x128x256, .bf16⟩
  | .hbm, ⟨12, _⟩ => ⟨S2x4x16x1x128x1024, .bf16⟩
  | .hbm, ⟨13, _⟩ => ⟨S2x4x16x1x128x128, .f32⟩
  | .local _ .vmem, ⟨0, _⟩ => ⟨S1x1x16x1x128x1024, .bf16⟩
  | .local _ .vmem, ⟨1, _⟩ => ⟨S1x1x16x1x128x1024, .bf16⟩
  | .local _ .vmem, ⟨2, _⟩ => ⟨S1x1x16x1x128x256, .bf16⟩
  | .local _ .vmem, ⟨3, _⟩ => ⟨S1x1x16x1x128x256, .bf16⟩
  | .local _ .vmem, ⟨4, _⟩ => ⟨S1x1x1x1x128x256, .bf16⟩
  | .local _ .vmem, ⟨5, _⟩ => ⟨S1x1x1x1x128x256, .bf16⟩
  | .local _ .vmem, ⟨6, _⟩ => ⟨S1x1x16x1x128x256, .bf16⟩
  | .local _ .vmem, ⟨7, _⟩ => ⟨S1x1x16x1x128x256, .bf16⟩
  | .local _ .vmem, ⟨8, _⟩ => ⟨S1x1x1x1x128x256, .bf16⟩
  | .local _ .vmem, ⟨9, _⟩ => ⟨S1x1x1x1x128x256, .bf16⟩
  | .local _ .vmem, ⟨10, _⟩ => ⟨S1x1x16x1x128x1024, .bf16⟩
  | .local _ .vmem, ⟨11, _⟩ => ⟨S1x1x16x1x128x1024, .bf16⟩
  | .local _ .vmem, ⟨12, _⟩ => ⟨S1x1x16x1x128x128, .f32⟩
  | .local _ .vmem, ⟨13, _⟩ => ⟨S1x1x16x1x128x128, .f32⟩
  | .local _ .vmem, ⟨14, _⟩ => ⟨S2x128x256, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg1 : BitVec 32 := BitVec.ofNat 32 (i 1).val
  let c0_i32_15 : BitVec 32 := 0#32
  let v51 : BitVec 1 := Scalar.cmpi .eq arg1 c0_i32_15
  let c1_i32_16 : BitVec 32 := 1#32
  let c0_i32_17 : BitVec 32 := 0#32
  let v52 : BitVec 32 := Scalar.select v51 c1_i32_16 c0_i32_17
  let v53 : Index := Scalar.indexCast v52
  let c0_18 : Index := 0#32
  let c0_19 : Index := 0#32
  ![v53.toNat, 0, 0]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c15_i32 : BitVec 32 := 15#32
  let c0_i32_0 : BitVec 32 := 0#32
  let c0_i32_1 : BitVec 32 := 0#32
  let c0_i32_2 : BitVec 32 := 0#32
  let c0_i32_3 : BitVec 32 := 0#32
  ![arg0.toNat, v1.toNat, c15_i32.toNat, c0_i32_0.toNat, c0_i32_1.toNat, c0_i32_2.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_4 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c15_i32 : BitVec 32 := 15#32
  let c0_i32_0 : BitVec 32 := 0#32
  let c0_i32_1 : BitVec 32 := 0#32
  let c0_i32_2 : BitVec 32 := 0#32
  let c0_i32_3 : BitVec 32 := 0#32
  ![arg0.toNat, v1.toNat, c15_i32.toNat, c0_i32_0.toNat, c0_i32_1.toNat, c0_i32_2.toNat]

def cc0_transform_5 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_6 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x1x16x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x8192x8x128 : Shape := ⟨4, ![2, 8192, 8, 128]⟩
abbrev S2x8192x2x128 : Shape := ⟨4, ![2, 8192, 2, 128]⟩
abbrev S2x8192x1x8x128 : Shape := ⟨5, ![2, 8192, 1, 8, 128]⟩
abbrev S2x1x8192x8x128 : Shape := ⟨5, ![2, 1, 8192, 8, 128]⟩
abbrev S2x1x64x128x8x128 : Shape := ⟨6, ![2, 1, 64, 128, 8, 128]⟩
abbrev S2x1x64x128x2x4x128 : Shape := ⟨7, ![2, 1, 64, 128, 2, 4, 128]⟩
abbrev S2x8192x1x2x128 : Shape := ⟨5, ![2, 8192, 1, 2, 128]⟩
abbrev S2x1x8192x2x128 : Shape := ⟨5, ![2, 1, 8192, 2, 128]⟩
abbrev S2x1x64x128x2x128 : Shape := ⟨6, ![2, 1, 64, 128, 2, 128]⟩
abbrev S_ : Shape := ⟨0, ![]⟩
abbrev S2x1x65x128x2x128 : Shape := ⟨6, ![2, 1, 65, 128, 2, 128]⟩
abbrev S2x1x64x256x2x128 : Shape := ⟨6, ![2, 1, 64, 256, 2, 128]⟩
abbrev S2x1x64x2x256x128x4 : Shape := ⟨7, ![2, 1, 64, 2, 256, 128, 4]⟩
abbrev S2x1x64x2x4x128x256 : Shape := ⟨7, ![2, 1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S1x1x64x1x1x128x256 : Shape := ⟨7, ![1, 1, 64, 1, 1, 128, 256]⟩
abbrev S2x1x64x2x4x128 : Shape := ⟨6, ![2, 1, 64, 2, 4, 128]⟩
abbrev S2x1x64x2x4x128x1 : Shape := ⟨7, ![2, 1, 64, 2, 4, 128, 1]⟩
abbrev S2x1x64x2x128x4x128 : Shape := ⟨7, ![2, 1, 64, 2, 128, 4, 128]⟩
abbrev S2x1x64x128x2x4 : Shape := ⟨6, ![2, 1, 64, 128, 2, 4]⟩
abbrev S2x1x64x128x2x4x1 : Shape := ⟨7, ![2, 1, 64, 128, 2, 4, 1]⟩
abbrev S2x1x64x128x2x4x2 : Shape := ⟨7, ![2, 1, 64, 128, 2, 4, 2]⟩
abbrev S2x1x64x128x2x4x2x1 : Shape := ⟨8, ![2, 1, 64, 128, 2, 4, 2, 1]⟩
abbrev S2x1x64x128x2x4x2x8 : Shape := ⟨8, ![2, 1, 64, 128, 2, 4, 2, 8]⟩
abbrev S2x1x4x16x128x1024 : Shape := ⟨6, ![2, 1, 4, 16, 128, 1024]⟩
abbrev S2x4x16x1x128x1024 : Shape := ⟨6, ![2, 4, 16, 1, 128, 1024]⟩
abbrev S2x1x4x16x128x128 : Shape := ⟨6, ![2, 1, 4, 16, 128, 128]⟩
abbrev S2x4x16x1x128x128 : Shape := ⟨6, ![2, 4, 16, 1, 128, 128]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S2x8192x1x8x128, .f32⟩
  | .hbm, ⟨4, _⟩ => ⟨S2x1x8192x8x128, .f32⟩
  | .hbm, ⟨5, _⟩ => ⟨S2x1x64x128x8x128, .f32⟩
  | .hbm, ⟨6, _⟩ => ⟨S2x1x64x128x2x4x128, .f32⟩
  | .hbm, ⟨7, _⟩ => ⟨S2x8192x1x2x128, .f32⟩
  | .hbm, ⟨8, _⟩ => ⟨S2x1x8192x2x128, .f32⟩
  | .hbm, ⟨9, _⟩ => ⟨S2x1x64x128x2x128, .f32⟩
  | .hbm, ⟨10, _⟩ => ⟨S2x8192x1x2x128, .f32⟩
  | .hbm, ⟨11, _⟩ => ⟨S2x1x8192x2x128, .f32⟩
  | .hbm, ⟨12, _⟩ => ⟨S2x1x64x128x2x128, .f32⟩
  | .hbm, ⟨13, _⟩ => ⟨S_, .i32⟩
  | .hbm, ⟨14, _⟩ => ⟨S_, .f32⟩
  | .hbm, ⟨15, _⟩ => ⟨S2x1x65x128x2x128, .f32⟩
  | .hbm, ⟨16, _⟩ => ⟨S2x1x64x128x2x128, .f32⟩
  | .hbm, ⟨17, _⟩ => ⟨S2x1x64x256x2x128, .f32⟩
  | .hbm, ⟨18, _⟩ => ⟨S_, .i32⟩
  | .hbm, ⟨19, _⟩ => ⟨S_, .f32⟩
  | .hbm, ⟨20, _⟩ => ⟨S2x1x65x128x2x128, .f32⟩
  | .hbm, ⟨21, _⟩ => ⟨S2x1x64x128x2x128, .f32⟩
  | .hbm, ⟨22, _⟩ => ⟨S2x1x64x256x2x128, .f32⟩
  | .hbm, ⟨23, _⟩ => ⟨S2x1x64x2x256x128x4, .f32⟩
  | .hbm, ⟨24, _⟩ => ⟨S2x1x64x2x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S1x128x256, .i1⟩
  | .hbm, ⟨43, _⟩ => ⟨S64, .i32⟩
  | .hbm, ⟨44, _⟩ => ⟨S64x1x1, .i32⟩
  | .hbm, ⟨45, _⟩ => ⟨S_, .i32⟩
  | .hbm, ⟨46, _⟩ => ⟨S64x1x1, .i32⟩
  | .hbm, ⟨47, _⟩ => ⟨S64x1x1, .i1⟩
  | .hbm, ⟨48, _⟩ => ⟨S1x1x256, .i32⟩
  | .hbm, ⟨49, _⟩ => ⟨S_, .i32⟩
  | .hbm, ⟨50, _⟩ => ⟨S1x1x256, .i32⟩
  | .hbm, ⟨51, _⟩ => ⟨S1x1x256, .i1⟩
  | .hbm, ⟨52, _⟩ => ⟨S64x1x256, .i1⟩
  | .hbm, ⟨53, _⟩ => ⟨S64x1x256, .i1⟩
  | .hbm, ⟨54, _⟩ => ⟨S64x1x256, .i1⟩
  | .hbm, ⟨55, _⟩ => ⟨S64x128x256, .i1⟩
  | .hbm, ⟨56, _⟩ => ⟨S64x128x256, .i1⟩
  | .hbm, ⟨57, _⟩ => ⟨S64x128x256, .i1⟩
  | .hbm, ⟨58, _⟩ => ⟨S1x1x64x1x1x128x256, .i1⟩
  | .hbm, ⟨59, _⟩ => ⟨S_, .f32⟩
  | .hbm, ⟨60, _⟩ => ⟨S_, .f32⟩
  | .hbm, ⟨61, _⟩ => ⟨S2x1x64x2x4x128x256, .i1⟩
  | .hbm, ⟨62, _⟩ => ⟨S2x1x64x2x4x128x256, .f32⟩
  | .hbm, ⟨63, _⟩ => ⟨S2x1x64x2x4x128x256, .f32⟩
  | .hbm, ⟨64, _⟩ => ⟨S_, .f32⟩
  | .hbm, ⟨65, _⟩ => ⟨S2x1x64x2x4x128, .f32⟩
  | .hbm, ⟨66, _⟩ => ⟨S2x1x64x2x4x128x1, .f32⟩
  | .hbm, ⟨67, _⟩ => ⟨S2x1x64x2x4x128x256, .f32⟩
  | .hbm, ⟨68, _⟩ => ⟨S2x1x64x2x4x128x256, .f32⟩
  | .hbm, ⟨69, _⟩ => ⟨S2x1x64x2x4x128x256, .f32⟩
  | .hbm, ⟨70, _⟩ => ⟨S_, .f32⟩
  | .hbm, ⟨71, _⟩ => ⟨S2x1x64x2x4x128, .f32⟩
  | .hbm, ⟨72, _⟩ => ⟨S2x1x64x2x128x4x128, .f32⟩
  | .hbm, ⟨73, _⟩ => ⟨S2x1x64x128x2x4x128, .f32⟩
  | .hbm, ⟨74, _⟩ => ⟨S2x1x64x2x4x128, .f32⟩
  | .hbm, ⟨75, _⟩ => ⟨S2x1x64x128x2x4, .f32⟩
  | .hbm, ⟨76, _⟩ => ⟨S2x1x64x128x2x4, .f32⟩
  | .hbm, ⟨77, _⟩ => ⟨S2x1x64x128x2x4x1, .f32⟩
  | .hbm, ⟨78, _⟩ => ⟨S2x1x64x128x2x4x1, .f32⟩
  | .hbm, ⟨79, _⟩ => ⟨S2x1x64x128x2x4x2, .f32⟩
  | .hbm, ⟨80, _⟩ => ⟨S2x1x64x128x2x4x2x1, .f32⟩
  | .hbm, ⟨81, _⟩ => ⟨S2x1x64x128x2x4x2x8, .f32⟩
  | .hbm, ⟨82, _⟩ => ⟨S2x1x4x16x128x1024, .f32⟩
  | .hbm, ⟨83, _⟩ => ⟨S2x4x16x1x128x1024, .f32⟩
  | .hbm, ⟨84, _⟩ => ⟨S2x4x16x1x128x1024, .bf16⟩
  | .hbm, ⟨85, _⟩ => ⟨S2x1x4x16x128x128, .f32⟩
  | .hbm, ⟨86, _⟩ => ⟨S2x4x16x1x128x128, .f32⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Unit.lean ====
module

public import Idealize.ShloMosaic.Lib.Pipeline
public import Idealize.ShloMosaic.Lib.Pointwise
public import Idealize.ShloMosaic.PureOps

@[expose] public section

set_option maxRecDepth 16384

noncomputable section

/-! One unit of the dilated window attention: a block of 128 queries of the four heads that share a key and value
head, against the 128 keys of the block before it and its own 128 keys. The unit is the same at every dilation. -/

namespace Cert.Swa

open Idealize.ShloMosaic

variable {F : FTy → Type} [FloatOps F]

abbrev T (a b : Nat) : Shape := ⟨2, ![a, b]⟩
abbrev T3 (a b c : Nat) : Shape := ⟨3, ![a, b, c]⟩
/-- A block of `a` rows and `b` lanes as a window's tile. -/
abbrev T6 (a b : Nat) : Shape := ⟨6, ![1, 1, 1, 1, a, b]⟩

/-- Row `i` of the queries sees key `j` of the 256 when `0 ≤ 128 + i − j ≤ 128`. -/
def band : IVec (T 128 256) 1 :=
  let d : IVec (T 128 256) 32 := subi (addi (broadcast (T 128 256) 128#32)
    (iota .tc (T 128 256) 32 [0] (by decide))) (iota .tc (T 128 256) 32 [1] (by decide))
  andi (cmpi .sge d (broadcast (T 128 256) 0#32)) (cmpi .sle d (broadcast (T 128 256) 128#32))

/-- The bias of a mask: zero where it holds, minus infinity elsewhere. -/
def bias (m : IVec (T 128 256) 1) : FVec F (T3 1 128 256) .f32 :=
  shapeCast (T3 1 128 256) (select m (broadcast (T 128 256) (Scalar.ofBits .f32 0x00000000#32 : F .f32))
    (broadcast (T 128 256) (Scalar.ofBits .f32 0xFF800000#32 : F .f32))) (by decide)

/-- The band without the block before, for the first block of a sequence. -/
def bandFirst : IVec (T 128 256) 1 :=
  andi band (cmpi .sge (iota .tc (T 128 256) 32 [1] (by decide)) (broadcast (T 128 256) 128#32))

/-- The statistics slot of a lane: the lane divided by eight, rounded down. -/
def slot : IVec (T 128 128) 32 :=
  let l : IVec (T 128 128) 32 := iota .tc (T 128 128) 32 [1] (by decide)
  let q : IVec (T 128 128) 32 := divsi l (broadcast (T 128 128) 8#32)
  let sg : IVec (T 128 128) 32 := subi (extui 32 (cmpi .sgt l (broadcast (T 128 128) 0#32)) (by decide))
    (extui 32 (cmpi .slt l (broadcast (T 128 128) 0#32)) (by decide))
  let s8 : BitVec 32 := Scalar.subi (Scalar.extui (Scalar.cmpi .sgt 8#32 0#32)) (Scalar.extui (Scalar.cmpi .slt 8#32 0#32))
  select (andi (cmpi .ne sg (broadcast (T 128 128) s8))
    (cmpi .ne (remsi l (broadcast (T 128 128) 8#32)) (broadcast (T 128 128) 0#32)))
    (subi q (broadcast (T 128 128) 1#32)) q

theorem cat4 : Shape.Concatenates [T 128 128, T 128 128, T 128 128, T 128 128] (T 512 128) 0 := by decide
theorem cat2 : Shape.Concatenates [T 128 128, T 128 128] (T 256 128) 0 := by decide
theorem catLanes : Shape.Concatenates [T 256 128, T 256 128] (T 256 256) 1 := by decide

/-- The four heads' queries, one under the other. -/
def qstack (q : Vec F (T6 128 512) .bf16) : FVec F (T 512 128) .bf16 :=
  let v : FVec F (T 128 512) .bf16 := shapeCast (T 128 512) q (by decide)
  concatenate (T 512 128) 0
    [⟨T 128 128, extractStridedSlice (T 128 128) ![0, 0] v (by decide)⟩,
     ⟨T 128 128, extractStridedSlice (T 128 128) ![0, 128] v (by decide)⟩,
     ⟨T 128 128, extractStridedSlice (T 128 128) ![0, 256] v (by decide)⟩,
     ⟨T 128 128, extractStridedSlice (T 128 128) ![0, 384] v (by decide)⟩] cat4

/-- Two blocks of 128 rows, the one before first. -/
def stack2 (p c : Vec F (T6 128 128) .bf16) : FVec F (T 256 128) .bf16 :=
  concatenate (T 256 128) 0 [⟨T 128 128, shapeCast (T 128 128) p (by decide)⟩,
    ⟨T 128 128, shapeCast (T 128 128) c (by decide)⟩] cat2

/-- The biased scores of the four heads. -/
def scores (b : Vec F (T3 1 128 256) .f32) (q : Vec F (T6 128 512) .bf16) (kp kc : Vec F (T6 128 128) .bf16) :
    FVec F (T 512 256) .f32 :=
  let s : FVec F (T 512 256) .f32 := matmul (DotDims.transposedRhs 512 128 256) none (qstack q) (stack2 kp kc)
    (constant (T 512 256) .f32 0x00000000#32)
  let b2 : FVec F (T 128 256) .f32 := shapeCast (T 128 256) b (by decide)
  let b3 : FVec F (T3 1 128 256) .f32 := shapeCast (T3 1 128 256) b2 (by decide)
  shapeCast (T 512 256) (addf (shapeCast (T3 4 128 256) s (by decide))
    (broadcastTo (T3 4 128 256) b3 (by decide))) (by decide)

/-- A row's largest score. -/
def rowMax (b : Vec F (T3 1 128 256) .f32) (q : Vec F (T6 128 512) .bf16) (kp kc : Vec F (T6 128 128) .bf16) :
    FVec F (T 512 1) .f32 :=
  shapeCast (T 512 1) (multiReduction .maximumf [1] ⟨1, ![512]⟩ (scores b q kp kc) 0xFF800000#32 (by decide) (.inl rfl) rfl)
    (by decide)

/-- The weighted values in lanes 0 to 127 and the weights' sums in lanes 128 to 255. -/
def outs (b : Vec F (T3 1 128 256) .f32) (q : Vec F (T6 128 512) .bf16) (kp kc vp vc : Vec F (T6 128 128) .bf16) :
    FVec F (T 512 256) .f32 :=
  let p : FVec F (T 512 256) .bf16 := truncf .bf16 (exp (subf (scores b q kp kc)
    (broadcastTo (T 512 256) (rowMax b q kp kc) (by decide)))) (by decide)
  let w : FVec F (T 256 256) .bf16 := concatenate (T 256 256) 1 [⟨T 256 128, stack2 vp vc⟩,
    ⟨T 256 128, broadcast (T 256 128) (Scalar.ofBits .bf16 0x3F80#16 : F .bf16)⟩] catLanes
  matmul (DotDims.plain 512 256 256) none p w (constant (T 512 256) .f32 0x00000000#32)

/-- The output tile of head `h` of the four. -/
def oTile (h : Fin 4) (o : FVec F (T 512 256) .f32) : FVec F (T6 128 128) .bf16 :=
  shapeCast (T6 128 128) (truncf .bf16 (extractStridedSlice (T 128 128) ![128 * h.val, 0] o
    ((by decide : ∀ h : Fin 4, (T 512 256).Slices ![128 * h.val, 0] (T 128 128)) h)) (by decide)) (by decide)

/-- The statistics tile after head `h` of group `g`: its largest scores in slot `2 (4 g + h)`, its sums in the next. -/
def stHead (g : Nat) (h : Fin 4) (m : FVec F (T 512 1) .f32) (o : FVec F (T 512 256) .f32)
    (st : FVec F (T 128 128) .f32) : FVec F (T 128 128) .f32 :=
  select (cmpi .eq slot (broadcast (T 128 128) (BitVec.ofNat 32 (2 * (4 * g + h.val) + 1))))
    (extractStridedSlice (T 128 128) ![128 * h.val, 128] o
      ((by decide : ∀ h : Fin 4, (T 512 256).Slices ![128 * h.val, 128] (T 128 128)) h))
    (select (cmpi .eq slot (broadcast (T 128 128) (BitVec.ofNat 32 (2 * (4 * g + h.val)))))
      (broadcastTo (T 128 128) (shapeCast (T 128 1) (extractStridedSlice (T 128 1) ![128 * h.val, 0] m
        ((by decide : ∀ h : Fin 4, (T 512 1).Slices ![128 * h.val, 0] (T 128 1)) h)) (by decide)) (by decide)) st)

/-- The four heads of group `g` one after the other. -/
def stGroup (g : Nat) (m : FVec F (T 512 1) .f32) (o : FVec F (T 512 256) .f32)
    (st : FVec F (T 128 128) .f32) : FVec F (T 128 128) .f32 :=
  stHead g 3 m o (stHead g 2 m o (stHead g 1 m o (stHead g 0 m o st)))

/-- The statistics tile of both groups, from zeros. -/
def stTile (m0 m1 : FVec F (T 512 1) .f32) (o0 o1 : FVec F (T 512 256) .f32) : FVec F (T6 128 128) .f32 :=
  shapeCast (T6 128 128) (stGroup 1 m1 o1 (stGroup 0 m0 o0
    (broadcast (T 128 128) (Scalar.ofBits .f32 0x00000000#32 : F .f32)))) (by decide)

end Cert.Swa
-- ==== Proof.Pieces.lean ====
module

public import proofs.«01_k».proof.Proof.Gen.KernelIdeal.Frame
public import proofs.«01_k».proof.Proof.Unit

@[expose] public section

set_option maxRecDepth 16384

noncomputable section

/-! The stores a grid point makes, as two families of units: 128 output tiles (a phase and a head each) and 16
statistics tiles (a phase each). -/

namespace Cert.KernelIdeal.Val
open Cert.KernelIdeal Cert.KernelIdeal.Gen Idealize.ShloMosaic Idealize.ShloMosaic.TcCoe Idealize.SL.Sem Idealize.ShloMosaic.Tactic

variable {F : FTy → Type} [FloatOps F]

/-- The bias the grid point loads from the scratch. -/
def biasLd (i : grid0.Coords) (arg9 : Memref sig .tc .vmem S2x128x256 .f32) : Vec F S1x128x256 .f32 :=
  View.readAt (Elt F) arg9.view (Rect.unit (s := S2x128x256) (k0_off1 i) S1x128x256.size (k0_off1_inb i)).toLoadRect
    (arg9.view.writes (Elt F) arg9.view.junk
      [⟨Rect.unit ![1, 0, 0] S1x128x256.size inb_S2x128x256_S1x128x256_1_0_0, Swa.bias Swa.bandFirst⟩,
       ⟨Rect.unit ![0, 0, 0] S1x128x256.size inb_S2x128x256_S1x128x256_0_0_0, Swa.bias Swa.band⟩])

/-- The queries of group `g` at phase `r`. -/
def qLd (m : Memref sig .tc .vmem S1x1x1x16x128x1024 .bf16) (f : m.view.ty.Contents (Elt F)) (r : Fin 16) (g : Fin 2) :
    Vec F S1x1x1x1x128x512 .bf16 :=
  View.readAt (Elt F) m.view (Rect.unit (s := S1x1x1x16x128x1024) ![0, 0, 0, r.val, 0, 512 * g.val] S1x1x1x1x128x512.size
    ((by decide : ∀ (r : Fin 16) (g : Fin 2) a, (![0, 0, 0, r.val, 0, 512 * g.val] : Fin 6 → Nat) a + S1x1x1x1x128x512.size a
      ≤ S1x1x1x16x128x1024.size a) r g)).toLoadRect f

/-- The keys or values of group `g` at phase `r`. -/
def kvLd (m : Memref sig .tc .vmem S1x1x1x16x128x256 .bf16) (f : m.view.ty.Contents (Elt F)) (r : Fin 16) (g : Fin 2) :
    Vec F S1x1x1x1x128x128 .bf16 :=
  View.readAt (Elt F) m.view (Rect.unit (s := S1x1x1x16x128x256) ![0, 0, 0, r.val, 0, 128 * g.val] S1x1x1x1x128x128.size
    ((by decide : ∀ (r : Fin 16) (g : Fin 2) a, (![0, 0, 0, r.val, 0, 128 * g.val] : Fin 6 → Nat) a + S1x1x1x1x128x128.size a
      ≤ S1x1x1x16x128x256.size a) r g)).toLoadRect f

/-- The phase and the head of the `u`-th store from the end. -/
def uR (u : Fin 128) : Fin 16 := ⟨15 - u.val / 8, by omega⟩
def uG (u : Fin 128) : Fin 2 := ⟨(7 - u.val % 8) / 4, by omega⟩
def uH (u : Fin 128) : Fin 4 := ⟨(7 - u.val % 8) % 4, by omega⟩

theorem offO (u : Fin 128) : ∀ a, (![0, 0, 0, 15 - u.val / 8, 0, 128 * (7 - u.val % 8)] : Fin 6 → Nat) a + S1x1x1x1x128x128.size a
    ≤ S1x1x1x16x128x1024.size a := by
  revert u; decide +kernel

/-- The output stores. -/
theorem pieces5 (c : Dev nD) (i : grid0.Coords) (arg2 : Memref sig .tc .vmem S1x1x1x16x128x1024 .bf16) (harg2 : arg2.IsWhole) (arg3 : Memref sig .tc .vmem S1x1x1x16x128x256 .bf16) (harg3 : arg3.IsWhole) (arg4 : Memref sig .tc .vmem S1x1x1x16x128x256 .bf16) (harg4 : arg4.IsWhole) (arg5 : Memref sig .tc .vmem S1x1x1x16x128x256 .bf16) (harg5 : arg5.IsWhole) (arg6 : Memref sig .tc .vmem S1x1x1x16x128x256 .bf16) (harg6 : arg6.IsWhole) (arg7 : Memref sig .tc .vmem S1x1x1x16x128x1024 .bf16) (harg7 : arg7.IsWhole) (arg8 : Memref sig .tc .vmem S1x1x1x16x128x128 .f32) (harg8 : arg8.IsWhole) (arg9 : Memref sig .tc .vmem S2x128x256 .f32) (harg9 : arg9.IsWhole)
    (x0 : Vec F S1x1x1x16x128x1024 .bf16) (x1 : Vec F S1x1x1x16x128x256 .bf16) (x2 : Vec F S1x1x1x16x128x256 .bf16) (x3 : Vec F S1x1x1x16x128x256 .bf16) (x4 : Vec F S1x1x1x16x128x256 .bf16) :
   (kernelRun0_A c i arg2 harg2 arg3 harg3 arg4 harg4 arg5 harg5 arg6 harg6 arg7 harg7 arg8 harg8 arg9 harg9 x0 x1 x2 x3 x4).1 =
     List.ofFn (fun u : Fin 128 => (⟨Rect.unit ![0, 0, 0, 15 - u.val / 8, 0, 128 * (7 - u.val % 8)] S1x1x1x1x128x128.size (offO u),
       Swa.oTile (uH u) (Swa.outs (biasLd i arg9) (qLd arg2 (harg2.unread x0) (uR u) (uG u))
         (kvLd arg4 (harg4.unread x2) (uR u) (uG u)) (kvLd arg3 (harg3.unread x1) (uR u) (uG u))
         (kvLd arg6 (harg6.unread x4) (uR u) (uG u)) (kvLd arg5 (harg5.unread x3) (uR u) (uG u)))⟩ :
         View.Piece (Elt F) S1x1x1x16x128x1024 .bf16)) := by
  sl_kernel_rfl

theorem offS (u : Fin 16) : ∀ a, (![0, 0, 0, 15 - u.val, 0, 0] : Fin 6 → Nat) a + S1x1x1x1x128x128.size a
    ≤ S1x1x1x16x128x128.size a := by
  revert u; decide +kernel

/-- The phase of the `u`-th statistics tile from the end. -/
def uP (u : Fin 16) : Fin 16 := ⟨15 - u.val, by omega⟩

/-- A phase's statistics tile from its two groups' loads. -/
def stUnit (b : Vec F S1x128x256 .f32) (q : Fin 2 → Vec F S1x1x1x1x128x512 .bf16) (kp kc vp vc : Fin 2 → Vec F S1x1x1x1x128x128 .bf16) :
    Vec F S1x1x1x1x128x128 .f32 :=
  Swa.stTile (Swa.rowMax b (q 0) (kp 0) (kc 0)) (Swa.rowMax b (q 1) (kp 1) (kc 1))
    (Swa.outs b (q 0) (kp 0) (kc 0) (vp 0) (vc 0)) (Swa.outs b (q 1) (kp 1) (kc 1) (vp 1) (vc 1))

/-- The statistics stores. -/
theorem pieces6 (c : Dev nD) (i : grid0.Coords) (arg2 : Memref sig .tc .vmem S1x1x1x16x128x1024 .bf16) (harg2 : arg2.IsWhole) (arg3 : Memref sig .tc .vmem S1x1x1x16x128x256 .bf16) (harg3 : arg3.IsWhole) (arg4 : Memref sig .tc .vmem S1x1x1x16x128x256 .bf16) (harg4 : arg4.IsWhole) (arg5 : Memref sig .tc .vmem S1x1x1x16x128x256 .bf16) (harg5 : arg5.IsWhole) (arg6 : Memref sig .tc .vmem S1x1x1x16x128x256 .bf16) (harg6 : arg6.IsWhole) (arg7 : Memref sig .tc .vmem S1x1x1x16x128x1024 .bf16) (harg7 : arg7.IsWhole) (arg8 : Memref sig .tc .vmem S1x1x1x16x128x128 .f32) (harg8 : arg8.IsWhole) (arg9 : Memref sig .tc .vmem S2x128x256 .f32) (harg9 : arg9.IsWhole)
    (x0 : Vec F S1x1x1x16x128x1024 .bf16) (x1 : Vec F S1x1x1x16x128x256 .bf16) (x2 : Vec F S1x1x1x16x128x256 .bf16) (x3 : Vec F S1x1x1x16x128x256 .bf16) (x4 : Vec F S1x1x1x16x128x256 .bf16) :
   (kernelRun0_A c i arg2 harg2 arg3 harg3 arg4 harg4 arg5 harg5 arg6 harg6 arg7 harg7 arg8 harg8 arg9 harg9 x0 x1 x2 x3 x4).2.1 =
     List.ofFn (fun u : Fin 16 => (⟨Rect.unit ![0, 0, 0, 15 - u.val, 0, 0] S1x1x1x1x128x128.size (offS u),
       stUnit (biasLd i arg9) (fun g => qLd arg2 (harg2.unread x0) (uP u) g)
         (fun g => kvLd arg4 (harg4.unread x2) (uP u) g) (fun g => kvLd arg3 (harg3.unread x1) (uP u) g)
         (fun g => kvLd arg6 (harg6.unread x4) (uP u) g) (fun g => kvLd arg5 (harg5.unread x3) (uP u) g)⟩ :
         View.Piece (Elt F) S1x1x1x16x128x128 .f32)) := by
  sl_kernel_rfl

end Cert.KernelIdeal.Val
-- ==== Proof.UnitRead.lean ====
module

public import proofs.«01_k».proof.Proof.Unit

@[expose] public section

set_option maxRecDepth 16384

noncomputable section

/-! What a unit computes over the extended reals, at an index. -/

namespace Cert.Swa

open Idealize.ShloMosaic Pointwise

/-- The largest entry of a row of scores. -/
def top (s : Fin 256 → EReal) : EReal := Finset.univ.fold max ⊥ s
/-- The sum of a row's weights. -/
def total (s : Fin 256 → EReal) : EReal := ∑ j, Ideal.exp (s j - top s)
/-- The weighted sum of a column of values over the keys seen. -/
def mix (M : Fin 256 → Prop) [DecidablePred M] (s v : Fin 256 → EReal) : EReal :=
  ∑ j, Ideal.exp (s j - top s) * (if M j then v j else 0)
/-- A row's scores: minus infinity at the keys not seen. -/
def row (M : Fin 256 → Prop) [DecidablePred M] (q : Fin 128 → EReal) (k : Fin 256 → Fin 128 → EReal) (j : Fin 256) : EReal :=
  if M j then ∑ e, q e * k j e else ⊥

theorem negInf : Ideal.ofBits .f32 0xFF800000#32 = ⊥ := by
  simp [Ideal.ofBits, Ideal.ieee]

/-- A key not seen has no weight. -/
theorem weight_bot (x : EReal) : Ideal.exp (⊥ - x) = 0 := by
  rw [EReal.bot_sub]; rfl

/-- So its value does not matter. -/
theorem weight_mul (M : Fin 256 → Prop) [DecidablePred M] (q : Fin 128 → EReal) (k : Fin 256 → Fin 128 → EReal)
    (x y : EReal) (j : Fin 256) :
    Ideal.exp (row M q k j - x) * y = Ideal.exp (row M q k j - x) * (if M j then y else 0) := by
  by_cases h : M j
  · rw [if_pos h]
  · rw [row, if_neg h, if_neg h, weight_bot, zero_mul, zero_mul]

variable (b : Vec Ideal (T3 1 128 256) .f32) (q : Vec Ideal (T6 128 512) .bf16) (kp kc vp vc : Vec Ideal (T6 128 128) .bf16)

/-- Entry `e` of row `j` of two blocks. -/
def both (p c : Vec Ideal (T6 128 128) .bf16) (j : Fin 256) (e : Fin 128) : EReal :=
  if h : j.val < 128 then p (ix6 0 0 0 0 ⟨j.val, h⟩ e) else c (ix6 0 0 0 0 ⟨j.val - 128, by omega⟩ e)

theorem both_lo (p c : Vec Ideal (T6 128 128) .bf16) (x e : Fin 128) :
    both p c ⟨x.val, by omega⟩ e = p (ix6 0 0 0 0 x e) := dif_pos x.isLt

theorem both_hi (p c : Vec Ideal (T6 128 128) .bf16) (x e : Fin 128) :
    both p c ⟨128 + x.val, by omega⟩ e = c (ix6 0 0 0 0 x e) :=
  (dif_neg (by dsimp only; omega)).trans (congrArg (fun y => c (ix6 0 0 0 0 y e)) (Fin.ext (by dsimp only; omega)))

/-- The scores of head `h`'s row `i`. -/
theorem scores_apply (M : Fin 256 → Prop) [DecidablePred M] (h : Fin 4) (i : Fin 128)
    (hb : ∀ j, b (ix3 0 i j) = if M j then 0 else ⊥) (j : Fin 256) :
    scores b q kp kc (ix2 ⟨128 * h.val + i.val, by omega⟩ j)
      = row M (fun e => q (ix6 0 0 0 0 i ⟨128 * h.val + e.val, by omega⟩)) (both kp kc) j := by
  have hq : scores b q kp kc (ix2 ⟨128 * h.val + i.val, by omega⟩ j)
      = (∑ e : Fin 128, q (ix6 0 0 0 0 i ⟨128 * h.val + e.val, by omega⟩) * both kp kc j e) + b (ix3 0 i j) := by
    pointwise [scores, qstack, stack2]
    refine congrArg (· + _) (Finset.sum_congr rfl fun e _ => ?_)
    refine congrArg₂ (· * ·) ?_ rfl
    split_ifs <;> exact congrArg₂ (fun x y => q (ix6 0 0 0 0 x y)) (Fin.ext (by dsimp only; omega)) (Fin.ext (by dsimp only; omega))
  rw [hq, hb, row]
  split_ifs with hM
  · rw [add_zero]
  · exact EReal.add_bot _

/-- The largest score of head `h`'s row `i`. -/
theorem rowMax_apply (M : Fin 256 → Prop) [DecidablePred M] (h : Fin 4) (i : Fin 128)
    (hb : ∀ j, b (ix3 0 i j) = if M j then 0 else ⊥) :
    rowMax b q kp kc (ix2 ⟨128 * h.val + i.val, by omega⟩ 0)
      = top (row M (fun e => q (ix6 0 0 0 0 i ⟨128 * h.val + e.val, by omega⟩)) (both kp kc)) := by
  pointwise [rowMax]
  rw [negInf, top]
  exact congrArg (fun f => Finset.univ.fold max ⊥ f) (funext fun j => scores_apply b q kp kc M h i hb j)

/-- A sum over the block before and the block itself is the sum over both. -/
theorem sum_both (f : Fin 256 → EReal) :
    (∑ x : Fin 128, f ⟨x.val, by omega⟩) + (∑ x : Fin 128, f ⟨128 + x.val, by omega⟩) = ∑ j, f j :=
  (Fin.sum_univ_add (a := 128) (b := 128) f).symm

/-- The weighted values of head `h`'s row `i` at lane `c`. -/
theorem outs_mix (M : Fin 256 → Prop) [DecidablePred M] (h : Fin 4) (i c : Fin 128)
    (hb : ∀ j, b (ix3 0 i j) = if M j then 0 else ⊥) :
    outs b q kp kc vp vc (ix2 ⟨128 * h.val + i.val, by omega⟩ ⟨c.val, by omega⟩)
      = mix M (row M (fun e => q (ix6 0 0 0 0 i ⟨128 * h.val + e.val, by omega⟩)) (both kp kc)) (fun j => both vp vc j c) := by
  have hs := scores_apply b q kp kc M h i hb
  have hm := rowMax_apply b q kp kc M h i hb
  pointwise [outs, stack2]
  rw [mix, ← sum_both]
  refine congrArg₂ (· + ·) (Finset.sum_congr rfl fun x _ => ?_) (Finset.sum_congr rfl fun x _ => ?_)
  · rw [hs, hm, weight_mul M, both_lo]
  · rw [hs, hm, weight_mul M, both_hi]

/-- Their sum, in each of the lanes 128 to 255. -/
theorem outs_total (M : Fin 256 → Prop) [DecidablePred M] (h : Fin 4) (i c : Fin 128)
    (hb : ∀ j, b (ix3 0 i j) = if M j then 0 else ⊥) :
    outs b q kp kc vp vc (ix2 ⟨128 * h.val + i.val, by omega⟩ ⟨128 + c.val, by omega⟩)
      = total (row M (fun e => q (ix6 0 0 0 0 i ⟨128 * h.val + e.val, by omega⟩)) (both kp kc)) := by
  have hs := scores_apply b q kp kc M h i hb
  have hm := rowMax_apply b q kp kc M h i hb
  pointwise [outs, stack2]
  exact Finset.sum_congr rfl fun j _ => by rw [hs, hm]

/-- The output tile of head `h` holds its lanes of the weighted values. -/
theorem oTile_apply (h : Fin 4) (o : FVec Ideal (T 512 256) .f32) (i c : Fin 128) :
    oTile h o (ix6 0 0 0 0 i c) = o (ix2 ⟨128 * h.val + i.val, by omega⟩ ⟨c.val, by omega⟩) := by
  pointwise [oTile]

theorem slot_apply (i c : Fin 128) : slot (ix2 i c) = BitVec.ofNat 32 (c.val / 8) := by
  pointwise [slot]
  revert c
  decide +kernel

/-- Two small numbers compared as words. -/
theorem word_eq (a b : Nat) (ha : a < 2 ^ 32) (hb : b < 2 ^ 32) :
    IntOp.cmpi .eq (BitVec.ofNat 32 a) (BitVec.ofNat 32 b) = if a = b then 1#1 else 0#1 := by
  simp only [IntOp.cmpi]
  by_cases h : a = b
  · subst h; simp
  · have hne : (BitVec.ofNat 32 a == BitVec.ofNat 32 b) = false := by
      rw [beq_eq_false_iff_ne]
      intro e
      have := congrArg BitVec.toNat e
      rw [BitVec.toNat_ofNat, BitVec.toNat_ofNat, Nat.mod_eq_of_lt ha, Nat.mod_eq_of_lt hb] at this
      exact h this
    rw [hne, if_neg h]; rfl

theorem stHead_apply (g : Nat) (hg : g < 2) (h : Fin 4) (m : FVec Ideal (T 512 1) .f32) (o : FVec Ideal (T 512 256) .f32)
    (st : FVec Ideal (T 128 128) .f32) (i c : Fin 128) :
    stHead g h m o st (ix2 i c) = if c.val / 8 = 2 * (4 * g + h.val) + 1 then o (ix2 ⟨128 * h.val + i.val, by omega⟩ ⟨128 + c.val, by omega⟩)
      else if c.val / 8 = 2 * (4 * g + h.val) then m (ix2 ⟨128 * h.val + i.val, by omega⟩ 0) else st (ix2 i c) := by
  pointwise [stHead]
  rw [slot_apply]
  have e1 := word_eq (c.val / 8) (2 * (4 * g + h.val) + 1) (by omega) (by omega)
  have e2 := word_eq (c.val / 8) (2 * (4 * g + h.val)) (by omega) (by omega)
  rw [e1, e2]
  unfold Scalar.select
  by_cases h1 : c.val / 8 = 2 * (4 * g + h.val) + 1
  · rw [if_pos h1, if_pos h1]; rfl
  · rw [if_neg h1, if_neg h1]
    by_cases h2 : c.val / 8 = 2 * (4 * g + h.val)
    · rw [if_pos h2, if_pos h2]; rfl
    · rw [if_neg h2, if_neg h2]; rfl

/-- A lane of the statistics tile: an even slot holds the head's largest score, an odd one its weights' sum. -/
theorem stTile_apply (m0 m1 : FVec Ideal (T 512 1) .f32) (o0 o1 : FVec Ideal (T 512 256) .f32) (i c : Fin 128) :
    stTile m0 m1 o0 o1 (ix6 0 0 0 0 i c) = if c.val / 8 % 2 = 0
      then (if c.val / 64 = 0 then m0 else m1) (ix2 ⟨128 * (c.val / 16 % 4) + i.val, by omega⟩ 0)
      else (if c.val / 64 = 0 then o0 else o1) (ix2 ⟨128 * (c.val / 16 % 4) + i.val, by omega⟩ ⟨128 + c.val, by omega⟩) := by
  pointwise [stTile, stGroup]
  simp only [stHead_apply 1 (by decide), stHead_apply 0 (by decide)]
  obtain ⟨k, hk, e⟩ : ∃ k, k < 16 ∧ c.val / 8 = k := ⟨_, by omega, rfl⟩
  have e16 : c.val / 16 = k / 2 := by omega
  have e64 : c.val / 64 = k / 8 := by omega
  simp only [e, e16, e64]
  interval_cases k <;> rfl

end Cert.Swa
-- ==== Proof.Mask.lean ====
module

public import proofs.«01_k».proof.Proof.UnitRead

@[expose] public section

set_option maxRecDepth 16384

noncomputable section

/-! Which of the 256 keys a query row sees, and the masks as words. -/

namespace Cert.Swa

open Idealize.ShloMosaic Pointwise

/-- Row `i` of block `n` sees key `j` of its two blocks. -/
def seen (n : Nat) (i : Fin 128) (j : Fin 256) : Prop :=
  (i.val ≤ j.val ∧ j.val ≤ 128 + i.val) ∧ (0 < n ∨ 128 ≤ j.val)

instance (n : Nat) (i : Fin 128) : DecidablePred (seen n i) := fun j =>
  inferInstanceAs (Decidable ((i.val ≤ j.val ∧ j.val ≤ 128 + i.val) ∧ (0 < n ∨ 128 ≤ j.val)))

/-- The band as words. -/
theorem bandWord : ∀ (i : Fin 128) (j : Fin 256),
    IntOp.andi (IntOp.cmpi .sge (IntOp.subi (IntOp.addi 128#32 (BitVec.ofNat 32 i.val)) (BitVec.ofNat 32 j.val)) 0#32)
      (IntOp.cmpi .sle (IntOp.subi (IntOp.addi 128#32 (BitVec.ofNat 32 i.val)) (BitVec.ofNat 32 j.val)) 128#32)
      = if i.val ≤ j.val ∧ j.val ≤ 128 + i.val then 1#1 else 0#1 := by
  decide +kernel

/-- The own block as words. -/
theorem ownWord : ∀ j : Fin 256, IntOp.cmpi .sge (BitVec.ofNat 32 j.val) 128#32 = if 128 ≤ j.val then 1#1 else 0#1 := by
  decide +kernel

/-- The conjunction of two conditions as words. -/
theorem and_ite (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_self, and_true, and_false, false_and] <;> rfl

/-- The disjunction of two conditions as words. -/
theorem or_ite (p q : Prop) [Decidable p] [Decidable q] :
    IntOp.ori (if p then 1#1 else 0#1) (if q then 1#1 else 0#1) = if p ∨ q then 1#1 else 0#1 := by
  by_cases hp : p <;> by_cases hq : q <;> simp only [hp, hq, if_true, if_false, or_self, or_true, true_or, or_false] <;> rfl

theorem band_apply (i : Fin 128) (j : Fin 256) :
    band (ix2 i j) = if i.val ≤ j.val ∧ j.val ≤ 128 + i.val then 1#1 else 0#1 := by
  pointwise [band]
  exact bandWord i j

theorem bandFirst_apply (i : Fin 128) (j : Fin 256) :
    bandFirst (ix2 i j) = if seen 0 i j then 1#1 else 0#1 := by
  pointwise [bandFirst]
  rw [band_apply, ownWord, and_ite]
  exact if_congr ⟨fun h => ⟨h.1, Or.inr h.2⟩, fun h => ⟨h.1, h.2.resolve_left (Nat.lt_irrefl 0)⟩⟩ rfl rfl

theorem band_seen (n : Nat) (hn : 0 < n) (i : Fin 128) (j : Fin 256) :
    band (ix2 i j) = if seen n i j then 1#1 else 0#1 := by
  rw [band_apply]
  exact if_congr ⟨fun h => ⟨h, Or.inl hn⟩, fun h => h.1⟩ rfl rfl

/-- The bias of a mask at an index. -/
theorem bias_apply (m : IVec (T 128 256) 1) (i : Fin 128) (j : Fin 256) (p : Prop) [Decidable p]
    (h : m (ix2 i j) = if p then 1#1 else 0#1) :
    (bias m : FVec Ideal (T3 1 128 256) .f32) (ix3 0 i j) = if p then 0 else ⊥ := by
  pointwise [bias]
  rw [negInf, h]
  by_cases hp : p
  · rw [if_pos hp, if_pos hp]; rfl
  · rw [if_neg hp, if_neg hp]; rfl

end Cert.Swa
-- ==== Proof.Spec.lean ====
module

public import proofs.«01_k».proof.Proof.Mask

@[expose] public section

set_option maxRecDepth 16384

noncomputable section

/-! The attention as plain sums over the argument arrays, at dilation `d`: phase `r`'s block `n` holds the positions
`(128 n + i) d + r`. -/

namespace Cert.Swa

open Idealize.ShloMosaic Pointwise

/-- An array at position `t` of sequence `b`, zero past the end. -/
def at4 {w : Nat} (x : (⟨4, ![2, 8192, w, 128]⟩ : Shape).Idx → EReal) (b : Fin 2) (t : Nat) (h : Fin w) (e : Fin 128) : EReal :=
  if ht : t < 8192 then x (ix4 b ⟨t, ht⟩ h e) else 0

theorem at4_of {w : Nat} (x : (⟨4, ![2, 8192, w, 128]⟩ : Shape).Idx → EReal) (b : Fin 2) (t : Nat) (h h' : Fin w) (e e' : Fin 128)
    (t' : Fin 8192) (ht : t = t'.val) (hh : h.val = h'.val) (he : e.val = e'.val) : at4 x b t h e = x (ix4 b t' h' e') := by
  cases Fin.ext hh; cases Fin.ext he; subst ht; exact dif_pos t'.isLt

variable (d : Nat) (q : (⟨4, ![2, 8192, 8, 128]⟩ : Shape).Idx → EReal) (k v : (⟨4, ![2, 8192, 2, 128]⟩ : Shape).Idx → EReal)

/-- The key head of a query head. -/
def kvOf (h : Fin 8) : Fin 2 := ⟨h.val / 4, by omega⟩

/-- The scores of row `i` of block `n` at phase `r`. -/
def specRow (b : Fin 2) (n r : Nat) (i : Fin 128) (h : Fin 8) : Fin 256 → EReal :=
  row (seen n i) (fun e => at4 q b ((n * 128 + i.val) * d + r) h e)
    (fun j e => at4 k b ((n * 128 + j.val - 128) * d + r) (kvOf h) e)

/-- The weighted values of the row, not yet divided by the weights' sum. -/
def specMix (b : Fin 2) (n r : Nat) (i : Fin 128) (h : Fin 8) (e : Fin 128) : EReal :=
  mix (seen n i) (specRow d q k b n r i h) (fun j => at4 v b ((n * 128 + j.val - 128) * d + r) (kvOf h) e)

theorem row_congr (M : Fin 256 → Prop) [DecidablePred M] (q q' : Fin 128 → EReal) (k k' : Fin 256 → Fin 128 → EReal)
    (hq : ∀ e, q e = q' e) (hk : ∀ j, M j → ∀ e, k j e = k' j e) : row M q k = row M q' k' := by
  funext j
  unfold row
  split_ifs with h
  · exact Finset.sum_congr rfl fun e _ => by rw [hq, hk j h]
  · rfl

theorem mix_congr (M : Fin 256 → Prop) [DecidablePred M] (s s' v v' : Fin 256 → EReal)
    (hs : s = s') (hv : ∀ j, M j → v j = v' j) : mix M s v = mix M s' v' := by
  subst hs
  unfold mix
  refine Finset.sum_congr rfl fun j _ => congrArg _ ?_
  split_ifs with h
  · exact hv j h
  · rfl

end Cert.Swa
-- ==== Proof.Block.lean ====
module

public import proofs.«01_k».proof.Proof.Pieces
public import proofs.«01_k».proof.Proof.Spec
public import Idealize.ShloMosaic.Lib.Pipeline.ValueKit.Tiles

@[expose] public section

set_option maxRecDepth 16384

noncomputable section

/-! A grid point's two output blocks at an index, from its input blocks. -/

namespace Cert.KernelIdeal.Val

open Cert.KernelIdeal Cert.KernelIdeal.Gen Idealize.ShloMosaic Idealize.ShloMosaic.TcCoe Idealize.SL.Sem Idealize.ShloMosaic.Tactic Pointwise

/-- Where the bias is read. -/
theorem off1_eq (i : grid0.Coords) : k0_off1 i = if (i 1).val = 0 then ![1, 0, 0] else ![0, 0, 0] := by
  have h : ∀ n : Fin 4, Scalar.indexCast (Scalar.select (Scalar.cmpi .eq (BitVec.ofNat 32 n.val) 0#32) 1#32 0#32) = if n.val = 0 then 1#32 else 0#32 := by
    decide
  have e := h (i 1)
  unfold k0_off1
  dsimp only
  rw [e]
  split_ifs <;> rfl

/-- A point of the last store's rectangle reads its payload. -/
theorem canon_hit {S : Shape} {e : EltTy} (off size : Fin S.rank → Nat) (inb) (w : (⟨S.rank, size⟩ : Shape).Idx → Elt Ideal e)
    (L : List (View.Piece (Elt Ideal) S e)) (x : (⟨S.rank, size⟩ : Shape).Idx) (y : S.Idx) (h : ∀ a, (y a : Nat) = off a + x a) :
    View.canon (⟨Rect.unit off size inb, w⟩ :: L) y = w x := by
  have hy : y = (Rect.unit off size inb).emb x := funext fun a => Fin.ext (by
    rw [h a]; exact (congrArg (off a + ·) (Nat.one_mul _)).symm)
  rw [hy]
  exact View.canon_cons_emb (Rect.unit off size inb) w L x

/-- Row zero of the scratch holds the band, row one the band of a first block. -/
theorem bias_canon (w1 w0 : Vec Ideal S1x128x256 .f32) (k : Fin 2) (a : Fin 128) (j : Fin 256) :
    View.canon (Val := Elt Ideal) (s := S2x128x256) (e := .f32)
      [⟨Rect.unit ![1, 0, 0] S1x128x256.size inb_S2x128x256_S1x128x256_1_0_0, w1⟩,
       ⟨Rect.unit ![0, 0, 0] S1x128x256.size inb_S2x128x256_S1x128x256_0_0_0, w0⟩] (ix3 k a j)
      = if k.val = 0 then w0 (ix3 0 a j) else w1 (ix3 0 a j) := by
  by_cases hk : k.val = 0
  · rw [if_pos hk, View.canon_cons_of_not_mem]
    · refine canon_hit (S := S2x128x256) _ _ _ w0 _ (ix3 0 a j) _ fun d => ?_
      match d with
      | ⟨0, _⟩ => exact hk
      | ⟨1, _⟩ => exact (Nat.zero_add _).symm
      | ⟨2, _⟩ => exact (Nat.zero_add _).symm
    · intro h
      have h0 : 1 ≤ k.val := ((Rect.mem_set_unit (inb := inb_S2x128x256_S1x128x256_1_0_0)).1 h 0).1
      omega
  · rw [if_neg hk]
    refine canon_hit (S := S2x128x256) _ _ _ w1 _ (ix3 0 a j) _ fun d => ?_
    match d with
    | ⟨0, _⟩ => show k.val = 1 + 0; omega
    | ⟨1, _⟩ => exact (Nat.zero_add _).symm
    | ⟨2, _⟩ => exact (Nat.zero_add _).symm

/-- The bias at an index. -/
theorem biasLd_apply (i : grid0.Coords) (arg9 : Memref sig .tc .vmem S2x128x256 .f32) (a : Fin 128) (j : Fin 256) :
    (biasLd i arg9 : Vec Ideal S1x128x256 .f32) (ix3 0 a j) = if Swa.seen (i 1).val a j then 0 else ⊥ := by
  unfold biasLd
  rw [View.readAt_writes_junk_eq_canon]
  beta_reduce
  have hk : (i 1).val = 0 ∨ 0 < (i 1).val := Nat.eq_zero_or_pos _
  have hidx : ∀ k : Fin 2, k0_off1 i = ![k.val, 0, 0] →
      (Rect.unit (s := S2x128x256) (k0_off1 i) S1x128x256.size (k0_off1_inb i)).toLoadRect.idx (ix3 0 a j) = ix3 k a j := by
    intro k hk
    funext d
    refine Fin.ext ((Rect.idx_unit_val _ _ _ _ d).trans ((congrArg (· + _) (congrFun hk d)).trans ?_))
    match d with
    | ⟨0, _⟩ => rfl
    | ⟨1, _⟩ => exact Nat.zero_add _
    | ⟨2, _⟩ => exact Nat.zero_add _
  rcases hk with h | h
  · rw [hidx 1 (by rw [off1_eq, if_pos h]; rfl), bias_canon, if_neg (by decide), h]
    exact Swa.bias_apply _ a j _ (Swa.bandFirst_apply a j)
  · rw [hidx 0 (by rw [off1_eq, if_neg (Nat.ne_of_gt h)]; rfl), bias_canon, if_pos (by decide)]
    exact Swa.bias_apply _ a j _ (Swa.band_seen _ h a j)

theorem qLd_apply (m : Memref sig .tc .vmem S1x1x1x16x128x1024 .bf16) (hm : m.IsWhole) (x : Vec Ideal S1x1x1x16x128x1024 .bf16)
    (r : Fin 16) (g : Fin 2) (a : Fin 128) (l : Fin 512) :
    qLd m (hm.unread x) r g (ix6 0 0 0 0 a l) = x (ix6 0 0 0 r a ⟨512 * g.val + l.val, by omega⟩) := by
  unfold qLd
  rw [View.readAt_eq_ld, hm.read_unread]
  refine View.ld_unit_apply_of x _ _ _ _ _ fun a => ?_
  match a with
  | ⟨0, _⟩ => rfl
  | ⟨1, _⟩ => rfl
  | ⟨2, _⟩ => rfl
  | ⟨3, _⟩ => rfl
  | ⟨4, _⟩ => exact (Nat.zero_add _).symm
  | ⟨5, _⟩ => rfl

theorem kvLd_apply (m : Memref sig .tc .vmem S1x1x1x16x128x256 .bf16) (hm : m.IsWhole) (x : Vec Ideal S1x1x1x16x128x256 .bf16)
    (r : Fin 16) (g : Fin 2) (a : Fin 128) (l : Fin 128) :
    kvLd m (hm.unread x) r g (ix6 0 0 0 0 a l) = x (ix6 0 0 0 r a ⟨128 * g.val + l.val, by omega⟩) := by
  unfold kvLd
  rw [View.readAt_eq_ld, hm.read_unread]
  refine View.ld_unit_apply_of x _ _ _ _ _ fun a => ?_
  match a with
  | ⟨0, _⟩ => rfl
  | ⟨1, _⟩ => rfl
  | ⟨2, _⟩ => rfl
  | ⟨3, _⟩ => rfl
  | ⟨4, _⟩ => exact (Nat.zero_add _).symm
  | ⟨5, _⟩ => rfl

/-- The keys or values of group `g` at phase `r`: the block before, then the block. -/
def blkBoth (p c : Vec Ideal S1x1x1x16x128x256 .bf16) (r : Fin 16) (g : Fin 2) (j : Fin 256) (e : Fin 128) : EReal :=
  if h : j.val < 128 then p (ix6 0 0 0 r ⟨j.val, h⟩ ⟨128 * g.val + e.val, by omega⟩)
  else c (ix6 0 0 0 r ⟨j.val - 128, by omega⟩ ⟨128 * g.val + e.val, by omega⟩)

theorem both_eq (mp mc : Memref sig .tc .vmem S1x1x1x16x128x256 .bf16) (hp : mp.IsWhole) (hc : mc.IsWhole)
    (p c : Vec Ideal S1x1x1x16x128x256 .bf16) (r : Fin 16) (g : Fin 2) :
    Swa.both (kvLd mp (hp.unread p) r g) (kvLd mc (hc.unread c) r g) = blkBoth p c r g := by
  funext j e
  unfold Swa.both blkBoth
  split_ifs with h
  · exact kvLd_apply mp hp p r g _ e
  · exact kvLd_apply mc hc c r g _ e

/-- The scores of head `h`'s row `a` at phase `r`. -/
def blkRow (n : Nat) (x0 : Vec Ideal S1x1x1x16x128x1024 .bf16) (p c : Vec Ideal S1x1x1x16x128x256 .bf16) (r : Fin 16) (h : Fin 8) (a : Fin 128) :
    Fin 256 → EReal :=
  Swa.row (Swa.seen n a) (fun e => x0 (ix6 0 0 0 r a ⟨128 * h.val + e.val, by omega⟩)) (blkBoth p c r (Swa.kvOf h))

section Unit

variable (i : grid0.Coords) (arg9 : Memref sig .tc .vmem S2x128x256 .f32)
  (mq : Memref sig .tc .vmem S1x1x1x16x128x1024 .bf16) (hq : mq.IsWhole)
  (mkp mkc mvp mvc : Memref sig .tc .vmem S1x1x1x16x128x256 .bf16) (hkp : mkp.IsWhole) (hkc : mkc.IsWhole) (hvp : mvp.IsWhole) (hvc : mvc.IsWhole)
  (x0 : Vec Ideal S1x1x1x16x128x1024 .bf16) (xkp xkc xvp xvc : Vec Ideal S1x1x1x16x128x256 .bf16)
  (r : Fin 16) (g : Fin 2) (p : Fin 4) (h : Fin 8) (a : Fin 128)

theorem unit_row (hh : h.val = 4 * g.val + p.val) :
    Swa.row (Swa.seen (i 1).val a) (fun e => qLd mq (hq.unread x0) r g (ix6 0 0 0 0 a ⟨128 * p.val + e.val, by omega⟩))
      (Swa.both (kvLd mkp (hkp.unread xkp) r g) (kvLd mkc (hkc.unread xkc) r g)) = blkRow (i 1).val x0 xkp xkc r h a := by
  rw [both_eq, blkRow, (Fin.ext (by simp only [Swa.kvOf]; omega) : Swa.kvOf h = g)]
  refine Swa.row_congr _ _ _ _ _ (fun e => ?_) fun _ _ _ => rfl
  rw [qLd_apply]
  exact congrArg (fun l => x0 (ix6 0 0 0 r a l)) (Fin.ext (by dsimp only; omega))

theorem unit_mix (hh : h.val = 4 * g.val + p.val) (e : Fin 128) :
    Swa.outs (biasLd i arg9) (qLd mq (hq.unread x0) r g) (kvLd mkp (hkp.unread xkp) r g) (kvLd mkc (hkc.unread xkc) r g)
      (kvLd mvp (hvp.unread xvp) r g) (kvLd mvc (hvc.unread xvc) r g) (ix2 ⟨128 * p.val + a.val, by omega⟩ ⟨e.val, by omega⟩)
      = Swa.mix (Swa.seen (i 1).val a) (blkRow (i 1).val x0 xkp xkc r h a) (fun j => blkBoth xvp xvc r (Swa.kvOf h) j e) := by
  have hg : Swa.kvOf h = g := Fin.ext (by simp only [Swa.kvOf]; omega)
  rw [Swa.outs_mix _ _ _ _ _ _ (Swa.seen (i 1).val a) p a e (biasLd_apply i arg9 a), unit_row i mq hq mkp mkc hkp hkc x0 xkp xkc r g p h a hh, both_eq, hg]

theorem unit_total (hh : h.val = 4 * g.val + p.val) (e : Fin 128) :
    Swa.outs (biasLd i arg9) (qLd mq (hq.unread x0) r g) (kvLd mkp (hkp.unread xkp) r g) (kvLd mkc (hkc.unread xkc) r g)
      (kvLd mvp (hvp.unread xvp) r g) (kvLd mvc (hvc.unread xvc) r g) (ix2 ⟨128 * p.val + a.val, by omega⟩ ⟨128 + e.val, by omega⟩)
      = Swa.total (blkRow (i 1).val x0 xkp xkc r h a) := by
  rw [Swa.outs_total _ _ _ _ _ _ (Swa.seen (i 1).val a) p a e (biasLd_apply i arg9 a), unit_row i mq hq mkp mkc hkp hkc x0 xkp xkc r g p h a hh]

theorem unit_top (hh : h.val = 4 * g.val + p.val) :
    Swa.rowMax (biasLd i arg9) (qLd mq (hq.unread x0) r g) (kvLd mkp (hkp.unread xkp) r g) (kvLd mkc (hkc.unread xkc) r g)
      (ix2 ⟨128 * p.val + a.val, by omega⟩ 0)
      = Swa.top (blkRow (i 1).val x0 xkp xkc r h a) := by
  rw [Swa.rowMax_apply _ _ _ _ (Swa.seen (i 1).val a) p a (biasLd_apply i arg9 a), unit_row i mq hq mkp mkc hkp hkc x0 xkp xkc r g p h a hh]

end Unit

/-- An index of a one-tile block is its row and its lane. -/
theorem tile_eta (x : (⟨6, S1x1x1x1x128x128.size⟩ : Shape).Idx) : x = (ix6 0 0 0 0 (x 4 : Fin 128) (x 5 : Fin 128) : S1x1x1x1x128x128.Idx) := by
  funext d
  match d with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact Subsingleton.elim (α := Fin 1) _ _
  | ⟨4, _⟩ => rfl
  | ⟨5, _⟩ => rfl

/-- The output block at an index. -/
theorem o_block (c : Dev nD) (i : grid0.Coords) (arg2 : Memref sig .tc .vmem S1x1x1x16x128x1024 .bf16) (harg2 : arg2.IsWhole) (arg3 : Memref sig .tc .vmem S1x1x1x16x128x256 .bf16) (harg3 : arg3.IsWhole) (arg4 : Memref sig .tc .vmem S1x1x1x16x128x256 .bf16) (harg4 : arg4.IsWhole) (arg5 : Memref sig .tc .vmem S1x1x1x16x128x256 .bf16) (harg5 : arg5.IsWhole) (arg6 : Memref sig .tc .vmem S1x1x1x16x128x256 .bf16) (harg6 : arg6.IsWhole) (arg7 : Memref sig .tc .vmem S1x1x1x16x128x1024 .bf16) (harg7 : arg7.IsWhole) (arg8 : Memref sig .tc .vmem S1x1x1x16x128x128 .f32) (harg8 : arg8.IsWhole) (arg9 : Memref sig .tc .vmem S2x128x256 .f32) (harg9 : arg9.IsWhole)
    (x0 : Vec Ideal S1x1x1x16x128x1024 .bf16) (x1 x2 x3 x4 : Vec Ideal S1x1x1x16x128x256 .bf16)
    (r : Fin 16) (a : Fin 128) (l : Fin 1024) :
    out0_A_5 c i arg2 harg2 arg3 harg3 arg4 harg4 arg5 harg5 arg6 harg6 arg7 harg7 arg8 harg8 arg9 harg9 x0 x1 x2 x3 x4 (ix6 0 0 0 r a l)
      = Swa.mix (Swa.seen (i 1).val a) (blkRow (i 1).val x0 x2 x1 r ⟨l.val / 128, by omega⟩ a)
        (fun j => blkBoth x4 x3 r (Swa.kvOf ⟨l.val / 128, by omega⟩) j ⟨l.val % 128, by omega⟩) := by
  unfold out0_A_5
  rw [View.read_writes_eq_canon _ _ _ (cover0_A_5 c i arg2 harg2 arg3 harg3 arg4 harg4 arg5 harg5 arg6 harg6 arg7 harg7 arg8 harg8 arg9 harg9 x0 x1 x2 x3 x4), pieces5]
  refine View.canon_ofFn_unit_eq_of_forall _ _ _ _ _ _ ⟨⟨(15 - r.val) * 8 + (7 - l.val / 128), by omega⟩, ?_⟩ ?_
  · have hr := r.isLt
    have hl := l.isLt
    intro d
    match d with
    | ⟨0, _⟩ => exact ⟨Nat.le_refl 0, Nat.one_pos⟩
    | ⟨1, _⟩ => exact ⟨Nat.le_refl 0, Nat.one_pos⟩
    | ⟨2, _⟩ => exact ⟨Nat.le_refl 0, Nat.one_pos⟩
    | ⟨3, _⟩ =>
      show 15 - ((15 - r.val) * 8 + (7 - l.val / 128)) / 8 ≤ r.val ∧ r.val < 15 - ((15 - r.val) * 8 + (7 - l.val / 128)) / 8 + 1
      omega
    | ⟨4, _⟩ => exact ⟨Nat.zero_le _, (Nat.zero_add 128).symm ▸ a.isLt⟩
    | ⟨5, _⟩ =>
      show 128 * (7 - ((15 - r.val) * 8 + (7 - l.val / 128)) % 8) ≤ l.val ∧ l.val < 128 * (7 - ((15 - r.val) * 8 + (7 - l.val / 128)) % 8) + 128
      omega
  · intro u x hx
    have h3 : r.val = 15 - u.val / 8 + (x 3).val := hx 3
    have h4 : a.val = 0 + (x 4).val := hx 4
    have h5 : l.val = 128 * (7 - u.val % 8) + (x 5).val := hx 5
    have h30 : (x 3).val < 1 := (x 3).isLt
    have h50 : (x 5).val < 128 := (x 5).isLt
    have er : uR u = r := Fin.ext (by simp only [uR]; omega)
    have ea : (x 4 : Fin 128) = a := Fin.ext (by omega)
    have el : (x 5 : Fin 128) = ⟨l.val % 128, by omega⟩ := Fin.ext (by dsimp only; omega)
    have eh : l.val / 128 = 4 * (uG u).val + (uH u).val := by simp only [uG, uH]; omega
    have hx' : x = (ix6 0 0 0 0 a ⟨l.val % 128, by omega⟩ : S1x1x1x1x128x128.Idx) :=
      (tile_eta x).trans (congrArg₂ (fun u v : Fin 128 => (ix6 0 0 0 0 u v : S1x1x1x1x128x128.Idx)) ea el)
    rw [hx', er]
    refine (Swa.oTile_apply (uH u) _ a ⟨l.val % 128, by omega⟩).trans ?_
    exact unit_mix _ _ _ _ _ _ _ _ _ _ _ _ _ _ _ _ _ _ _ _ _ _ eh _

/-- The statistics block at an index. -/
theorem st_block (c : Dev nD) (i : grid0.Coords) (arg2 : Memref sig .tc .vmem S1x1x1x16x128x1024 .bf16) (harg2 : arg2.IsWhole) (arg3 : Memref sig .tc .vmem S1x1x1x16x128x256 .bf16) (harg3 : arg3.IsWhole) (arg4 : Memref sig .tc .vmem S1x1x1x16x128x256 .bf16) (harg4 : arg4.IsWhole) (arg5 : Memref sig .tc .vmem S1x1x1x16x128x256 .bf16) (harg5 : arg5.IsWhole) (arg6 : Memref sig .tc .vmem S1x1x1x16x128x256 .bf16) (harg6 : arg6.IsWhole) (arg7 : Memref sig .tc .vmem S1x1x1x16x128x1024 .bf16) (harg7 : arg7.IsWhole) (arg8 : Memref sig .tc .vmem S1x1x1x16x128x128 .f32) (harg8 : arg8.IsWhole) (arg9 : Memref sig .tc .vmem S2x128x256 .f32) (harg9 : arg9.IsWhole)
    (x0 : Vec Ideal S1x1x1x16x128x1024 .bf16) (x1 x2 x3 x4 : Vec Ideal S1x1x1x16x128x256 .bf16)
    (r : Fin 16) (a : Fin 128) (l : Fin 128) :
    out0_A_6 c i arg2 harg2 arg3 harg3 arg4 harg4 arg5 harg5 arg6 harg6 arg7 harg7 arg8 harg8 arg9 harg9 x0 x1 x2 x3 x4 (ix6 0 0 0 r a l)
      = if l.val / 8 % 2 = 0 then Swa.top (blkRow (i 1).val x0 x2 x1 r ⟨l.val / 16, by omega⟩ a)
        else Swa.total (blkRow (i 1).val x0 x2 x1 r ⟨l.val / 16, by omega⟩ a) := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4), pieces6]
  refine View.canon_ofFn_unit_eq_of_forall _ _ _ _ _ _ ⟨⟨15 - r.val, by omega⟩, ?_⟩ ?_
  · have hr := r.isLt
    intro d
    match d with
    | ⟨0, _⟩ => exact ⟨Nat.le_refl 0, Nat.one_pos⟩
    | ⟨1, _⟩ => exact ⟨Nat.le_refl 0, Nat.one_pos⟩
    | ⟨2, _⟩ => exact ⟨Nat.le_refl 0, Nat.one_pos⟩
    | ⟨3, _⟩ =>
      show 15 - (15 - r.val) ≤ r.val ∧ r.val < 15 - (15 - r.val) + 1
      omega
    | ⟨4, _⟩ => exact ⟨Nat.zero_le _, (Nat.zero_add 128).symm ▸ a.isLt⟩
    | ⟨5, _⟩ => exact ⟨Nat.zero_le _, (Nat.zero_add 128).symm ▸ l.isLt⟩
  · intro u x hx
    have h3 : r.val = 15 - u.val + (x 3).val := hx 3
    have h4 : a.val = 0 + (x 4).val := hx 4
    have h5 : l.val = 0 + (x 5).val := hx 5
    have h30 : (x 3).val < 1 := (x 3).isLt
    have er : uP u = r := Fin.ext (by simp only [uP]; omega)
    have ea : (x 4 : Fin 128) = a := Fin.ext (by omega)
    have el : (x 5 : Fin 128) = l := Fin.ext (by omega)
    have e0 : l.val / 64 = 0 → l.val / 16 = 4 * (0 : Fin 2).val + l.val / 16 % 4 := by intro h; show _ = 4 * 0 + _; omega
    have e1 : l.val / 64 ≠ 0 → l.val / 16 = 4 * (1 : Fin 2).val + l.val / 16 % 4 := by intro h; show _ = 4 * 1 + _; omega
    have hx' : x = (ix6 0 0 0 0 a l : S1x1x1x1x128x128.Idx) :=
      (tile_eta x).trans (congrArg₂ (fun u v : Fin 128 => (ix6 0 0 0 0 u v : S1x1x1x1x128x128.Idx)) ea el)
    rw [hx', er]
    unfold stUnit
    refine (Swa.stTile_apply _ _ _ _ a l).trans ?_
    by_cases hp : l.val / 8 % 2 = 0
    · rw [if_pos hp, if_pos hp]
      by_cases hg : l.val / 64 = 0
      · rw [if_pos hg]
        exact unit_top _ _ _ _ _ _ _ _ _ _ _ r 0 ⟨l.val / 16 % 4, by omega⟩ ⟨l.val / 16, by omega⟩ a (e0 hg)
      · rw [if_neg hg]
        exact unit_top _ _ _ _ _ _ _ _ _ _ _ r 1 ⟨l.val / 16 % 4, by omega⟩ ⟨l.val / 16, by omega⟩ a (e1 hg)
    · rw [if_neg hp, if_neg hp]
      by_cases hg : l.val / 64 = 0
      · rw [if_pos hg]
        exact unit_total _ _ _ _ _ _ _ _ _ _ _ _ _ _ _ _ _ r 0 ⟨l.val / 16 % 4, by omega⟩ ⟨l.val / 16, by omega⟩ a (e0 hg) l
      · rw [if_neg hg]
        exact unit_total _ _ _ _ _ _ _ _ _ _ _ _ _ _ _ _ _ r 1 ⟨l.val / 16 % 4, by omega⟩ ⟨l.val / 16, by omega⟩ a (e1 hg) l

end Cert.KernelIdeal.Val
-- ==== Proof.Span.lean ====
module

public import proofs.«01_k».proof.Proof.Block

@[expose] public section

set_option maxRecDepth 16384

noncomputable section

/-! A grid point that holds several blocks of each phase, `J` blocks of `D` phases: what it loads for a block and a
phase, the tiles it stores, and its two output blocks at an index. -/

namespace Cert.Swa

open Idealize.ShloMosaic Idealize.ShloMosaic.TcCoe Idealize.SL.Sem Pointwise

/-- A span's block of `W` lanes. -/
abbrev B (J D W : Nat) : Shape := ⟨6, ![1, 1, J, D, 128, W]⟩

variable {F : FTy → Type} [FloatOps F] {J D : Nat}

/-- What a grid point loads, by block, phase and group. -/
structure Loads (F : FTy → Type) (J D : Nat) where
  bias : Fin J → Vec F (T3 1 128 256) .f32
  q : Fin J → Fin D → Fin 2 → Vec F (T6 128 512) .bf16
  kp : Fin J → Fin D → Fin 2 → Vec F (T6 128 128) .bf16
  kc : Fin J → Fin D → Fin 2 → Vec F (T6 128 128) .bf16
  vp : Fin J → Fin D → Fin 2 → Vec F (T6 128 128) .bf16
  vc : Fin J → Fin D → Fin 2 → Vec F (T6 128 128) .bf16

section Read

variable {sig : RefSig}

theorem tile_inb {W w : Nat} (hw : 2 * w ≤ W) (j : Fin J) (r : Fin D) (g : Fin 2) (a : Fin 6) :
    (![0, 0, j.val, r.val, 0, w * g.val] : Fin 6 → Nat) a + (T6 128 w).size a ≤ (B J D W).size a := by
  have hg : w * g.val ≤ w * 1 := Nat.mul_le_mul_left w (by omega)
  match a with
  | ⟨0, _⟩ => exact Nat.le_refl 1
  | ⟨1, _⟩ => exact Nat.le_refl 1
  | ⟨2, _⟩ => exact j.isLt
  | ⟨3, _⟩ => exact r.isLt
  | ⟨4, _⟩ => exact Nat.le_of_eq (Nat.zero_add 128)
  | ⟨5, _⟩ => show w * g.val + w ≤ W; omega

/-- The lanes of group `g` at block `j` and phase `r`. -/
def ld {W : Nat} (w : Nat) (hw : 2 * w ≤ W) (m : Memref sig .tc .vmem (B J D W) .bf16) (f : m.view.ty.Contents (Elt F))
    (j : Fin J) (r : Fin D) (g : Fin 2) : Vec F (T6 128 w) .bf16 :=
  View.readAt (Elt F) m.view (Rect.unit (s := B J D W) ![0, 0, j.val, r.val, 0, w * g.val] (T6 128 w).size
    (tile_inb hw j r g)).toLoadRect f

theorem ld_apply {W : Nat} (w : Nat) (hw : 2 * w ≤ W) (m : Memref sig .tc .vmem (B J D W) .bf16) (hm : m.IsWhole)
    (x : Vec Ideal (B J D W) .bf16) (j : Fin J) (r : Fin D) (g : Fin 2) (a : Fin 128) (l : Fin w) (l' : Fin W) (hl : l'.val = w * g.val + l.val) :
    ld w hw m (hm.unread x) j r g (ix6 0 0 0 0 a l) = x (ix6 0 0 j r a l') := by
  unfold ld
  rw [View.readAt_eq_ld, hm.read_unread]
  refine View.ld_unit_apply_of x _ _ _ _ _ fun a => ?_
  match a with
  | ⟨0, _⟩ => rfl
  | ⟨1, _⟩ => rfl
  | ⟨2, _⟩ => rfl
  | ⟨3, _⟩ => rfl
  | ⟨4, _⟩ => exact (Nat.zero_add _).symm
  | ⟨5, _⟩ => exact hl

/-- The block before: the span's own, or the last of the span before. -/
def ldPrev (mp : Memref sig .tc .vmem (B 1 D 256) .bf16) (fp : mp.view.ty.Contents (Elt F))
    (mc : Memref sig .tc .vmem (B J D 256) .bf16) (fc : mc.view.ty.Contents (Elt F)) (j : Fin J) (r : Fin D) (g : Fin 2) :
    Vec F (T6 128 128) .bf16 :=
  if j.val = 0 then ld 128 (by decide) mp fp 0 r g else ld 128 (by decide) mc fc ⟨j.val - 1, by omega⟩ r g

theorem row_inb (k : Fin 2) (a : Fin 3) : (![k.val, 0, 0] : Fin 3 → Nat) a + (T3 1 128 256).size a ≤ (T3 2 128 256).size a := by
  revert a k; decide

/-- The bias read at an offset of the scratch. -/
def ldBias (m : Memref sig .tc .vmem (T3 2 128 256) .f32) (off : Fin 3 → Nat)
    (inb : ∀ a, off a + (T3 1 128 256).size a ≤ (T3 2 128 256).size a) : Vec F (T3 1 128 256) .f32 :=
  View.readAt (Elt F) m.view (Rect.unit (s := T3 2 128 256) off (T3 1 128 256).size inb).toLoadRect
    (m.view.writes (Elt F) m.view.junk
      [⟨Rect.unit ![1, 0, 0] (T3 1 128 256).size (row_inb 1), bias bandFirst⟩,
       ⟨Rect.unit ![0, 0, 0] (T3 1 128 256).size (row_inb 0), bias band⟩])

/-- Row `k` of the scratch is the bias of a first block for `k = 1`, of any other block for `k = 0`. -/
theorem ldBias_apply (m : Memref sig .tc .vmem (T3 2 128 256) .f32) (off : Fin 3 → Nat)
    (inb : ∀ a, off a + (T3 1 128 256).size a ≤ (T3 2 128 256).size a) (n : Nat)
    (hoff : off = if n = 0 then ![1, 0, 0] else ![0, 0, 0]) (a : Fin 128) (c : Fin 256) :
    (ldBias m off inb : Vec Ideal (T3 1 128 256) .f32) (ix3 0 a c) = if seen n a c then 0 else ⊥ := by
  unfold ldBias
  rw [View.readAt_writes_junk_eq_canon]
  beta_reduce
  have hidx : ∀ k : Fin 2, off = ![k.val, 0, 0] →
      (Rect.unit (s := T3 2 128 256) off (T3 1 128 256).size inb).toLoadRect.idx (ix3 0 a c) = ix3 k a c := by
    intro k hk
    funext d
    refine Fin.ext ((Rect.idx_unit_val _ _ _ _ d).trans ((congrArg (· + _) (congrFun hk d)).trans ?_))
    match d with
    | ⟨0, _⟩ => rfl
    | ⟨1, _⟩ => exact Nat.zero_add _
    | ⟨2, _⟩ => exact Nat.zero_add _
  rcases Nat.eq_zero_or_pos n with h | h
  · rw [hidx 1 (by rw [hoff, if_pos h]; rfl)]
    refine (Cert.KernelIdeal.Val.bias_canon _ _ 1 a c).trans ?_
    rw [if_neg (by decide), h]
    exact bias_apply _ a c _ (bandFirst_apply a c)
  · rw [hidx 0 (by rw [hoff, if_neg (Nat.ne_of_gt h)]; rfl)]
    refine (Cert.KernelIdeal.Val.bias_canon _ _ 0 a c).trans ?_
    rw [if_pos (by decide)]
    exact bias_apply _ a c _ (band_seen _ h a c)

/-- The loads of a grid point. -/
def loads (m9 : Memref sig .tc .vmem (T3 2 128 256) .f32) (off : Fin 3 → Nat)
    (inb : ∀ a, off a + (T3 1 128 256).size a ≤ (T3 2 128 256).size a)
    (mq : Memref sig .tc .vmem (B J D 1024) .bf16) (fq : mq.view.ty.Contents (Elt F))
    (mkc : Memref sig .tc .vmem (B J D 256) .bf16) (fkc : mkc.view.ty.Contents (Elt F))
    (mkp : Memref sig .tc .vmem (B 1 D 256) .bf16) (fkp : mkp.view.ty.Contents (Elt F))
    (mvc : Memref sig .tc .vmem (B J D 256) .bf16) (fvc : mvc.view.ty.Contents (Elt F))
    (mvp : Memref sig .tc .vmem (B 1 D 256) .bf16) (fvp : mvp.view.ty.Contents (Elt F)) : Loads F J D where
  bias j := if j.val = 0 then ldBias m9 off inb else ldBias m9 ![0, 0, 0] (row_inb 0)
  q := ld 512 (by decide) mq fq
  kp := ldPrev mkp fkp mkc fkc
  kc := ld 128 (by decide) mkc fkc
  vp := ldPrev mvp fvp mvc fvc
  vc := ld 128 (by decide) mvc fvc

end Read

section Stores

variable (hJD : D * J = 16)
include hJD

theorem pos_D : 0 < D := Nat.pos_of_ne_zero fun h => by rw [h, Nat.zero_mul] at hJD; exact absurd hJD (by decide)

/-- The block and the phase of unit `w`. -/
def unitJ (w : Nat) (hw : w < 16) : Fin J := ⟨w / D, Nat.div_lt_of_lt_mul (hJD.symm ▸ hw)⟩
def unitR (w : Nat) : Fin D := ⟨w % D, Nat.mod_lt _ (pos_D hJD)⟩

theorem unit_lt (j : Fin J) (r : Fin D) : j.val * D + r.val < 16 := by
  have h : (j.val + 1) * D ≤ J * D := Nat.mul_le_mul_right D j.isLt
  rw [Nat.mul_comm J D, hJD, Nat.succ_mul] at h
  have := r.isLt
  omega

theorem unit_div (j : Fin J) (r : Fin D) : (j.val * D + r.val) / D = j.val := by
  rw [Nat.add_comm, Nat.add_mul_div_right _ _ (pos_D hJD), Nat.div_eq_of_lt r.isLt, Nat.zero_add]

theorem unit_mod (j : Fin J) (r : Fin D) : (j.val * D + r.val) % D = r.val := by
  rw [Nat.add_comm, Nat.add_mul_mod_self_right, Nat.mod_eq_of_lt r.isLt]

/-- A tile of unit `w` at lane `l` lies in the block. -/
theorem store_inb (W l w : Nat) (hw : w < 16) (hl : l + 128 ≤ W) (a : Fin 6) :
    (![0, 0, w / D, w % D, 0, l] : Fin 6 → Nat) a + (T6 128 128).size a ≤ (B J D W).size a := by
  match a with
  | ⟨0, _⟩ => exact Nat.le_refl 1
  | ⟨1, _⟩ => exact Nat.le_refl 1
  | ⟨2, _⟩ => exact (unitJ hJD w hw).isLt
  | ⟨3, _⟩ => exact (unitR hJD w).isLt
  | ⟨4, _⟩ => exact Nat.le_of_eq (Nat.zero_add 128)
  | ⟨5, _⟩ => exact hl

/-- The output stores, the last first. -/
def oPieces (L : Loads F J D) : List (View.Piece (Elt F) (B J D 1024) .bf16) :=
  List.ofFn fun u : Fin 128 =>
    ⟨Rect.unit (s := B J D 1024) ![0, 0, (15 - u.val / 8) / D, (15 - u.val / 8) % D, 0, 128 * (7 - u.val % 8)] (T6 128 128).size
        (store_inb hJD 1024 _ _ (by omega) (by omega)),
      oTile ⟨(7 - u.val % 8) % 4, by omega⟩
        (outs (L.bias (unitJ hJD (15 - u.val / 8) (by omega)))
          (L.q (unitJ hJD (15 - u.val / 8) (by omega)) (unitR hJD (15 - u.val / 8)) ⟨(7 - u.val % 8) / 4, by omega⟩)
          (L.kp (unitJ hJD (15 - u.val / 8) (by omega)) (unitR hJD (15 - u.val / 8)) ⟨(7 - u.val % 8) / 4, by omega⟩)
          (L.kc (unitJ hJD (15 - u.val / 8) (by omega)) (unitR hJD (15 - u.val / 8)) ⟨(7 - u.val % 8) / 4, by omega⟩)
          (L.vp (unitJ hJD (15 - u.val / 8) (by omega)) (unitR hJD (15 - u.val / 8)) ⟨(7 - u.val % 8) / 4, by omega⟩)
          (L.vc (unitJ hJD (15 - u.val / 8) (by omega)) (unitR hJD (15 - u.val / 8)) ⟨(7 - u.val % 8) / 4, by omega⟩))⟩

/-- The statistics stores, the last first. -/
def sPieces (L : Loads F J D) : List (View.Piece (Elt F) (B J D 128) .f32) :=
  List.ofFn fun u : Fin 16 =>
    ⟨Rect.unit (s := B J D 128) ![0, 0, (15 - u.val) / D, (15 - u.val) % D, 0, 0] (T6 128 128).size
        (store_inb hJD 128 _ _ (by omega) (by omega)),
      Cert.KernelIdeal.Val.stUnit (L.bias (unitJ hJD (15 - u.val) (by omega)))
        (L.q (unitJ hJD (15 - u.val) (by omega)) (unitR hJD (15 - u.val)))
        (L.kp (unitJ hJD (15 - u.val) (by omega)) (unitR hJD (15 - u.val)))
        (L.kc (unitJ hJD (15 - u.val) (by omega)) (unitR hJD (15 - u.val)))
        (L.vp (unitJ hJD (15 - u.val) (by omega)) (unitR hJD (15 - u.val)))
        (L.vc (unitJ hJD (15 - u.val) (by omega)) (unitR hJD (15 - u.val)))⟩

end Stores

variable (Q : (⟨4, ![2, 8192, 8, 128]⟩ : Shape).Idx → EReal) (K V : (⟨4, ![2, 8192, 2, 128]⟩ : Shape).Idx → EReal)

/-- The loads are those of span `n` of sequence `b` of the three arrays. -/
structure Loads.Of (L : Loads Ideal J D) (b : Fin 2) (n : Nat) : Prop where
  bias : ∀ j a c, L.bias j (ix3 0 a c) = if seen (n * J + j.val) a c then 0 else ⊥
  q : ∀ j r (g : Fin 2) (p : Fin 4) a (e : Fin 128) (h : Fin 8), h.val = 4 * g.val + p.val →
    L.q j r g (ix6 0 0 0 0 a ⟨128 * p.val + e.val, by omega⟩) = at4 Q b (((n * J + j.val) * 128 + a.val) * D + r.val) h e
  k : ∀ j r g a c, seen (n * J + j.val) a c → ∀ e,
    both (L.kp j r g) (L.kc j r g) c e = at4 K b (((n * J + j.val) * 128 + c.val - 128) * D + r.val) g e
  v : ∀ j r g a c, seen (n * J + j.val) a c → ∀ e,
    both (L.vp j r g) (L.vc j r g) c e = at4 V b (((n * J + j.val) * 128 + c.val - 128) * D + r.val) g e

theorem at4_congr {w : Nat} (x : (⟨4, ![2, 8192, w, 128]⟩ : Shape).Idx → EReal) (b : Fin 2) {t t' : Nat} {h h' : Fin w} {e e' : Fin 128}
    (ht : t = t') (hh : h.val = h'.val) (he : e.val = e'.val) : at4 x b t h e = at4 x b t' h' e' := by
  cases ht; cases Fin.ext hh; cases Fin.ext he; rfl

section Blocks

variable {sig : RefSig}

/-- Keys or values a row sees, from the blocks of the span and of the span before. -/
theorem both_of (X : (⟨4, ![2, 8192, 2, 128]⟩ : Shape).Idx → EReal) (b : Fin 2) (n : Nat)
    (mp : Memref sig .tc .vmem (B 1 D 256) .bf16) (hp : mp.IsWhole) (mc : Memref sig .tc .vmem (B J D 256) .bf16) (hc : mc.IsWhole)
    (xp : Vec Ideal (B 1 D 256) .bf16) (xc : Vec Ideal (B J D 256) .bf16)
    (ec : ∀ (j : Fin J) (r : Fin D) (a : Fin 128) (l : Fin 256), xc (ix6 0 0 j r a l)
      = at4 X b (((n * J + j.val) * 128 + a.val) * D + r.val) ⟨l.val / 128, by omega⟩ ⟨l.val % 128, by omega⟩)
    (ep : ∀ (r : Fin D) (a : Fin 128) (l : Fin 256), xp (ix6 0 0 0 r a l)
      = at4 X b ((((n - 1) * J + (J - 1)) * 128 + a.val) * D + r.val) ⟨l.val / 128, by omega⟩ ⟨l.val % 128, by omega⟩)
    (j : Fin J) (r : Fin D) (g : Fin 2) (a : Fin 128) (c : Fin 256) (hs : seen (n * J + j.val) a c) (e : Fin 128) :
    both (ldPrev mp (hp.unread xp) mc (hc.unread xc) j r g) (ld 128 (by decide) mc (hc.unread xc) j r g) c e
      = at4 X b (((n * J + j.val) * 128 + c.val - 128) * D + r.val) g e := by
  obtain ⟨-, hs⟩ := hs
  have hJ := j.isLt
  unfold both
  split_ifs with hl
  · unfold ldPrev
    split_ifs with hj
    · refine (ld_apply 128 (by decide) mp hp xp 0 r g _ e ⟨128 * g.val + e.val, by omega⟩ rfl).trans ((ep r _ _).trans
        (at4_congr _ _ (congrArg (fun z => z * D + r.val) ?_) (by dsimp only; omega) (by dsimp only; omega)))
      obtain ⟨k, rfl⟩ : ∃ k, n = k + 1 := Nat.exists_eq_succ_of_ne_zero fun h0 => by
        rw [h0, Nat.zero_mul] at hs; omega
      rw [Nat.succ_mul, Nat.add_sub_cancel]
      dsimp only
      omega
    · exact (ld_apply 128 (by decide) mc hc xc _ r g _ e ⟨128 * g.val + e.val, by omega⟩ rfl).trans ((ec _ r _ _).trans
        (at4_congr _ _ (congrArg (fun z => z * D + r.val) (by dsimp only; omega)) (by dsimp only; omega) (by dsimp only; omega)))
  · exact (ld_apply 128 (by decide) mc hc xc _ r g _ e ⟨128 * g.val + e.val, by omega⟩ rfl).trans ((ec _ r _ _).trans
      (at4_congr _ _ (congrArg (fun z => z * D + r.val) (by dsimp only; omega)) (by dsimp only; omega) (by dsimp only; omega)))

/-- The loads of a grid point are those of its span. -/
theorem loads_of (hJ : 0 < J) (b : Fin 2) (n : Nat) (m9 : Memref sig .tc .vmem (T3 2 128 256) .f32) (off : Fin 3 → Nat)
    (inb : ∀ a, off a + (T3 1 128 256).size a ≤ (T3 2 128 256).size a) (hoff : off = if n = 0 then ![1, 0, 0] else ![0, 0, 0])
    (mq : Memref sig .tc .vmem (B J D 1024) .bf16) (hq : mq.IsWhole) (mkc : Memref sig .tc .vmem (B J D 256) .bf16) (hkc : mkc.IsWhole)
    (mkp : Memref sig .tc .vmem (B 1 D 256) .bf16) (hkp : mkp.IsWhole) (mvc : Memref sig .tc .vmem (B J D 256) .bf16) (hvc : mvc.IsWhole)
    (mvp : Memref sig .tc .vmem (B 1 D 256) .bf16) (hvp : mvp.IsWhole)
    (xq : Vec Ideal (B J D 1024) .bf16) (xkc : Vec Ideal (B J D 256) .bf16) (xkp : Vec Ideal (B 1 D 256) .bf16)
    (xvc : Vec Ideal (B J D 256) .bf16) (xvp : Vec Ideal (B 1 D 256) .bf16)
    (eq : ∀ (j : Fin J) (r : Fin D) (a : Fin 128) (l : Fin 1024), xq (ix6 0 0 j r a l)
      = at4 Q b (((n * J + j.val) * 128 + a.val) * D + r.val) ⟨l.val / 128, by omega⟩ ⟨l.val % 128, by omega⟩)
    (ekc : ∀ (j : Fin J) (r : Fin D) (a : Fin 128) (l : Fin 256), xkc (ix6 0 0 j r a l)
      = at4 K b (((n * J + j.val) * 128 + a.val) * D + r.val) ⟨l.val / 128, by omega⟩ ⟨l.val % 128, by omega⟩)
    (ekp : ∀ (r : Fin D) (a : Fin 128) (l : Fin 256), xkp (ix6 0 0 0 r a l)
      = at4 K b ((((n - 1) * J + (J - 1)) * 128 + a.val) * D + r.val) ⟨l.val / 128, by omega⟩ ⟨l.val % 128, by omega⟩)
    (evc : ∀ (j : Fin J) (r : Fin D) (a : Fin 128) (l : Fin 256), xvc (ix6 0 0 j r a l)
      = at4 V b (((n * J + j.val) * 128 + a.val) * D + r.val) ⟨l.val / 128, by omega⟩ ⟨l.val % 128, by omega⟩)
    (evp : ∀ (r : Fin D) (a : Fin 128) (l : Fin 256), xvp (ix6 0 0 0 r a l)
      = at4 V b ((((n - 1) * J + (J - 1)) * 128 + a.val) * D + r.val) ⟨l.val / 128, by omega⟩ ⟨l.val % 128, by omega⟩) :
    (loads m9 off inb mq (hq.unread xq) mkc (hkc.unread xkc) mkp (hkp.unread xkp) mvc (hvc.unread xvc) mvp (hvp.unread xvp)).Of Q K V b n where
  bias j a c := by
    dsimp only [loads]
    by_cases hj : j.val = 0
    · rw [if_pos hj]
      refine ldBias_apply m9 off inb (n * J + j.val) ?_ a c
      rw [hoff]
      refine if_congr ?_ rfl rfl
      rw [hj, Nat.add_zero]
      exact ⟨fun h => by rw [h, Nat.zero_mul], fun h => (Nat.mul_eq_zero.1 h).resolve_right (Nat.ne_of_gt hJ)⟩
    · rw [if_neg hj]
      refine ldBias_apply m9 _ _ (n * J + j.val) ?_ a c
      rw [if_neg (by omega)]
  q j r g p a e h hh :=
    (ld_apply 512 (by decide) mq hq xq j r g a _ ⟨512 * g.val + (128 * p.val + e.val), by omega⟩ rfl).trans ((eq j r a _).trans
      (at4_congr _ _ rfl (by dsimp only; omega) (by dsimp only; omega)))
  k j r g a c hs e := both_of K b n mkp hkp mkc hkc xkp xkc ekc ekp j r g a c hs e
  v j r g a c hs e := both_of V b n mvp hvp mvc hvc xvp xvc evc evp j r g a c hs e

end Blocks

section Units

variable {Q K V} {L : Loads Ideal J D} {b : Fin 2} {n : Nat} (H : L.Of Q K V b n)
  (j : Fin J) (r : Fin D) (g : Fin 2) (p : Fin 4) (h : Fin 8) (hh : h.val = 4 * g.val + p.val) (a : Fin 128)
include H hh

theorem Loads.Of.row : row (seen (n * J + j.val) a) (fun e => L.q j r g (ix6 0 0 0 0 a ⟨128 * p.val + e.val, by omega⟩))
      (both (L.kp j r g) (L.kc j r g)) = specRow D Q K b (n * J + j.val) r.val a h := by
  have hg : kvOf h = g := Fin.ext (by simp only [kvOf]; omega)
  refine row_congr _ _ _ _ _ (fun e => H.q j r g p a e h hh) fun c hs e => (H.k j r g a c hs e).trans ?_
  rw [hg]

theorem Loads.Of.mix (e : Fin 128) : outs (L.bias j) (L.q j r g) (L.kp j r g) (L.kc j r g) (L.vp j r g) (L.vc j r g)
      (ix2 ⟨128 * p.val + a.val, by omega⟩ ⟨e.val, by omega⟩) = specMix D Q K V b (n * J + j.val) r.val a h e := by
  have hg : kvOf h = g := Fin.ext (by simp only [kvOf]; omega)
  rw [outs_mix _ _ _ _ _ _ (seen (n * J + j.val) a) p a e (H.bias j a)]
  refine mix_congr _ _ _ _ _ (H.row j r g p h hh a) fun c hs => (H.v j r g a c hs e).trans ?_
  rw [hg]

theorem Loads.Of.total (e : Fin 128) : outs (L.bias j) (L.q j r g) (L.kp j r g) (L.kc j r g) (L.vp j r g) (L.vc j r g)
      (ix2 ⟨128 * p.val + a.val, by omega⟩ ⟨128 + e.val, by omega⟩) = total (specRow D Q K b (n * J + j.val) r.val a h) := by
  rw [outs_total _ _ _ _ _ _ (seen (n * J + j.val) a) p a e (H.bias j a), H.row j r g p h hh a]

theorem Loads.Of.top : rowMax (L.bias j) (L.q j r g) (L.kp j r g) (L.kc j r g) (ix2 ⟨128 * p.val + a.val, by omega⟩ 0)
      = top (specRow D Q K b (n * J + j.val) r.val a h) := by
  rw [rowMax_apply _ _ _ _ (seen (n * J + j.val) a) p a (H.bias j a), H.row j r g p h hh a]

end Units

section Canon

variable (hJD : D * J = 16) {Q K V} {L : Loads Ideal J D} {b : Fin 2} {n : Nat} (H : L.Of Q K V b n) (j : Fin J) (r : Fin D) (a : Fin 128)
include H

/-- The output block at an index. -/
theorem oPieces_apply (l : Fin 1024) : View.canon (Val := Elt Ideal) (oPieces hJD L) (ix6 0 0 j r a l)
    = specMix D Q K V b (n * J + j.val) r.val a ⟨l.val / 128, by omega⟩ ⟨l.val % 128, by omega⟩ := by
  have hu := unit_lt hJD j r
  have hj := unit_div hJD j r
  have hr := unit_mod hJD j r
  have hl := l.isLt
  unfold oPieces
  refine View.canon_ofFn_unit_eq_of_forall _ _ _ _ _ _ ⟨⟨(15 - (j.val * D + r.val)) * 8 + (7 - l.val / 128), by omega⟩, ?_⟩ ?_
  · have e1 : 15 - ((15 - (j.val * D + r.val)) * 8 + (7 - l.val / 128)) / 8 = j.val * D + r.val := by omega
    dsimp only
    rw [e1, hj, hr]
    intro d
    match d with
    | ⟨0, _⟩ => exact ⟨Nat.le_refl 0, Nat.one_pos⟩
    | ⟨1, _⟩ => exact ⟨Nat.le_refl 0, Nat.one_pos⟩
    | ⟨2, _⟩ => exact ⟨Nat.le_refl _, Nat.lt_succ_self _⟩
    | ⟨3, _⟩ => exact ⟨Nat.le_refl _, Nat.lt_succ_self _⟩
    | ⟨4, _⟩ => exact ⟨Nat.zero_le _, (Nat.zero_add 128).symm ▸ a.isLt⟩
    | ⟨5, _⟩ =>
      show 128 * (7 - ((15 - (j.val * D + r.val)) * 8 + (7 - l.val / 128)) % 8) ≤ l.val ∧ l.val < 128 * (7 - ((15 - (j.val * D + r.val)) * 8 + (7 - l.val / 128)) % 8) + 128
      omega
  · intro u x hx
    have h2 : j.val = (15 - u.val / 8) / D + (x 2).val := hx 2
    have h3 : r.val = (15 - u.val / 8) % D + (x 3).val := hx 3
    have h4 : a.val = 0 + (x 4).val := hx 4
    have h5 : l.val = 128 * (7 - u.val % 8) + (x 5).val := hx 5
    have h20 : (x 2).val < 1 := (x 2).isLt
    have h30 : (x 3).val < 1 := (x 3).isLt
    have h50 : (x 5).val < 128 := (x 5).isLt
    have ej : unitJ hJD (15 - u.val / 8) (by omega) = j := Fin.ext (by simp only [unitJ]; omega)
    have er : unitR hJD (15 - u.val / 8) = r := Fin.ext (by simp only [unitR]; omega)
    have ea : (x 4 : Fin 128) = a := Fin.ext (by omega)
    have el : (x 5 : Fin 128) = ⟨l.val % 128, by omega⟩ := Fin.ext (by dsimp only; omega)
    have hx' : x = (ix6 0 0 0 0 a ⟨l.val % 128, by omega⟩ : (T6 128 128).Idx) :=
      (Cert.KernelIdeal.Val.tile_eta x).trans (congrArg₂ (fun u v : Fin 128 => (ix6 0 0 0 0 u v : (T6 128 128).Idx)) ea el)
    rw [hx', ej, er]
    refine (oTile_apply _ _ a ⟨l.val % 128, by omega⟩).trans ?_
    exact H.mix j r _ _ _ (by dsimp only; omega) a _

/-- The statistics block at an index. -/
theorem sPieces_apply (l : Fin 128) : View.canon (Val := Elt Ideal) (sPieces hJD L) (ix6 0 0 j r a l)
    = if l.val / 8 % 2 = 0 then top (specRow D Q K b (n * J + j.val) r.val a ⟨l.val / 16, by omega⟩)
      else total (specRow D Q K b (n * J + j.val) r.val a ⟨l.val / 16, by omega⟩) := by
  have hu := unit_lt hJD j r
  have hj := unit_div hJD j r
  have hr := unit_mod hJD j r
  unfold sPieces
  refine View.canon_ofFn_unit_eq_of_forall _ _ _ _ _ _ ⟨⟨15 - (j.val * D + r.val), by omega⟩, ?_⟩ ?_
  · have e1 : 15 - (15 - (j.val * D + r.val)) = j.val * D + r.val := by omega
    dsimp only
    rw [e1, hj, hr]
    intro d
    match d with
    | ⟨0, _⟩ => exact ⟨Nat.le_refl 0, Nat.one_pos⟩
    | ⟨1, _⟩ => exact ⟨Nat.le_refl 0, Nat.one_pos⟩
    | ⟨2, _⟩ => exact ⟨Nat.le_refl _, Nat.lt_succ_self _⟩
    | ⟨3, _⟩ => exact ⟨Nat.le_refl _, Nat.lt_succ_self _⟩
    | ⟨4, _⟩ => exact ⟨Nat.zero_le _, (Nat.zero_add 128).symm ▸ a.isLt⟩
    | ⟨5, _⟩ => exact ⟨Nat.zero_le _, (Nat.zero_add 128).symm ▸ l.isLt⟩
  · intro u x hx
    have h2 : j.val = (15 - u.val) / D + (x 2).val := hx 2
    have h3 : r.val = (15 - u.val) % D + (x 3).val := hx 3
    have h4 : a.val = 0 + (x 4).val := hx 4
    have h5 : l.val = 0 + (x 5).val := hx 5
    have h20 : (x 2).val < 1 := (x 2).isLt
    have h30 : (x 3).val < 1 := (x 3).isLt
    have ej : unitJ hJD (15 - u.val) (by omega) = j := Fin.ext (by simp only [unitJ]; omega)
    have er : unitR hJD (15 - u.val) = r := Fin.ext (by simp only [unitR]; omega)
    have ea : (x 4 : Fin 128) = a := Fin.ext (by omega)
    have el : (x 5 : Fin 128) = l := Fin.ext (by omega)
    have e0 : l.val / 64 = 0 → l.val / 16 = 4 * (0 : Fin 2).val + l.val / 16 % 4 := by intro h; show _ = 4 * 0 + _; omega
    have e1 : l.val / 64 ≠ 0 → l.val / 16 = 4 * (1 : Fin 2).val + l.val / 16 % 4 := by intro h; show _ = 4 * 1 + _; omega
    have hx' : x = (ix6 0 0 0 0 a l : (T6 128 128).Idx) :=
      (Cert.KernelIdeal.Val.tile_eta x).trans (congrArg₂ (fun u v : Fin 128 => (ix6 0 0 0 0 u v : (T6 128 128).Idx)) ea el)
    rw [hx', ej, er]
    unfold Cert.KernelIdeal.Val.stUnit
    refine (stTile_apply _ _ _ _ a l).trans ?_
    by_cases hp : l.val / 8 % 2 = 0
    · rw [if_pos hp, if_pos hp]
      by_cases hg : l.val / 64 = 0
      · rw [if_pos hg]
        exact H.top j r 0 ⟨l.val / 16 % 4, by omega⟩ ⟨l.val / 16, by omega⟩ (e0 hg) a
      · rw [if_neg hg]
        exact H.top j r 1 ⟨l.val / 16 % 4, by omega⟩ ⟨l.val / 16, by omega⟩ (e1 hg) a
    · rw [if_neg hp, if_neg hp]
      by_cases hg : l.val / 64 = 0
      · rw [if_pos hg]
        exact H.total j r 0 ⟨l.val / 16 % 4, by omega⟩ ⟨l.val / 16, by omega⟩ (e0 hg) a l
      · rw [if_neg hg]
        exact H.total j r 1 ⟨l.val / 16 % 4, by omega⟩ ⟨l.val / 16, by omega⟩ (e1 hg) a l

end Canon

/-- An array of spans of `W` lanes. -/
abbrev A (J D W : Nat) : Shape := ⟨6, ![2, 4, J, D, 128, W]⟩

/-- The first result. -/
def spanO (J D : Nat) (i : (A J D 1024).Idx) : EReal :=
  specMix D Q K V (i 0) ((i 1).val * J + (i 2).val) (i 3).val (i 4) ⟨(i 5).val / 128, Nat.div_lt_of_lt_mul (i 5).isLt⟩
    ⟨(i 5).val % 128, Nat.mod_lt _ (by decide)⟩

/-- The second result. -/
def spanS (J D : Nat) (i : (A J D 128).Idx) : EReal :=
  if (i 5).val / 8 % 2 = 0 then
    top (specRow D Q K (i 0) ((i 1).val * J + (i 2).val) (i 3).val (i 4) ⟨(i 5).val / 16, Nat.div_lt_of_lt_mul (i 5).isLt⟩)
  else total (specRow D Q K (i 0) ((i 1).val * J + (i 2).val) (i 3).val (i 4) ⟨(i 5).val / 16, Nat.div_lt_of_lt_mul (i 5).isLt⟩)

theorem spanO_ix (b : Fin 2) (n : Fin 4) (j : Fin J) (r : Fin D) (a : Fin 128) (l : Fin 1024) : spanO Q K V J D (ix6 b n j r a l)
    = specMix D Q K V b (n.val * J + j.val) r.val a ⟨l.val / 128, by omega⟩ ⟨l.val % 128, by omega⟩ := rfl

theorem spanS_ix (b : Fin 2) (n : Fin 4) (j : Fin J) (r : Fin D) (a l : Fin 128) : spanS Q K J D (ix6 b n j r a l)
    = if l.val / 8 % 2 = 0 then top (specRow D Q K b (n.val * J + j.val) r.val a ⟨l.val / 16, by omega⟩)
      else total (specRow D Q K b (n.val * J + j.val) r.val a ⟨l.val / 16, by omega⟩) := rfl

theorem spanO_congr {Q Q' : (⟨4, ![2, 8192, 8, 128]⟩ : Shape).Idx → EReal} {K K' V V' : (⟨4, ![2, 8192, 2, 128]⟩ : Shape).Idx → EReal}
    (J D : Nat) (hq : Q = Q') (hk : K = K') (hv : V = V') : spanO Q K V J D = spanO Q' K' V' J D := by
  subst hq hk hv; rfl

theorem spanS_congr {Q Q' : (⟨4, ![2, 8192, 8, 128]⟩ : Shape).Idx → EReal} {K K' : (⟨4, ![2, 8192, 2, 128]⟩ : Shape).Idx → EReal}
    (J D : Nat) (hq : Q = Q') (hk : K = K') : spanS Q K J D = spanS Q' K' J D := by
  subst hq hk; rfl

/-- An index of a block, and of an array, by its coordinates. -/
theorem eta_B {W : Nat} (y : (B J D W).Idx) : y = ix6 0 0 (y 2 : Fin J) (y 3 : Fin D) (y 4 : Fin 128) (y 5 : Fin W) := by
  funext d
  match d with
  | ⟨0, _⟩ => exact Subsingleton.elim (α := Fin 1) _ _
  | ⟨1, _⟩ => exact Subsingleton.elim (α := Fin 1) _ _
  | ⟨2, _⟩ => rfl
  | ⟨3, _⟩ => rfl
  | ⟨4, _⟩ => rfl
  | ⟨5, _⟩ => rfl

theorem eta_A {W : Nat} (y : (A J D W).Idx) :
    y = ix6 (y 0 : Fin 2) (y 1 : Fin 4) (y 2 : Fin J) (y 3 : Fin D) (y 4 : Fin 128) (y 5 : Fin W) := by
  funext d
  match d with
  | ⟨0, _⟩ => rfl
  | ⟨1, _⟩ => rfl
  | ⟨2, _⟩ => rfl
  | ⟨3, _⟩ => rfl
  | ⟨4, _⟩ => rfl
  | ⟨5, _⟩ => rfl

/-- A weighted value of a row. -/
theorem specMix_term (d : Nat) (b : Fin 2) (n r : Nat) (i : Fin 128) (h : Fin 8) (e : Fin 128) (x : Fin 256) (v : EReal)
    (hv : seen n i x → v = at4 V b ((n * 128 + x.val - 128) * d + r) (kvOf h) e) :
    v * Ideal.exp (specRow d Q K b n r i h x - top (specRow d Q K b n r i h))
      = Ideal.exp (specRow d Q K b n r i h x - top (specRow d Q K b n r i h))
        * (if seen n i x then at4 V b ((n * 128 + x.val - 128) * d + r) (kvOf h) e else 0) := by
  rw [mul_comm]
  by_cases hj : seen n i x
  · rw [if_pos hj, hv hj]
  · have hbot : specRow d Q K b n r i h x = ⊥ := if_neg hj
    rw [hbot, weight_bot, zero_mul, zero_mul]

end Cert.Swa
-- ==== Proof.Att4.lean ====
module

public import proofs.«01_k».proof.Proof.Span
public import proofs.«01_k».proof.Proof.Gen.Kernel4Ideal.Frame
public import proofs.«01_k».proof.Proof.Gen.Kernel4Ideal.Value
public import Idealize.ShloMosaic.Lib.Pipeline.ValueKit
public import Idealize.ShloMosaic.Lib.Claim

@[expose] public section

set_option maxRecDepth 16384

noncomputable section

/-! The two result arrays of the attention at dilation 4: four blocks of four phases a grid point. -/

namespace Cert.Kernel4Ideal.Val

open Cert.Kernel4Ideal Cert.Kernel4Ideal.Gen Idealize.ShloMosaic Idealize.ShloMosaic.TcCoe Idealize.SL.Sem Idealize.ShloMosaic.Tactic Pointwise

theorem units : 4 * 4 = 16 := rfl

section Pieces

variable {F : FTy → Type} [FloatOps F]
  (c : Dev nD) (i : grid0.Coords) (arg2 : Memref sig .tc .vmem S1x1x4x4x128x1024 .bf16) (harg2 : arg2.IsWhole) (arg3 : Memref sig .tc .vmem S1x1x4x4x128x256 .bf16) (harg3 : arg3.IsWhole) (arg4 : Memref sig .tc .vmem S1x1x1x4x128x256 .bf16) (harg4 : arg4.IsWhole) (arg5 : Memref sig .tc .vmem S1x1x4x4x128x256 .bf16) (harg5 : arg5.IsWhole) (arg6 : Memref sig .tc .vmem S1x1x1x4x128x256 .bf16) (harg6 : arg6.IsWhole) (arg7 : Memref sig .tc .vmem S1x1x4x4x128x1024 .bf16) (harg7 : arg7.IsWhole) (arg8 : Memref sig .tc .vmem S1x1x4x4x128x128 .f32) (harg8 : arg8.IsWhole) (arg9 : Memref sig .tc .vmem S2x128x256 .f32) (harg9 : arg9.IsWhole)
  (x0 : Vec F S1x1x4x4x128x1024 .bf16) (x1 : Vec F S1x1x4x4x128x256 .bf16) (x2 : Vec F S1x1x1x4x128x256 .bf16) (x3 : Vec F S1x1x4x4x128x256 .bf16) (x4 : Vec F S1x1x1x4x128x256 .bf16)

/-- What the point loads. -/
def pointLoads : Swa.Loads F 4 4 :=
  Swa.loads arg9 (k0_off1 i) (k0_off1_inb i) arg2 (harg2.unread x0) arg3 (harg3.unread x1) arg4 (harg4.unread x2)
    arg5 (harg5.unread x3) arg6 (harg6.unread x4)

/-- The output stores. -/
theorem pieces5 : (kernelRun0_A c i arg2 harg2 arg3 harg3 arg4 harg4 arg5 harg5 arg6 harg6 arg7 harg7 arg8 harg8 arg9 harg9 x0 x1 x2 x3 x4).1
    = Swa.oPieces units (pointLoads i arg2 harg2 arg3 harg3 arg4 harg4 arg5 harg5 arg6 harg6 arg9 x0 x1 x2 x3 x4) := by
  sl_kernel_rfl

/-- The statistics stores. -/
theorem pieces6 : (kernelRun0_A c i arg2 harg2 arg3 harg3 arg4 harg4 arg5 harg5 arg6 harg6 arg7 harg7 arg8 harg8 arg9 harg9 x0 x1 x2 x3 x4).2.1
    = Swa.sPieces units (pointLoads i arg2 harg2 arg3 harg3 arg4 harg4 arg5 harg5 arg6 harg6 arg9 x0 x1 x2 x3 x4) := by
  sl_kernel_rfl

end Pieces

/-- Where the bias is read. -/
theorem off1_eq (i : grid0.Coords) : k0_off1 i = if (i 1).val = 0 then ![1, 0, 0] else ![0, 0, 0] :=
  Cert.KernelIdeal.Val.off1_eq i

variable (m : (ℓ : Loc nD τ sig) → Buf (Elt Ideal) ℓ) (c : Dev nD)

/-- The argument arrays. -/
def argQ : FVec Ideal S2x8192x8x128 .f32 := m ((c.tc : Thread nD τ).loc main_arg0)
def argK : FVec Ideal S2x8192x2x128 .f32 := m ((c.tc : Thread nD τ).loc main_arg1)
def argV : FVec Ideal S2x8192x2x128 .f32 := m ((c.tc : Thread nD τ).loc main_arg2)

variable (b : Fin 2) (n : Fin 4) (j : Fin 4) (r : Fin 4) (a : Fin 128)

theorem entry_q (l : Fin 1024) : (V m c main_v2 : Vec Ideal S2x4x4x4x128x1024 .bf16) (ix6 b n j r a l)
      = Swa.at4 (argQ m c) b (((n.val * 4 + j.val) * 128 + a.val) * 4 + r.val) ⟨l.val / 128, by omega⟩ ⟨l.val % 128, by omega⟩ := by
  entry_read
  pointwise
  exact (Swa.at4_of (argQ m c) b _ _ _ _ _ _ (by dsimp only; omega) rfl rfl).symm

theorem entry_k (l : Fin 256) : (V m c main_v5 : Vec Ideal S2x4x4x4x128x256 .bf16) (ix6 b n j r a l)
      = Swa.at4 (argK m c) b (((n.val * 4 + j.val) * 128 + a.val) * 4 + r.val) ⟨l.val / 128, by omega⟩ ⟨l.val % 128, by omega⟩ := by
  entry_read
  pointwise
  exact (Swa.at4_of (argK m c) b _ _ _ _ _ _ (by dsimp only; omega) rfl rfl).symm

theorem entry_v (l : Fin 256) : (V m c main_v8 : Vec Ideal S2x4x4x4x128x256 .bf16) (ix6 b n j r a l)
      = Swa.at4 (argV m c) b (((n.val * 4 + j.val) * 128 + a.val) * 4 + r.val) ⟨l.val / 128, by omega⟩ ⟨l.val % 128, by omega⟩ := by
  entry_read
  pointwise
  exact (Swa.at4_of (argV m c) b _ _ _ _ _ _ (by dsimp only; omega) rfl rfl).symm

/-- The windows' block indices: the sequence and the span; the last block of the span before for windows 2 and 4. -/
theorem idx : ∀ t : Fin cfg0.N, win0_0.index t = ![t.val / 4, t.val % 4, 0, 0, 0, 0] ∧ win0_1.index t = ![t.val / 4, t.val % 4, 0, 0, 0, 0]
    ∧ win0_2.index t = ![t.val / 4, t.val % 4 - 1, 3, 0, 0, 0] ∧ win0_3.index t = ![t.val / 4, t.val % 4, 0, 0, 0, 0]
    ∧ win0_4.index t = ![t.val / 4, t.val % 4 - 1, 3, 0, 0, 0] ∧ win0_5.index t = ![t.val / 4, t.val % 4, 0, 0, 0, 0]
    ∧ win0_6.index t = ![t.val / 4, t.val % 4, 0, 0, 0, 0] ∧ (grid0.coords t 1).val = t.val % 4 :=
  (by decide +kernel : ∀ t : Fin grid0.N, _)

variable (t : Fin cfg0.N)

/-- A grid point's sequence. -/
def seqOf : Fin 2 := ⟨t.val / 4, by have : t.val < 8 := t.isLt; omega⟩

theorem blk_q (l : Fin 1024) : (iblk m c 0 t : Vec Ideal S1x1x4x4x128x1024 .bf16) (ix6 0 0 j r a l)
      = Swa.at4 (argQ m c) (seqOf t) (((t.val % 4 * 4 + j.val) * 128 + a.val) * 4 + r.val) ⟨l.val / 128, by omega⟩ ⟨l.val % 128, by omega⟩ := by
  rw [← entry_q m c (seqOf t) ⟨t.val % 4, by omega⟩ j r a l, seqOf]
  blk_ext [iblk, idx t]

theorem blk_kc (l : Fin 256) : (iblk m c 1 t : Vec Ideal S1x1x4x4x128x256 .bf16) (ix6 0 0 j r a l)
      = Swa.at4 (argK m c) (seqOf t) (((t.val % 4 * 4 + j.val) * 128 + a.val) * 4 + r.val) ⟨l.val / 128, by omega⟩ ⟨l.val % 128, by omega⟩ := by
  rw [← entry_k m c (seqOf t) ⟨t.val % 4, by omega⟩ j r a l, seqOf]
  blk_ext [iblk, idx t]

theorem blk_kp (l : Fin 256) : (iblk m c 2 t : Vec Ideal S1x1x1x4x128x256 .bf16) (ix6 0 0 0 r a l)
      = Swa.at4 (argK m c) (seqOf t) ((((t.val % 4 - 1) * 4 + 3) * 128 + a.val) * 4 + r.val) ⟨l.val / 128, by omega⟩ ⟨l.val % 128, by omega⟩ := by
  refine Eq.trans ?_ (entry_k m c (seqOf t) ⟨t.val % 4 - 1, by omega⟩ 3 r a l)
  rw [seqOf]
  blk_ext [iblk, idx t]

theorem blk_vc (l : Fin 256) : (iblk m c 3 t : Vec Ideal S1x1x4x4x128x256 .bf16) (ix6 0 0 j r a l)
      = Swa.at4 (argV m c) (seqOf t) (((t.val % 4 * 4 + j.val) * 128 + a.val) * 4 + r.val) ⟨l.val / 128, by omega⟩ ⟨l.val % 128, by omega⟩ := by
  rw [← entry_v m c (seqOf t) ⟨t.val % 4, by omega⟩ j r a l, seqOf]
  blk_ext [iblk, idx t]

theorem blk_vp (l : Fin 256) : (iblk m c 4 t : Vec Ideal S1x1x1x4x128x256 .bf16) (ix6 0 0 0 r a l)
      = Swa.at4 (argV m c) (seqOf t) ((((t.val % 4 - 1) * 4 + 3) * 128 + a.val) * 4 + r.val) ⟨l.val / 128, by omega⟩ ⟨l.val % 128, by omega⟩ := by
  refine Eq.trans ?_ (entry_v m c (seqOf t) ⟨t.val % 4 - 1, by omega⟩ 3 r a l)
  rw [seqOf]
  blk_ext [iblk, idx t]

/-- The loads of point `t` are those of its span. -/
theorem loads_of : (pointLoads (grid0.coords t) (ms0_0 t) (hs0_0 t) (ms0_1 t) (hs0_1 t) (ms0_2 t) (hs0_2 t) (ms0_3 t) (hs0_3 t) (ms0_4 t) (hs0_4 t)
      scM0_0 (iblk m c 0 t) (iblk m c 1 t) (iblk m c 2 t) (iblk m c 3 t) (iblk m c 4 t)).Of (argQ m c) (argK m c) (argV m c) (seqOf t) (t.val % 4) := by
  refine Swa.loads_of (argQ m c) (argK m c) (argV m c) (by decide) (seqOf t) (t.val % 4) scM0_0 _ _ ?_ _ (hs0_0 t) _ (hs0_1 t) _ (hs0_2 t) _ (hs0_3 t) _ (hs0_4 t)
    _ _ _ _ _ (fun j r a l => blk_q m c j r a t l) (fun j r a l => blk_kc m c j r a t l) (fun r a l => blk_kp m c r a t l)
    (fun j r a l => blk_vc m c j r a t l) fun r a l => blk_vp m c r a t l
  rw [off1_eq, (idx t).2.2.2.2.2.2.2]

/-- Point `t` writes its block of the first result. -/
theorem o_eq (y : S1x1x4x4x128x1024.Idx) :
    (outsAt0 m c t).1 y = Swa.spanO (argQ m c) (argK m c) (argV m c) 4 4 ((win0_5.blk t).view.emb y) := by
  obtain ⟨j, r, a, l, hy⟩ : ∃ (j : Fin 4) (r : Fin 4) (a : Fin 128) (l : Fin 1024), y = (ix6 0 0 j r a l : S1x1x4x4x128x1024.Idx) :=
    ⟨_, _, _, _, Swa.eta_B y⟩
  subst hy
  have he : (win0_5.blk t).view.emb (ix6 0 0 j r a l : S1x1x4x4x128x1024.Idx) = (ix6 (seqOf t) ⟨t.val % 4, by omega⟩ j r a l : S2x4x4x4x128x1024.Idx) := by
    rw [seqOf]
    blk_ext [idx t]
  refine Eq.trans ?_ (congrArg (Swa.spanO (argQ m c) (argK m c) (argV m c) 4 4) he).symm
  refine Eq.trans ?_ (Swa.oPieces_apply units (loads_of m c t) j r a l)
  rw [outsAt0]
  dsimp only
  unfold out0_A_5
  rw [View.read_writes_eq_canon _ _ _ (cover0_A_5 c _ _ _ _ _ _ _ _ _ _ _ _ _ _ _ _ _ _ _ _ _ _), pieces5]

/-- Point `t` writes its block of the second result. -/
theorem st_eq (y : S1x1x4x4x128x128.Idx) :
    (outsAt0 m c t).2 y = Swa.spanS (argQ m c) (argK m c) 4 4 ((win0_6.blk t).view.emb y) := by
  obtain ⟨j, r, a, l, hy⟩ : ∃ (j : Fin 4) (r : Fin 4) (a : Fin 128) (l : Fin 128), y = (ix6 0 0 j r a l : S1x1x4x4x128x128.Idx) :=
    ⟨_, _, _, _, Swa.eta_B y⟩
  subst hy
  have he : (win0_6.blk t).view.emb (ix6 0 0 j r a l : S1x1x4x4x128x128.Idx) = (ix6 (seqOf t) ⟨t.val % 4, by omega⟩ j r a l : S2x4x4x4x128x128.Idx) := by
    rw [seqOf]
    blk_ext [idx t]
  refine Eq.trans ?_ (congrArg (Swa.spanS (argQ m c) (argK m c) 4 4) he).symm
  refine Eq.trans ?_ (Swa.sPieces_apply units (loads_of m c t) j r a l)
  rw [outsAt0]
  dsimp only
  unfold out0_A_6
  rw [View.read_writes_eq_canon _ _ _ (cover0_A_6 c _ _ _ _ _ _ _ _ _ _ _ _ _ _ _ _ _ _ _ _ _ _), pieces6]

/-- The first result array. -/
theorem final5 : (dats m 0 c).arrAt 5 cfg0.N = Swa.spanO (argQ m c) (argK m c) (argV m c) 4 4 := by
  refine (dats m 0 c).arrAt_eq_of_covers 5 _ (by decide +kernel) fun t hf y => ?_
  blk_simp
  rw [after0_5]
  exact o_eq m c t y

/-- The second result array. -/
theorem final6 : (dats m 0 c).arrAt 6 cfg0.N = Swa.spanS (argQ m c) (argK m c) 4 4 := by
  refine (dats m 0 c).arrAt_eq_of_covers 6 _ (by decide +kernel) fun t hf y => ?_
  blk_simp
  rw [after0_6]
  exact st_eq m c t y

end Cert.Kernel4Ideal.Val
-- ==== Proof.RefRow.lean ====
module

public import proofs.«01_k».proof.Proof.Span
public import Idealize.ShloMosaic.Lib.IdealHost
public import Idealize.ShloMosaic.Lib.KernelVsHost

@[expose] public section

set_option maxRecDepth 16384

noncomputable section

/-! A reference's stages at dilation `D`, with `N` blocks a phase: what each stage is of the one before it, and the row
of plain sums that follows. -/

namespace Cert.Swa

open Idealize.ShloMosaic Idealize.ShloMosaic.TcCoe Idealize.SL.Sem Pointwise

abbrev R6 (D N x y z : Nat) : Shape := ⟨6, ![2, D, N, x, y, z]⟩
abbrev R7 (D N w x y z : Nat) : Shape := ⟨7, ![2, D, N, w, x, y, z]⟩

variable {D N : Nat}

section Reduce

variable (red : (R7 D N 2 4 128 256).Reduces [6] (R6 D N 2 4 128)) (s : FVec Ideal (R7 D N 2 4 128 256) .f32)
  (h : (R7 D N 2 4 128 256).ReducesTo [6] (R6 D N 2 4 128)) (h0 : 0 < (⟨0, ![]⟩ : Shape).numel)
  (b : Fin 2) (r : Fin D) (n : Fin N) (g : Fin 2) (p : Fin 4) (i : Fin 128)

/-- The index of a row's `k`-th entry. -/
theorem lift_last (k : Fin 256) : red.lift (ix6 b r n g p i) k = ix7 b r n g p i k := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

include red in
/-- The reference's maximum over the last axis. -/
theorem host_max : Host.reduce FloatOps.maximumf s (constant ⟨0, ![]⟩ .f32 0xFF800000#32) h h0 (ix6 b r n g p i)
    = top (fun j => s (ix7 b r n g p i j)) := by
  rw [hostReduce_maximumf_eq_multiReduction s _ _ _ red (by decide) (by decide), Ideal.multiReduction_maximumf_single]
  rw [show (FloatOps.ofBits .f32 0xFF800000#32 : Ideal .f32) = ⊥ from negInf]
  exact congrArg (fun f => Finset.univ.fold max ⊥ f) (funext fun j => congrArg s (lift_last red b r n g p i j))

include red in
/-- The reference's sum over the last axis. -/
theorem host_sum : Host.reduceAdd s (constant ⟨0, ![]⟩ .f32 0x00000000#32) h h0 (ix6 b r n g p i) = ∑ j, s (ix7 b r n g p i j) := by
  rw [ValueIdx.hostReduceAdd_apply, Ideal.hostReduceAdd_single _ red]
  rw [show (constant ⟨0, ![]⟩ .f32 0x00000000#32 : FVec Ideal ⟨0, ![]⟩ .f32) (Shape.Idx.first h0) = 0 from Ideal.ofBits_zero_f32, zero_add]
  exact Finset.sum_congr rfl fun j _ => congrArg s (lift_last red b r n g p i j)

end Reduce

/-- A masked score, by the mask's bit. -/
theorem masked_score (M : Fin 256 → Prop) [DecidablePred M] (m : BitVec 1) (q : Fin 128 → EReal) (k : Fin 256 → Fin 128 → EReal)
    (j : Fin 256) (hm : m = if M j then 1#1 else 0#1) :
    Scalar.select m (∑ e, k j e * q e) (Ideal.ofBits .f32 0xFF800000#32 : EReal) = row M q k j := by
  rw [hm, row]
  by_cases h : M j
  · rw [if_pos h, if_pos h]
    exact (Finset.sum_congr rfl fun e _ => mul_comm (k j e) (q e) : ∑ e, k j e * q e = ∑ e, q e * k j e)
  · rw [if_neg h, if_neg h]
    exact negInf

variable (q : FVec Ideal (R7 D N 128 2 4 128) .f32) (k v : FVec Ideal (R6 D N 256 2 128) .f32) (s : FVec Ideal (R7 D N 2 4 128 256) .f32)
  (mx : FVec Ideal (R7 D N 2 4 128 1) .f32) (wt : FVec Ideal (R7 D N 2 4 128 256) .f32) (den : FVec Ideal (R6 D N 2 4 128) .f32)

variable (x0 : (⟨4, ![2, 8192, 8, 128]⟩ : Shape).Idx → EReal) (x1 x2 : (⟨4, ![2, 8192, 2, 128]⟩ : Shape).Idx → EReal)

/-- What each stage is at an index, down to the three arrays. -/
structure Stages : Prop where
  hq : ∀ b r n g p i e, q (ix7 b r n i g p e) = at4 x0 b ((n.val * 128 + i.val) * D + r.val) ⟨g.val * 4 + p.val, by omega⟩ e
  hk : ∀ b r n g i j, seen n.val i j → ∀ e, k (ix6 b r n j g e) = at4 x1 b ((n.val * 128 + j.val - 128) * D + r.val) g e
  hv : ∀ b r n g i j, seen n.val i j → ∀ e, v (ix6 b r n j g e) = at4 x2 b ((n.val * 128 + j.val - 128) * D + r.val) g e
  hs : ∀ b r n g p i, (fun j => s (ix7 b r n g p i j)) = row (seen n.val i) (fun e => q (ix7 b r n i g p e)) (fun j e => k (ix6 b r n j g e))
  hmx : ∀ b r n g p i, mx (ix7 b r n g p i 0) = top (fun j => s (ix7 b r n g p i j))
  hwt : ∀ b r n g p i j, wt (ix7 b r n g p i j) = Ideal.exp (s (ix7 b r n g p i j) - mx (ix7 b r n g p i 0))
  hden : ∀ b r n g p i, den (ix6 b r n g p i) = ∑ j, wt (ix7 b r n g p i j)

variable {q k v s mx wt den x0 x1 x2} (H : Stages q k v s mx wt den x0 x1 x2)
include H

section Row

variable (b : Fin 2) (r : Fin D) (n : Fin N) (g : Fin 2) (p : Fin 4) (i : Fin 128)
  (h : Fin 8) (hh : h.val = g.val * 4 + p.val)
include hh

theorem Stages.row : (fun j => s (ix7 b r n g p i j)) = specRow D x0 x1 b n.val r.val i h := by
  rw [H.hs]
  refine row_congr _ _ _ _ _ (fun e => (H.hq b r n g p i e).trans (congrArg (fun h => at4 x0 b _ h e) (Fin.ext hh.symm))) fun j hj e => ?_
  rw [H.hk b r n g i j hj e]
  exact congrArg (fun g => at4 x1 b _ g e) (Fin.ext (by simp only [kvOf]; omega))

/-- The row's largest score. -/
theorem Stages.top : mx (ix7 b r n g p i 0) = top (specRow D x0 x1 b n.val r.val i h) := by
  rw [H.hmx, H.row b r n g p i h hh]

theorem Stages.weight (j : Fin 256) : wt (ix7 b r n g p i j)
    = Ideal.exp (specRow D x0 x1 b n.val r.val i h j - Swa.top (specRow D x0 x1 b n.val r.val i h)) := by
  rw [H.hwt, H.top b r n g p i h hh]
  exact congrArg (fun z => Ideal.exp (z - _)) (congrFun (H.row b r n g p i h hh) j)

/-- The sum of the row's weights. -/
theorem Stages.total : den (ix6 b r n g p i) = total (specRow D x0 x1 b n.val r.val i h) := by
  rw [H.hden, Swa.total]
  exact Finset.sum_congr rfl fun j _ => H.weight b r n g p i h hh j

/-- The row's weighted values. -/
theorem Stages.mix (e : Fin 128) : ∑ j, (v (ix6 b r n j g e) : EReal) * wt (ix7 b r n g p i j) = specMix D x0 x1 x2 b n.val r.val i h e := by
  rw [specMix]
  refine Finset.sum_congr rfl fun j _ => ?_
  rw [H.weight b r n g p i h hh j]
  refine specMix_term x0 x1 x2 D b n.val r.val i h e j _ fun hj => (H.hv b r n g i j hj e).trans ?_
  exact congrArg (fun g => at4 x2 b _ g e) (Fin.ext (by simp only [kvOf]; omega))

end Row

/-- The first result: at block `j` of span `s` the weighted values of block `s J + j`. -/
theorem Stages.outO (J : Nat) (hJ : N = 4 * J) (o : (A J D 1024).Idx → EReal)
    (ho : ∀ b s j r a (l : Fin 1024) (n : Fin N), n.val = s.val * J + j.val → o (ix6 b s j r a l)
      = ∑ x, (v (ix6 b r n x ⟨l.val / 512, by omega⟩ ⟨l.val % 128, by omega⟩) : EReal)
        * wt (ix7 b r n ⟨l.val / 512, by omega⟩ ⟨l.val / 128 % 4, by omega⟩ a x)) : o = spanO x0 x1 x2 J D := by
  funext y
  obtain ⟨b, s, j, r, a, l, hy⟩ : ∃ (b : Fin 2) (s : Fin 4) (j : Fin J) (r : Fin D) (a : Fin 128) (l : Fin 1024),
      y = (ix6 b s j r a l : (A J D 1024).Idx) := ⟨_, _, _, _, _, _, eta_A y⟩
  subst hy
  have hn : s.val * J + j.val < N := by
    have h1 := Nat.mul_le_mul_right J (show s.val + 1 ≤ 4 from s.isLt)
    rw [Nat.succ_mul] at h1
    have := j.isLt
    omega
  refine (ho b s j r a l ⟨_, hn⟩ rfl).trans ((H.mix b r ⟨_, hn⟩ _ _ a ⟨l.val / 128, by omega⟩ (by dsimp only; omega) _).trans ?_)
  exact (spanO_ix x0 x1 x2 b s j r a l).symm

/-- The second result: eight lanes of the row's maximum, eight of its sum, by head. -/
theorem Stages.outS (J : Nat) (hJ : N = 4 * J) (o : (A J D 128).Idx → EReal)
    (ho : ∀ b s j r a (l : Fin 128) (n : Fin N), n.val = s.val * J + j.val → o (ix6 b s j r a l)
      = if l.val / 8 % 2 < 1 then mx (ix7 b r n ⟨l.val / 64, by omega⟩ ⟨l.val / 16 % 4, by omega⟩ a 0)
        else den (ix6 b r n ⟨l.val / 64, by omega⟩ ⟨l.val / 16 % 4, by omega⟩ a)) : o = spanS x0 x1 J D := by
  funext y
  obtain ⟨b, s, j, r, a, l, hy⟩ : ∃ (b : Fin 2) (s : Fin 4) (j : Fin J) (r : Fin D) (a : Fin 128) (l : Fin 128),
      y = (ix6 b s j r a l : (A J D 128).Idx) := ⟨_, _, _, _, _, _, eta_A y⟩
  subst hy
  have hn : s.val * J + j.val < N := by
    have h1 := Nat.mul_le_mul_right J (show s.val + 1 ≤ 4 from s.isLt)
    rw [Nat.succ_mul] at h1
    have := j.isLt
    omega
  have hh : l.val / 16 = l.val / 64 * 4 + l.val / 16 % 4 := by omega
  refine (ho b s j r a l ⟨_, hn⟩ rfl).trans (Eq.trans ?_ (spanS_ix x0 x1 b s j r a l).symm)
  rw [H.top b r ⟨_, hn⟩ _ _ a ⟨l.val / 16, by omega⟩ hh, H.total b r ⟨_, hn⟩ _ _ a ⟨l.val / 16, by omega⟩ hh]
  exact if_congr Nat.lt_one_iff rfl rfl

end Cert.Swa
-- ==== Proof.RefDil4.lean ====
module

public import proofs.«01_k».proof.Proof.Gen.Reference4Ideal.Run
public import Idealize.ShloMosaic.Lib.Pointwise
public import proofs.«01_k».proof.Proof.RefRow

@[expose] public section

set_option maxRecDepth 16384

noncomputable section

/-! The reference of the attention at dilation 4: its stages, and the stages at an index. -/

namespace Cert.Reference4Ideal.RefVal

open Cert.Reference4Ideal Cert.Reference4Ideal.Gen Idealize.ShloMosaic Idealize.ShloMosaic.TcCoe Idealize.SL.Sem

section Stages

variable {F : FTy → Type} [FloatOps F]

/-- The queries in strided blocks. -/
def qb (x : FVec F S2x8192x8x128 .f32) : FVec F S2x4x16x128x2x4x128 .f32 :=
  shapeCast _ (shapeCast _ (transpose S2x4x2048x8x128 [0, 2, 1, 3, 4] (shapeCast _ x shapeCasts_S2x8192x8x128_S2x2048x4x8x128)
    transposes_S2x2048x4x8x128_S2x4x2048x8x128_0_2_1_3_4) shapeCasts_S2x4x2048x8x128_S2x4x16x128x8x128)
    shapeCasts_S2x4x16x128x8x128_S2x4x16x128x2x4x128

/-- The keys or the values in strided blocks. -/
def kb (x : FVec F S2x8192x2x128 .f32) : FVec F S2x4x16x128x2x128 .f32 :=
  shapeCast _ (transpose S2x4x2048x2x128 [0, 2, 1, 3, 4] (shapeCast _ x shapeCasts_S2x8192x2x128_S2x2048x4x2x128)
    transposes_S2x2048x4x2x128_S2x4x2048x2x128_0_2_1_3_4) shapeCasts_S2x4x2048x2x128_S2x4x16x128x2x128

/-- Every block with the one before it, zeros before the first. -/
def withPrev (x : FVec F S2x4x16x128x2x128 .f32) : FVec F S2x4x16x256x2x128 .f32 :=
  concatenate S2x4x16x256x2x128 3 [⟨S2x4x16x128x2x128, extractStridedSlice S2x4x16x128x2x128 ![0, 0, 0, 0, 0, 0]
    (pad S2x4x17x128x2x128 ![0, 0, 1, 0, 0, 0] ![0, 0, 0, 0, 0, 0] ![0, 0, 0, 0, 0, 0] x
      (sitofp .f32 (constantI S_ 32 0#32)) pads_S2x4x16x128x2x128_S2x4x17x128x2x128_000_000_100_000_000_000 h_S_)
      slices_S2x4x17x128x2x128_S2x4x16x128x2x128_0_0_0_0_0_0⟩, ⟨S2x4x16x128x2x128, x⟩]
    concatenates_S2x4x16x128x2x128_S2x4x16x128x2x128_S2x4x16x256x2x128_d3

/-- Query row minus key column, plus a block. -/
def rel : IVec S128x256 32 :=
  subi (broadcastInDim S128x256 ![0, 1] bcast_S128x1_S128x256_0_1 (addi (broadcastInDim S128x1 ![] bcast_S_S128x1 (constantI S_ 32 128#32))
    (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The mask of each block. -/
def mask : IVec S16x128x256 1 :=
  andi (broadcastInDim S16x128x256 ![0, 1, 2] bcast_S1x128x256_S16x128x256_0_1_2 (broadcastInDim S1x128x256 ![1, 2] bcast_S128x256_S1x128x256_1_2
    (andi (cmpi .sge rel (broadcastInDim S128x256 ![] bcast_S_S128x256 (constantI S_ 32 0#32)))
      (cmpi .sle rel (broadcastInDim S128x256 ![] bcast_S_S128x256 (constantI S_ 32 128#32))))))
    (broadcastInDim S16x128x256 ![0, 1, 2] bcast_S16x1x256_S16x128x256_0_1_2 (ori
      (broadcastInDim S16x1x256 ![0, 1, 2] bcast_S16x1x1_S16x1x256_0_1_2 (cmpi .sgt (broadcastInDim S16x1x1 ![0] bcast_S16_S16x1x1_0 (iotaInDim S16 32 0))
        (broadcastInDim S16x1x1 ![] bcast_S_S16x1x1 (constantI S_ 32 0#32))))
      (broadcastInDim S16x1x256 ![0, 1, 2] bcast_S1x1x256_S16x1x256_0_1_2 (cmpi .sge (broadcastInDim S1x1x256 ![1, 2] bcast_S1x256_S1x1x256_1_2
        (broadcastInDim S1x256 ![1] bcast_S256_S1x256_1 (iotaInDim S256 32 0))) (broadcastInDim S1x1x256 ![] bcast_S_S1x1x256 (constantI S_ 32 128#32))))))

/-- The masked scores. -/
def sc (q : FVec F S2x4x16x128x2x4x128 .f32) (kc : FVec F S2x4x16x256x2x128 .f32) : FVec F S2x4x16x2x4x128x256 .f32 :=
  select (broadcastInDim S2x4x16x2x4x128x256 ![0, 1, 2, 3, 4, 5, 6] bcast_S1x1x16x1x1x128x256_S2x4x16x2x4x128x256_0_1_2_3_4_5_6
      (broadcastInDim S1x1x16x1x1x128x256 ![2, 5, 6] bcast_S16x128x256_S1x1x16x1x1x128x256_2_5_6 mask))
    (transpose S2x4x16x2x4x128x256 [0, 1, 2, 3, 6, 5, 4] (Host.dotGeneral dot_S2x4x16x256x2x128_S2x4x16x128x2x4x128_S2x4x16x2x256x128x4_5_6_3_35_0124_0124 none kc q)
      transposes_S2x4x16x2x256x128x4_S2x4x16x2x4x128x256_0_1_2_3_6_5_4)
    (broadcastInDim S2x4x16x2x4x128x256 ![] bcast_S_S2x4x16x2x4x128x256 (id (constant S_ .f32 0xFF800000#32)))

/-- Their row maximum. -/
def mx (s : FVec F S2x4x16x2x4x128x256 .f32) : FVec F S2x4x16x2x4x128x1 .f32 :=
  broadcastInDim S2x4x16x2x4x128x1 ![0, 1, 2, 3, 4, 5] bcast_S2x4x16x2x4x128_S2x4x16x2x4x128x1_0_1_2_3_4_5
    (Host.reduce FloatOps.maximumf s (constant S_ .f32 0xFF800000#32) reducesTo_S2x4x16x2x4x128x256_S2x4x16x2x4x128_d6 h_S_)

/-- The weights. -/
def wt (s : FVec F S2x4x16x2x4x128x256 .f32) : FVec F S2x4x16x2x4x128x256 .f32 :=
  Host.exp (subf s (broadcastInDim S2x4x16x2x4x128x256 ![0, 1, 2, 3, 4, 5, 6] bcast_S2x4x16x2x4x128x1_S2x4x16x2x4x128x256_0_1_2_3_4_5_6 (mx s)))

/-- Their sums. -/
def den (p : FVec F S2x4x16x2x4x128x256 .f32) : FVec F S2x4x16x2x4x128 .f32 :=
  Host.reduceAdd p (constant S_ .f32 0x00000000#32) reducesTo_S2x4x16x2x4x128x256_S2x4x16x2x4x128_d6 h_S_

/-- The weighted values. -/
def ov (vc : FVec F S2x4x16x256x2x128 .f32) (p : FVec F S2x4x16x2x4x128x256 .f32) : FVec F S2x4x16x2x128x4x128 .f32 :=
  Host.dotGeneral dot_S2x4x16x256x2x128_S2x4x16x2x4x128x256_S2x4x16x2x128x4x128_3_6_5_45_0124_0123 none vc p

/-- The first result from the weighted values. -/
def outO (o : FVec F S2x4x16x2x128x4x128 .f32) : FVec F S2x4x4x4x128x1024 .bf16 :=
  truncf .bf16 (transpose S2x4x4x4x128x1024 [0, 2, 3, 1, 4, 5] (shapeCast _ (transpose S2x4x16x128x2x4x128 [0, 1, 2, 6, 3, 5, 4] o
    transposes_S2x4x16x2x128x4x128_S2x4x16x128x2x4x128_0_1_2_6_3_5_4) shapeCasts_S2x4x16x128x2x4x128_S2x4x4x4x128x1024)
    transposes_S2x4x4x4x128x1024_S2x4x4x4x128x1024_0_2_3_1_4_5) bitsLt_bf16_f32

/-- The second result from the maxima and the sums. -/
def outS (a : FVec F S2x4x16x2x4x128x1 .f32) (l : FVec F S2x4x16x2x4x128 .f32) : FVec F S2x4x4x4x128x128 .f32 :=
  transpose S2x4x4x4x128x128 [0, 2, 3, 1, 4, 5] (shapeCast _
    (broadcastInDim S2x4x16x128x2x4x2x8 ![0, 1, 2, 3, 4, 5, 6, 7] bcast_S2x4x16x128x2x4x2x1_S2x4x16x128x2x4x2x8_0_1_2_3_4_5_6_7
      (broadcastInDim S2x4x16x128x2x4x2x1 ![0, 1, 2, 3, 4, 5, 6] bcast_S2x4x16x128x2x4x2_S2x4x16x128x2x4x2x1_0_1_2_3_4_5_6
        (concatenate S2x4x16x128x2x4x2 6
          [⟨S2x4x16x128x2x4x1, broadcastInDim S2x4x16x128x2x4x1 ![0, 1, 2, 3, 4, 5] bcast_S2x4x16x128x2x4_S2x4x16x128x2x4x1_0_1_2_3_4_5
            (transpose S2x4x16x128x2x4 [0, 1, 2, 5, 3, 4] (shapeCast S2x4x16x2x4x128 a shapeCasts_S2x4x16x2x4x128x1_S2x4x16x2x4x128)
              transposes_S2x4x16x2x4x128_S2x4x16x128x2x4_0_1_2_5_3_4)⟩,
           ⟨S2x4x16x128x2x4x1, broadcastInDim S2x4x16x128x2x4x1 ![0, 1, 2, 3, 4, 5] bcast_S2x4x16x128x2x4_S2x4x16x128x2x4x1_0_1_2_3_4_5
            (transpose S2x4x16x128x2x4 [0, 1, 2, 5, 3, 4] l transposes_S2x4x16x2x4x128_S2x4x16x128x2x4_0_1_2_5_3_4)⟩]
          concatenates_S2x4x16x128x2x4x1_S2x4x16x128x2x4x1_S2x4x16x128x2x4x2_d6)))
    shapeCasts_S2x4x16x128x2x4x2x8_S2x4x4x4x128x128) transposes_S2x4x4x4x128x128_S2x4x4x4x128x128_0_2_3_1_4_5

/-- The masked scores of the arguments. -/
def scOf (x0 : FVec F S2x8192x8x128 .f32) (x1 : FVec F S2x8192x2x128 .f32) : FVec F S2x4x16x2x4x128x256 .f32 :=
  sc (qb x0) (withPrev (kb x1))

/-- The first result, of the arguments. -/
theorem res0_eq (m : (ℓ : Loc nD τ sig) → Buf (Elt F) ℓ) (c : Dev nD) :
    Value.res_out0 m c = outO (ov (withPrev (kb (m ((c.tc : Thread nD τ).loc main_arg2))))
      (wt (scOf (m ((c.tc : Thread nD τ).loc main_arg0)) (m ((c.tc : Thread nD τ).loc main_arg1))))) := rfl

/-- The second result, of the arguments. -/
theorem res1_eq (m : (ℓ : Loc nD τ sig) → Buf (Elt F) ℓ) (c : Dev nD) :
    Value.res_out1 m c = outS
      (mx (scOf (m ((c.tc : Thread nD τ).loc main_arg0)) (m ((c.tc : Thread nD τ).loc main_arg1))))
      (den (wt (scOf (m ((c.tc : Thread nD τ).loc main_arg0)) (m ((c.tc : Thread nD τ).loc main_arg1))))) := rfl

end Stages

open Pointwise

variable (b : Fin 2) (r : Fin 4) (n : Fin 16) (g : Fin 2) (p : Fin 4) (i : Fin 128)

theorem mx_apply (s : FVec Ideal S2x4x16x2x4x128x256 .f32) :
    mx s (ix7 b r n g p i 0) = Swa.top (fun j => s (ix7 b r n g p i j)) := by
  have e : ∀ y : FVec Ideal S2x4x16x2x4x128 .f32, broadcastInDim S2x4x16x2x4x128x1 ![0, 1, 2, 3, 4, 5]
      bcast_S2x4x16x2x4x128_S2x4x16x2x4x128x1_0_1_2_3_4_5 y (ix7 b r n g p i 0) = y (ix6 b r n g p i) := fun y => by pointwise
  exact (e _).trans (Swa.host_max (by decide) s _ _ b r n g p i)

theorem den_apply (w : FVec Ideal S2x4x16x2x4x128x256 .f32) :
    den w (ix6 b r n g p i) = ∑ j, w (ix7 b r n g p i j) :=
  Swa.host_sum (by decide) w _ _ b r n g p i

theorem wt_apply (s : FVec Ideal S2x4x16x2x4x128x256 .f32) (j : Fin 256) :
    wt s (ix7 b r n g p i j) = Ideal.exp (s (ix7 b r n g p i j) - mx s (ix7 b r n g p i 0)) := by
  pointwise [wt]

/-- The mask at an index. -/
theorem mask_apply (j : Fin 256) : mask (ix3 n i j) = if Swa.seen n.val i j then 1#1 else 0#1 := by
  pointwise [mask, rel]
  rw [Swa.bandWord, Swa.ownWord]
  rw [(by decide : ∀ n : Fin 16, IntOp.cmpi .sgt (BitVec.ofNat 32 n.val) 0#32 = if 0 < n.val then 1#1 else 0#1) n]
  rw [Swa.or_ite, Swa.and_ite]
  rfl

/-- The scores at an index. -/
theorem sc_apply (q : FVec Ideal S2x4x16x128x2x4x128 .f32) (kc : FVec Ideal S2x4x16x256x2x128 .f32) :
    (fun j => sc q kc (ix7 b r n g p i j)) = Swa.row (Swa.seen n.val i) (fun e => q (ix7 b r n i g p e)) (fun j e => kc (ix6 b r n j g e)) := by
  funext j
  have hm := mask_apply n i j
  pointwise [sc]
  exact Swa.masked_score _ _ _ (fun j e => kc (ix6 b r n j g e)) j hm

theorem qb_apply (x : FVec Ideal S2x8192x8x128 .f32) (e : Fin 128) :
    qb x (ix7 b r n i g p e) = Swa.at4 x b ((n.val * 128 + i.val) * 4 + r.val) ⟨g.val * 4 + p.val, by omega⟩ e := by
  pointwise [qb]
  exact (Swa.at4_of x b _ _ _ _ _ _ rfl rfl rfl).symm

/-- A key or value the row sees. -/
theorem kb_apply (x : FVec Ideal S2x8192x2x128 .f32) (j : Fin 256) (hj : Swa.seen n.val i j) (e : Fin 128) :
    withPrev (kb x) (ix6 b r n j g e) = Swa.at4 x b ((n.val * 128 + j.val - 128) * 4 + r.val) g e := by
  pointwise [withPrev, kb]
  obtain ⟨-, h⟩ := hj
  split_ifs <;> first | (exfalso; omega) | exact (Swa.at4_of x b _ _ _ _ _ _ (by dsimp only; omega) rfl rfl).symm

variable (x0 : FVec Ideal S2x8192x8x128 .f32) (x1 x2 : FVec Ideal S2x8192x2x128 .f32)

theorem scOf_apply : (fun j => scOf x0 x1 (ix7 b r n g p i j))
    = Swa.row (Swa.seen n.val i) (fun e => qb x0 (ix7 b r n i g p e)) (fun j e => withPrev (kb x1) (ix6 b r n j g e)) := by
  rw [scOf, sc_apply]

/-- The stages of the arguments. -/
theorem stages_of : Swa.Stages (qb x0) (withPrev (kb x1)) (withPrev (kb x2)) (scOf x0 x1) (mx (scOf x0 x1)) (wt (scOf x0 x1))
    (den (wt (scOf x0 x1))) x0 x1 x2 where
  hq b r n g p i e := qb_apply b r n g p i x0 e
  hk b r n g i j hj e := kb_apply b r n g i x1 j hj e
  hv b r n g i j hj e := kb_apply b r n g i x2 j hj e
  hs b r n g p i := scOf_apply b r n g p i x0 x1
  hmx b r n g p i := mx_apply b r n g p i (scOf x0 x1)
  hwt b r n g p i j := wt_apply b r n g p i (scOf x0 x1) j
  hden b r n g p i := den_apply b r n g p i (wt (scOf x0 x1))

/-- The first result array. -/
theorem outO_eq : outO (ov (withPrev (kb x2)) (wt (scOf x0 x1))) = Swa.spanO x0 x1 x2 4 4 := by
  refine (stages_of x0 x1 x2).outO 4 rfl _ fun b s j r a l n hn => ?_
  have hb : s.val * 4 + j.val < 16 := by clear hn; omega
  obtain rfl : n = ⟨s.val * 4 + j.val, hb⟩ := Fin.ext hn
  generalize withPrev (kb x2) = v
  generalize wt (scOf x0 x1) = w
  pointwise [outO, ov]

/-- The second result array. -/
theorem outS_eq : outS (mx (scOf x0 x1)) (den (wt (scOf x0 x1))) = Swa.spanS x0 x1 4 4 := by
  refine (stages_of x0 x1 x1).outS 4 rfl _ fun b s j r a l n hn => ?_
  have hb : s.val * 4 + j.val < 16 := by clear hn; omega
  obtain rfl : n = ⟨s.val * 4 + j.val, hb⟩ := Fin.ext hn
  generalize mx (scOf x0 x1) = v
  generalize den (wt (scOf x0 x1)) = w
  pointwise [outS]
  rfl

end Cert.Reference4Ideal.RefVal
-- ==== Proof.Att1.lean ====
module

public import proofs.«01_k».proof.Proof.Span
public import proofs.«01_k».proof.Proof.Gen.Kernel5Ideal.Frame
public import proofs.«01_k».proof.Proof.Gen.Kernel5Ideal.Value
public import Idealize.ShloMosaic.Lib.Pipeline.ValueKit
public import Idealize.ShloMosaic.Lib.Claim

@[expose] public section

set_option maxRecDepth 16384

noncomputable section

/-! The two result arrays of the attention at dilation 1: sixteen blocks of one phase a grid point. -/

namespace Cert.Kernel5Ideal.Val

open Cert.Kernel5Ideal Cert.Kernel5Ideal.Gen Idealize.ShloMosaic Idealize.ShloMosaic.TcCoe Idealize.SL.Sem Idealize.ShloMosaic.Tactic Pointwise

theorem units : 1 * 16 = 16 := rfl

section Pieces

variable {F : FTy → Type} [FloatOps F]
  (c : Dev nD) (i : grid0.Coords) (arg2 : Memref sig .tc .vmem S1x1x16x1x128x1024 .bf16) (harg2 : arg2.IsWhole) (arg3 : Memref sig .tc .vmem S1x1x16x1x128x256 .bf16) (harg3 : arg3.IsWhole) (arg4 : Memref sig .tc .vmem S1x1x1x1x128x256 .bf16) (harg4 : arg4.IsWhole) (arg5 : Memref sig .tc .vmem S1x1x16x1x128x256 .bf16) (harg5 : arg5.IsWhole) (arg6 : Memref sig .tc .vmem S1x1x1x1x128x256 .bf16) (harg6 : arg6.IsWhole) (arg7 : Memref sig .tc .vmem S1x1x16x1x128x1024 .bf16) (harg7 : arg7.IsWhole) (arg8 : Memref sig .tc .vmem S1x1x16x1x128x128 .f32) (harg8 : arg8.IsWhole) (arg9 : Memref sig .tc .vmem S2x128x256 .f32) (harg9 : arg9.IsWhole)
  (x0 : Vec F S1x1x16x1x128x1024 .bf16) (x1 : Vec F S1x1x16x1x128x256 .bf16) (x2 : Vec F S1x1x1x1x128x256 .bf16) (x3 : Vec F S1x1x16x1x128x256 .bf16) (x4 : Vec F S1x1x1x1x128x256 .bf16)

/-- What the point loads. -/
def pointLoads : Swa.Loads F 16 1 :=
  Swa.loads arg9 (k0_off1 i) (k0_off1_inb i) arg2 (harg2.unread x0) arg3 (harg3.unread x1) arg4 (harg4.unread x2)
    arg5 (harg5.unread x3) arg6 (harg6.unread x4)

/-- The output stores. -/
theorem pieces5 : (kernelRun0_A c i arg2 harg2 arg3 harg3 arg4 harg4 arg5 harg5 arg6 harg6 arg7 harg7 arg8 harg8 arg9 harg9 x0 x1 x2 x3 x4).1
    = Swa.oPieces units (pointLoads i arg2 harg2 arg3 harg3 arg4 harg4 arg5 harg5 arg6 harg6 arg9 x0 x1 x2 x3 x4) := by
  sl_kernel_rfl

/-- The statistics stores. -/
theorem pieces6 : (kernelRun0_A c i arg2 harg2 arg3 harg3 arg4 harg4 arg5 harg5 arg6 harg6 arg7 harg7 arg8 harg8 arg9 harg9 x0 x1 x2 x3 x4).2.1
    = Swa.sPieces units (pointLoads i arg2 harg2 arg3 harg3 arg4 harg4 arg5 harg5 arg6 harg6 arg9 x0 x1 x2 x3 x4) := by
  sl_kernel_rfl

end Pieces

/-- Where the bias is read. -/
theorem off1_eq (i : grid0.Coords) : k0_off1 i = if (i 1).val = 0 then ![1, 0, 0] else ![0, 0, 0] :=
  Cert.KernelIdeal.Val.off1_eq i

variable (m : (ℓ : Loc nD τ sig) → Buf (Elt Ideal) ℓ) (c : Dev nD)

/-- The argument arrays. -/
def argQ : FVec Ideal S2x8192x8x128 .f32 := m ((c.tc : Thread nD τ).loc main_arg0)
def argK : FVec Ideal S2x8192x2x128 .f32 := m ((c.tc : Thread nD τ).loc main_arg1)
def argV : FVec Ideal S2x8192x2x128 .f32 := m ((c.tc : Thread nD τ).loc main_arg2)

variable (b : Fin 2) (n : Fin 4) (j : Fin 16) (r : Fin 1) (a : Fin 128)

theorem entry_q (l : Fin 1024) : (V m c main_v2 : Vec Ideal S2x4x16x1x128x1024 .bf16) (ix6 b n j r a l)
      = Swa.at4 (argQ m c) b (((n.val * 16 + j.val) * 128 + a.val) * 1 + r.val) ⟨l.val / 128, by omega⟩ ⟨l.val % 128, by omega⟩ := by
  entry_read
  pointwise
  exact (Swa.at4_of (argQ m c) b _ _ _ _ _ _ (by dsimp only; omega) rfl rfl).symm

theorem entry_k (l : Fin 256) : (V m c main_v5 : Vec Ideal S2x4x16x1x128x256 .bf16) (ix6 b n j r a l)
      = Swa.at4 (argK m c) b (((n.val * 16 + j.val) * 128 + a.val) * 1 + r.val) ⟨l.val / 128, by omega⟩ ⟨l.val % 128, by omega⟩ := by
  entry_read
  pointwise
  exact (Swa.at4_of (argK m c) b _ _ _ _ _ _ (by dsimp only; omega) rfl rfl).symm

theorem entry_v (l : Fin 256) : (V m c main_v8 : Vec Ideal S2x4x16x1x128x256 .bf16) (ix6 b n j r a l)
      = Swa.at4 (argV m c) b (((n.val * 16 + j.val) * 128 + a.val) * 1 + r.val) ⟨l.val / 128, by omega⟩ ⟨l.val % 128, by omega⟩ := by
  entry_read
  pointwise
  exact (Swa.at4_of (argV m c) b _ _ _ _ _ _ (by dsimp only; omega) rfl rfl).symm

/-- The windows' block indices: the sequence and the span; the last block of the span before for windows 2 and 4. -/
theorem idx : ∀ t : Fin cfg0.N, win0_0.index t = ![t.val / 4, t.val % 4, 0, 0, 0, 0] ∧ win0_1.index t = ![t.val / 4, t.val % 4, 0, 0, 0, 0]
    ∧ win0_2.index t = ![t.val / 4, t.val % 4 - 1, 15, 0, 0, 0] ∧ win0_3.index t = ![t.val / 4, t.val % 4, 0, 0, 0, 0]
    ∧ win0_4.index t = ![t.val / 4, t.val % 4 - 1, 15, 0, 0, 0] ∧ win0_5.index t = ![t.val / 4, t.val % 4, 0, 0, 0, 0]
    ∧ win0_6.index t = ![t.val / 4, t.val % 4, 0, 0, 0, 0] ∧ (grid0.coords t 1).val = t.val % 4 :=
  (by decide +kernel : ∀ t : Fin grid0.N, _)

variable (t : Fin cfg0.N)

/-- A grid point's sequence. -/
def seqOf : Fin 2 := ⟨t.val / 4, by have : t.val < 8 := t.isLt; omega⟩

theorem blk_q (l : Fin 1024) : (iblk m c 0 t : Vec Ideal S1x1x16x1x128x1024 .bf16) (ix6 0 0 j r a l)
      = Swa.at4 (argQ m c) (seqOf t) (((t.val % 4 * 16 + j.val) * 128 + a.val) * 1 + r.val) ⟨l.val / 128, by omega⟩ ⟨l.val % 128, by omega⟩ := by
  rw [← entry_q m c (seqOf t) ⟨t.val % 4, by omega⟩ j r a l, seqOf]
  blk_ext [iblk, idx t]

theorem blk_kc (l : Fin 256) : (iblk m c 1 t : Vec Ideal S1x1x16x1x128x256 .bf16) (ix6 0 0 j r a l)
      = Swa.at4 (argK m c) (seqOf t) (((t.val % 4 * 16 + j.val) * 128 + a.val) * 1 + r.val) ⟨l.val / 128, by omega⟩ ⟨l.val % 128, by omega⟩ := by
  rw [← entry_k m c (seqOf t) ⟨t.val % 4, by omega⟩ j r a l, seqOf]
  blk_ext [iblk, idx t]

theorem blk_kp (l : Fin 256) : (iblk m c 2 t : Vec Ideal S1x1x1x1x128x256 .bf16) (ix6 0 0 0 r a l)
      = Swa.at4 (argK m c) (seqOf t) ((((t.val % 4 - 1) * 16 + 15) * 128 + a.val) * 1 + r.val) ⟨l.val / 128, by omega⟩ ⟨l.val % 128, by omega⟩ := by
  refine Eq.trans ?_ (entry_k m c (seqOf t) ⟨t.val % 4 - 1, by omega⟩ 15 r a l)
  rw [seqOf]
  blk_ext [iblk, idx t]

theorem blk_vc (l : Fin 256) : (iblk m c 3 t : Vec Ideal S1x1x16x1x128x256 .bf16) (ix6 0 0 j r a l)
      = Swa.at4 (argV m c) (seqOf t) (((t.val % 4 * 16 + j.val) * 128 + a.val) * 1 + r.val) ⟨l.val / 128, by omega⟩ ⟨l.val % 128, by omega⟩ := by
  rw [← entry_v m c (seqOf t) ⟨t.val % 4, by omega⟩ j r a l, seqOf]
  blk_ext [iblk, idx t]

theorem blk_vp (l : Fin 256) : (iblk m c 4 t : Vec Ideal S1x1x1x1x128x256 .bf16) (ix6 0 0 0 r a l)
      = Swa.at4 (argV m c) (seqOf t) ((((t.val % 4 - 1) * 16 + 15) * 128 + a.val) * 1 + r.val) ⟨l.val / 128, by omega⟩ ⟨l.val % 128, by omega⟩ := by
  refine Eq.trans ?_ (entry_v m c (seqOf t) ⟨t.val % 4 - 1, by omega⟩ 15 r a l)
  rw [seqOf]
  blk_ext [iblk, idx t]

/-- The loads of point `t` are those of its span. -/
theorem loads_of : (pointLoads (grid0.coords t) (ms0_0 t) (hs0_0 t) (ms0_1 t) (hs0_1 t) (ms0_2 t) (hs0_2 t) (ms0_3 t) (hs0_3 t) (ms0_4 t) (hs0_4 t)
      scM0_0 (iblk m c 0 t) (iblk m c 1 t) (iblk m c 2 t) (iblk m c 3 t) (iblk m c 4 t)).Of (argQ m c) (argK m c) (argV m c) (seqOf t) (t.val % 4) := by
  refine Swa.loads_of (argQ m c) (argK m c) (argV m c) (by decide) (seqOf t) (t.val % 4) scM0_0 _ _ ?_ _ (hs0_0 t) _ (hs0_1 t) _ (hs0_2 t) _ (hs0_3 t) _ (hs0_4 t)
    _ _ _ _ _ (fun j r a l => blk_q m c j r a t l) (fun j r a l => blk_kc m c j r a t l) (fun r a l => blk_kp m c r a t l)
    (fun j r a l => blk_vc m c j r a t l) fun r a l => blk_vp m c r a t l
  rw [off1_eq, (idx t).2.2.2.2.2.2.2]

/-- Point `t` writes its block of the first result. -/
theorem o_eq (y : S1x1x16x1x128x1024.Idx) :
    (outsAt0 m c t).1 y = Swa.spanO (argQ m c) (argK m c) (argV m c) 16 1 ((win0_5.blk t).view.emb y) := by
  obtain ⟨j, r, a, l, hy⟩ : ∃ (j : Fin 16) (r : Fin 1) (a : Fin 128) (l : Fin 1024), y = (ix6 0 0 j r a l : S1x1x16x1x128x1024.Idx) :=
    ⟨_, _, _, _, Swa.eta_B y⟩
  subst hy
  have he : (win0_5.blk t).view.emb (ix6 0 0 j r a l : S1x1x16x1x128x1024.Idx) = (ix6 (seqOf t) ⟨t.val % 4, by omega⟩ j r a l : S2x4x16x1x128x1024.Idx) := by
    rw [seqOf]
    blk_ext [idx t]
  refine Eq.trans ?_ (congrArg (Swa.spanO (argQ m c) (argK m c) (argV m c) 16 1) he).symm
  refine Eq.trans ?_ (Swa.oPieces_apply units (loads_of m c t) j r a l)
  rw [outsAt0]
  dsimp only
  unfold out0_A_5
  rw [View.read_writes_eq_canon _ _ _ (cover0_A_5 c _ _ _ _ _ _ _ _ _ _ _ _ _ _ _ _ _ _ _ _ _ _), pieces5]

/-- Point `t` writes its block of the second result. -/
theorem st_eq (y : S1x1x16x1x128x128.Idx) :
    (outsAt0 m c t).2 y = Swa.spanS (argQ m c) (argK m c) 16 1 ((win0_6.blk t).view.emb y) := by
  obtain ⟨j, r, a, l, hy⟩ : ∃ (j : Fin 16) (r : Fin 1) (a : Fin 128) (l : Fin 128), y = (ix6 0 0 j r a l : S1x1x16x1x128x128.Idx) :=
    ⟨_, _, _, _, Swa.eta_B y⟩
  subst hy
  have he : (win0_6.blk t).view.emb (ix6 0 0 j r a l : S1x1x16x1x128x128.Idx) = (ix6 (seqOf t) ⟨t.val % 4, by omega⟩ j r a l : S2x4x16x1x128x128.Idx) := by
    rw [seqOf]
    blk_ext [idx t]
  refine Eq.trans ?_ (congrArg (Swa.spanS (argQ m c) (argK m c) 16 1) he).symm
  refine Eq.trans ?_ (Swa.sPieces_apply units (loads_of m c t) j r a l)
  rw [outsAt0]
  dsimp only
  unfold out0_A_6
  rw [View.read_writes_eq_canon _ _ _ (cover0_A_6 c _ _ _ _ _ _ _ _ _ _ _ _ _ _ _ _ _ _ _ _ _ _), pieces6]

/-- The first result array. -/
theorem final5 : (dats m 0 c).arrAt 5 cfg0.N = Swa.spanO (argQ m c) (argK m c) (argV m c) 16 1 := by
  refine (dats m 0 c).arrAt_eq_of_covers 5 _ (by decide +kernel) fun t hf y => ?_
  blk_simp
  rw [after0_5]
  exact o_eq m c t y

/-- The second result array. -/
theorem final6 : (dats m 0 c).arrAt 6 cfg0.N = Swa.spanS (argQ m c) (argK m c) 16 1 := by
  refine (dats m 0 c).arrAt_eq_of_covers 6 _ (by decide +kernel) fun t hf y => ?_
  blk_simp
  rw [after0_6]
  exact st_eq m c t y

end Cert.Kernel5Ideal.Val
-- ==== Proof.RefDil1.lean ====
module

public import proofs.«01_k».proof.Proof.Gen.Reference5Ideal.Run
public import Idealize.ShloMosaic.Lib.Pointwise
public import proofs.«01_k».proof.Proof.RefRow

@[expose] public section

set_option maxRecDepth 16384

noncomputable section

/-! The reference of the attention at dilation 1: its stages, and the stages at an index. -/

namespace Cert.Reference5Ideal.RefVal

open Cert.Reference5Ideal Cert.Reference5Ideal.Gen Idealize.ShloMosaic Idealize.ShloMosaic.TcCoe Idealize.SL.Sem

section Stages

variable {F : FTy → Type} [FloatOps F]

/-- The queries in strided blocks. -/
def qb (x : FVec F S2x8192x8x128 .f32) : FVec F S2x1x64x128x2x4x128 .f32 :=
  shapeCast _ (shapeCast _ (transpose S2x1x8192x8x128 [0, 2, 1, 3, 4] (shapeCast _ x shapeCasts_S2x8192x8x128_S2x8192x1x8x128)
    transposes_S2x8192x1x8x128_S2x1x8192x8x128_0_2_1_3_4) shapeCasts_S2x1x8192x8x128_S2x1x64x128x8x128)
    shapeCasts_S2x1x64x128x8x128_S2x1x64x128x2x4x128

/-- The keys or the values in strided blocks. -/
def kb (x : FVec F S2x8192x2x128 .f32) : FVec F S2x1x64x128x2x128 .f32 :=
  shapeCast _ (transpose S2x1x8192x2x128 [0, 2, 1, 3, 4] (shapeCast _ x shapeCasts_S2x8192x2x128_S2x8192x1x2x128)
    transposes_S2x8192x1x2x128_S2x1x8192x2x128_0_2_1_3_4) shapeCasts_S2x1x8192x2x128_S2x1x64x128x2x128

/-- Every block with the one before it, zeros before the first. -/
def withPrev (x : FVec F S2x1x64x128x2x128 .f32) : FVec F S2x1x64x256x2x128 .f32 :=
  concatenate S2x1x64x256x2x128 3 [⟨S2x1x64x128x2x128, extractStridedSlice S2x1x64x128x2x128 ![0, 0, 0, 0, 0, 0]
    (pad S2x1x65x128x2x128 ![0, 0, 1, 0, 0, 0] ![0, 0, 0, 0, 0, 0] ![0, 0, 0, 0, 0, 0] x
      (sitofp .f32 (constantI S_ 32 0#32)) pads_S2x1x64x128x2x128_S2x1x65x128x2x128_000_000_100_000_000_000 h_S_)
      slices_S2x1x65x128x2x128_S2x1x64x128x2x128_0_0_0_0_0_0⟩, ⟨S2x1x64x128x2x128, x⟩]
    concatenates_S2x1x64x128x2x128_S2x1x64x128x2x128_S2x1x64x256x2x128_d3

/-- Query row minus key column, plus a block. -/
def rel : IVec S128x256 32 :=
  subi (broadcastInDim S128x256 ![0, 1] bcast_S128x1_S128x256_0_1 (addi (broadcastInDim S128x1 ![] bcast_S_S128x1 (constantI S_ 32 128#32))
    (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The mask of each block. -/
def mask : IVec S64x128x256 1 :=
  andi (broadcastInDim S64x128x256 ![0, 1, 2] bcast_S1x128x256_S64x128x256_0_1_2 (broadcastInDim S1x128x256 ![1, 2] bcast_S128x256_S1x128x256_1_2
    (andi (cmpi .sge rel (broadcastInDim S128x256 ![] bcast_S_S128x256 (constantI S_ 32 0#32)))
      (cmpi .sle rel (broadcastInDim S128x256 ![] bcast_S_S128x256 (constantI S_ 32 128#32))))))
    (broadcastInDim S64x128x256 ![0, 1, 2] bcast_S64x1x256_S64x128x256_0_1_2 (ori
      (broadcastInDim S64x1x256 ![0, 1, 2] bcast_S64x1x1_S64x1x256_0_1_2 (cmpi .sgt (broadcastInDim S64x1x1 ![0] bcast_S64_S64x1x1_0 (iotaInDim S64 32 0))
        (broadcastInDim S64x1x1 ![] bcast_S_S64x1x1 (constantI S_ 32 0#32))))
      (broadcastInDim S64x1x256 ![0, 1, 2] bcast_S1x1x256_S64x1x256_0_1_2 (cmpi .sge (broadcastInDim S1x1x256 ![1, 2] bcast_S1x256_S1x1x256_1_2
        (broadcastInDim S1x256 ![1] bcast_S256_S1x256_1 (iotaInDim S256 32 0))) (broadcastInDim S1x1x256 ![] bcast_S_S1x1x256 (constantI S_ 32 128#32))))))

/-- The masked scores. -/
def sc (q : FVec F S2x1x64x128x2x4x128 .f32) (kc : FVec F S2x1x64x256x2x128 .f32) : FVec F S2x1x64x2x4x128x256 .f32 :=
  select (broadcastInDim S2x1x64x2x4x128x256 ![0, 1, 2, 3, 4, 5, 6] bcast_S1x1x64x1x1x128x256_S2x1x64x2x4x128x256_0_1_2_3_4_5_6
      (broadcastInDim S1x1x64x1x1x128x256 ![2, 5, 6] bcast_S64x128x256_S1x1x64x1x1x128x256_2_5_6 mask))
    (transpose S2x1x64x2x4x128x256 [0, 1, 2, 3, 6, 5, 4] (Host.dotGeneral dot_S2x1x64x256x2x128_S2x1x64x128x2x4x128_S2x1x64x2x256x128x4_5_6_3_35_0124_0124 none kc q)
      transposes_S2x1x64x2x256x128x4_S2x1x64x2x4x128x256_0_1_2_3_6_5_4)
    (broadcastInDim S2x1x64x2x4x128x256 ![] bcast_S_S2x1x64x2x4x128x256 (id (constant S_ .f32 0xFF800000#32)))

/-- Their row maximum. -/
def mx (s : FVec F S2x1x64x2x4x128x256 .f32) : FVec F S2x1x64x2x4x128x1 .f32 :=
  broadcastInDim S2x1x64x2x4x128x1 ![0, 1, 2, 3, 4, 5] bcast_S2x1x64x2x4x128_S2x1x64x2x4x128x1_0_1_2_3_4_5
    (Host.reduce FloatOps.maximumf s (constant S_ .f32 0xFF800000#32) reducesTo_S2x1x64x2x4x128x256_S2x1x64x2x4x128_d6 h_S_)

/-- The weights. -/
def wt (s : FVec F S2x1x64x2x4x128x256 .f32) : FVec F S2x1x64x2x4x128x256 .f32 :=
  Host.exp (subf s (broadcastInDim S2x1x64x2x4x128x256 ![0, 1, 2, 3, 4, 5, 6] bcast_S2x1x64x2x4x128x1_S2x1x64x2x4x128x256_0_1_2_3_4_5_6 (mx s)))

/-- Their sums. -/
def den (p : FVec F S2x1x64x2x4x128x256 .f32) : FVec F S2x1x64x2x4x128 .f32 :=
  Host.reduceAdd p (constant S_ .f32 0x00000000#32) reducesTo_S2x1x64x2x4x128x256_S2x1x64x2x4x128_d6 h_S_

/-- The weighted values. -/
def ov (vc : FVec F S2x1x64x256x2x128 .f32) (p : FVec F S2x1x64x2x4x128x256 .f32) : FVec F S2x1x64x2x128x4x128 .f32 :=
  Host.dotGeneral dot_S2x1x64x256x2x128_S2x1x64x2x4x128x256_S2x1x64x2x128x4x128_3_6_5_45_0124_0123 none vc p

/-- The first result from the weighted values. -/
def outO (o : FVec F S2x1x64x2x128x4x128 .f32) : FVec F S2x4x16x1x128x1024 .bf16 :=
  truncf .bf16 (transpose S2x4x16x1x128x1024 [0, 2, 3, 1, 4, 5] (shapeCast _ (transpose S2x1x64x128x2x4x128 [0, 1, 2, 6, 3, 5, 4] o
    transposes_S2x1x64x2x128x4x128_S2x1x64x128x2x4x128_0_1_2_6_3_5_4) shapeCasts_S2x1x64x128x2x4x128_S2x1x4x16x128x1024)
    transposes_S2x1x4x16x128x1024_S2x4x16x1x128x1024_0_2_3_1_4_5) bitsLt_bf16_f32

/-- The second result from the maxima and the sums. -/
def outS (a : FVec F S2x1x64x2x4x128x1 .f32) (l : FVec F S2x1x64x2x4x128 .f32) : FVec F S2x4x16x1x128x128 .f32 :=
  transpose S2x4x16x1x128x128 [0, 2, 3, 1, 4, 5] (shapeCast _
    (broadcastInDim S2x1x64x128x2x4x2x8 ![0, 1, 2, 3, 4, 5, 6, 7] bcast_S2x1x64x128x2x4x2x1_S2x1x64x128x2x4x2x8_0_1_2_3_4_5_6_7
      (broadcastInDim S2x1x64x128x2x4x2x1 ![0, 1, 2, 3, 4, 5, 6] bcast_S2x1x64x128x2x4x2_S2x1x64x128x2x4x2x1_0_1_2_3_4_5_6
        (concatenate S2x1x64x128x2x4x2 6
          [⟨S2x1x64x128x2x4x1, broadcastInDim S2x1x64x128x2x4x1 ![0, 1, 2, 3, 4, 5] bcast_S2x1x64x128x2x4_S2x1x64x128x2x4x1_0_1_2_3_4_5
            (transpose S2x1x64x128x2x4 [0, 1, 2, 5, 3, 4] (shapeCast S2x1x64x2x4x128 a shapeCasts_S2x1x64x2x4x128x1_S2x1x64x2x4x128)
              transposes_S2x1x64x2x4x128_S2x1x64x128x2x4_0_1_2_5_3_4)⟩,
           ⟨S2x1x64x128x2x4x1, broadcastInDim S2x1x64x128x2x4x1 ![0, 1, 2, 3, 4, 5] bcast_S2x1x64x128x2x4_S2x1x64x128x2x4x1_0_1_2_3_4_5
            (transpose S2x1x64x128x2x4 [0, 1, 2, 5, 3, 4] l transposes_S2x1x64x2x4x128_S2x1x64x128x2x4_0_1_2_5_3_4)⟩]
          concatenates_S2x1x64x128x2x4x1_S2x1x64x128x2x4x1_S2x1x64x128x2x4x2_d6)))
    shapeCasts_S2x1x64x128x2x4x2x8_S2x1x4x16x128x128) transposes_S2x1x4x16x128x128_S2x4x16x1x128x128_0_2_3_1_4_5

/-- The masked scores of the arguments. -/
def scOf (x0 : FVec F S2x8192x8x128 .f32) (x1 : FVec F S2x8192x2x128 .f32) : FVec F S2x1x64x2x4x128x256 .f32 :=
  sc (qb x0) (withPrev (kb x1))

/-- The first result, of the arguments. -/
theorem res0_eq (m : (ℓ : Loc nD τ sig) → Buf (Elt F) ℓ) (c : Dev nD) :
    Value.res_out0 m c = outO (ov (withPrev (kb (m ((c.tc : Thread nD τ).loc main_arg2))))
      (wt (scOf (m ((c.tc : Thread nD τ).loc main_arg0)) (m ((c.tc : Thread nD τ).loc main_arg1))))) := rfl

/-- The second result, of the arguments. -/
theorem res1_eq (m : (ℓ : Loc nD τ sig) → Buf (Elt F) ℓ) (c : Dev nD) :
    Value.res_out1 m c = outS
      (mx (scOf (m ((c.tc : Thread nD τ).loc main_arg0)) (m ((c.tc : Thread nD τ).loc main_arg1))))
      (den (wt (scOf (m ((c.tc : Thread nD τ).loc main_arg0)) (m ((c.tc : Thread nD τ).loc main_arg1))))) := rfl

end Stages

open Pointwise

variable (b : Fin 2) (r : Fin 1) (n : Fin 64) (g : Fin 2) (p : Fin 4) (i : Fin 128)

theorem mx_apply (s : FVec Ideal S2x1x64x2x4x128x256 .f32) :
    mx s (ix7 b r n g p i 0) = Swa.top (fun j => s (ix7 b r n g p i j)) := by
  obtain rfl : r = 0 := Subsingleton.elim _ _
  have e : ∀ y : FVec Ideal S2x1x64x2x4x128 .f32, broadcastInDim S2x1x64x2x4x128x1 ![0, 1, 2, 3, 4, 5]
      bcast_S2x1x64x2x4x128_S2x1x64x2x4x128x1_0_1_2_3_4_5 y (ix7 b 0 n g p i 0) = y (ix6 b 0 n g p i) := fun y => by pointwise
  exact (e _).trans (Swa.host_max (by decide) s _ _ b 0 n g p i)

theorem den_apply (w : FVec Ideal S2x1x64x2x4x128x256 .f32) :
    den w (ix6 b r n g p i) = ∑ j, w (ix7 b r n g p i j) :=
  Swa.host_sum (by decide) w _ _ b r n g p i

theorem wt_apply (s : FVec Ideal S2x1x64x2x4x128x256 .f32) (j : Fin 256) :
    wt s (ix7 b r n g p i j) = Ideal.exp (s (ix7 b r n g p i j) - mx s (ix7 b r n g p i 0)) := by
  obtain rfl : r = 0 := Subsingleton.elim _ _
  pointwise [wt]

/-- The mask at an index. -/
theorem mask_apply (j : Fin 256) : mask (ix3 n i j) = if Swa.seen n.val i j then 1#1 else 0#1 := by
  pointwise [mask, rel]
  rw [Swa.bandWord, Swa.ownWord]
  rw [(by decide : ∀ n : Fin 64, IntOp.cmpi .sgt (BitVec.ofNat 32 n.val) 0#32 = if 0 < n.val then 1#1 else 0#1) n]
  rw [Swa.or_ite, Swa.and_ite]
  rfl

/-- The scores at an index. -/
theorem sc_apply (q : FVec Ideal S2x1x64x128x2x4x128 .f32) (kc : FVec Ideal S2x1x64x256x2x128 .f32) :
    (fun j => sc q kc (ix7 b r n g p i j)) = Swa.row (Swa.seen n.val i) (fun e => q (ix7 b r n i g p e)) (fun j e => kc (ix6 b r n j g e)) := by
  obtain rfl : r = 0 := Subsingleton.elim _ _
  funext j
  have hm := mask_apply n i j
  pointwise [sc]
  exact Swa.masked_score _ _ _ (fun j e => kc (ix6 b 0 n j g e)) j hm

theorem qb_apply (x : FVec Ideal S2x8192x8x128 .f32) (e : Fin 128) :
    qb x (ix7 b r n i g p e) = Swa.at4 x b ((n.val * 128 + i.val) * 1 + r.val) ⟨g.val * 4 + p.val, by omega⟩ e := by
  pointwise [qb]
  exact (Swa.at4_of x b _ _ _ _ _ _ rfl rfl rfl).symm

/-- A key or value the row sees. -/
theorem kb_apply (x : FVec Ideal S2x8192x2x128 .f32) (j : Fin 256) (hj : Swa.seen n.val i j) (e : Fin 128) :
    withPrev (kb x) (ix6 b r n j g e) = Swa.at4 x b ((n.val * 128 + j.val - 128) * 1 + r.val) g e := by
  pointwise [withPrev, kb]
  obtain ⟨-, h⟩ := hj
  split_ifs <;> first | (exfalso; omega) | exact (Swa.at4_of x b _ _ _ _ _ _ (by dsimp only; omega) rfl rfl).symm

variable (x0 : FVec Ideal S2x8192x8x128 .f32) (x1 x2 : FVec Ideal S2x8192x2x128 .f32)

theorem scOf_apply : (fun j => scOf x0 x1 (ix7 b r n g p i j))
    = Swa.row (Swa.seen n.val i) (fun e => qb x0 (ix7 b r n i g p e)) (fun j e => withPrev (kb x1) (ix6 b r n j g e)) := by
  rw [scOf, sc_apply]

/-- The stages of the arguments. -/
theorem stages_of : Swa.Stages (qb x0) (withPrev (kb x1)) (withPrev (kb x2)) (scOf x0 x1) (mx (scOf x0 x1)) (wt (scOf x0 x1))
    (den (wt (scOf x0 x1))) x0 x1 x2 where
  hq b r n g p i e := qb_apply b r n g p i x0 e
  hk b r n g i j hj e := kb_apply b r n g i x1 j hj e
  hv b r n g i j hj e := kb_apply b r n g i x2 j hj e
  hs b r n g p i := scOf_apply b r n g p i x0 x1
  hmx b r n g p i := mx_apply b r n g p i (scOf x0 x1)
  hwt b r n g p i j := wt_apply b r n g p i (scOf x0 x1) j
  hden b r n g p i := den_apply b r n g p i (wt (scOf x0 x1))

/-- The first result array. -/
theorem outO_eq : outO (ov (withPrev (kb x2)) (wt (scOf x0 x1))) = Swa.spanO x0 x1 x2 16 1 := by
  refine (stages_of x0 x1 x2).outO 16 rfl _ fun b s j r a l n hn => ?_
  obtain rfl : r = 0 := Subsingleton.elim _ _
  have hb : s.val * 16 + j.val < 64 := by clear hn; omega
  obtain rfl : n = ⟨s.val * 16 + j.val, hb⟩ := Fin.ext hn
  generalize withPrev (kb x2) = v
  generalize wt (scOf x0 x1) = w
  pointwise [outO, ov]

/-- The second result array. -/
theorem outS_eq : outS (mx (scOf x0 x1)) (den (wt (scOf x0 x1))) = Swa.spanS x0 x1 16 1 := by
  refine (stages_of x0 x1 x1).outS 16 rfl _ fun b s j r a l n hn => ?_
  obtain rfl : r = 0 := Subsingleton.elim _ _
  have hb : s.val * 16 + j.val < 64 := by clear hn; omega
  obtain rfl : n = ⟨s.val * 16 + j.val, hb⟩ := Fin.ext hn
  generalize mx (scOf x0 x1) = v
  generalize den (wt (scOf x0 x1)) = w
  pointwise [outS]
  rfl

end Cert.Reference5Ideal.RefVal
-- ==== Proof.Array.lean ====
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

/-! The kernel's two result arrays, from its argument arrays. -/

namespace Cert.KernelIdeal.Val

open Cert.KernelIdeal Cert.KernelIdeal.Gen Idealize.ShloMosaic Idealize.ShloMosaic.TcCoe Idealize.SL.Sem Pointwise

variable (m : (ℓ : Loc nD τ sig) → Buf (Elt Ideal) ℓ) (c : Dev nD)

/-- The argument arrays. -/
def argQ : FVec Ideal S2x8192x8x128 .f32 := m ((c.tc : Thread nD τ).loc main_arg0)
def argK : FVec Ideal S2x8192x2x128 .f32 := m ((c.tc : Thread nD τ).loc main_arg1)
def argV : FVec Ideal S2x8192x2x128 .f32 := m ((c.tc : Thread nD τ).loc main_arg2)

theorem entry_q (b : Fin 2) (n : Fin 4) (r : Fin 16) (a : Fin 128) (l : Fin 1024) :
    (V m c main_v2 : Vec Ideal S2x4x1x16x128x1024 .bf16) (ix6 b n 0 r a l)
      = Swa.at4 (argQ m c) b ((n.val * 128 + a.val) * 16 + r.val) ⟨l.val / 128, by omega⟩ ⟨l.val % 128, by omega⟩ := by
  entry_read
  pointwise
  exact (Swa.at4_of (argQ m c) b _ _ _ _ _ _ (by dsimp only; omega) rfl rfl).symm

theorem entry_k (b : Fin 2) (n : Fin 4) (r : Fin 16) (a : Fin 128) (l : Fin 256) :
    (V m c main_v5 : Vec Ideal S2x4x1x16x128x256 .bf16) (ix6 b n 0 r a l)
      = Swa.at4 (argK m c) b ((n.val * 128 + a.val) * 16 + r.val) ⟨l.val / 128, by omega⟩ ⟨l.val % 128, by omega⟩ := by
  entry_read
  pointwise
  exact (Swa.at4_of (argK m c) b _ _ _ _ _ _ (by dsimp only; omega) rfl rfl).symm

theorem entry_v (b : Fin 2) (n : Fin 4) (r : Fin 16) (a : Fin 128) (l : Fin 256) :
    (V m c main_v8 : Vec Ideal S2x4x1x16x128x256 .bf16) (ix6 b n 0 r a l)
      = Swa.at4 (argV m c) b ((n.val * 128 + a.val) * 16 + r.val) ⟨l.val / 128, by omega⟩ ⟨l.val % 128, by omega⟩ := by
  entry_read
  pointwise
  exact (Swa.at4_of (argV m c) b _ _ _ _ _ _ (by dsimp only; omega) rfl rfl).symm

/-- The windows' block indices: the sequence and the block, the block before for windows 2 and 4. -/
theorem idx : ∀ t : Fin cfg0.N, win0_0.index t = ![t.val / 4, t.val % 4, 0, 0, 0, 0] ∧ win0_1.index t = ![t.val / 4, t.val % 4, 0, 0, 0, 0]
    ∧ win0_2.index t = ![t.val / 4, t.val % 4 - 1, 0, 0, 0, 0] ∧ win0_3.index t = ![t.val / 4, t.val % 4, 0, 0, 0, 0]
    ∧ win0_4.index t = ![t.val / 4, t.val % 4 - 1, 0, 0, 0, 0] ∧ win0_5.index t = ![t.val / 4, t.val % 4, 0, 0, 0, 0]
    ∧ win0_6.index t = ![t.val / 4, t.val % 4, 0, 0, 0, 0] ∧ (grid0.coords t 1).val = t.val % 4 :=
  (by decide +kernel : ∀ t : Fin grid0.N, _)

theorem lt8 (t : Fin cfg0.N) : t.val < 8 := t.isLt

/-- A grid point's sequence. -/
def seqOf (t : Fin cfg0.N) : Fin 2 := ⟨t.val / 4, by have := lt8 t; omega⟩

theorem blk_q (t : Fin cfg0.N) (r : Fin 16) (a : Fin 128) (l : Fin 1024) :
    (iblk m c 0 t : Vec Ideal S1x1x1x16x128x1024 .bf16) (ix6 0 0 0 r a l)
      = Swa.at4 (argQ m c) (seqOf t) ((t.val % 4 * 128 + a.val) * 16 + r.val) ⟨l.val / 128, by omega⟩ ⟨l.val % 128, by omega⟩ := by
  rw [← entry_q m c (seqOf t) ⟨t.val % 4, by omega⟩ r a l, seqOf]
  blk_ext [iblk, idx t]

theorem blk_kc (t : Fin cfg0.N) (r : Fin 16) (a : Fin 128) (l : Fin 256) :
    (iblk m c 1 t : Vec Ideal S1x1x1x16x128x256 .bf16) (ix6 0 0 0 r a l)
      = Swa.at4 (argK m c) (seqOf t) ((t.val % 4 * 128 + a.val) * 16 + r.val) ⟨l.val / 128, by omega⟩ ⟨l.val % 128, by omega⟩ := by
  rw [← entry_k m c (seqOf t) ⟨t.val % 4, by omega⟩ r a l, seqOf]
  blk_ext [iblk, idx t]

theorem blk_kp (t : Fin cfg0.N) (r : Fin 16) (a : Fin 128) (l : Fin 256) :
    (iblk m c 2 t : Vec Ideal S1x1x1x16x128x256 .bf16) (ix6 0 0 0 r a l)
      = Swa.at4 (argK m c) (seqOf t) (((t.val % 4 - 1) * 128 + a.val) * 16 + r.val) ⟨l.val / 128, by omega⟩ ⟨l.val % 128, by omega⟩ := by
  rw [← entry_k m c (seqOf t) ⟨(t.val % 4 - 1), by omega⟩ r a l, seqOf]
  blk_ext [iblk, idx t]

theorem blk_vc (t : Fin cfg0.N) (r : Fin 16) (a : Fin 128) (l : Fin 256) :
    (iblk m c 3 t : Vec Ideal S1x1x1x16x128x256 .bf16) (ix6 0 0 0 r a l)
      = Swa.at4 (argV m c) (seqOf t) ((t.val % 4 * 128 + a.val) * 16 + r.val) ⟨l.val / 128, by omega⟩ ⟨l.val % 128, by omega⟩ := by
  rw [← entry_v m c (seqOf t) ⟨t.val % 4, by omega⟩ r a l, seqOf]
  blk_ext [iblk, idx t]

theorem blk_vp (t : Fin cfg0.N) (r : Fin 16) (a : Fin 128) (l : Fin 256) :
    (iblk m c 4 t : Vec Ideal S1x1x1x16x128x256 .bf16) (ix6 0 0 0 r a l)
      = Swa.at4 (argV m c) (seqOf t) (((t.val % 4 - 1) * 128 + a.val) * 16 + r.val) ⟨l.val / 128, by omega⟩ ⟨l.val % 128, by omega⟩ := by
  rw [← entry_v m c (seqOf t) ⟨(t.val % 4 - 1), by omega⟩ r a l, seqOf]
  blk_ext [iblk, idx t]

theorem at4_congr {w : Nat} (x : (⟨4, ![2, 8192, w, 128]⟩ : Shape).Idx → EReal) (b : Fin 2) {t t' : Nat} {h h' : Fin w} {e e' : Fin 128}
    (ht : t = t') (hh : h.val = h'.val) (he : e.val = e'.val) : Swa.at4 x b t h e = Swa.at4 x b t' h' e' := by
  cases ht; cases Fin.ext hh; cases Fin.ext he; rfl

/-- A key the row sees. -/
theorem both_k (t : Fin cfg0.N) (r : Fin 16) (g : Fin 2) (a : Fin 128) (j : Fin 256) (hj : Swa.seen (t.val % 4) a j) (e : Fin 128) :
    blkBoth (iblk m c 2 t) (iblk m c 1 t) r g j e = Swa.at4 (argK m c) (seqOf t) ((t.val % 4 * 128 + j.val - 128) * 16 + r.val) g e := by
  obtain ⟨-, h⟩ := hj
  unfold blkBoth
  split_ifs with hl
  · exact (blk_kp m c t r _ _).trans (at4_congr _ _ (by dsimp only; omega) (by dsimp only; omega) (by dsimp only; omega))
  · exact (blk_kc m c t r _ _).trans (at4_congr _ _ (by dsimp only; omega) (by dsimp only; omega) (by dsimp only; omega))

/-- A value the row sees. -/
theorem both_v (t : Fin cfg0.N) (r : Fin 16) (g : Fin 2) (a : Fin 128) (j : Fin 256) (hj : Swa.seen (t.val % 4) a j) (e : Fin 128) :
    blkBoth (iblk m c 4 t) (iblk m c 3 t) r g j e = Swa.at4 (argV m c) (seqOf t) ((t.val % 4 * 128 + j.val - 128) * 16 + r.val) g e := by
  obtain ⟨-, h⟩ := hj
  unfold blkBoth
  split_ifs with hl
  · exact (blk_vp m c t r _ _).trans (at4_congr _ _ (by dsimp only; omega) (by dsimp only; omega) (by dsimp only; omega))
  · exact (blk_vc m c t r _ _).trans (at4_congr _ _ (by dsimp only; omega) (by dsimp only; omega) (by dsimp only; omega))

/-- The row's scores. -/
theorem row_spec (t : Fin cfg0.N) (r : Fin 16) (h : Fin 8) (a : Fin 128) :
    blkRow (t.val % 4) (iblk m c 0 t) (iblk m c 2 t) (iblk m c 1 t) r h a
      = Swa.specRow 16 (argQ m c) (argK m c) (seqOf t) (t.val % 4) r.val a h := by
  refine Swa.row_congr _ _ _ _ _ (fun e => ?_) fun j hj e => both_k m c t r _ a j hj e
  exact (blk_q m c t r _ _).trans (at4_congr _ _ rfl (by dsimp only; omega) (by dsimp only; omega))

/-- The first result. -/
def specO (i : S2x4x1x16x128x1024.Idx) : EReal :=
  Swa.specMix 16 (argQ m c) (argK m c) (argV m c) (i 0) (i 1).val (i 3).val (i 4) ⟨(i 5).val / 128, Nat.div_lt_of_lt_mul (i 5).isLt⟩
    ⟨(i 5).val % 128, Nat.mod_lt _ (by decide)⟩

/-- The second result. -/
def specS (i : S2x4x1x16x128x128.Idx) : EReal :=
  if (i 5).val / 8 % 2 = 0 then
    Swa.top (Swa.specRow 16 (argQ m c) (argK m c) (i 0) (i 1).val (i 3).val (i 4) ⟨(i 5).val / 16, Nat.div_lt_of_lt_mul (i 5).isLt⟩)
  else Swa.total (Swa.specRow 16 (argQ m c) (argK m c) (i 0) (i 1).val (i 3).val (i 4) ⟨(i 5).val / 16, Nat.div_lt_of_lt_mul (i 5).isLt⟩)

/-- The output block of point `t`. -/
theorem o_point (t : Fin cfg0.N) (r : Fin 16) (a : Fin 128) (l : Fin 1024) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) (iblk m c 0 t) (iblk m c 1 t) (iblk m c 2 t) (iblk m c 3 t) (iblk m c 4 t) (ix6 0 0 0 r a l)
      = Swa.specMix 16 (argQ m c) (argK m c) (argV m c) (seqOf t) (t.val % 4) r.val a ⟨l.val / 128, by omega⟩ ⟨l.val % 128, by omega⟩ := by
  rw [o_block, (idx t).2.2.2.2.2.2.2, row_spec]
  exact Swa.mix_congr _ _ _ _ _ rfl fun j hj => both_v m c t r _ a j hj _

/-- The statistics block of point `t`. -/
theorem st_point (t : Fin cfg0.N) (r : Fin 16) (a : Fin 128) (l : Fin 128) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) (iblk m c 0 t) (iblk m c 1 t) (iblk m c 2 t) (iblk m c 3 t) (iblk m c 4 t) (ix6 0 0 0 r a l)
      = if l.val / 8 % 2 = 0 then Swa.top (Swa.specRow 16 (argQ m c) (argK m c) (seqOf t) (t.val % 4) r.val a ⟨l.val / 16, by omega⟩)
        else Swa.total (Swa.specRow 16 (argQ m c) (argK m c) (seqOf t) (t.val % 4) r.val a ⟨l.val / 16, by omega⟩) := by
  rw [st_block, (idx t).2.2.2.2.2.2.2, row_spec]

theorem eta5 (y : S1x1x1x16x128x1024.Idx) : y = ix6 0 0 0 (y 3 : Fin 16) (y 4 : Fin 128) (y 5 : Fin 1024) := by
  funext d
  match d with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl
  | ⟨5, _⟩ => rfl

theorem eta6 (y : S1x1x1x16x128x128.Idx) : y = ix6 0 0 0 (y 3 : Fin 16) (y 4 : Fin 128) (y 5 : Fin 128) := by
  funext d
  match d with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl
  | ⟨5, _⟩ => rfl

theorem emb5 (t : Fin cfg0.N) (r : Fin 16) (a : Fin 128) (l : Fin 1024) :
    (win0_5.blk t).view.emb (ix6 0 0 0 r a l : S1x1x1x16x128x1024.Idx) = (ix6 (seqOf t) ⟨t.val % 4, by omega⟩ 0 r a l : S2x4x1x16x128x1024.Idx) := by
  rw [seqOf]
  blk_ext [idx t]

theorem emb6 (t : Fin cfg0.N) (r : Fin 16) (a : Fin 128) (l : Fin 128) :
    (win0_6.blk t).view.emb (ix6 0 0 0 r a l : S1x1x1x16x128x128.Idx) = (ix6 (seqOf t) ⟨t.val % 4, by omega⟩ 0 r a l : S2x4x1x16x128x128.Idx) := by
  rw [seqOf]
  blk_ext [idx t]

theorem specO_ix (b : Fin 2) (n : Fin 4) (r : Fin 16) (a : Fin 128) (l : Fin 1024) : specO m c (ix6 b n 0 r a l)
    = Swa.specMix 16 (argQ m c) (argK m c) (argV m c) b n.val r.val a ⟨l.val / 128, by omega⟩ ⟨l.val % 128, by omega⟩ := rfl

theorem specS_ix (b : Fin 2) (n : Fin 4) (r : Fin 16) (a : Fin 128) (l : Fin 128) : specS m c (ix6 b n 0 r a l)
    = if l.val / 8 % 2 = 0 then Swa.top (Swa.specRow 16 (argQ m c) (argK m c) b n.val r.val a ⟨l.val / 16, by omega⟩)
      else Swa.total (Swa.specRow 16 (argQ m c) (argK m c) b n.val r.val a ⟨l.val / 16, by omega⟩) := rfl

theorem outs_one (t : Fin cfg0.N) : (outsAt0 m c t).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) (iblk m c 0 t) (iblk m c 1 t) (iblk m c 2 t) (iblk m c 3 t) (iblk m c 4 t) := by
  rw [outsAt0]

theorem outs_two (t : Fin cfg0.N) : (outsAt0 m c t).2 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) (iblk m c 0 t) (iblk m c 1 t) (iblk m c 2 t) (iblk m c 3 t) (iblk m c 4 t) := by
  rw [outsAt0]

/-- Point `t` writes its block of the first result. -/
theorem o_eq (t : Fin cfg0.N) (y : S1x1x1x16x128x1024.Idx) :
    (outsAt0 m c t).1 y = specO m c ((win0_5.blk t).view.emb y) := by
  obtain ⟨r, a, l, hy⟩ : ∃ (r : Fin 16) (a : Fin 128) (l : Fin 1024), y = (ix6 0 0 0 r a l : S1x1x1x16x128x1024.Idx) :=
    ⟨_, _, _, eta5 y⟩
  subst hy
  refine Eq.trans ?_ (congrArg (specO m c) (emb5 t r a l)).symm
  refine Eq.trans ?_ (specO_ix m c _ _ r a l).symm
  refine Eq.trans ?_ (o_point m c t r a l)
  rw [outs_one]

/-- Point `t` writes its block of the second result. -/
theorem st_eq (t : Fin cfg0.N) (y : S1x1x1x16x128x128.Idx) :
    (outsAt0 m c t).2 y = specS m c ((win0_6.blk t).view.emb y) := by
  obtain ⟨r, a, l, hy⟩ : ∃ (r : Fin 16) (a : Fin 128) (l : Fin 128), y = (ix6 0 0 0 r a l : S1x1x1x16x128x128.Idx) :=
    ⟨_, _, _, eta6 y⟩
  subst hy
  refine Eq.trans ?_ (congrArg (specS m c) (emb6 t r a l)).symm
  refine Eq.trans ?_ (specS_ix m c _ _ r a l).symm
  refine Eq.trans ?_ (st_point m c t r a l)
  rw [outs_two]

/-- The first result array. -/
theorem final5 : (dats m 0 c).arrAt 5 cfg0.N = specO m c := by
  refine (dats m 0 c).arrAt_eq_of_covers 5 _ (by decide +kernel) fun t hf y => ?_
  blk_simp
  rw [after0_5]
  exact o_eq m c t y

/-- The second result array. -/
theorem final6 : (dats m 0 c).arrAt 6 cfg0.N = specS m c := by
  refine (dats m 0 c).arrAt_eq_of_covers 6 _ (by decide +kernel) fun t hf y => ?_
  blk_simp
  rw [after0_6]
  exact st_eq m c t y

end Cert.KernelIdeal.Val
-- ==== Proof.RefStages.lean ====
module

public import proofs.«01_k».proof.Proof.Gen.ReferenceIdeal.Run
public import Idealize.ShloMosaic.Lib.Pointwise

@[expose] public section

set_option maxRecDepth 16384

noncomputable section

/-! The reference's stages, named: the arrays in strided blocks, the mask, the masked scores, their row maximum, the
weights, their sums and the weighted values; and that its two results are the last stages rearranged. -/

namespace Cert.ReferenceIdeal.RefVal

open Cert.ReferenceIdeal Cert.ReferenceIdeal.Gen Idealize.ShloMosaic Idealize.ShloMosaic.TcCoe Idealize.SL.Sem

variable {F : FTy → Type} [FloatOps F]

/-- The queries in strided blocks. -/
def qb (x : FVec F S2x8192x8x128 .f32) : FVec F S2x16x4x128x2x4x128 .f32 :=
  shapeCast _ (shapeCast _ (transpose S2x16x512x8x128 [0, 2, 1, 3, 4] (shapeCast _ x shapeCasts_S2x8192x8x128_S2x512x16x8x128)
    transposes_S2x512x16x8x128_S2x16x512x8x128_0_2_1_3_4) shapeCasts_S2x16x512x8x128_S2x16x4x128x8x128)
    shapeCasts_S2x16x4x128x8x128_S2x16x4x128x2x4x128

/-- The keys or the values in strided blocks. -/
def kb (x : FVec F S2x8192x2x128 .f32) : FVec F S2x16x4x128x2x128 .f32 :=
  shapeCast _ (transpose S2x16x512x2x128 [0, 2, 1, 3, 4] (shapeCast _ x shapeCasts_S2x8192x2x128_S2x512x16x2x128)
    transposes_S2x512x16x2x128_S2x16x512x2x128_0_2_1_3_4) shapeCasts_S2x16x512x2x128_S2x16x4x128x2x128

/-- Every block with the one before it, zeros before the first. -/
def withPrev (x : FVec F S2x16x4x128x2x128 .f32) : FVec F S2x16x4x256x2x128 .f32 :=
  concatenate S2x16x4x256x2x128 3 [⟨S2x16x4x128x2x128, extractStridedSlice S2x16x4x128x2x128 ![0, 0, 0, 0, 0, 0]
    (pad S2x16x5x128x2x128 ![0, 0, 1, 0, 0, 0] ![0, 0, 0, 0, 0, 0] ![0, 0, 0, 0, 0, 0] x
      (sitofp .f32 (constantI S_ 32 0#32)) pads_S2x16x4x128x2x128_S2x16x5x128x2x128_000_000_100_000_000_000 h_S_)
      slices_S2x16x5x128x2x128_S2x16x4x128x2x128_0_0_0_0_0_0⟩, ⟨S2x16x4x128x2x128, x⟩]
    concatenates_S2x16x4x128x2x128_S2x16x4x128x2x128_S2x16x4x256x2x128_d3

/-- Query row minus key column, plus a block. -/
def rel : IVec S128x256 32 :=
  subi (broadcastInDim S128x256 ![0, 1] bcast_S128x1_S128x256_0_1 (addi (broadcastInDim S128x1 ![] bcast_S_S128x1 (constantI S_ 32 128#32))
    (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The mask of each block. -/
def mask : IVec S4x128x256 1 :=
  andi (broadcastInDim S4x128x256 ![0, 1, 2] bcast_S1x128x256_S4x128x256_0_1_2 (broadcastInDim S1x128x256 ![1, 2] bcast_S128x256_S1x128x256_1_2
    (andi (cmpi .sge rel (broadcastInDim S128x256 ![] bcast_S_S128x256 (constantI S_ 32 0#32)))
      (cmpi .sle rel (broadcastInDim S128x256 ![] bcast_S_S128x256 (constantI S_ 32 128#32))))))
    (broadcastInDim S4x128x256 ![0, 1, 2] bcast_S4x1x256_S4x128x256_0_1_2 (ori
      (broadcastInDim S4x1x256 ![0, 1, 2] bcast_S4x1x1_S4x1x256_0_1_2 (cmpi .sgt (broadcastInDim S4x1x1 ![0] bcast_S4_S4x1x1_0 (iotaInDim S4 32 0))
        (broadcastInDim S4x1x1 ![] bcast_S_S4x1x1 (constantI S_ 32 0#32))))
      (broadcastInDim S4x1x256 ![0, 1, 2] bcast_S1x1x256_S4x1x256_0_1_2 (cmpi .sge (broadcastInDim S1x1x256 ![1, 2] bcast_S1x256_S1x1x256_1_2
        (broadcastInDim S1x256 ![1] bcast_S256_S1x256_1 (iotaInDim S256 32 0))) (broadcastInDim S1x1x256 ![] bcast_S_S1x1x256 (constantI S_ 32 128#32))))))

/-- The masked scores. -/
def sc (q : FVec F S2x16x4x128x2x4x128 .f32) (kc : FVec F S2x16x4x256x2x128 .f32) : FVec F S2x16x4x2x4x128x256 .f32 :=
  select (broadcastInDim S2x16x4x2x4x128x256 ![0, 1, 2, 3, 4, 5, 6] bcast_S1x1x4x1x1x128x256_S2x16x4x2x4x128x256_0_1_2_3_4_5_6
      (broadcastInDim S1x1x4x1x1x128x256 ![2, 5, 6] bcast_S4x128x256_S1x1x4x1x1x128x256_2_5_6 mask))
    (transpose S2x16x4x2x4x128x256 [0, 1, 2, 3, 6, 5, 4] (Host.dotGeneral dot_S2x16x4x256x2x128_S2x16x4x128x2x4x128_S2x16x4x2x256x128x4_5_6_3_35_0124_0124 none kc q)
      transposes_S2x16x4x2x256x128x4_S2x16x4x2x4x128x256_0_1_2_3_6_5_4)
    (broadcastInDim S2x16x4x2x4x128x256 ![] bcast_S_S2x16x4x2x4x128x256 (id (constant S_ .f32 0xFF800000#32)))

/-- Their row maximum. -/
def mx (s : FVec F S2x16x4x2x4x128x256 .f32) : FVec F S2x16x4x2x4x128x1 .f32 :=
  broadcastInDim S2x16x4x2x4x128x1 ![0, 1, 2, 3, 4, 5] bcast_S2x16x4x2x4x128_S2x16x4x2x4x128x1_0_1_2_3_4_5
    (Host.reduce FloatOps.maximumf s (constant S_ .f32 0xFF800000#32) reducesTo_S2x16x4x2x4x128x256_S2x16x4x2x4x128_d6 h_S_)

/-- The weights. -/
def wt (s : FVec F S2x16x4x2x4x128x256 .f32) : FVec F S2x16x4x2x4x128x256 .f32 :=
  Host.exp (subf s (broadcastInDim S2x16x4x2x4x128x256 ![0, 1, 2, 3, 4, 5, 6] bcast_S2x16x4x2x4x128x1_S2x16x4x2x4x128x256_0_1_2_3_4_5_6 (mx s)))

/-- Their sums. -/
def den (p : FVec F S2x16x4x2x4x128x256 .f32) : FVec F S2x16x4x2x4x128 .f32 :=
  Host.reduceAdd p (constant S_ .f32 0x00000000#32) reducesTo_S2x16x4x2x4x128x256_S2x16x4x2x4x128_d6 h_S_

/-- The weighted values. -/
def ov (vc : FVec F S2x16x4x256x2x128 .f32) (p : FVec F S2x16x4x2x4x128x256 .f32) : FVec F S2x16x4x2x128x4x128 .f32 :=
  Host.dotGeneral dot_S2x16x4x256x2x128_S2x16x4x2x4x128x256_S2x16x4x2x128x4x128_3_6_5_45_0124_0123 none vc p

/-- The first result from the weighted values. -/
def outO (o : FVec F S2x16x4x2x128x4x128 .f32) : FVec F S2x4x1x16x128x1024 .bf16 :=
  truncf .bf16 (transpose S2x4x1x16x128x1024 [0, 2, 3, 1, 4, 5] (shapeCast _ (transpose S2x16x4x128x2x4x128 [0, 1, 2, 6, 3, 5, 4] o
    transposes_S2x16x4x2x128x4x128_S2x16x4x128x2x4x128_0_1_2_6_3_5_4) shapeCasts_S2x16x4x128x2x4x128_S2x16x4x1x128x1024)
    transposes_S2x16x4x1x128x1024_S2x4x1x16x128x1024_0_2_3_1_4_5) bitsLt_bf16_f32

/-- The second result from the maxima and the sums. -/
def outS (a : FVec F S2x16x4x2x4x128x1 .f32) (l : FVec F S2x16x4x2x4x128 .f32) : FVec F S2x4x1x16x128x128 .f32 :=
  transpose S2x4x1x16x128x128 [0, 2, 3, 1, 4, 5] (shapeCast _
    (broadcastInDim S2x16x4x128x2x4x2x8 ![0, 1, 2, 3, 4, 5, 6, 7] bcast_S2x16x4x128x2x4x2x1_S2x16x4x128x2x4x2x8_0_1_2_3_4_5_6_7
      (broadcastInDim S2x16x4x128x2x4x2x1 ![0, 1, 2, 3, 4, 5, 6] bcast_S2x16x4x128x2x4x2_S2x16x4x128x2x4x2x1_0_1_2_3_4_5_6
        (concatenate S2x16x4x128x2x4x2 6
          [⟨S2x16x4x128x2x4x1, broadcastInDim S2x16x4x128x2x4x1 ![0, 1, 2, 3, 4, 5] bcast_S2x16x4x128x2x4_S2x16x4x128x2x4x1_0_1_2_3_4_5
            (transpose S2x16x4x128x2x4 [0, 1, 2, 5, 3, 4] (shapeCast S2x16x4x2x4x128 a shapeCasts_S2x16x4x2x4x128x1_S2x16x4x2x4x128)
              transposes_S2x16x4x2x4x128_S2x16x4x128x2x4_0_1_2_5_3_4)⟩,
           ⟨S2x16x4x128x2x4x1, broadcastInDim S2x16x4x128x2x4x1 ![0, 1, 2, 3, 4, 5] bcast_S2x16x4x128x2x4_S2x16x4x128x2x4x1_0_1_2_3_4_5
            (transpose S2x16x4x128x2x4 [0, 1, 2, 5, 3, 4] l transposes_S2x16x4x2x4x128_S2x16x4x128x2x4_0_1_2_5_3_4)⟩]
          concatenates_S2x16x4x128x2x4x1_S2x16x4x128x2x4x1_S2x16x4x128x2x4x2_d6)))
    shapeCasts_S2x16x4x128x2x4x2x8_S2x16x4x1x128x128) transposes_S2x16x4x1x128x128_S2x4x1x16x128x128_0_2_3_1_4_5

/-- The masked scores of the arguments. -/
def scOf (x0 : FVec F S2x8192x8x128 .f32) (x1 : FVec F S2x8192x2x128 .f32) : FVec F S2x16x4x2x4x128x256 .f32 :=
  sc (qb x0) (withPrev (kb x1))

/-- The first result, of the arguments. -/
theorem res0_eq (m : (ℓ : Loc nD τ sig) → Buf (Elt F) ℓ) (c : Dev nD) :
    Value.res_out0 m c = outO (ov (withPrev (kb (m ((c.tc : Thread nD τ).loc main_arg2))))
      (wt (scOf (m ((c.tc : Thread nD τ).loc main_arg0)) (m ((c.tc : Thread nD τ).loc main_arg1))))) := rfl

/-- The second result, of the arguments. -/
theorem res1_eq (m : (ℓ : Loc nD τ sig) → Buf (Elt F) ℓ) (c : Dev nD) :
    Value.res_out1 m c = outS
      (mx (scOf (m ((c.tc : Thread nD τ).loc main_arg0)) (m ((c.tc : Thread nD τ).loc main_arg1))))
      (den (wt (scOf (m ((c.tc : Thread nD τ).loc main_arg0)) (m ((c.tc : Thread nD τ).loc main_arg1))))) := rfl

end Cert.ReferenceIdeal.RefVal
-- ==== Proof.RefRead.lean ====
module

public import proofs.«01_k».proof.Proof.RefStages
public import proofs.«01_k».proof.Proof.Spec
public import Idealize.ShloMosaic.Lib.IdealHost
public import Idealize.ShloMosaic.Lib.KernelVsHost

@[expose] public section

set_option maxRecDepth 16384

noncomputable section

/-! The reference's stages at an index. -/

namespace Cert.ReferenceIdeal.RefVal

open Cert.ReferenceIdeal Cert.ReferenceIdeal.Gen Idealize.ShloMosaic Idealize.ShloMosaic.TcCoe Idealize.SL.Sem Pointwise

theorem red7 : S2x16x4x2x4x128x256.Reduces [6] S2x16x4x2x4x128 := by decide

/-- The index of the row's `k`-th score. -/
theorem lift7 (b : Fin 2) (r : Fin 16) (n : Fin 4) (g : Fin 2) (p : Fin 4) (i : Fin 128) (k : Fin 256) :
    red7.lift (ix6 b r n g p i) k = ix7 b r n g p i k := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

variable (b : Fin 2) (r : Fin 16) (n : Fin 4) (g : Fin 2) (p : Fin 4) (i : Fin 128)

theorem mx_apply (s : FVec Ideal S2x16x4x2x4x128x256 .f32) :
    mx s (ix7 b r n g p i 0) = Swa.top (fun j => s (ix7 b r n g p i j)) := by
  unfold mx
  rw [hostReduce_maximumf_eq_multiReduction s _ _ _ red7 (by decide) (by decide)]
  have e : ∀ y : FVec Ideal S2x16x4x2x4x128 .f32, broadcastInDim S2x16x4x2x4x128x1 ![0, 1, 2, 3, 4, 5]
      bcast_S2x16x4x2x4x128_S2x16x4x2x4x128x1_0_1_2_3_4_5 y (ix7 b r n g p i 0) = y (ix6 b r n g p i) := fun y => by pointwise
  rw [e, Ideal.multiReduction_maximumf_single]
  rw [show (FloatOps.ofBits .f32 0xFF800000#32 : Ideal .f32) = ⊥ from Swa.negInf]
  exact congrArg (fun f => Finset.univ.fold max ⊥ f) (funext fun j => congrArg s (lift7 b r n g p i j))

theorem den_apply (w : FVec Ideal S2x16x4x2x4x128x256 .f32) :
    den w (ix6 b r n g p i) = ∑ j, w (ix7 b r n g p i j) := by
  unfold den
  rw [ValueIdx.hostReduceAdd_apply, Ideal.hostReduceAdd_single _ red7]
  rw [show (constant S_ .f32 0x00000000#32 : FVec Ideal S_ .f32) (Shape.Idx.first h_S_) = 0 from Ideal.ofBits_zero_f32, zero_add]
  exact Finset.sum_congr rfl fun j _ => congrArg w (lift7 b r n g p i j)

theorem wt_apply (s : FVec Ideal S2x16x4x2x4x128x256 .f32) (j : Fin 256) :
    wt s (ix7 b r n g p i j) = Ideal.exp (s (ix7 b r n g p i j) - Swa.top (fun j => s (ix7 b r n g p i j))) := by
  rw [← mx_apply]
  pointwise [wt]

theorem select_one (x y : EReal) : Scalar.select 1#1 x y = x := rfl
theorem select_zero (x y : EReal) : Scalar.select 0#1 x y = y := rfl

/-- The mask at an index. -/
theorem mask_apply (j : Fin 256) : mask (ix3 n i j) = if Swa.seen n.val i j then 1#1 else 0#1 := by
  pointwise [mask, rel]
  rw [Swa.bandWord, Swa.ownWord]
  rw [(by decide : ∀ n : Fin 4, IntOp.cmpi .sgt (BitVec.ofNat 32 n.val) 0#32 = if 0 < n.val then 1#1 else 0#1) n]
  rw [Swa.or_ite, Swa.and_ite]
  rfl

/-- The scores at an index. -/
theorem sc_apply (q : FVec Ideal S2x16x4x128x2x4x128 .f32) (kc : FVec Ideal S2x16x4x256x2x128 .f32) :
    (fun j => sc q kc (ix7 b r n g p i j)) = Swa.row (Swa.seen n.val i) (fun e => q (ix7 b r n i g p e)) (fun j e => kc (ix6 b r n j g e)) := by
  funext j
  have hm := mask_apply n i j
  pointwise [sc]
  rw [hm, Swa.row]
  by_cases h : Swa.seen n.val i j
  · rw [if_pos h, if_pos h, select_one]
    exact Finset.sum_congr rfl fun e _ => mul_comm (kc (ix6 b r n j g e) : EReal) (q (ix7 b r n i g p e))
  · rw [if_neg h, if_neg h, select_zero]
    exact Swa.negInf

theorem qb_apply (x : FVec Ideal S2x8192x8x128 .f32) (e : Fin 128) :
    qb x (ix7 b r n i g p e) = Swa.at4 x b ((n.val * 128 + i.val) * 16 + r.val) ⟨g.val * 4 + p.val, by omega⟩ e := by
  pointwise [qb]
  exact (Swa.at4_of x b _ _ _ _ _ _ rfl rfl rfl).symm

/-- A key or value the row sees. -/
theorem kb_apply (x : FVec Ideal S2x8192x2x128 .f32) (j : Fin 256) (hj : Swa.seen n.val i j) (e : Fin 128) :
    withPrev (kb x) (ix6 b r n j g e) = Swa.at4 x b ((n.val * 128 + j.val - 128) * 16 + r.val) g e := by
  pointwise [withPrev, kb]
  obtain ⟨-, h⟩ := hj
  split_ifs <;> first | (exfalso; omega) | exact (Swa.at4_of x b _ _ _ _ _ _ (by dsimp only; omega) rfl rfl).symm

variable (x0 : FVec Ideal S2x8192x8x128 .f32) (x1 x2 : FVec Ideal S2x8192x2x128 .f32)

theorem row_eq (h : Fin 8) (hh : h.val = g.val * 4 + p.val) :
    (fun j => scOf x0 x1 (ix7 b r n g p i j)) = Swa.specRow 16 x0 x1 b n.val r.val i h := by
  rw [scOf, sc_apply]
  refine Swa.row_congr _ _ _ _ _ (fun e => (qb_apply b r n g p i x0 e).trans
    (congrArg (fun h => Swa.at4 x0 b _ h e) (Fin.ext hh.symm))) fun j hj e => ?_
  rw [kb_apply b r n g i x1 j hj e]
  exact congrArg (fun g => Swa.at4 x1 b _ g e) (Fin.ext (by simp only [Swa.kvOf]; omega))

/-- A weighted value of the row. -/
theorem term_eq (h : Fin 8) (hh : h.val = g.val * 4 + p.val) (e : Fin 128) (x : Fin 256) :
    withPrev (kb x2) (ix6 b r n x g e) * wt (scOf x0 x1) (ix7 b r n g p i x)
      = Ideal.exp (Swa.specRow 16 x0 x1 b n.val r.val i h x - Swa.top (Swa.specRow 16 x0 x1 b n.val r.val i h))
        * (if Swa.seen n.val i x then Swa.at4 x2 b ((n.val * 128 + x.val - 128) * 16 + r.val) (Swa.kvOf h) e else 0) := by
  have hs := row_eq b r n g p i x0 x1 h hh
  have hx : scOf x0 x1 (ix7 b r n g p i x) = _ := congrFun hs x
  rw [wt_apply, hs, hx]
  refine (mul_comm (_ : EReal) (_ : EReal)).trans ?_
  by_cases hj : Swa.seen n.val i x
  · rw [if_pos hj, kb_apply b r n g i x2 x hj e]
    exact congrArg (fun g => _ * Swa.at4 x2 b _ g e) (Fin.ext (by simp only [Swa.kvOf]; omega))
  · have hbot : Swa.specRow 16 x0 x1 b n.val r.val i h x = ⊥ := if_neg hj
    rw [hbot, Swa.weight_bot, zero_mul, zero_mul]

/-- The first result at an index. -/
theorem out0_apply (c : Fin 1024) :
    outO (ov (withPrev (kb x2)) (wt (scOf x0 x1))) (ix6 b n 0 r i c)
      = Swa.specMix 16 x0 x1 x2 b n.val r.val i ⟨c.val / 128, by omega⟩ ⟨c.val % 128, by omega⟩ := by
  pointwise [outO, ov]
  exact Finset.sum_congr rfl fun x _ => term_eq b r n ⟨c.val / 512, by omega⟩ ⟨c.val / 128 % 4, by omega⟩ i x0 x1 x2 ⟨c.val / 128, by omega⟩ (by dsimp only; omega) ⟨c.val % 128, by omega⟩ x

/-- The row's largest score. -/
theorem top_eq (h : Fin 8) (hh : h.val = g.val * 4 + p.val) :
    mx (scOf x0 x1) (ix7 b r n g p i 0) = Swa.top (Swa.specRow 16 x0 x1 b n.val r.val i h) := by
  rw [mx_apply, row_eq b r n g p i x0 x1 h hh]

/-- The sum of the row's weights. -/
theorem total_eq (h : Fin 8) (hh : h.val = g.val * 4 + p.val) :
    den (wt (scOf x0 x1)) (ix6 b r n g p i) = Swa.total (Swa.specRow 16 x0 x1 b n.val r.val i h) := by
  have hs := row_eq b r n g p i x0 x1 h hh
  rw [den_apply, Swa.total]
  refine Finset.sum_congr rfl fun j _ => ?_
  have hx : scOf x0 x1 (ix7 b r n g p i j) = _ := congrFun hs j
  rw [wt_apply, hs, hx]

theorem outS_apply (M : FVec Ideal S2x16x4x2x4x128x1 .f32) (D : FVec Ideal S2x16x4x2x4x128 .f32) (c : Fin 128) :
    outS M D (ix6 b n 0 r i c)
      = if h : c.val / 8 % 2 < 1 then M (ix7 b r n ⟨c.val / 64, by omega⟩ ⟨c.val / 16 % 4, by omega⟩ i 0)
        else D (ix6 b r n ⟨c.val / 64, by omega⟩ ⟨c.val / 16 % 4, by omega⟩ i) := by
  pointwise [outS]

/-- The second result at an index. -/
theorem out1_apply (c : Fin 128) :
    outS (mx (scOf x0 x1)) (den (wt (scOf x0 x1))) (ix6 b n 0 r i c)
      = if c.val / 8 % 2 = 0 then Swa.top (Swa.specRow 16 x0 x1 b n.val r.val i ⟨c.val / 16, by omega⟩)
        else Swa.total (Swa.specRow 16 x0 x1 b n.val r.val i ⟨c.val / 16, by omega⟩) := by
  have hh : c.val / 16 = c.val / 64 * 4 + c.val / 16 % 4 := by omega
  have h1 := top_eq b r n ⟨c.val / 64, by omega⟩ ⟨c.val / 16 % 4, by omega⟩ i x0 x1 ⟨c.val / 16, by omega⟩
    hh
  have h2 := total_eq b r n ⟨c.val / 64, by omega⟩ ⟨c.val / 16 % 4, by omega⟩ i x0 x1 ⟨c.val / 16, by omega⟩
    hh
  rw [outS_apply, h1, h2]
  by_cases h : c.val / 8 % 2 = 0
  · have h' : c.val / 8 % 2 < 1 := by rw [h]; exact Nat.one_pos
    rw [dif_pos h', if_pos h]
  · have h' : ¬ c.val / 8 % 2 < 1 := fun e => h (Nat.lt_one_iff.1 e)
    rw [dif_neg h', if_neg h]

end Cert.ReferenceIdeal.RefVal
-- ==== Proof.Algebra.lean ====
module

public import proofs.«01_k».proof.Proof.Array
public import proofs.«01_k».proof.Proof.RefRead
public import proofs.«01_k».proof.Defs

@[expose] public section

set_option maxRecDepth 16384

noncomputable section

/-! The two programs' results are the same arrays. -/

namespace Cert.Proof

open Idealize.ShloMosaic Idealize.SL.Sem Pointwise

variable (m : (ℓ : Loc Cert.KernelIdeal.nD Cert.KernelIdeal.τ Cert.KernelIdeal.sig) → Buf (Elt Ideal) ℓ) (c : Dev Cert.KernelIdeal.nD)

theorem refO (x0 : FVec Ideal Cert.ReferenceIdeal.S2x8192x8x128 .f32) (x1 x2 : FVec Ideal Cert.ReferenceIdeal.S2x8192x2x128 .f32)
    (h0 : x0 = Cert.KernelIdeal.Val.argQ m c) (h1 : x1 = Cert.KernelIdeal.Val.argK m c) (h2 : x2 = Cert.KernelIdeal.Val.argV m c) :
    Cert.ReferenceIdeal.RefVal.outO (Cert.ReferenceIdeal.RefVal.ov (Cert.ReferenceIdeal.RefVal.withPrev (Cert.ReferenceIdeal.RefVal.kb x2))
      (Cert.ReferenceIdeal.RefVal.wt (Cert.ReferenceIdeal.RefVal.scOf x0 x1))) = Cert.KernelIdeal.Val.specO m c := by
  subst h0 h1 h2
  funext y
  obtain ⟨b, n, r, a, l, hy⟩ : ∃ (b : Fin 2) (n : Fin 4) (r : Fin 16) (a : Fin 128) (l : Fin 1024),
      y = (ix6 b n 0 r a l : Cert.ReferenceIdeal.S2x4x1x16x128x1024.Idx) :=
    ⟨y 0, y 1, y 3, y 4, y 5, funext fun d => by
      match d with
      | ⟨0, _⟩ => rfl
      | ⟨1, _⟩ => rfl
      | ⟨2, _⟩ => exact Subsingleton.elim (α := Fin 1) _ _
      | ⟨3, _⟩ => rfl
      | ⟨4, _⟩ => rfl
      | ⟨5, _⟩ => rfl⟩
  subst hy
  exact (Cert.ReferenceIdeal.RefVal.out0_apply b r n a _ _ _ l).trans (Cert.KernelIdeal.Val.specO_ix m c b n r a l).symm

theorem refS (x0 : FVec Ideal Cert.ReferenceIdeal.S2x8192x8x128 .f32) (x1 : FVec Ideal Cert.ReferenceIdeal.S2x8192x2x128 .f32)
    (h0 : x0 = Cert.KernelIdeal.Val.argQ m c) (h1 : x1 = Cert.KernelIdeal.Val.argK m c) :
    Cert.ReferenceIdeal.RefVal.outS (Cert.ReferenceIdeal.RefVal.mx (Cert.ReferenceIdeal.RefVal.scOf x0 x1))
      (Cert.ReferenceIdeal.RefVal.den (Cert.ReferenceIdeal.RefVal.wt (Cert.ReferenceIdeal.RefVal.scOf x0 x1))) = Cert.KernelIdeal.Val.specS m c := by
  subst h0 h1
  funext y
  obtain ⟨b, n, r, a, l, hy⟩ : ∃ (b : Fin 2) (n : Fin 4) (r : Fin 16) (a : Fin 128) (l : Fin 128),
      y = (ix6 b n 0 r a l : Cert.ReferenceIdeal.S2x4x1x16x128x128.Idx) :=
    ⟨y 0, y 1, y 3, y 4, y 5, funext fun d => by
      match d with
      | ⟨0, _⟩ => rfl
      | ⟨1, _⟩ => rfl
      | ⟨2, _⟩ => exact Subsingleton.elim (α := Fin 1) _ _
      | ⟨3, _⟩ => rfl
      | ⟨4, _⟩ => rfl
      | ⟨5, _⟩ => rfl⟩
  subst hy
  exact (Cert.ReferenceIdeal.RefVal.out1_apply b r n a _ _ l).trans (Cert.KernelIdeal.Val.specS_ix m c b n r a l).symm

end Cert.Proof
-- ==== Proof.ProjPieces.lean ====
module

public import proofs.«01_k».proof.Proof.Gen.Kernel2Ideal.Frame

@[expose] public section

set_option maxRecDepth 16384

noncomputable section

/-! The stores a grid point of the projection makes. A head's 128 lanes at stage `s` of group `g` are a slice of the
tile's product with 256 weight columns, turned by the rotary tables except for the values. Group 0 stores them as they
are; groups 1 and 2 store them in a slab of the token scratch, from which strided rows are read. -/

namespace Cert.Kernel2Ideal.Val
open Cert.Kernel2Ideal Cert.Kernel2Ideal.Gen Idealize.ShloMosaic Idealize.ShloMosaic.TcCoe Idealize.SL.Sem Idealize.ShloMosaic.Tactic

variable {F : FTy → Type} [FloatOps F]

/-- What a grid point loads: the tile, 256 weight columns, the four rotary tables. -/
structure Src (F : FTy → Type) [FloatOps F] where
  x : FVec F S1024x1024 .bf16
  w : (col : Nat) → col + 256 ≤ 5632 → Vec F S1024x256 .bf16
  rp : Fin 4 → Vec F S1x1024x128 .f32

/-- The tile's product with the weight columns from `col` on. -/
def prod (S : Src F) (col : Nat) (h : col + 256 ≤ 5632) : FVec F S1024x256 .f32 :=
  matmul dot_S1024x1024_S1024x256_S1024x256_1_0_0_1_n_n none S.x
    (shapeCast S1024x256 (S.w col h) shapeCasts_S1024x256_S1024x256 : FVec F S1024x256 .bf16) (constant S1024x256 .f32 0x00000000#32)

/-- Half of the product's columns. -/
def half (y : FVec F S1024x256 .f32) (i : Fin 2) : FVec F S1024x128 .f32 :=
  extractStridedSlice S1024x128 ![0, 128 * i.val] y ((by decide : ∀ i : Fin 2, S1024x256.Slices ![0, 128 * i.val] S1024x128) i)

/-- The rotary turn by a cosine table and a signed sine table. -/
def turn (y : FVec F S1024x128 .f32) (c s : Vec F S1x1024x128 .f32) : FVec F S1024x128 .f32 :=
  addf (mulf y (shapeCast S1024x128 c shapeCasts_S1x1024x128_S1024x128))
    (mulf (dynamicRotate 1 64#32 none y rotates_S1024x128_d1) (shapeCast S1024x128 s shapeCasts_S1x1024x128_S1024x128))

/-- The first weight column of stage `s` of group `g`: keys, values, then four pairs of query heads. -/
def colOf (s : Nat) (g : Fin 3) : Nat :=
  match s with
  | 0 => g.val * 256
  | 1 => 768 + g.val * 256
  | s + 2 => 1536 + g.val * 1024 + s % 4 * 256

theorem colOf_le (s : Nat) (g : Fin 3) : colOf s g + 256 ≤ 5632 := by
  unfold colOf
  split <;> omega

/-- The lanes of head `i` of the two of a stage. -/
def headOf (S : Src F) (s : Nat) (g : Fin 3) (i : Fin 2) : FVec F S1024x128 .f32 :=
  match s with
  | 0 => turn (half (prod S (colOf 0 g) (colOf_le 0 g)) i) (S.rp 0) (S.rp 1)
  | 1 => half (prod S (colOf 1 g) (colOf_le 1 g)) i
  | s + 2 => turn (half (prod S (colOf (s + 2) g) (colOf_le (s + 2) g)) i) (S.rp 2) (S.rp 3)

/-- The group, head and value of the `n`-th slab written. -/
def slabG (n : Nat) : Fin 3 := if n % 4 < 2 then 1 else 2
def slabI (n : Nat) : Fin 2 := ⟨n % 2, Nat.mod_lt _ (by decide)⟩
def slabVal (S : Src F) (n : Nat) : Vec F S1x1024x128 .f32 :=
  shapeCast S1x1024x128 (headOf S (n / 4) (slabG n) (slabI n)) shapeCasts_S1024x128_S1x1024x128

theorem slab_inb (n : Nat) : ∀ a, (![n % 8, 0, 0] : Fin 3 → Nat) a + S1x1024x128.size a ≤ S8x1024x128.size a := by
  intro a
  have h := Nat.mod_lt n (by decide : 8 > 0)
  match a with
  | ⟨0, _⟩ => show n % 8 + 1 ≤ 8; omega
  | ⟨1, _⟩ => exact Nat.le_refl _
  | ⟨2, _⟩ => exact Nat.le_refl _

/-- The slabs written before the `n`-th, the last first. -/
def hist (S : Src F) : Nat → List (View.Piece (Elt F) S8x1024x128 .f32)
  | 0 => []
  | n + 1 => ⟨Rect.unit ![n % 8, 0, 0] S1x1024x128.size (slab_inb n), slabVal S n⟩ :: hist S n

/-- The `r`-th rows of the slab of head `h` of group 1 from stage `s0` on, four apart. -/
def ld4 (S : Src F) (v : Memref sig .tc .vmem S8x1024x128 .f32) (s0 h : Nat) (j : Fin 2) (r : Fin 4) : Vec F S1x128x128 .f32 :=
  v.view.readCov (hist S (4 * (s0 + h / 2) + 4))
    { off := ![(4 * (s0 + h / 2) + h % 2) % 8, j.val * 512 + r.val, 0], size := S1x128x128.size, stride := ![1, 4, 1],
      inb := fun a => Or.inr ((by decide : ∀ (t : Fin 8) (j : Fin 2) (r : Fin 4) (a : Fin 3), (![t.val, j.val * 512 + r.val, 0] : Fin 3 → Nat) a
        + (![1, 4, 1] : Fin 3 → Nat) a * (S1x128x128.size a - 1) < S8x1024x128.size a) ⟨(4 * (s0 + h / 2) + h % 2) % 8, Nat.mod_lt _ (by decide)⟩ j r a) }

/-- The `r`-th rows of the slab of head `h` of group 2, sixteen apart. -/
def ld16 (S : Src F) (v : Memref sig .tc .vmem S8x1024x128 .f32) (s0 h : Nat) (r : Fin 16) : Vec F S1x64x128 .f32 :=
  v.view.readCov (hist S (4 * (s0 + h / 2) + 4))
    { off := ![(4 * (s0 + h / 2) + 2 + h % 2) % 8, r.val, 0], size := S1x64x128.size, stride := ![1, 16, 1],
      inb := fun a => Or.inr ((by decide : ∀ (t : Fin 8) (r : Fin 16) (a : Fin 3), (![t.val, r.val, 0] : Fin 3 → Nat) a
        + (![1, 16, 1] : Fin 3 → Nat) a * (S1x64x128.size a - 1) < S8x1024x128.size a) ⟨(4 * (s0 + h / 2) + 2 + h % 2) % 8, Nat.mod_lt _ (by decide)⟩ r a) }

/-- What is stored in each group's outputs, and in the gate's. -/
def out1 (y : FVec F S1024x128 .f32) : FVec F S1x1x8x1x128x128 .bf16 :=
  shapeCast S1x1x8x1x128x128 (shapeCast S8x1x128x128 (truncf .bf16 y bitsLt_bf16_f32 : FVec F S1024x128 .bf16) shapeCasts_S1024x128_S8x1x128x128)
    shapeCasts_S8x1x128x128_S1x1x8x1x128x128
def out4 (y : Vec F S1x128x128 .f32) : FVec F S1x1x1x1x128x128 .bf16 :=
  shapeCast S1x1x1x1x128x128 (truncf .bf16 (shapeCast S128x128 y shapeCasts_S1x128x128_S128x128 : FVec F S128x128 .f32) bitsLt_bf16_f32 : FVec F S128x128 .bf16)
    shapeCasts_S128x128_S1x1x1x1x128x128
def out16 (y : Vec F S1x64x128 .f32) : FVec F S1x1x1x1x64x128 .bf16 :=
  shapeCast S1x1x1x1x64x128 (truncf .bf16 (shapeCast S64x128 y shapeCasts_S1x64x128_S64x128 : FVec F S64x128 .f32) bitsLt_bf16_f32 : FVec F S64x128 .bf16)
    shapeCasts_S64x128_S1x1x1x1x64x128
def outG (y : FVec F S1024x256 .f32) : FVec F S1024x256 .bf16 :=
  truncf .bf16 y bitsLt_bf16_f32

/-- The cosine and signed sine of a tile, from its base row and the offset table. -/
def cosOf (a b : Vec F S1x128 .f32) (x y : Vec F S1024x128 .f32) : FVec F S1024x128 .f32 := k0_pay8 a b x y
def sinOf (a b : Vec F S1x128 .f32) (x y : Vec F S1024x128 .f32) : FVec F S1024x128 .f32 := k0_pay9 a b x y

/-- The stores of the four rotary tables. -/
def tables (a b : Vec F S1x128 .f32) (x y : Vec F S1024x128 .f32) : List (View.Piece (Elt F) S4x1024x128 .f32) :=
  [⟨Rect.unit ![3, 0, 0] S1x1024x128.size inb_S4x1024x128_S1x1024x128_3_0_0, k0_pay13 (sinOf a b x y)⟩,
   ⟨Rect.unit ![2, 0, 0] S1x1024x128.size inb_S4x1024x128_S1x1024x128_2_0_0, k0_pay12 (cosOf a b x y)⟩,
   ⟨Rect.unit ![1, 0, 0] S1x1024x128.size inb_S4x1024x128_S1x1024x128_1_0_0, k0_pay11 a b x y⟩,
   ⟨Rect.unit ![0, 0, 0] S1x1024x128.size inb_S4x1024x128_S1x1024x128_0_0_0, k0_pay10 a b x y⟩]

/-- The loads of a grid point. -/
def srcOf (i : grid0.Coords) (arg3 : Memref sig .tc .vmem S1024x1024 .f32) (harg3 : arg3.IsWhole) (arg4 : Memref sig .tc .vmem S1024x5632 .bf16) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S1024x128 .f32) (harg7 : arg7.IsWhole) (arg8 : Memref sig .tc .vmem S1024x128 .f32) (harg8 : arg8.IsWhole)
    (arg20 : Memref sig .tc .vmem S4x1024x128 .f32)
    (x0 : Vec F S1024x1024 .f32) (x1 : Vec F S1024x5632 .bf16) (x2 : Vec F S8x128 .f32) (x3 : Vec F S8x128 .f32) (x4 : Vec F S1024x128 .f32) (x5 : Vec F S1024x128 .f32) : Src F where
  x := k0_pay3 (View.readAt (Elt F) arg3.view (Rect.unit ![0, 0] S1024x1024.size inb_S1024x1024_S1024x1024_0_0).toLoadRect (harg3.unread x0))
  w col h := View.readAt (Elt F) arg4.view (Rect.unit (s := S1024x5632) ![0, col] S1024x256.size (fun a => match a with
    | ⟨0, _⟩ => Nat.le_refl _
    | ⟨1, _⟩ => h)).toLoadRect (harg4.unread x1)
  rp k := arg20.view.readCov (tables
      (View.readAt (Elt F) arg5.view (Rect.unit (s := S8x128) (k0_off1 i) S1x128.size (k0_off1_inb i)).toLoadRect (harg5.unread x2))
      (View.readAt (Elt F) arg6.view (Rect.unit (s := S8x128) (k0_off1 i) S1x128.size (k0_off1_inb i)).toLoadRect (harg6.unread x3))
      (View.readAt (Elt F) arg7.view (Rect.unit ![0, 0] S1024x128.size inb_S1024x128_S1024x128_0_0).toLoadRect (harg7.unread x4))
      (View.readAt (Elt F) arg8.view (Rect.unit ![0, 0] S1024x128.size inb_S1024x128_S1024x128_0_0).toLoadRect (harg8.unread x5)))
    (Rect.unit (s := S4x1024x128) ![k.val, 0, 0] S1x1024x128.size ((by decide : ∀ (k : Fin 4) a, (![k.val, 0, 0] : Fin 3 → Nat) a + S1x1024x128.size a
      ≤ S4x1024x128.size a) k)).toLoadRect

section Pieces

variable (c : Dev nD) (i : grid0.Coords) (arg3 : Memref sig .tc .vmem S1024x1024 .f32) (harg3 : arg3.IsWhole) (arg4 : Memref sig .tc .vmem S1024x5632 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x8x1x128x256 .bf16) (harg9 : arg9.IsWhole) (arg10 : Memref sig .tc .vmem S1x1x2x4x128x256 .bf16) (harg10 : arg10.IsWhole) (arg11 : Memref sig .tc .vmem S1x1x1x16x64x256 .bf16) (harg11 : arg11.IsWhole) (arg12 : Memref sig .tc .vmem S1x1x8x1x128x256 .bf16) (harg12 : arg12.IsWhole) (arg13 : Memref sig .tc .vmem S1x1x2x4x128x256 .bf16) (harg13 : arg13.IsWhole) (arg14 : Memref sig .tc .vmem S1x1x1x16x64x256 .bf16) (harg14 : arg14.IsWhole) (arg15 : Memref sig .tc .vmem S1x1x8x1x128x1024 .bf16) (harg15 : arg15.IsWhole) (arg16 : Memref sig .tc .vmem S1x1x2x4x128x1024 .bf16) (harg16 : arg16.IsWhole) (arg17 : Memref sig .tc .vmem S1x1x1x16x64x1024 .bf16) (harg17 : arg17.IsWhole) (arg18 : Memref sig .tc .vmem S1024x1024 .bf16) (harg18 : arg18.IsWhole) (arg19 : Memref sig .tc .vmem S8x1024x128 .f32) (harg19 : arg19.IsWhole) (arg20 : Memref sig .tc .vmem S4x1024x128 .f32) (harg20 : arg20.IsWhole)
    (x0 : Vec F S1024x1024 .f32) (x1 : Vec F S1024x5632 .bf16) (x2 : Vec F S8x128 .f32) (x3 : Vec F S8x128 .f32) (x4 : Vec F S1024x128 .f32) (x5 : Vec F S1024x128 .f32)

theorem off6 (u : Fin 2) : ∀ a, (![0, 0, 0, 0, 0, 128 * (1 - u.val)] : Fin 6 → Nat) a + S1x1x8x1x128x128.size a ≤ S1x1x8x1x128x256.size a := by
  revert u; decide +kernel

/-- The keys of group 0. -/
theorem pieces6 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).1 =
    List.ofFn (fun u : Fin 2 => (⟨Rect.unit ![0, 0, 0, 0, 0, 128 * (1 - u.val)] S1x1x8x1x128x128.size (off6 u),
      out1 (headOf (srcOf i arg3 harg3 arg4 harg4 arg5 harg5 arg6 harg6 arg7 harg7 arg8 harg8 arg20 x0 x1 x2 x3 x4 x5) (0 + (1 - u.val) / 2) 0 ⟨(1 - u.val) % 2, Nat.mod_lt _ (by decide)⟩)⟩ : View.Piece (Elt F) S1x1x8x1x128x256 .bf16)) := by
  sl_kernel_rfl

theorem off7 (u : Fin 16) : ∀ a, (![0, 0, (15 - u.val) / 4 % 2, (15 - u.val) % 4, 0, 128 * ((15 - u.val) / 8)] : Fin 6 → Nat) a + S1x1x1x1x128x128.size a ≤ S1x1x2x4x128x256.size a := by
  revert u; decide +kernel

/-- The keys of group 1. -/
theorem pieces7 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.1 =
    List.ofFn (fun u : Fin 16 => (⟨Rect.unit ![0, 0, (15 - u.val) / 4 % 2, (15 - u.val) % 4, 0, 128 * ((15 - u.val) / 8)] S1x1x1x1x128x128.size (off7 u),
      out4 (ld4 (srcOf i arg3 harg3 arg4 harg4 arg5 harg5 arg6 harg6 arg7 harg7 arg8 harg8 arg20 x0 x1 x2 x3 x4 x5) arg19 0 ((15 - u.val) / 8) ⟨(15 - u.val) / 4 % 2, Nat.mod_lt _ (by decide)⟩ ⟨(15 - u.val) % 4, Nat.mod_lt _ (by decide)⟩)⟩ : View.Piece (Elt F) S1x1x2x4x128x256 .bf16)) := by
  sl_kernel_rfl

theorem off8 (u : Fin 32) : ∀ a, (![0, 0, 0, (31 - u.val) % 16, 0, 128 * ((31 - u.val) / 16)] : Fin 6 → Nat) a + S1x1x1x1x64x128.size a ≤ S1x1x1x16x64x256.size a := by
  revert u; decide +kernel

/-- The keys of group 2. -/
theorem pieces8 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.1 =
    List.ofFn (fun u : Fin 32 => (⟨Rect.unit ![0, 0, 0, (31 - u.val) % 16, 0, 128 * ((31 - u.val) / 16)] S1x1x1x1x64x128.size (off8 u),
      out16 (ld16 (srcOf i arg3 harg3 arg4 harg4 arg5 harg5 arg6 harg6 arg7 harg7 arg8 harg8 arg20 x0 x1 x2 x3 x4 x5) arg19 0 ((31 - u.val) / 16) ⟨(31 - u.val) % 16, Nat.mod_lt _ (by decide)⟩)⟩ : View.Piece (Elt F) S1x1x1x16x64x256 .bf16)) := by
  sl_kernel_rfl

theorem off9 (u : Fin 2) : ∀ a, (![0, 0, 0, 0, 0, 128 * (1 - u.val)] : Fin 6 → Nat) a + S1x1x8x1x128x128.size a ≤ S1x1x8x1x128x256.size a := by
  revert u; decide +kernel

/-- The values of group 0. -/
theorem pieces9 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.2.1 =
    List.ofFn (fun u : Fin 2 => (⟨Rect.unit ![0, 0, 0, 0, 0, 128 * (1 - u.val)] S1x1x8x1x128x128.size (off9 u),
      out1 (headOf (srcOf i arg3 harg3 arg4 harg4 arg5 harg5 arg6 harg6 arg7 harg7 arg8 harg8 arg20 x0 x1 x2 x3 x4 x5) (1 + (1 - u.val) / 2) 0 ⟨(1 - u.val) % 2, Nat.mod_lt _ (by decide)⟩)⟩ : View.Piece (Elt F) S1x1x8x1x128x256 .bf16)) := by
  sl_kernel_rfl

theorem off10 (u : Fin 16) : ∀ a, (![0, 0, (15 - u.val) / 4 % 2, (15 - u.val) % 4, 0, 128 * ((15 - u.val) / 8)] : Fin 6 → Nat) a + S1x1x1x1x128x128.size a ≤ S1x1x2x4x128x256.size a := by
  revert u; decide +kernel

/-- The values of group 1. -/
theorem pieces10 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.2.2.1 =
    List.ofFn (fun u : Fin 16 => (⟨Rect.unit ![0, 0, (15 - u.val) / 4 % 2, (15 - u.val) % 4, 0, 128 * ((15 - u.val) / 8)] S1x1x1x1x128x128.size (off10 u),
      out4 (ld4 (srcOf i arg3 harg3 arg4 harg4 arg5 harg5 arg6 harg6 arg7 harg7 arg8 harg8 arg20 x0 x1 x2 x3 x4 x5) arg19 1 ((15 - u.val) / 8) ⟨(15 - u.val) / 4 % 2, Nat.mod_lt _ (by decide)⟩ ⟨(15 - u.val) % 4, Nat.mod_lt _ (by decide)⟩)⟩ : View.Piece (Elt F) S1x1x2x4x128x256 .bf16)) := by
  sl_kernel_rfl

theorem off11 (u : Fin 32) : ∀ a, (![0, 0, 0, (31 - u.val) % 16, 0, 128 * ((31 - u.val) / 16)] : Fin 6 → Nat) a + S1x1x1x1x64x128.size a ≤ S1x1x1x16x64x256.size a := by
  revert u; decide +kernel

/-- The values of group 2. -/
theorem pieces11 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.2.2.2.1 =
    List.ofFn (fun u : Fin 32 => (⟨Rect.unit ![0, 0, 0, (31 - u.val) % 16, 0, 128 * ((31 - u.val) / 16)] S1x1x1x1x64x128.size (off11 u),
      out16 (ld16 (srcOf i arg3 harg3 arg4 harg4 arg5 harg5 arg6 harg6 arg7 harg7 arg8 harg8 arg20 x0 x1 x2 x3 x4 x5) arg19 1 ((31 - u.val) / 16) ⟨(31 - u.val) % 16, Nat.mod_lt _ (by decide)⟩)⟩ : View.Piece (Elt F) S1x1x1x16x64x256 .bf16)) := by
  sl_kernel_rfl

theorem off12 (u : Fin 8) : ∀ a, (![0, 0, 0, 0, 0, 128 * (7 - u.val)] : Fin 6 → Nat) a + S1x1x8x1x128x128.size a ≤ S1x1x8x1x128x1024.size a := by
  revert u; decide +kernel

/-- The queries of group 0. -/
theorem pieces12 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.2.2.2.2.1 =
    List.ofFn (fun u : Fin 8 => (⟨Rect.unit ![0, 0, 0, 0, 0, 128 * (7 - u.val)] S1x1x8x1x128x128.size (off12 u),
      out1 (headOf (srcOf i arg3 harg3 arg4 harg4 arg5 harg5 arg6 harg6 arg7 harg7 arg8 harg8 arg20 x0 x1 x2 x3 x4 x5) (2 + (7 - u.val) / 2) 0 ⟨(7 - u.val) % 2, Nat.mod_lt _ (by decide)⟩)⟩ : View.Piece (Elt F) S1x1x8x1x128x1024 .bf16)) := by
  sl_kernel_rfl

theorem off13 (u : Fin 64) : ∀ a, (![0, 0, (63 - u.val) / 4 % 2, (63 - u.val) % 4, 0, 128 * ((63 - u.val) / 8)] : Fin 6 → Nat) a + S1x1x1x1x128x128.size a ≤ S1x1x2x4x128x1024.size a := by
  revert u; decide +kernel

/-- The queries of group 1. -/
theorem pieces13 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.2.2.2.2.2.1 =
    List.ofFn (fun u : Fin 64 => (⟨Rect.unit ![0, 0, (63 - u.val) / 4 % 2, (63 - u.val) % 4, 0, 128 * ((63 - u.val) / 8)] S1x1x1x1x128x128.size (off13 u),
      out4 (ld4 (srcOf i arg3 harg3 arg4 harg4 arg5 harg5 arg6 harg6 arg7 harg7 arg8 harg8 arg20 x0 x1 x2 x3 x4 x5) arg19 2 ((63 - u.val) / 8) ⟨(63 - u.val) / 4 % 2, Nat.mod_lt _ (by decide)⟩ ⟨(63 - u.val) % 4, Nat.mod_lt _ (by decide)⟩)⟩ : View.Piece (Elt F) S1x1x2x4x128x1024 .bf16)) := by
  sl_kernel_rfl

theorem off14 (u : Fin 128) : ∀ a, (![0, 0, 0, (127 - u.val) % 16, 0, 128 * ((127 - u.val) / 16)] : Fin 6 → Nat) a + S1x1x1x1x64x128.size a ≤ S1x1x1x16x64x1024.size a := by
  revert u; decide +kernel

/-- The queries of group 2. -/
theorem pieces14 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.2.2.2.2.2.2.1 =
    List.ofFn (fun u : Fin 128 => (⟨Rect.unit ![0, 0, 0, (127 - u.val) % 16, 0, 128 * ((127 - u.val) / 16)] S1x1x1x1x64x128.size (off14 u),
      out16 (ld16 (srcOf i arg3 harg3 arg4 harg4 arg5 harg5 arg6 harg6 arg7 harg7 arg8 harg8 arg20 x0 x1 x2 x3 x4 x5) arg19 2 ((127 - u.val) / 16) ⟨(127 - u.val) % 16, Nat.mod_lt _ (by decide)⟩)⟩ : View.Piece (Elt F) S1x1x1x16x64x1024 .bf16)) := by
  sl_kernel_rfl

theorem off15 (u : Fin 4) : ∀ a, (![0, 256 * (3 - u.val)] : Fin 2 → Nat) a + S1024x256.size a ≤ S1024x1024.size a := by
  revert u; decide +kernel

/-- The gate. -/
theorem pieces15 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5).2.2.2.2.2.2.2.2.2.1 =
    List.ofFn (fun u : Fin 4 => (⟨Rect.unit ![0, 256 * (3 - u.val)] S1024x256.size (off15 u),
      outG (prod (srcOf i arg3 harg3 arg4 harg4 arg5 harg5 arg6 harg6 arg7 harg7 arg8 harg8 arg20 x0 x1 x2 x3 x4 x5) (4608 + 256 * (3 - u.val)) (by omega))⟩ : View.Piece (Elt F) S1024x1024 .bf16)) := by
  sl_kernel_rfl

end Pieces

end Cert.Kernel2Ideal.Val
-- ==== Proof.ProjSpec.lean ====
module

public import Idealize.ShloMosaic.Lib.Pointwise
public import Idealize.ShloMosaic.Lib.IdealHost
public import Idealize.ShloMosaic.PureOps

@[expose] public section

set_option maxRecDepth 16384

noncomputable section

/-! What the projections compute, over the extended reals: a token's product with a weight column, and the rotary turn
of a head's lanes by the token's position. -/

namespace Cert.Proj

open Idealize.ShloMosaic Pointwise

/-- A lane pair's angle per position, as the programs compute it. -/
def freq (i : Fin 64) : EReal :=
  Ideal.pow (Ideal.ofBits .f32 0x461C4000#32)
    (Ideal.div (-((((BitVec.ofNat 32 i.val).toInt : ℝ) : EReal) * Ideal.ofBits .f32 0x40000000#32)) (Ideal.ofBits .f32 0x43000000#32))

theorem two_eq : Ideal.ofBits .f32 0x40000000#32 = (((8388608 : ℝ) * (2 ^ 22)⁻¹ : ℝ) : EReal) := by
  rw [EReal.coe_mul]; simp [Ideal.ofBits, Ideal.ieee]
theorem d_eq : Ideal.ofBits .f32 0x43000000#32 = (((8388608 : ℝ) * (2 ^ 16)⁻¹ : ℝ) : EReal) := by
  rw [EReal.coe_mul]; simp [Ideal.ofBits, Ideal.ieee]
theorem theta_eq : Ideal.ofBits .f32 0x461C4000#32 = (((10240000 : ℝ) * (2 ^ 10)⁻¹ : ℝ) : EReal) := by
  rw [EReal.coe_mul]; simp [Ideal.ofBits, Ideal.ieee]
theorem scale_eq : Ideal.ofBits .f32 0x3DB504F3#32 = (((11863283 : ℝ) * (2 ^ 27)⁻¹ : ℝ) : EReal) := by
  rw [EReal.coe_mul]; simp [Ideal.ofBits, Ideal.ieee]
theorem negOne_eq : Ideal.ofBits .f32 0xBF800000#32 = -1 := by
  have h : Ideal.ofBits .f32 0xBF800000#32 = ((-((8388608 : ℝ) * (2 ^ 23)⁻¹) : ℝ) : EReal) := by
    rw [EReal.coe_neg, EReal.coe_mul]; simp [Ideal.ofBits, Ideal.ieee]
  rw [h, (by norm_num : (-((8388608 : ℝ) * (2 ^ 23)⁻¹) : ℝ) = -1)]
  rfl

/-- The angle is a real number. -/
theorem freq_real (i : Fin 64) : ∃ r : ℝ, freq i = (r : EReal) := by
  unfold freq
  rw [two_eq, d_eq, theta_eq, ← EReal.coe_mul, ← EReal.coe_neg, Ideal.div_coe (by norm_num), ← EReal.coe_mul, Ideal.pow_coe_coe]
  exact ⟨_, rfl⟩

/-- A position's number. -/
theorem pos_real (n : Nat) (h : n < 16384) : (((BitVec.ofNat 32 n).toInt : ℝ) : EReal) = ((n : ℝ) : EReal) := by
  have h1 : (BitVec.ofNat 32 n).toInt = (n : Int) := by
    rw [BitVec.toInt_eq_toNat_of_lt (by rw [BitVec.toNat_ofNat]; omega), BitVec.toNat_ofNat, Nat.mod_eq_of_lt (by omega)]
  rw [h1, Int.cast_natCast]

/-- The cosine and sine of position `p`. -/
def cosT (p : Nat) (i : Fin 64) : EReal := Ideal.cos (((p : ℝ) : EReal) * freq i)
def sinT (p : Nat) (i : Fin 64) : EReal := Ideal.sin (((p : ℝ) : EReal) * freq i)

theorem cos_sum (a b : Nat) (i : Fin 64) : cosT a i * cosT b i - sinT a i * sinT b i = cosT (a + b) i := by
  obtain ⟨r, hr⟩ := freq_real i
  unfold cosT sinT
  rw [hr]
  simp only [← EReal.coe_mul, Ideal.cos_coe, Ideal.sin_coe, ← EReal.coe_sub]
  rw [← Real.cos_add, Nat.cast_add, add_mul]

theorem sin_sum (a b : Nat) (i : Fin 64) : sinT a i * cosT b i + cosT a i * sinT b i = sinT (a + b) i := by
  obtain ⟨r, hr⟩ := freq_real i
  unfold cosT sinT
  rw [hr]
  simp only [← EReal.coe_mul, Ideal.cos_coe, Ideal.sin_coe, ← EReal.coe_add]
  rw [← Real.sin_add, Nat.cast_add, add_mul]

/-- The query scale. -/
def scale : EReal := Ideal.ofBits .f32 0x3DB504F3#32

theorem scale_mul_add (x y : EReal) : (x + y) * scale = x * scale + y * scale := by
  unfold scale
  rw [scale_eq]
  exact EReal.right_distrib_of_nonneg_of_ne_top (EReal.coe_nonneg.2 (by positivity)) (EReal.coe_ne_top _) x y

/-- The lane a lane is turned with, and the frequency it is turned by. -/
def mate (e : Fin 128) : Fin 128 := ⟨(e.val + 64) % 128, Nat.mod_lt _ (by decide)⟩
def pair (e : Fin 128) : Fin 64 := ⟨e.val % 64, Nat.mod_lt _ (by decide)⟩

/-- The rotary turn of a head's lanes at position `p`. -/
def turned (p : Nat) (f : Fin 128 → EReal) (e : Fin 128) : EReal :=
  if e.val < 64 then f e * cosT p (pair e) - f (mate e) * sinT p (pair e) else f e * cosT p (pair e) + f (mate e) * sinT p (pair e)

/-- The turn with the sign in the sine's table. -/
def sign (e : Fin 128) : EReal := if e.val < 64 then -1 else 1

theorem turned_signed (p : Nat) (f : Fin 128 → EReal) (e : Fin 128) :
    f e * cosT p (pair e) + f (mate e) * (sign e * sinT p (pair e)) = turned p f e := by
  unfold turned sign
  split_ifs
  · rw [neg_mul, one_mul, mul_neg, ← sub_eq_add_neg]
  · rw [one_mul]

theorem turned_scaled (p : Nat) (f : Fin 128 → EReal) (e : Fin 128) :
    f e * (cosT p (pair e) * scale) + f (mate e) * (sign e * sinT p (pair e) * scale) = turned p f e * scale := by
  rw [← turned_signed, scale_mul_add, mul_assoc (f e), mul_assoc (f (mate e))]

/-- Row `R` of the input's `2 × 8192` tokens. -/
def tok (x : (⟨3, ![2, 8192, 1024]⟩ : Shape).Idx → EReal) (R : Nat) (k : Fin 1024) : EReal :=
  x (ix3 ⟨R / 8192 % 2, Nat.mod_lt _ (by decide)⟩ ⟨R % 8192, Nat.mod_lt _ (by decide)⟩ k)

/-- Column `c` of a weight. -/
def wcol {n : Nat} (hn : 0 < n) (w : (⟨2, ![1024, n]⟩ : Shape).Idx → EReal) (c : Nat) (k : Fin 1024) : EReal :=
  w (ix2 k ⟨c % n, Nat.mod_lt _ hn⟩)

/-- The product of row `R` with column `c`. -/
def lin {n : Nat} (hn : 0 < n) (x : (⟨3, ![2, 8192, 1024]⟩ : Shape).Idx → EReal) (w : (⟨2, ![1024, n]⟩ : Shape).Idx → EReal) (R c : Nat) : EReal :=
  ∑ k, tok x R k * wcol hn w c k

variable (x : (⟨3, ![2, 8192, 1024]⟩ : Shape).Idx → EReal) (wkv : (⟨2, ![1024, 1536]⟩ : Shape).Idx → EReal)
  (win : (⟨2, ![1024, 4096]⟩ : Shape).Idx → EReal)

/-- Lane `l` of group `g`'s keys, values and queries, and of the gate, at row `R`. -/
def keyS (g l R : Nat) : EReal :=
  turned (R % 8192) (fun e => lin (by decide) x wkv R (g * 256 + l / 128 * 128 + e.val)) ⟨l % 128, Nat.mod_lt _ (by decide)⟩
def valS (g l R : Nat) : EReal := lin (by decide) x wkv R (768 + g * 256 + l)
def qryS (g l R : Nat) : EReal :=
  turned (R % 8192) (fun e => lin (by decide) x win R (g * 1024 + l / 128 * 128 + e.val)) ⟨l % 128, Nat.mod_lt _ (by decide)⟩ * scale
def gateS (l R : Nat) : EReal := lin (by decide) x win R (3072 + l)

/-- The row of token `a` of residue `r` of unit `j` of span `n` of sequence `b`, at dilation `d`. -/
def rowOf (d b n j r a : Nat) : Nat := b * 8192 + n * 2048 + j * (128 * d) + a * d + r

/-- A result array, blocked by units of `128 d` rows and split by residue. -/
def blocked (d : Nat) {J D W : Nat} (f : Nat → Nat → EReal) (i : (⟨6, ![2, 4, J, D, 128, W]⟩ : Shape).Idx) : EReal :=
  f (i 5).val (rowOf d (i 0).val (i 1).val (i 2).val (i 3).val (i 4).val)

/-- A result array by rows. -/
def byRow (f : Nat → Nat → EReal) (i : (⟨2, ![16384, 1024]⟩ : Shape).Idx) : EReal :=
  f (i 1).val (i 0).val

end Cert.Proj
-- ==== Proof.ProjRead.lean ====
module

public import proofs.«01_k».proof.Proof.ProjPieces
public import proofs.«01_k».proof.Proof.ProjSpec

@[expose] public section

set_option maxRecDepth 16384

noncomputable section

/-! The values a grid point stores, over the extended reals, at an index. -/

namespace Cert.Kernel2Ideal.Val

open Cert.Kernel2Ideal Cert.Kernel2Ideal.Gen Idealize.ShloMosaic Idealize.ShloMosaic.TcCoe Idealize.SL.Sem Idealize.ShloMosaic.Tactic Pointwise

variable (S : Src Ideal)

/-- Row `ρ` of the tile times column `l` of the weight columns from `col` on. -/
def dotW (col : Nat) (h : col + 256 ≤ 5632) (ρ : Fin 1024) (l : Fin 256) : EReal :=
  ∑ k : Fin 1024, (S.x (ix2 ρ k) : EReal) * S.w col h (ix2 k l)

theorem prod_apply (col : Nat) (h : col + 256 ≤ 5632) (ρ : Fin 1024) (l : Fin 256) :
    prod S col h (ix2 ρ l) = dotW S col h ρ l := by
  pointwise [prod, dotW]

theorem half_apply (y : FVec Ideal S1024x256 .f32) (i : Fin 2) (ρ : Fin 1024) (e : Fin 128) :
    half y i (ix2 ρ e) = y (ix2 ρ ⟨128 * i.val + e.val, by omega⟩) := by
  pointwise [half]

theorem turn_apply (y : FVec Ideal S1024x128 .f32) (c s : Vec Ideal S1x1024x128 .f32) (ρ : Fin 1024) (e : Fin 128) :
    turn y c s (ix2 ρ e) = (y (ix2 ρ e) : EReal) * c (ix3 0 ρ e) + (y (ix2 ρ (Proj.mate e)) : EReal) * s (ix3 0 ρ e) := by
  pointwise [turn]
  rw [show (⟨(e.val + 128 - 64) % 128, Nat.mod_lt _ (by decide)⟩ : Fin 128) = Proj.mate e from Fin.ext (by dsimp only [Proj.mate]; omega)]

theorem slabVal_apply (n : Nat) (ρ : Fin 1024) (e : Fin 128) :
    slabVal S n (ix3 0 ρ e) = headOf S (n / 4) (slabG n) (slabI n) (ix2 ρ e) := by
  pointwise [slabVal]

theorem out1_apply (y : FVec Ideal S1024x128 .f32) (j : Fin 8) (a e : Fin 128) :
    out1 y (ix6 0 0 j 0 a e) = y (ix2 ⟨j.val * 128 + a.val, by omega⟩ e) := by
  pointwise [out1]

theorem out4_apply (y : Vec Ideal S1x128x128 .f32) (a e : Fin 128) : out4 y (ix6 0 0 0 0 a e) = y (ix3 0 a e) := by
  pointwise [out4]

theorem out16_apply (y : Vec Ideal S1x64x128 .f32) (a : Fin 64) (e : Fin 128) : out16 y (ix6 0 0 0 0 a e) = y (ix3 0 a e) := by
  pointwise [out16]

/-- The cosine table of a tile. -/
theorem cosOf_apply (a b : Vec Ideal S1x128 .f32) (x y : Vec Ideal S1024x128 .f32) (ρ : Fin 1024) (e : Fin 128) :
    cosOf a b x y (ix2 ρ e) = (a (ix2 0 e) : EReal) * x (ix2 ρ e) - (b (ix2 0 e) : EReal) * y (ix2 ρ e) := by
  pointwise [cosOf, k0_pay8, k0_pay4, k0_pay5, k0_pay6, k0_pay7]

theorem lane_lt (e : Fin 128) : IntOp.cmpi CmpIPredicate.slt (BitVec.ofNat 32 e.val) 64#32 = if e.val < 64 then 1#1 else 0#1 := by
  revert e; decide +kernel

/-- The signed sine table of a tile. -/
theorem sinOf_apply (a b : Vec Ideal S1x128 .f32) (x y : Vec Ideal S1024x128 .f32) (ρ : Fin 1024) (e : Fin 128) :
    sinOf a b x y (ix2 ρ e) = Proj.sign e * ((b (ix2 0 e) : EReal) * x (ix2 ρ e) + (a (ix2 0 e) : EReal) * y (ix2 ρ e)) := by
  pointwise [sinOf, k0_pay9, k0_pay4, k0_pay5, k0_pay6, k0_pay7]
  refine congrArg (fun s : EReal => s * _) ?_
  rw [lane_lt, Proj.negOne_eq, Proj.sign]
  by_cases h : e.val < 64
  · rw [if_pos h, if_pos h]; rfl
  · rw [if_neg h, if_neg h]; rfl

/-- The four tables. -/
def table (a b : Vec Ideal S1x128 .f32) (x y : Vec Ideal S1024x128 .f32) (k : Fin 4) (ρ : Fin 1024) (e : Fin 128) : EReal :=
  if k.val = 0 then cosOf a b x y (ix2 ρ e) else if k.val = 1 then sinOf a b x y (ix2 ρ e)
  else if k.val = 2 then (cosOf a b x y (ix2 ρ e) : EReal) * Proj.scale else (sinOf a b x y (ix2 ρ e) : EReal) * Proj.scale

theorem pay10_apply (a b : Vec Ideal S1x128 .f32) (x y : Vec Ideal S1024x128 .f32) (ρ : Fin 1024) (e : Fin 128) :
    k0_pay10 a b x y (ix3 0 ρ e) = cosOf a b x y (ix2 ρ e) := by
  pointwise [k0_pay10, cosOf]
theorem pay11_apply (a b : Vec Ideal S1x128 .f32) (x y : Vec Ideal S1024x128 .f32) (ρ : Fin 1024) (e : Fin 128) :
    k0_pay11 a b x y (ix3 0 ρ e) = sinOf a b x y (ix2 ρ e) := by
  pointwise [k0_pay11, sinOf]
theorem pay12_apply (v : Vec Ideal S1024x128 .f32) (ρ : Fin 1024) (e : Fin 128) :
    k0_pay12 (F := Ideal) v (ix3 0 ρ e) = (v (ix2 ρ e) : EReal) * Proj.scale := by
  pointwise [k0_pay12, Proj.scale]
theorem pay13_apply (v : Vec Ideal S1024x128 .f32) (ρ : Fin 1024) (e : Fin 128) :
    k0_pay13 (F := Ideal) v (ix3 0 ρ e) = (v (ix2 ρ e) : EReal) * Proj.scale := by
  pointwise [k0_pay13, Proj.scale]

/-- In a stack of layers written one by one, the last write of a layer is read. -/
theorem canon_here {n : Nat} (t : Nat) (inb) (w : Vec Ideal S1x1024x128 .f32) (L : List (View.Piece (Elt Ideal) ⟨3, ![n, 1024, 128]⟩ .f32))
    (k : Fin n) (hk : k.val = t) (ρ : Fin 1024) (e : Fin 128) :
    View.canon ((⟨Rect.unit (s := ⟨3, ![n, 1024, 128]⟩) ![t, 0, 0] S1x1024x128.size inb, w⟩ : View.Piece (Elt Ideal) ⟨3, ![n, 1024, 128]⟩ .f32) :: L) (ix3 k ρ e) = w (ix3 0 ρ e) := by
  have hy : (ix3 k ρ e : (⟨3, ![n, 1024, 128]⟩ : Shape).Idx) = (Rect.unit (s := ⟨3, ![n, 1024, 128]⟩) ![t, 0, 0] S1x1024x128.size inb).emb (ix3 0 ρ e : S1x1024x128.Idx) :=
    funext fun a => Fin.ext (by
      match a with
      | ⟨0, _⟩ => exact hk
      | ⟨1, _⟩ => exact ((Nat.zero_add _).trans (Nat.one_mul _)).symm
      | ⟨2, _⟩ => exact ((Nat.zero_add _).trans (Nat.one_mul _)).symm)
  rw [hy]
  exact View.canon_cons_emb (Rect.unit (s := ⟨3, ![n, 1024, 128]⟩) ![t, 0, 0] S1x1024x128.size inb) w L (ix3 0 ρ e : S1x1024x128.Idx)

theorem canon_skip {n : Nat} (t : Nat) (inb) (w : Vec Ideal S1x1024x128 .f32) (L : List (View.Piece (Elt Ideal) ⟨3, ![n, 1024, 128]⟩ .f32))
    (k : Fin n) (hk : k.val ≠ t) (ρ : Fin 1024) (e : Fin 128) :
    View.canon ((⟨Rect.unit (s := ⟨3, ![n, 1024, 128]⟩) ![t, 0, 0] S1x1024x128.size inb, w⟩ : View.Piece (Elt Ideal) ⟨3, ![n, 1024, 128]⟩ .f32) :: L) (ix3 k ρ e) = View.canon L (ix3 k ρ e) := by
  refine View.canon_cons_of_not_mem _ L fun h => hk ?_
  have h0 := (Rect.mem_set_unit (inb := inb)).1 h 0
  have h1 : t ≤ k.val := h0.1
  have h2 : k.val < t + 1 := h0.2
  omega

theorem tables_canon (a b : Vec Ideal S1x128 .f32) (x y : Vec Ideal S1024x128 .f32) (k : Fin 4) (ρ : Fin 1024) (e : Fin 128) :
    View.canon (tables a b x y) (ix3 k ρ e) = table a b x y k ρ e := by
  unfold tables table
  match k with
  | ⟨0, h⟩ =>
    exact (canon_skip 3 _ _ _ ⟨0, h⟩ (by show (0 : Nat) ≠ _; decide) ρ e).trans ((canon_skip 2 _ _ _ ⟨0, h⟩ (by show (0 : Nat) ≠ _; decide) ρ e).trans
      ((canon_skip 1 _ _ _ ⟨0, h⟩ (by show (0 : Nat) ≠ _; decide) ρ e).trans ((canon_here 0 _ _ _ ⟨0, h⟩ rfl ρ e).trans (pay10_apply a b x y ρ e))))
  | ⟨1, h⟩ =>
    exact (canon_skip 3 _ _ _ ⟨1, h⟩ (by show (1 : Nat) ≠ _; decide) ρ e).trans ((canon_skip 2 _ _ _ ⟨1, h⟩ (by show (1 : Nat) ≠ _; decide) ρ e).trans
      ((canon_here 1 _ _ _ ⟨1, h⟩ rfl ρ e).trans (pay11_apply a b x y ρ e)))
  | ⟨2, h⟩ =>
    exact (canon_skip 3 _ _ _ ⟨2, h⟩ (by show (2 : Nat) ≠ _; decide) ρ e).trans ((canon_here 2 _ _ _ ⟨2, h⟩ rfl ρ e).trans (pay12_apply _ ρ e))
  | ⟨3, h⟩ =>
    exact (canon_here 3 _ _ _ ⟨3, h⟩ rfl ρ e).trans (pay13_apply _ ρ e)

/-- The `w`-th slab is read as long as fewer than eight have been written after it. -/
theorem hist_canon (w : Nat) (k : Fin 8) (hk : k.val = w % 8) (ρ : Fin 1024) (e : Fin 128) :
    ∀ n, w < n → n ≤ w + 8 → View.canon (hist S n) (ix3 k ρ e) = headOf S (w / 4) (slabG w) (slabI w) (ix2 ρ e)
  | 0, h, _ => absurd h (Nat.not_lt_zero _)
  | n + 1, h, h' => by
    by_cases hn : w = n
    · subst hn
      exact (canon_here (w % 8) _ _ _ k hk ρ e).trans (slabVal_apply S w ρ e)
    · exact (canon_skip (n % 8) _ _ _ k (by omega) ρ e).trans (hist_canon w k hk ρ e n (by omega) (by omega))

variable (v : Memref sig .tc .vmem S8x1024x128 .f32) (s h : Nat)

theorem slabG_4 (τ : Nat) (i : Nat) (hi : i < 2) : slabG (4 * τ + i) = 1 := by
  unfold slabG; rw [if_pos (by omega)]
theorem slabG_16 (τ : Nat) (i : Nat) (hi : i < 2) : slabG (4 * τ + 2 + i) = 2 := by
  unfold slabG; rw [if_neg (by omega)]

theorem ld4_apply (j : Fin 2) (r : Fin 4) (a e : Fin 128) :
    ld4 S v s h j r (ix3 0 a e)
      = headOf S (s + h / 2) 1 ⟨h % 2, Nat.mod_lt _ (by decide)⟩ (ix2 ⟨j.val * 512 + a.val * 4 + r.val, by omega⟩ e) := by
  unfold ld4
  rw [View.readCov_eq_canon']
  refine Eq.trans (congrArg (View.canon (hist S (4 * (s + h / 2) + 4))) (?_ : _ = ix3 ⟨(4 * (s + h / 2) + h % 2) % 8, Nat.mod_lt _ (by decide)⟩
    ⟨j.val * 512 + a.val * 4 + r.val, by omega⟩ e)) ?_
  · funext d
    refine Fin.ext ?_
    match d with
    | ⟨0, _⟩ => rfl
    | ⟨1, _⟩ => show j.val * 512 + r.val + 4 * a.val = _; dsimp only [ix3]; omega
    | ⟨2, _⟩ => show 0 + 1 * e.val = _; exact (Nat.zero_add _).trans (Nat.one_mul _)
  · refine (hist_canon S (4 * (s + h / 2) + h % 2) _ rfl _ e _ (by omega) (by omega)).trans ?_
    rw [slabG_4 _ _ (Nat.mod_lt _ (by decide)), (by omega : (4 * (s + h / 2) + h % 2) / 4 = s + h / 2)]
    exact congrArg (fun i => headOf S (s + h / 2) 1 i _) (Fin.ext (by simp only [slabI]; omega))

theorem ld16_apply (r : Fin 16) (a : Fin 64) (e : Fin 128) :
    ld16 S v s h r (ix3 0 a e)
      = headOf S (s + h / 2) 2 ⟨h % 2, Nat.mod_lt _ (by decide)⟩ (ix2 ⟨a.val * 16 + r.val, by omega⟩ e) := by
  unfold ld16
  rw [View.readCov_eq_canon']
  refine Eq.trans (congrArg (View.canon (hist S (4 * (s + h / 2) + 4))) (?_ : _ = ix3 ⟨(4 * (s + h / 2) + 2 + h % 2) % 8, Nat.mod_lt _ (by decide)⟩
    ⟨a.val * 16 + r.val, by omega⟩ e)) ?_
  · funext d
    refine Fin.ext ?_
    match d with
    | ⟨0, _⟩ => rfl
    | ⟨1, _⟩ => show r.val + 16 * a.val = _; dsimp only [ix3]; omega
    | ⟨2, _⟩ => show 0 + 1 * e.val = _; exact (Nat.zero_add _).trans (Nat.one_mul _)
  · refine (hist_canon S (4 * (s + h / 2) + 2 + h % 2) _ rfl _ e _ (by omega) (by omega)).trans ?_
    rw [slabG_16 _ _ (Nat.mod_lt _ (by decide)), (by omega : (4 * (s + h / 2) + 2 + h % 2) / 4 = s + h / 2)]
    exact congrArg (fun i => headOf S (s + h / 2) 2 i _) (Fin.ext (by simp only [slabI]; omega))

end Cert.Kernel2Ideal.Val
-- ==== Proof.ProjCanon.lean ====
module

public import proofs.«01_k».proof.Proof.ProjRead
public import Idealize.ShloMosaic.Lib.Pipeline.ValueKit

@[expose] public section

set_option maxRecDepth 16384

noncomputable section

/-! The blocks a grid point leaves, at an index: from the value of each head at each row of the tile. -/

namespace Cert.Kernel2Ideal.Val

open Cert.Kernel2Ideal Cert.Kernel2Ideal.Gen Idealize.ShloMosaic Idealize.ShloMosaic.TcCoe Idealize.SL.Sem Idealize.ShloMosaic.Tactic Pointwise

theorem eta8 (x : (⟨6, S1x1x8x1x128x128.size⟩ : Shape).Idx) : x = (ix6 0 0 (x 2 : Fin 8) 0 (x 4 : Fin 128) (x 5 : Fin 128) : S1x1x8x1x128x128.Idx) := by
  funext d
  match d with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _
  | ⟨4, _⟩ => rfl
  | ⟨5, _⟩ => rfl

theorem etaN {n : Nat} (x : (⟨6, ![1, 1, 1, 1, n, 128]⟩ : Shape).Idx) : x = (ix6 0 0 0 0 (x 4 : Fin n) (x 5 : Fin 128) : (⟨6, ![1, 1, 1, 1, n, 128]⟩ : Shape).Idx) := by
  funext d
  match d with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact Subsingleton.elim (α := Fin 1) _ _
  | ⟨4, _⟩ => rfl
  | ⟨5, _⟩ => rfl

/-- Heads `h < N` of group `g` from stage `s0` on have the value `f (128 h + e) R` at lane `e` of row `R` of tile `T`. -/
def Heads (S : Src Ideal) (s0 : Nat) (g : Fin 3) (N T : Nat) (f : Nat → Nat → EReal) : Prop :=
  ∀ h, h < N → ∀ (ρ : Fin 1024) (e : Fin 128),
    headOf S (s0 + h / 2) g ⟨h % 2, Nat.mod_lt _ (by decide)⟩ (ix2 ρ e) = f (128 * h + e.val) (T * 1024 + ρ.val)

variable (S : Src Ideal) (s0 T M N L : Nat) (f : Nat → Nat → EReal)

theorem canon1 (hL : L = 128 * (M + 1)) (H : Heads S s0 0 (M + 1) T f)
    (off : ∀ (u : Fin (M + 1)) a, (![0, 0, 0, 0, 0, 128 * (M - u.val)] : Fin 6 → Nat) a + S1x1x8x1x128x128.size a ≤ (⟨6, ![1, 1, 8, 1, 128, L]⟩ : Shape).size a)
    (j : Fin 8) (a : Fin 128) (l : Fin L) :
    View.canon (List.ofFn fun u : Fin (M + 1) => (⟨Rect.unit (s := ⟨6, ![1, 1, 8, 1, 128, L]⟩) ![0, 0, 0, 0, 0, 128 * (M - u.val)] S1x1x8x1x128x128.size (off u),
      out1 (headOf S (s0 + (M - u.val) / 2) 0 ⟨(M - u.val) % 2, Nat.mod_lt _ (by decide)⟩)⟩ : View.Piece (Elt Ideal) ⟨6, ![1, 1, 8, 1, 128, L]⟩ .bf16))
      (ix6 0 0 j 0 a l) = f l.val (T * 1024 + (j.val * 128 + a.val)) := by
  have hl := l.isLt
  refine View.canon_ofFn_unit_eq_of_forall _ _ _ _ _ _ ⟨⟨M - l.val / 128, by omega⟩, ?_⟩ ?_
  · intro d
    match d with
    | ⟨0, _⟩ => exact ⟨Nat.le_refl 0, Nat.one_pos⟩
    | ⟨1, _⟩ => exact ⟨Nat.le_refl 0, Nat.one_pos⟩
    | ⟨2, _⟩ => exact ⟨Nat.zero_le _, (Nat.zero_add 8).symm ▸ j.isLt⟩
    | ⟨3, _⟩ => exact ⟨Nat.le_refl 0, Nat.one_pos⟩
    | ⟨4, _⟩ => exact ⟨Nat.zero_le _, (Nat.zero_add 128).symm ▸ a.isLt⟩
    | ⟨5, _⟩ =>
      show 128 * (M - (M - l.val / 128)) ≤ l.val ∧ l.val < 128 * (M - (M - l.val / 128)) + 128
      omega
  · intro u x hx
    have h2 : j.val = 0 + (x 2).val := hx 2
    have h4 : a.val = 0 + (x 4).val := hx 4
    have h5 : l.val = 128 * (M - u.val) + (x 5).val := hx 5
    have h50 : (x 5).val < 128 := (x 5).isLt
    have ej : (x 2 : Fin 8) = j := Fin.ext (by omega)
    have ea : (x 4 : Fin 128) = a := Fin.ext (by omega)
    have hv : 128 * (M - u.val) + (x 5).val = l.val := h5.symm
    have hr : T * 1024 + (j.val * 128 + a.val) = T * 1024 + (j.val * 128 + a.val) := rfl
    rw [eta8 x, ej, ea]
    refine (out1_apply _ j a (x 5)).trans ?_
    exact (H (M - u.val) (by omega) _ (x 5)).trans (congrArg (fun q => f q _) hv)

theorem canon4 (hM : M + 1 = 8 * N) (hL : L = 128 * N) (H : Heads S s0 1 N T f) (v : Memref sig .tc .vmem S8x1024x128 .f32)
    (off : ∀ (u : Fin (M + 1)) a, (![0, 0, (M - u.val) / 4 % 2, (M - u.val) % 4, 0, 128 * ((M - u.val) / 8)] : Fin 6 → Nat) a + S1x1x1x1x128x128.size a
      ≤ (⟨6, ![1, 1, 2, 4, 128, L]⟩ : Shape).size a)
    (j : Fin 2) (r : Fin 4) (a : Fin 128) (l : Fin L) :
    View.canon (List.ofFn fun u : Fin (M + 1) => (⟨Rect.unit (s := ⟨6, ![1, 1, 2, 4, 128, L]⟩)
        ![0, 0, (M - u.val) / 4 % 2, (M - u.val) % 4, 0, 128 * ((M - u.val) / 8)] S1x1x1x1x128x128.size (off u),
      out4 (ld4 S v s0 ((M - u.val) / 8) ⟨(M - u.val) / 4 % 2, Nat.mod_lt _ (by decide)⟩ ⟨(M - u.val) % 4, Nat.mod_lt _ (by decide)⟩)⟩
        : View.Piece (Elt Ideal) ⟨6, ![1, 1, 2, 4, 128, L]⟩ .bf16))
      (ix6 0 0 j r a l) = f l.val (T * 1024 + (j.val * 512 + a.val * 4 + r.val)) := by
  have hl := l.isLt
  have hj := j.isLt
  have hr := r.isLt
  refine View.canon_ofFn_unit_eq_of_forall _ _ _ _ _ _ ⟨⟨M - (l.val / 128 * 8 + j.val * 4 + r.val), by omega⟩, ?_⟩ ?_
  · have e : M - (M - (l.val / 128 * 8 + j.val * 4 + r.val)) = l.val / 128 * 8 + j.val * 4 + r.val := by omega
    intro d
    match d with
    | ⟨0, _⟩ => exact ⟨Nat.le_refl 0, Nat.one_pos⟩
    | ⟨1, _⟩ => exact ⟨Nat.le_refl 0, Nat.one_pos⟩
    | ⟨2, _⟩ =>
      show (M - (M - (l.val / 128 * 8 + j.val * 4 + r.val))) / 4 % 2 ≤ j.val ∧ j.val < (M - (M - (l.val / 128 * 8 + j.val * 4 + r.val))) / 4 % 2 + 1
      rw [e]; omega
    | ⟨3, _⟩ =>
      show (M - (M - (l.val / 128 * 8 + j.val * 4 + r.val))) % 4 ≤ r.val ∧ r.val < (M - (M - (l.val / 128 * 8 + j.val * 4 + r.val))) % 4 + 1
      rw [e]; omega
    | ⟨4, _⟩ => exact ⟨Nat.zero_le _, (Nat.zero_add 128).symm ▸ a.isLt⟩
    | ⟨5, _⟩ =>
      show 128 * ((M - (M - (l.val / 128 * 8 + j.val * 4 + r.val))) / 8) ≤ l.val ∧ l.val < 128 * ((M - (M - (l.val / 128 * 8 + j.val * 4 + r.val))) / 8) + 128
      rw [e]; omega
  · intro u x hx
    have h2 : j.val = (M - u.val) / 4 % 2 + (x 2).val := hx 2
    have h3 : r.val = (M - u.val) % 4 + (x 3).val := hx 3
    have h4 : a.val = 0 + (x 4).val := hx 4
    have h5 : l.val = 128 * ((M - u.val) / 8) + (x 5).val := hx 5
    have h20 : (x 2).val < 1 := (x 2).isLt
    have h30 : (x 3).val < 1 := (x 3).isLt
    have h50 : (x 5).val < 128 := (x 5).isLt
    have ea : (x 4 : Fin 128) = a := Fin.ext (by omega)
    have hv : 128 * ((M - u.val) / 8) + (x 5).val = l.val := h5.symm
    have hh : (M - u.val) / 8 < N := by omega
    have hr' : T * 1024 + ((M - u.val) / 4 % 2 * 512 + a.val * 4 + (M - u.val) % 4) = T * 1024 + (j.val * 512 + a.val * 4 + r.val) := by omega
    refine (congrArg _ (etaN x)).trans ?_
    rw [ea]
    refine (out4_apply _ a (x 5)).trans ((ld4_apply S v s0 _ _ _ a (x 5)).trans ?_)
    exact (H ((M - u.val) / 8) hh _ (x 5)).trans (congrArg₂ f hv hr')

theorem canon16 (hM : M + 1 = 16 * N) (hL : L = 128 * N) (H : Heads S s0 2 N T f) (v : Memref sig .tc .vmem S8x1024x128 .f32)
    (off : ∀ (u : Fin (M + 1)) a, (![0, 0, 0, (M - u.val) % 16, 0, 128 * ((M - u.val) / 16)] : Fin 6 → Nat) a + S1x1x1x1x64x128.size a
      ≤ (⟨6, ![1, 1, 1, 16, 64, L]⟩ : Shape).size a)
    (r : Fin 16) (a : Fin 64) (l : Fin L) :
    View.canon (List.ofFn fun u : Fin (M + 1) => (⟨Rect.unit (s := ⟨6, ![1, 1, 1, 16, 64, L]⟩)
        ![0, 0, 0, (M - u.val) % 16, 0, 128 * ((M - u.val) / 16)] S1x1x1x1x64x128.size (off u),
      out16 (ld16 S v s0 ((M - u.val) / 16) ⟨(M - u.val) % 16, Nat.mod_lt _ (by decide)⟩)⟩
        : View.Piece (Elt Ideal) ⟨6, ![1, 1, 1, 16, 64, L]⟩ .bf16))
      (ix6 0 0 0 r a l) = f l.val (T * 1024 + (a.val * 16 + r.val)) := by
  have hl := l.isLt
  have hr := r.isLt
  refine View.canon_ofFn_unit_eq_of_forall _ _ _ _ _ _ ⟨⟨M - (l.val / 128 * 16 + r.val), by omega⟩, ?_⟩ ?_
  · have e : M - (M - (l.val / 128 * 16 + r.val)) = l.val / 128 * 16 + r.val := by omega
    intro d
    match d with
    | ⟨0, _⟩ => exact ⟨Nat.le_refl 0, Nat.one_pos⟩
    | ⟨1, _⟩ => exact ⟨Nat.le_refl 0, Nat.one_pos⟩
    | ⟨2, _⟩ => exact ⟨Nat.le_refl 0, Nat.one_pos⟩
    | ⟨3, _⟩ =>
      show (M - (M - (l.val / 128 * 16 + r.val))) % 16 ≤ r.val ∧ r.val < (M - (M - (l.val / 128 * 16 + r.val))) % 16 + 1
      rw [e]; omega
    | ⟨4, _⟩ => exact ⟨Nat.zero_le _, (Nat.zero_add 64).symm ▸ a.isLt⟩
    | ⟨5, _⟩ =>
      show 128 * ((M - (M - (l.val / 128 * 16 + r.val))) / 16) ≤ l.val ∧ l.val < 128 * ((M - (M - (l.val / 128 * 16 + r.val))) / 16) + 128
      rw [e]; omega
  · intro u x hx
    have h3 : r.val = (M - u.val) % 16 + (x 3).val := hx 3
    have h4 : a.val = 0 + (x 4).val := hx 4
    have h5 : l.val = 128 * ((M - u.val) / 16) + (x 5).val := hx 5
    have h30 : (x 3).val < 1 := (x 3).isLt
    have h50 : (x 5).val < 128 := (x 5).isLt
    have ea : (x 4 : Fin 64) = a := Fin.ext (by omega)
    have hv : 128 * ((M - u.val) / 16) + (x 5).val = l.val := h5.symm
    have hh : (M - u.val) / 16 < N := by omega
    have hr' : T * 1024 + (a.val * 16 + (M - u.val) % 16) = T * 1024 + (a.val * 16 + r.val) := by omega
    refine (congrArg _ (etaN x)).trans ?_
    rw [ea]
    refine (out16_apply _ a (x 5)).trans ((ld16_apply S v s0 _ _ a (x 5)).trans ?_)
    exact (H ((M - u.val) / 16) hh _ (x 5)).trans (congrArg₂ f hv hr')

/-- The gate's block. -/
theorem canonG (off : ∀ (u : Fin 4) a, (![0, 256 * (3 - u.val)] : Fin 2 → Nat) a + S1024x256.size a ≤ S1024x1024.size a)
    (H : ∀ (q : Nat) (h : q ≤ 3) (ρ : Fin 1024) (l : Fin 256), prod S (4608 + 256 * q) (by omega) (ix2 ρ l) = f (256 * q + l.val) (T * 1024 + ρ.val))
    (ρ l : Fin 1024) :
    View.canon (List.ofFn fun u : Fin 4 => (⟨Rect.unit ![0, 256 * (3 - u.val)] S1024x256.size (off u),
      outG (prod S (4608 + 256 * (3 - u.val)) (by omega))⟩ : View.Piece (Elt Ideal) S1024x1024 .bf16)) (ix2 ρ l) = f l.val (T * 1024 + ρ.val) := by
  have hl := l.isLt
  refine View.canon_ofFn_unit_eq_of_forall _ _ _ _ _ _ ⟨⟨3 - l.val / 256, by omega⟩, ?_⟩ ?_
  · intro d
    match d with
    | ⟨0, _⟩ => exact ⟨Nat.zero_le _, (Nat.zero_add 1024).symm ▸ ρ.isLt⟩
    | ⟨1, _⟩ =>
      show 256 * (3 - (3 - l.val / 256)) ≤ l.val ∧ l.val < 256 * (3 - (3 - l.val / 256)) + 256
      omega
  · intro u x hx
    have h0 : ρ.val = 0 + (x 0).val := hx 0
    have h1 : l.val = 256 * (3 - u.val) + (x 1).val := hx 1
    have er : (x 0 : Fin 1024) = ρ := Fin.ext (by omega)
    have hx' : x = (ix2 (x 0 : Fin 1024) (x 1 : Fin 256) : S1024x256.Idx) := by
      funext d
      match d with
      | ⟨0, _⟩ => rfl
      | ⟨1, _⟩ => rfl
    rw [hx', er]
    exact (H (3 - u.val) (by omega) ρ (x 1)).trans (congrArg (fun q => f q _) h1.symm)

end Cert.Kernel2Ideal.Val
-- ==== Proof.ProjHeads.lean ====
module

public import proofs.«01_k».proof.Proof.ProjCanon

@[expose] public section

set_option maxRecDepth 16384

noncomputable section

/-! The heads a grid point computes, from the arrays it reads. -/

namespace Cert.Kernel2Ideal.Val

open Cert.Kernel2Ideal Cert.Kernel2Ideal.Gen Idealize.ShloMosaic Idealize.ShloMosaic.TcCoe Idealize.SL.Sem Idealize.ShloMosaic.Tactic Pointwise

/-- Column `c` of the weights side by side. -/
def wAll (wkv : (⟨2, ![1024, 1536]⟩ : Shape).Idx → EReal) (win : (⟨2, ![1024, 4096]⟩ : Shape).Idx → EReal) (c : Nat) (k : Fin 1024) : EReal :=
  if c < 1536 then Proj.wcol (by decide) wkv c k else Proj.wcol (by decide) win (c - 1536) k

/-- The point reads tile `T` of the input, the weights, and the rotary tables of the tile's positions. -/
structure Reads (S : Src Ideal) (x : (⟨3, ![2, 8192, 1024]⟩ : Shape).Idx → EReal) (wkv : (⟨2, ![1024, 1536]⟩ : Shape).Idx → EReal)
    (win : (⟨2, ![1024, 4096]⟩ : Shape).Idx → EReal) (T : Nat) : Prop where
  x : ∀ (ρ k : Fin 1024), S.x (ix2 ρ k) = Proj.tok x (T * 1024 + ρ.val) k
  w : ∀ (col : Nat) (h : col + 256 ≤ 5632) (k : Fin 1024) (l : Fin 256), S.w col h (ix2 k l) = wAll wkv win (col + l.val) k
  c : ∀ (ρ : Fin 1024) (e : Fin 128), S.rp 0 (ix3 0 ρ e) = Proj.cosT ((T * 1024 + ρ.val) % 8192) (Proj.pair e)
  s : ∀ (ρ : Fin 1024) (e : Fin 128), S.rp 1 (ix3 0 ρ e) = Proj.sign e * Proj.sinT ((T * 1024 + ρ.val) % 8192) (Proj.pair e)
  cq : ∀ (ρ : Fin 1024) (e : Fin 128), S.rp 2 (ix3 0 ρ e) = Proj.cosT ((T * 1024 + ρ.val) % 8192) (Proj.pair e) * Proj.scale
  sq : ∀ (ρ : Fin 1024) (e : Fin 128), S.rp 3 (ix3 0 ρ e) = Proj.sign e * Proj.sinT ((T * 1024 + ρ.val) % 8192) (Proj.pair e) * Proj.scale

variable {S : Src Ideal} {x : (⟨3, ![2, 8192, 1024]⟩ : Shape).Idx → EReal} {wkv : (⟨2, ![1024, 1536]⟩ : Shape).Idx → EReal}
    {win : (⟨2, ![1024, 4096]⟩ : Shape).Idx → EReal} {T : Nat} (H : Reads S x wkv win T)
include H

theorem dot_kv (col : Nat) (h : col + 256 ≤ 1536) (ρ : Fin 1024) (l : Fin 256) :
    prod S col (by omega) (ix2 ρ l) = Proj.lin (by decide) x wkv (T * 1024 + ρ.val) (col + l.val) := by
  rw [prod_apply]
  refine Finset.sum_congr rfl fun k _ => ?_
  rw [H.x, H.w, wAll, if_pos (by omega)]

theorem dot_in (col : Nat) (h : 1536 + col + 256 ≤ 5632) (ρ : Fin 1024) (l : Fin 256) :
    prod S (1536 + col) h (ix2 ρ l) = Proj.lin (by decide) x win (T * 1024 + ρ.val) (col + l.val) := by
  rw [prod_apply]
  refine Finset.sum_congr rfl fun k _ => ?_
  rw [H.x, H.w, wAll, if_neg (by omega), (by omega : 1536 + col + l.val - 1536 = col + l.val)]

theorem heads_v (g : Fin 3) : Heads S 1 g 2 T (Proj.valS x wkv g.val) := by
  intro h hh ρ e
  have h0 : h / 2 = 0 := by omega
  have hg := g.isLt
  rw [h0]
  refine (half_apply _ _ ρ e).trans ((dot_kv H (768 + g.val * 256) (by omega) ρ _).trans ?_)
  exact congrArg (Proj.lin (by decide) x wkv _) (by dsimp only; omega)

theorem heads_k (g : Fin 3) : Heads S 0 g 2 T (Proj.keyS x wkv g.val) := by
  intro h hh ρ e
  have h0 : h / 2 = 0 := by omega
  have hg := g.isLt
  rw [h0]
  refine (turn_apply _ _ _ ρ e).trans ?_
  have hd : ∀ e' : Fin 128, half (prod S (colOf 0 g) (colOf_le 0 g)) ⟨h % 2, Nat.mod_lt _ (by decide)⟩ (ix2 ρ e')
      = Proj.lin (by decide) x wkv (T * 1024 + ρ.val) (g.val * 256 + (128 * h + e.val) / 128 * 128 + e'.val) := fun e' =>
    (half_apply _ _ ρ e').trans ((dot_kv H (g.val * 256) (by omega) ρ _).trans (congrArg (Proj.lin (by decide) x wkv _) (by dsimp only; omega)))
  rw [hd, hd, H.c, H.s]
  refine (Proj.turned_signed _ (fun e' : Fin 128 => Proj.lin (by decide) x wkv (T * 1024 + ρ.val) (g.val * 256 + (128 * h + e.val) / 128 * 128 + e'.val)) e).trans ?_
  exact congrArg (Proj.turned _ _) (Fin.ext (by dsimp only; omega))

theorem heads_q (g : Fin 3) : Heads S 2 g 8 T (Proj.qryS x win g.val) := by
  intro h hh ρ e
  have hg := g.isLt
  rw [Nat.add_comm 2 (h / 2)]
  refine (turn_apply _ _ _ ρ e).trans ?_
  have hc : colOf (h / 2 + 2) g = 1536 + (g.val * 1024 + h / 2 % 4 * 256) := by simp only [colOf]; omega
  have hd : ∀ e' : Fin 128, half (prod S (colOf (h / 2 + 2) g) (colOf_le (h / 2 + 2) g)) ⟨h % 2, Nat.mod_lt _ (by decide)⟩ (ix2 ρ e')
      = Proj.lin (by decide) x win (T * 1024 + ρ.val) (g.val * 1024 + (128 * h + e.val) / 128 * 128 + e'.val) := fun e' => by
    refine (half_apply _ _ ρ e').trans ?_
    simp only [hc]
    exact (dot_in H (g.val * 1024 + h / 2 % 4 * 256) (by omega) ρ _).trans (congrArg (Proj.lin (by decide) x win _) (by dsimp only; omega))
  rw [hd, hd, H.cq, H.sq]
  refine (Proj.turned_scaled _ (fun e' : Fin 128 => Proj.lin (by decide) x win (T * 1024 + ρ.val) (g.val * 1024 + (128 * h + e.val) / 128 * 128 + e'.val)) e).trans ?_
  exact congrArg (fun q => Proj.turned _ _ q * Proj.scale) (Fin.ext (by dsimp only; omega))

theorem gate_dot (q : Nat) (h : q ≤ 3) (ρ : Fin 1024) (l : Fin 256) :
    prod S (4608 + 256 * q) (by omega) (ix2 ρ l) = Proj.gateS x win (256 * q + l.val) (T * 1024 + ρ.val) := by
  have hc : 4608 + 256 * q = 1536 + (3072 + 256 * q) := by omega
  simp only [hc]
  exact (dot_in H (3072 + 256 * q) (by omega) ρ l).trans (congrArg (Proj.lin (by decide) x win _) (by omega))

end Cert.Kernel2Ideal.Val
-- ==== Proof.ProjBlock.lean ====
module

public import proofs.«01_k».proof.Proof.ProjHeads

@[expose] public section

set_option maxRecDepth 16384

noncomputable section

/-! The ten blocks a grid point leaves, from the blocks it reads. -/

namespace Cert.Kernel2Ideal.Val

open Cert.Kernel2Ideal Cert.Kernel2Ideal.Gen Idealize.ShloMosaic Idealize.ShloMosaic.TcCoe Idealize.SL.Sem Idealize.ShloMosaic.Tactic Pointwise

/-- The row of the base tables a point reads. -/
theorem off1_row (i : grid0.Coords) : k0_off1 i 0 = (i 1).val * 2 + (i 2).val := by
  have h : ∀ (p : Fin 4) (q : Fin 2), (IntOp.addi (IntOp.muli (BitVec.ofNat 32 p.val) 2#32) (BitVec.ofNat 32 q.val)).toNat = p.val * 2 + q.val := by
    decide +kernel
  exact h (i 1) (i 2)

theorem whole_ld {n k : Nat} {e : EltTy} (mr : Memref sig .tc .vmem ⟨2, ![n, k]⟩ e) (hm : mr.IsWhole) (x : Vec Ideal ⟨2, ![n, k]⟩ e) (inb)
    (ρ : Fin n) (l : Fin k) :
    (View.readAt (Elt Ideal) mr.view (Rect.unit (s := ⟨2, ![n, k]⟩) ![0, 0] ![n, k] inb).toLoadRect (hm.unread x) : Vec Ideal ⟨2, ![n, k]⟩ e) (ix2 ρ l) = x (ix2 ρ l) := by
  rw [View.readAt_eq_ld, hm.read_unread]
  refine View.ld_unit_apply_of x _ _ _ _ _ fun a => ?_
  match a with
  | ⟨0, _⟩ => exact (Nat.zero_add _).symm
  | ⟨1, _⟩ => exact (Nat.zero_add _).symm

theorem row_ld (i : grid0.Coords) (mr : Memref sig .tc .vmem S8x128 .f32) (hm : mr.IsWhole) (x : Vec Ideal S8x128 .f32) (q : Fin 8)
    (hq : (i 1).val * 2 + (i 2).val = q.val) (e : Fin 128) :
    (View.readAt (Elt Ideal) mr.view (Rect.unit (s := S8x128) (k0_off1 i) S1x128.size (k0_off1_inb i)).toLoadRect (hm.unread x) : Vec Ideal S1x128 .f32) (ix2 0 e)
      = x (ix2 q e) := by
  rw [View.readAt_eq_ld, hm.read_unread]
  refine View.ld_unit_apply_of x _ _ _ _ _ fun a => ?_
  match a with
  | ⟨0, _⟩ => exact hq.symm.trans (off1_row i).symm
  | ⟨1, _⟩ => exact (Nat.zero_add _).symm

theorem w_ld (mr : Memref sig .tc .vmem S1024x5632 .bf16) (hm : mr.IsWhole) (x : Vec Ideal S1024x5632 .bf16) (col : Nat) (h : col + 256 ≤ 5632) (inb)
    (k : Fin 1024) (l : Fin 256) :
    (View.readAt (Elt Ideal) mr.view (Rect.unit (s := S1024x5632) ![0, col] S1024x256.size inb).toLoadRect (hm.unread x) : Vec Ideal S1024x256 .bf16) (ix2 k l)
      = x (ix2 k ⟨col + l.val, by omega⟩) := by
  rw [View.readAt_eq_ld, hm.read_unread]
  refine View.ld_unit_apply_of x _ _ _ _ _ fun a => ?_
  match a with
  | ⟨0, _⟩ => exact (Nat.zero_add _).symm
  | ⟨1, _⟩ => rfl

section Blocks

variable (c : Dev nD) (i : grid0.Coords) (arg3 : Memref sig .tc .vmem S1024x1024 .f32) (harg3 : arg3.IsWhole) (arg4 : Memref sig .tc .vmem S1024x5632 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x8x1x128x256 .bf16) (harg9 : arg9.IsWhole) (arg10 : Memref sig .tc .vmem S1x1x2x4x128x256 .bf16) (harg10 : arg10.IsWhole) (arg11 : Memref sig .tc .vmem S1x1x1x16x64x256 .bf16) (harg11 : arg11.IsWhole) (arg12 : Memref sig .tc .vmem S1x1x8x1x128x256 .bf16) (harg12 : arg12.IsWhole) (arg13 : Memref sig .tc .vmem S1x1x2x4x128x256 .bf16) (harg13 : arg13.IsWhole) (arg14 : Memref sig .tc .vmem S1x1x1x16x64x256 .bf16) (harg14 : arg14.IsWhole) (arg15 : Memref sig .tc .vmem S1x1x8x1x128x1024 .bf16) (harg15 : arg15.IsWhole) (arg16 : Memref sig .tc .vmem S1x1x2x4x128x1024 .bf16) (harg16 : arg16.IsWhole) (arg17 : Memref sig .tc .vmem S1x1x1x16x64x1024 .bf16) (harg17 : arg17.IsWhole) (arg18 : Memref sig .tc .vmem S1024x1024 .bf16) (harg18 : arg18.IsWhole) (arg19 : Memref sig .tc .vmem S8x1024x128 .f32) (harg19 : arg19.IsWhole) (arg20 : Memref sig .tc .vmem S4x1024x128 .f32) (harg20 : arg20.IsWhole)
    (x0 : Vec Ideal S1024x1024 .f32) (x1 : Vec Ideal S1024x5632 .bf16) (x2 : Vec Ideal S8x128 .f32) (x3 : Vec Ideal S8x128 .f32) (x4 : Vec Ideal S1024x128 .f32) (x5 : Vec Ideal S1024x128 .f32)
  {x : (⟨3, ![2, 8192, 1024]⟩ : Shape).Idx → EReal} {wkv : (⟨2, ![1024, 1536]⟩ : Shape).Idx → EReal} {win : (⟨2, ![1024, 4096]⟩ : Shape).Idx → EReal} {T : Nat}

/-- A rotary table as the point reads it back. -/
theorem rp_apply (k : Fin 4) (ρ : Fin 1024) (e : Fin 128) : (srcOf i arg3 harg3 arg4 harg4 arg5 harg5 arg6 harg6 arg7 harg7 arg8 harg8 arg20 x0 x1 x2 x3 x4 x5).rp k (ix3 0 ρ e)
    = table (View.readAt (Elt Ideal) arg5.view (Rect.unit (s := S8x128) (k0_off1 i) S1x128.size (k0_off1_inb i)).toLoadRect (harg5.unread x2))
      (View.readAt (Elt Ideal) arg6.view (Rect.unit (s := S8x128) (k0_off1 i) S1x128.size (k0_off1_inb i)).toLoadRect (harg6.unread x3))
      (View.readAt (Elt Ideal) arg7.view (Rect.unit ![0, 0] S1024x128.size inb_S1024x128_S1024x128_0_0).toLoadRect (harg7.unread x4))
      (View.readAt (Elt Ideal) arg8.view (Rect.unit ![0, 0] S1024x128.size inb_S1024x128_S1024x128_0_0).toLoadRect (harg8.unread x5)) k ρ e := by
  unfold srcOf
  dsimp only
  rw [View.readCov_eq_canon']
  refine Eq.trans (congrArg (View.canon (tables _ _ _ _)) (?_ : _ = ix3 k ρ e)) (tables_canon _ _ _ _ k ρ e)
  funext d
  refine Fin.ext ?_
  match d with
  | ⟨0, _⟩ => rfl
  | ⟨1, _⟩ => exact (Nat.zero_add _).trans (Nat.one_mul _)
  | ⟨2, _⟩ => exact (Nat.zero_add _).trans (Nat.one_mul _)

/-- What the point reads, from its blocks. -/
theorem reads_of (q : Fin 8) (hq : (i 1).val * 2 + (i 2).val = q.val) (hT : T % 8 = q.val)
    (h0 : ∀ ρ k : Fin 1024, x0 (ix2 ρ k) = Proj.tok x (T * 1024 + ρ.val) k)
    (h1 : ∀ (k : Fin 1024) (l : Fin 5632), x1 (ix2 k l) = wAll wkv win l.val k)
    (h2 : ∀ e : Fin 128, x2 (ix2 q e) = Proj.cosT (q.val * 1024) (Proj.pair e))
    (h3 : ∀ e : Fin 128, x3 (ix2 q e) = Proj.sinT (q.val * 1024) (Proj.pair e))
    (h4 : ∀ (ρ : Fin 1024) (e : Fin 128), x4 (ix2 ρ e) = Proj.cosT ρ.val (Proj.pair e))
    (h5 : ∀ (ρ : Fin 1024) (e : Fin 128), x5 (ix2 ρ e) = Proj.sinT ρ.val (Proj.pair e)) :
    Reads (srcOf i arg3 harg3 arg4 harg4 arg5 harg5 arg6 harg6 arg7 harg7 arg8 harg8 arg20 x0 x1 x2 x3 x4 x5) x wkv win T := by
  have hp : ∀ ρ : Fin 1024, q.val * 1024 + ρ.val = (T * 1024 + ρ.val) % 8192 := fun ρ => by omega
  have hcos : ∀ (ρ : Fin 1024) (e : Fin 128), cosOf (View.readAt (Elt Ideal) arg5.view (Rect.unit (s := S8x128) (k0_off1 i) S1x128.size (k0_off1_inb i)).toLoadRect (harg5.unread x2))
      (View.readAt (Elt Ideal) arg6.view (Rect.unit (s := S8x128) (k0_off1 i) S1x128.size (k0_off1_inb i)).toLoadRect (harg6.unread x3))
      (View.readAt (Elt Ideal) arg7.view (Rect.unit ![0, 0] S1024x128.size inb_S1024x128_S1024x128_0_0).toLoadRect (harg7.unread x4))
      (View.readAt (Elt Ideal) arg8.view (Rect.unit ![0, 0] S1024x128.size inb_S1024x128_S1024x128_0_0).toLoadRect (harg8.unread x5)) (ix2 ρ e)
      = Proj.cosT ((T * 1024 + ρ.val) % 8192) (Proj.pair e) := fun ρ e => by
    rw [cosOf_apply, row_ld i arg5 harg5 x2 q hq e, row_ld i arg6 harg6 x3 q hq e]
    refine (congrArg₂ (fun u v : EReal => (x2 (ix2 q e) : EReal) * u - (x3 (ix2 q e) : EReal) * v) (whole_ld arg7 harg7 x4 _ ρ e) (whole_ld arg8 harg8 x5 _ ρ e)).trans ?_
    rw [h2, h3, h4, h5, Proj.cos_sum, hp]
  have hsin : ∀ (ρ : Fin 1024) (e : Fin 128), sinOf (View.readAt (Elt Ideal) arg5.view (Rect.unit (s := S8x128) (k0_off1 i) S1x128.size (k0_off1_inb i)).toLoadRect (harg5.unread x2))
      (View.readAt (Elt Ideal) arg6.view (Rect.unit (s := S8x128) (k0_off1 i) S1x128.size (k0_off1_inb i)).toLoadRect (harg6.unread x3))
      (View.readAt (Elt Ideal) arg7.view (Rect.unit ![0, 0] S1024x128.size inb_S1024x128_S1024x128_0_0).toLoadRect (harg7.unread x4))
      (View.readAt (Elt Ideal) arg8.view (Rect.unit ![0, 0] S1024x128.size inb_S1024x128_S1024x128_0_0).toLoadRect (harg8.unread x5)) (ix2 ρ e)
      = Proj.sign e * Proj.sinT ((T * 1024 + ρ.val) % 8192) (Proj.pair e) := fun ρ e => by
    rw [sinOf_apply, row_ld i arg5 harg5 x2 q hq e, row_ld i arg6 harg6 x3 q hq e]
    refine (congrArg₂ (fun u v : EReal => Proj.sign e * ((x3 (ix2 q e) : EReal) * u + (x2 (ix2 q e) : EReal) * v)) (whole_ld arg7 harg7 x4 _ ρ e) (whole_ld arg8 harg8 x5 _ ρ e)).trans ?_
    rw [h2, h3, h4, h5, Proj.sin_sum, hp]
  refine ⟨fun ρ k => ?_, fun col h k l => ?_, fun ρ e => ?_, fun ρ e => ?_, fun ρ e => ?_, fun ρ e => ?_⟩
  · refine Eq.trans ?_ ((whole_ld arg3 harg3 x0 inb_S1024x1024_S1024x1024_0_0 ρ k).trans (h0 ρ k))
    unfold srcOf
    pointwise [k0_pay3]
  · exact (w_ld arg4 harg4 x1 col h _ k l).trans (h1 k _)
  · exact (rp_apply (k := 0) (ρ := ρ) (e := e) ..).trans (hcos ρ e)
  · exact (rp_apply (k := 1) (ρ := ρ) (e := e) ..).trans (hsin ρ e)
  · exact (rp_apply (k := 2) (ρ := ρ) (e := e) ..).trans (congrArg (fun u : EReal => u * Proj.scale) (hcos ρ e))
  · exact (rp_apply (k := 3) (ρ := ρ) (e := e) ..).trans (congrArg (fun u : EReal => u * Proj.scale) (hsin ρ e))

variable (H : Reads (srcOf i arg3 harg3 arg4 harg4 arg5 harg5 arg6 harg6 arg7 harg7 arg8 harg8 arg20 x0 x1 x2 x3 x4 x5) x wkv win T)
include H

theorem block6 (j : Fin 8) (a : Fin 128) (l : Fin 256) : out0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 j 0 a l) = Proj.keyS x wkv 0 l.val (T * 1024 + (j.val * 128 + a.val)) := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces6]
  exact canon1 _ 0 T 1 256 _ rfl (heads_k H 0) off6 j a l

theorem block7 (j : Fin 2) (r : Fin 4) (a : Fin 128) (l : Fin 256) : out0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 j r a l) = Proj.keyS x wkv 1 l.val (T * 1024 + (j.val * 512 + a.val * 4 + r.val)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces7]
  exact canon4 _ 0 T 15 2 256 _ rfl rfl (heads_k H 1) arg19 off7 j r a l

theorem block8 (r : Fin 16) (a : Fin 64) (l : Fin 256) : out0_A_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 0 r a l) = Proj.keyS x wkv 2 l.val (T * 1024 + (a.val * 16 + r.val)) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces8]
  exact canon16 _ 0 T 31 2 256 _ rfl rfl (heads_k H 2) arg19 off8 r a l

theorem block9 (j : Fin 8) (a : Fin 128) (l : Fin 256) : out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 j 0 a l) = Proj.valS x wkv 0 l.val (T * 1024 + (j.val * 128 + a.val)) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces9]
  exact canon1 _ 1 T 1 256 _ rfl (heads_v H 0) off9 j a l

theorem block10 (j : Fin 2) (r : Fin 4) (a : Fin 128) (l : Fin 256) : out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 j r a l) = Proj.valS x wkv 1 l.val (T * 1024 + (j.val * 512 + a.val * 4 + r.val)) := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces10]
  exact canon4 _ 1 T 15 2 256 _ rfl rfl (heads_v H 1) arg19 off10 j r a l

theorem block11 (r : Fin 16) (a : Fin 64) (l : Fin 256) : out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 0 r a l) = Proj.valS x wkv 2 l.val (T * 1024 + (a.val * 16 + r.val)) := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces11]
  exact canon16 _ 1 T 31 2 256 _ rfl rfl (heads_v H 2) arg19 off11 r a l

theorem block12 (j : Fin 8) (a : Fin 128) (l : Fin 1024) : out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 j 0 a l) = Proj.qryS x win 0 l.val (T * 1024 + (j.val * 128 + a.val)) := by
  unfold out0_A_12
  rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces12]
  exact canon1 _ 2 T 7 1024 _ rfl (heads_q H 0) off12 j a l

theorem block13 (j : Fin 2) (r : Fin 4) (a : Fin 128) (l : Fin 1024) : out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 j r a l) = Proj.qryS x win 1 l.val (T * 1024 + (j.val * 512 + a.val * 4 + r.val)) := by
  unfold out0_A_13
  rw [View.read_writes_eq_canon _ _ _ (cover0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces13]
  exact canon4 _ 2 T 63 8 1024 _ rfl rfl (heads_q H 1) arg19 off13 j r a l

theorem block14 (r : Fin 16) (a : Fin 64) (l : Fin 1024) : out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix6 0 0 0 r a l) = Proj.qryS x win 2 l.val (T * 1024 + (a.val * 16 + r.val)) := by
  unfold out0_A_14
  rw [View.read_writes_eq_canon _ _ _ (cover0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces14]
  exact canon16 _ 2 T 127 8 1024 _ rfl rfl (heads_q H 2) arg19 off14 r a l

theorem block15 (ρ l : Fin 1024) : out0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix2 ρ l) = Proj.gateS x win l.val (T * 1024 + ρ.val) := by
  unfold out0_A_15
  rw [View.read_writes_eq_canon _ _ _ (cover0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5), pieces15]
  exact canonG _ T _ off15 (gate_dot H) ρ l

end Blocks

end Cert.Kernel2Ideal.Val
-- ==== Proof.ProjArray.lean ====
module

public import proofs.«01_k».proof.Proof.ProjBlock
public import proofs.«01_k».proof.Proof.Gen.Kernel2Ideal.Value
public import Idealize.ShloMosaic.Lib.Claim

@[expose] public section

set_option maxRecDepth 16384

noncomputable section

/-! The kernel's ten result arrays, from its argument arrays. -/

namespace Cert.Kernel2Ideal.Val

open Cert.Kernel2Ideal Cert.Kernel2Ideal.Gen Idealize.ShloMosaic Idealize.ShloMosaic.TcCoe Idealize.SL.Sem Pointwise

variable (m : (ℓ : Loc nD τ sig) → Buf (Elt Ideal) ℓ) (c : Dev nD)

/-- The argument arrays. -/
def argX : FVec Ideal S2x8192x1024 .f32 := m ((c.tc : Thread nD τ).loc main_arg0)
def argKv : FVec Ideal S1024x1536 .f32 := m ((c.tc : Thread nD τ).loc main_arg1)
def argIn : FVec Ideal S1024x4096 .f32 := m ((c.tc : Thread nD τ).loc main_arg2)

theorem entry_x (R : Fin 16384) (k : Fin 1024) : (V m c main_v3 : Vec Ideal S16384x1024 .f32) (ix2 R k) = Proj.tok (argX m c) R.val k := by
  entry_read
  pointwise
  exact congrArg (fun q : Fin 2 => argX m c (ix3 q ⟨R.val % 8192, Nat.mod_lt _ (by decide)⟩ k)) (Fin.ext (by dsimp only; omega))

theorem entry_w (k : Fin 1024) (l : Fin 5632) : (V m c main_v2 : Vec Ideal S1024x5632 .bf16) (ix2 k l) = wAll (argKv m c) (argIn m c) l.val k := by
  entry_read
  pointwise
  unfold wAll
  by_cases h : l.val < 1536
  · rw [dif_pos h, if_pos h]
    exact congrArg (fun q : Fin 1536 => argKv m c (ix2 k q)) (Fin.ext (Nat.mod_eq_of_lt h).symm)
  · rw [dif_neg h, if_neg h]
    exact congrArg (fun q : Fin 4096 => argIn m c (ix2 k q)) (Fin.ext (Nat.mod_eq_of_lt (by omega)).symm)

/-- A lane's frequency in the tables. -/
theorem freq_lane (e : Fin 128) : (if h : e.val < 64 then Proj.freq ⟨e.val, h⟩ else Proj.freq ⟨e.val - 64, by omega⟩) = Proj.freq (Proj.pair e) := by
  split_ifs with h
  · exact congrArg Proj.freq (Fin.ext (Nat.mod_eq_of_lt h).symm)
  · exact congrArg Proj.freq (Fin.ext (by dsimp only [Proj.pair]; omega))

theorem base_pos (q : Fin 8) : IntOp.muli (BitVec.ofNat 32 q.val) 1024#32 = BitVec.ofNat 32 (q.val * 1024) := by
  revert q; decide +kernel

/-- The angle in the tables. -/
theorem angle (n : Nat) (hn : n < 16384) (e : Fin 128) :
    ((FloatOps.sitofp FTy.f32 (BitVec.ofNat 32 n) : Ideal .f32) : EReal) * (if h : e.val < 64 then Proj.freq ⟨e.val, h⟩ else Proj.freq ⟨e.val - 64, by omega⟩)
      = ((n : ℝ) : EReal) * Proj.freq (Proj.pair e) :=
  congrArg₂ (fun u v : EReal => u * v) (Proj.pos_real n hn) (freq_lane e)

theorem entry_cb (q : Fin 8) (e : Fin 128) : (V m c main_v28 : Vec Ideal S8x128 .f32) (ix2 q e) = Proj.cosT (q.val * 1024) (Proj.pair e) := by
  entry_read
  pointwise
  rw [base_pos]
  exact congrArg Ideal.cos (angle (q.val * 1024) (by omega) e)

theorem entry_sb (q : Fin 8) (e : Fin 128) : (V m c main_v29 : Vec Ideal S8x128 .f32) (ix2 q e) = Proj.sinT (q.val * 1024) (Proj.pair e) := by
  entry_read
  pointwise
  rw [base_pos]
  exact congrArg Ideal.sin (angle (q.val * 1024) (by omega) e)

theorem entry_co (ρ : Fin 1024) (e : Fin 128) : (V m c main_v30 : Vec Ideal S1024x128 .f32) (ix2 ρ e) = Proj.cosT ρ.val (Proj.pair e) := by
  entry_read
  pointwise
  exact congrArg Ideal.cos (angle ρ.val (by omega) e)

theorem entry_so (ρ : Fin 1024) (e : Fin 128) : (V m c main_v31 : Vec Ideal S1024x128 .f32) (ix2 ρ e) = Proj.sinT ρ.val (Proj.pair e) := by
  entry_read
  pointwise
  exact congrArg Ideal.sin (angle ρ.val (by omega) e)

/-- The windows' block indices. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val / 8, t.val / 2 % 4, t.val % 2, 0, 0, 0] ∧ win0_7.index t = ![t.val / 8, t.val / 2 % 4, t.val % 2, 0, 0, 0]
    ∧ win0_8.index t = ![t.val / 8, t.val / 2 % 4, 0, 0, t.val % 2, 0]
    ∧ win0_9.index t = ![t.val / 8, t.val / 2 % 4, t.val % 2, 0, 0, 0] ∧ win0_10.index t = ![t.val / 8, t.val / 2 % 4, t.val % 2, 0, 0, 0]
    ∧ win0_11.index t = ![t.val / 8, t.val / 2 % 4, 0, 0, t.val % 2, 0]
    ∧ win0_12.index t = ![t.val / 8, t.val / 2 % 4, t.val % 2, 0, 0, 0] ∧ win0_13.index t = ![t.val / 8, t.val / 2 % 4, t.val % 2, 0, 0, 0]
    ∧ win0_14.index t = ![t.val / 8, t.val / 2 % 4, 0, 0, t.val % 2, 0]
    ∧ win0_15.index t = ![t.val, 0] ∧ (grid0.coords t 1).val * 2 + (grid0.coords t 2).val = t.val % 8 :=
  (by decide +kernel : ∀ t : Fin grid0.N, _)

theorem lt16 (t : Fin cfg0.N) : t.val < 16 := t.isLt

theorem blk_x (t : Fin cfg0.N) (ρ k : Fin 1024) :
    (iblk m c 0 t : Vec Ideal S1024x1024 .f32) (ix2 ρ k) = Proj.tok (argX m c) (t.val * 1024 + ρ.val) k := by
  have ht := lt16 t
  rw [← entry_x m c ⟨t.val * 1024 + ρ.val, by omega⟩ k]
  blk_ext [iblk, idx t]

theorem blk_w (t : Fin cfg0.N) (k : Fin 1024) (l : Fin 5632) :
    (iblk m c 1 t : Vec Ideal S1024x5632 .bf16) (ix2 k l) = wAll (argKv m c) (argIn m c) l.val k := by
  rw [← entry_w m c k l]
  blk_ext [iblk, idx t]

theorem blk_cb (t : Fin cfg0.N) (q : Fin 8) (e : Fin 128) :
    (iblk m c 2 t : Vec Ideal S8x128 .f32) (ix2 q e) = Proj.cosT (q.val * 1024) (Proj.pair e) := by
  rw [← entry_cb m c q e]
  blk_ext [iblk, idx t]

theorem blk_sb (t : Fin cfg0.N) (q : Fin 8) (e : Fin 128) :
    (iblk m c 3 t : Vec Ideal S8x128 .f32) (ix2 q e) = Proj.sinT (q.val * 1024) (Proj.pair e) := by
  rw [← entry_sb m c q e]
  blk_ext [iblk, idx t]

theorem blk_co (t : Fin cfg0.N) (ρ : Fin 1024) (e : Fin 128) :
    (iblk m c 4 t : Vec Ideal S1024x128 .f32) (ix2 ρ e) = Proj.cosT ρ.val (Proj.pair e) := by
  rw [← entry_co m c ρ e]
  blk_ext [iblk, idx t]

theorem blk_so (t : Fin cfg0.N) (ρ : Fin 1024) (e : Fin 128) :
    (iblk m c 5 t : Vec Ideal S1024x128 .f32) (ix2 ρ e) = Proj.sinT ρ.val (Proj.pair e) := by
  rw [← entry_so m c ρ e]
  blk_ext [iblk, idx t]

/-- What point `t` reads. -/
theorem reads (t : Fin cfg0.N) : Reads (srcOf (grid0.coords t) (ms0_0 t) (hs0_0 t) (ms0_1 t) (hs0_1 t) (ms0_2 t) (hs0_2 t) (ms0_3 t) (hs0_3 t) (ms0_4 t) (hs0_4 t) (ms0_5 t) (hs0_5 t) scM0_1 (iblk m c 0 t) (iblk m c 1 t) (iblk m c 2 t) (iblk m c 3 t) (iblk m c 4 t) (iblk m c 5 t)) (argX m c) (argKv m c) (argIn m c) t.val :=
  reads_of _ _ _ _ _ _ _ _ _ _ _ _ _ _ _ _ _ _ _ _ ⟨t.val % 8, by omega⟩ (idx t).2.2.2.2.2.2.2.2.2.2.2.2.2.2.2.2 rfl
    (blk_x m c t) (blk_w m c t) (fun e => blk_cb m c t _ e) (fun e => blk_sb m c t _ e) (blk_co m c t) (blk_so m c t)

end Cert.Kernel2Ideal.Val
-- ==== Proof.ProjFinal.lean ====
module

public import proofs.«01_k».proof.Proof.ProjArray

@[expose] public section

set_option maxRecDepth 16384

noncomputable section

/-! The kernel's ten result arrays. -/

namespace Cert.Kernel2Ideal.Val

open Cert.Kernel2Ideal Cert.Kernel2Ideal.Gen Idealize.ShloMosaic Idealize.ShloMosaic.TcCoe Idealize.SL.Sem Pointwise

variable (m : (ℓ : Loc nD τ sig) → Buf (Elt Ideal) ℓ) (c : Dev nD)

theorem blk1_eta {W : Nat} (y : (⟨6, ![1, 1, 8, 1, 128, W]⟩ : Shape).Idx) : y = ix6 0 0 (y 2 : Fin 8) 0 (y 4 : Fin 128) (y 5 : Fin W) := by
  funext d
  match d with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _
  | ⟨4, _⟩ => rfl
  | ⟨5, _⟩ => rfl

theorem blk4_eta {W : Nat} (y : (⟨6, ![1, 1, 2, 4, 128, W]⟩ : Shape).Idx) : y = ix6 0 0 (y 2 : Fin 2) (y 3 : Fin 4) (y 4 : Fin 128) (y 5 : Fin W) := by
  funext d
  match d with
  | ⟨0, _⟩ => exact Subsingleton.elim (α := Fin 1) _ _
  | ⟨1, _⟩ => exact Subsingleton.elim (α := Fin 1) _ _
  | ⟨2, _⟩ => rfl
  | ⟨3, _⟩ => rfl
  | ⟨4, _⟩ => rfl
  | ⟨5, _⟩ => rfl

theorem blk16_eta {W : Nat} (y : (⟨6, ![1, 1, 1, 16, 64, W]⟩ : Shape).Idx) : y = ix6 0 0 0 (y 3 : Fin 16) (y 4 : Fin 64) (y 5 : Fin W) := by
  funext d
  match d with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl
  | ⟨5, _⟩ => rfl

/-- Row `ρ` of tile `t` in the blocked arrays. -/
theorem row1 (t j a : Nat) : t * 1024 + (j * 128 + a) = Proj.rowOf 1 (t / 8) (t / 2 % 4) (t % 2 * 8 + j) 0 a := by
  unfold Proj.rowOf; omega
theorem row4 (t j a r : Nat) : t * 1024 + (j * 512 + a * 4 + r) = Proj.rowOf 4 (t / 8) (t / 2 % 4) (t % 2 * 2 + j) r a := by
  unfold Proj.rowOf; omega
theorem row16 (t a r : Nat) : t * 1024 + (a * 16 + r) = Proj.rowOf 16 (t / 8) (t / 2 % 4) 0 r (t % 2 * 64 + a) := by
  unfold Proj.rowOf; omega

theorem outs6 (t : Fin cfg0.N) : (outsAt0 m c t).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point6 (t : Fin cfg0.N) (y : S1x1x8x1x128x256.Idx) : (outsAt0 m c t).1 y = (Proj.blocked 1 (Proj.keyS (argX m c) (argKv m c) 0) : S2x4x16x1x128x256.Idx → EReal) ((win0_6.blk t).view.emb y) := by
  obtain ⟨j, a, l, hy⟩ : ∃ (j : Fin 8) (a : Fin 128) (l : Fin 256), y = (ix6 0 0 j 0 a l : S1x1x8x1x128x256.Idx) := ⟨_, _, _, blk1_eta y⟩
  subst hy
  have ht := lt16 t
  have he : (win0_6.blk t).view.emb (ix6 0 0 j 0 a l : S1x1x8x1x128x256.Idx) = (ix6 ⟨t.val / 8, by omega⟩ ⟨t.val / 2 % 4, by omega⟩ ⟨t.val % 2 * 8 + j.val, by omega⟩ 0 a l : S2x4x16x1x128x256.Idx) := by
    blk_ext [idx t]
  refine Eq.trans ?_ (congrArg (Proj.blocked 1 (Proj.keyS (argX m c) (argKv m c) 0) : S2x4x16x1x128x256.Idx → EReal) he).symm
  refine Eq.trans ?_ (congrArg ((Proj.keyS (argX m c) (argKv m c) 0) l.val) (row1 t.val j.val a.val))
  refine Eq.trans ?_ (block6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) j a l)
  rw [outs6]

theorem final6 : (dats m 0 c).arrAt 6 cfg0.N = (Proj.blocked 1 (Proj.keyS (argX m c) (argKv m c) 0) : S2x4x16x1x128x256.Idx → EReal) := by
  refine (dats m 0 c).arrAt_eq_of_covers 6 _ (by decide +kernel) fun t hf y => ?_
  blk_simp
  rw [after0_6]
  exact point6 m c t y

theorem outs7 (t : Fin cfg0.N) : (outsAt0 m c t).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point7 (t : Fin cfg0.N) (y : S1x1x2x4x128x256.Idx) : (outsAt0 m c t).2.1 y = (Proj.blocked 4 (Proj.keyS (argX m c) (argKv m c) 1) : S2x4x4x4x128x256.Idx → EReal) ((win0_7.blk t).view.emb y) := by
  obtain ⟨j, r, a, l, hy⟩ : ∃ (j : Fin 2) (r : Fin 4) (a : Fin 128) (l : Fin 256), y = (ix6 0 0 j r a l : S1x1x2x4x128x256.Idx) := ⟨_, _, _, _, blk4_eta y⟩
  subst hy
  have ht := lt16 t
  have he : (win0_7.blk t).view.emb (ix6 0 0 j r a l : S1x1x2x4x128x256.Idx) = (ix6 ⟨t.val / 8, by omega⟩ ⟨t.val / 2 % 4, by omega⟩ ⟨t.val % 2 * 2 + j.val, by omega⟩ r a l : S2x4x4x4x128x256.Idx) := by
    blk_ext [idx t]
  refine Eq.trans ?_ (congrArg (Proj.blocked 4 (Proj.keyS (argX m c) (argKv m c) 1) : S2x4x4x4x128x256.Idx → EReal) he).symm
  refine Eq.trans ?_ (congrArg ((Proj.keyS (argX m c) (argKv m c) 1) l.val) (row4 t.val j.val a.val r.val))
  refine Eq.trans ?_ (block7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) j r a l)
  rw [outs7]

theorem final7 : (dats m 0 c).arrAt 7 cfg0.N = (Proj.blocked 4 (Proj.keyS (argX m c) (argKv m c) 1) : S2x4x4x4x128x256.Idx → EReal) := by
  refine (dats m 0 c).arrAt_eq_of_covers 7 _ (by decide +kernel) fun t hf y => ?_
  blk_simp
  rw [after0_7]
  exact point7 m c t y

theorem outs8 (t : Fin cfg0.N) : (outsAt0 m c t).2.2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point8 (t : Fin cfg0.N) (y : S1x1x1x16x64x256.Idx) : (outsAt0 m c t).2.2.1 y = (Proj.blocked 16 (Proj.keyS (argX m c) (argKv m c) 2) : S2x4x1x16x128x256.Idx → EReal) ((win0_8.blk t).view.emb y) := by
  obtain ⟨r, a, l, hy⟩ : ∃ (r : Fin 16) (a : Fin 64) (l : Fin 256), y = (ix6 0 0 0 r a l : S1x1x1x16x64x256.Idx) := ⟨_, _, _, blk16_eta y⟩
  subst hy
  have ht := lt16 t
  have he : (win0_8.blk t).view.emb (ix6 0 0 0 r a l : S1x1x1x16x64x256.Idx) = (ix6 ⟨t.val / 8, by omega⟩ ⟨t.val / 2 % 4, by omega⟩ 0 r ⟨t.val % 2 * 64 + a.val, by omega⟩ l : S2x4x1x16x128x256.Idx) := by
    blk_ext [idx t]
  refine Eq.trans ?_ (congrArg (Proj.blocked 16 (Proj.keyS (argX m c) (argKv m c) 2) : S2x4x1x16x128x256.Idx → EReal) he).symm
  refine Eq.trans ?_ (congrArg ((Proj.keyS (argX m c) (argKv m c) 2) l.val) (row16 t.val a.val r.val))
  refine Eq.trans ?_ (block8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) r a l)
  rw [outs8]

theorem final8 : (dats m 0 c).arrAt 8 cfg0.N = (Proj.blocked 16 (Proj.keyS (argX m c) (argKv m c) 2) : S2x4x1x16x128x256.Idx → EReal) := by
  refine (dats m 0 c).arrAt_eq_of_covers 8 _ (by decide +kernel) fun t hf y => ?_
  blk_simp
  rw [after0_8]
  exact point8 m c t y

theorem outs9 (t : Fin cfg0.N) : (outsAt0 m c t).2.2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point9 (t : Fin cfg0.N) (y : S1x1x8x1x128x256.Idx) : (outsAt0 m c t).2.2.2.1 y = (Proj.blocked 1 (Proj.valS (argX m c) (argKv m c) 0) : S2x4x16x1x128x256.Idx → EReal) ((win0_9.blk t).view.emb y) := by
  obtain ⟨j, a, l, hy⟩ : ∃ (j : Fin 8) (a : Fin 128) (l : Fin 256), y = (ix6 0 0 j 0 a l : S1x1x8x1x128x256.Idx) := ⟨_, _, _, blk1_eta y⟩
  subst hy
  have ht := lt16 t
  have he : (win0_9.blk t).view.emb (ix6 0 0 j 0 a l : S1x1x8x1x128x256.Idx) = (ix6 ⟨t.val / 8, by omega⟩ ⟨t.val / 2 % 4, by omega⟩ ⟨t.val % 2 * 8 + j.val, by omega⟩ 0 a l : S2x4x16x1x128x256.Idx) := by
    blk_ext [idx t]
  refine Eq.trans ?_ (congrArg (Proj.blocked 1 (Proj.valS (argX m c) (argKv m c) 0) : S2x4x16x1x128x256.Idx → EReal) he).symm
  refine Eq.trans ?_ (congrArg ((Proj.valS (argX m c) (argKv m c) 0) l.val) (row1 t.val j.val a.val))
  refine Eq.trans ?_ (block9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) j a l)
  rw [outs9]

theorem final9 : (dats m 0 c).arrAt 9 cfg0.N = (Proj.blocked 1 (Proj.valS (argX m c) (argKv m c) 0) : S2x4x16x1x128x256.Idx → EReal) := by
  refine (dats m 0 c).arrAt_eq_of_covers 9 _ (by decide +kernel) fun t hf y => ?_
  blk_simp
  rw [after0_9]
  exact point9 m c t y

theorem outs10 (t : Fin cfg0.N) : (outsAt0 m c t).2.2.2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point10 (t : Fin cfg0.N) (y : S1x1x2x4x128x256.Idx) : (outsAt0 m c t).2.2.2.2.1 y = (Proj.blocked 4 (Proj.valS (argX m c) (argKv m c) 1) : S2x4x4x4x128x256.Idx → EReal) ((win0_10.blk t).view.emb y) := by
  obtain ⟨j, r, a, l, hy⟩ : ∃ (j : Fin 2) (r : Fin 4) (a : Fin 128) (l : Fin 256), y = (ix6 0 0 j r a l : S1x1x2x4x128x256.Idx) := ⟨_, _, _, _, blk4_eta y⟩
  subst hy
  have ht := lt16 t
  have he : (win0_10.blk t).view.emb (ix6 0 0 j r a l : S1x1x2x4x128x256.Idx) = (ix6 ⟨t.val / 8, by omega⟩ ⟨t.val / 2 % 4, by omega⟩ ⟨t.val % 2 * 2 + j.val, by omega⟩ r a l : S2x4x4x4x128x256.Idx) := by
    blk_ext [idx t]
  refine Eq.trans ?_ (congrArg (Proj.blocked 4 (Proj.valS (argX m c) (argKv m c) 1) : S2x4x4x4x128x256.Idx → EReal) he).symm
  refine Eq.trans ?_ (congrArg ((Proj.valS (argX m c) (argKv m c) 1) l.val) (row4 t.val j.val a.val r.val))
  refine Eq.trans ?_ (block10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) j r a l)
  rw [outs10]

theorem final10 : (dats m 0 c).arrAt 10 cfg0.N = (Proj.blocked 4 (Proj.valS (argX m c) (argKv m c) 1) : S2x4x4x4x128x256.Idx → EReal) := by
  refine (dats m 0 c).arrAt_eq_of_covers 10 _ (by decide +kernel) fun t hf y => ?_
  blk_simp
  rw [after0_10]
  exact point10 m c t y

theorem outs11 (t : Fin cfg0.N) : (outsAt0 m c t).2.2.2.2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point11 (t : Fin cfg0.N) (y : S1x1x1x16x64x256.Idx) : (outsAt0 m c t).2.2.2.2.2.1 y = (Proj.blocked 16 (Proj.valS (argX m c) (argKv m c) 2) : S2x4x1x16x128x256.Idx → EReal) ((win0_11.blk t).view.emb y) := by
  obtain ⟨r, a, l, hy⟩ : ∃ (r : Fin 16) (a : Fin 64) (l : Fin 256), y = (ix6 0 0 0 r a l : S1x1x1x16x64x256.Idx) := ⟨_, _, _, blk16_eta y⟩
  subst hy
  have ht := lt16 t
  have he : (win0_11.blk t).view.emb (ix6 0 0 0 r a l : S1x1x1x16x64x256.Idx) = (ix6 ⟨t.val / 8, by omega⟩ ⟨t.val / 2 % 4, by omega⟩ 0 r ⟨t.val % 2 * 64 + a.val, by omega⟩ l : S2x4x1x16x128x256.Idx) := by
    blk_ext [idx t]
  refine Eq.trans ?_ (congrArg (Proj.blocked 16 (Proj.valS (argX m c) (argKv m c) 2) : S2x4x1x16x128x256.Idx → EReal) he).symm
  refine Eq.trans ?_ (congrArg ((Proj.valS (argX m c) (argKv m c) 2) l.val) (row16 t.val a.val r.val))
  refine Eq.trans ?_ (block11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) r a l)
  rw [outs11]

theorem final11 : (dats m 0 c).arrAt 11 cfg0.N = (Proj.blocked 16 (Proj.valS (argX m c) (argKv m c) 2) : S2x4x1x16x128x256.Idx → EReal) := by
  refine (dats m 0 c).arrAt_eq_of_covers 11 _ (by decide +kernel) fun t hf y => ?_
  blk_simp
  rw [after0_11]
  exact point11 m c t y

theorem outs12 (t : Fin cfg0.N) : (outsAt0 m c t).2.2.2.2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point12 (t : Fin cfg0.N) (y : S1x1x8x1x128x1024.Idx) : (outsAt0 m c t).2.2.2.2.2.2.1 y = (Proj.blocked 1 (Proj.qryS (argX m c) (argIn m c) 0) : S2x4x16x1x128x1024.Idx → EReal) ((win0_12.blk t).view.emb y) := by
  obtain ⟨j, a, l, hy⟩ : ∃ (j : Fin 8) (a : Fin 128) (l : Fin 1024), y = (ix6 0 0 j 0 a l : S1x1x8x1x128x1024.Idx) := ⟨_, _, _, blk1_eta y⟩
  subst hy
  have ht := lt16 t
  have he : (win0_12.blk t).view.emb (ix6 0 0 j 0 a l : S1x1x8x1x128x1024.Idx) = (ix6 ⟨t.val / 8, by omega⟩ ⟨t.val / 2 % 4, by omega⟩ ⟨t.val % 2 * 8 + j.val, by omega⟩ 0 a l : S2x4x16x1x128x1024.Idx) := by
    blk_ext [idx t]
  refine Eq.trans ?_ (congrArg (Proj.blocked 1 (Proj.qryS (argX m c) (argIn m c) 0) : S2x4x16x1x128x1024.Idx → EReal) he).symm
  refine Eq.trans ?_ (congrArg ((Proj.qryS (argX m c) (argIn m c) 0) l.val) (row1 t.val j.val a.val))
  refine Eq.trans ?_ (block12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) j a l)
  rw [outs12]

theorem final12 : (dats m 0 c).arrAt 12 cfg0.N = (Proj.blocked 1 (Proj.qryS (argX m c) (argIn m c) 0) : S2x4x16x1x128x1024.Idx → EReal) := by
  refine (dats m 0 c).arrAt_eq_of_covers 12 _ (by decide +kernel) fun t hf y => ?_
  blk_simp
  rw [after0_12]
  exact point12 m c t y

theorem outs13 (t : Fin cfg0.N) : (outsAt0 m c t).2.2.2.2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point13 (t : Fin cfg0.N) (y : S1x1x2x4x128x1024.Idx) : (outsAt0 m c t).2.2.2.2.2.2.2.1 y = (Proj.blocked 4 (Proj.qryS (argX m c) (argIn m c) 1) : S2x4x4x4x128x1024.Idx → EReal) ((win0_13.blk t).view.emb y) := by
  obtain ⟨j, r, a, l, hy⟩ : ∃ (j : Fin 2) (r : Fin 4) (a : Fin 128) (l : Fin 1024), y = (ix6 0 0 j r a l : S1x1x2x4x128x1024.Idx) := ⟨_, _, _, _, blk4_eta y⟩
  subst hy
  have ht := lt16 t
  have he : (win0_13.blk t).view.emb (ix6 0 0 j r a l : S1x1x2x4x128x1024.Idx) = (ix6 ⟨t.val / 8, by omega⟩ ⟨t.val / 2 % 4, by omega⟩ ⟨t.val % 2 * 2 + j.val, by omega⟩ r a l : S2x4x4x4x128x1024.Idx) := by
    blk_ext [idx t]
  refine Eq.trans ?_ (congrArg (Proj.blocked 4 (Proj.qryS (argX m c) (argIn m c) 1) : S2x4x4x4x128x1024.Idx → EReal) he).symm
  refine Eq.trans ?_ (congrArg ((Proj.qryS (argX m c) (argIn m c) 1) l.val) (row4 t.val j.val a.val r.val))
  refine Eq.trans ?_ (block13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) j r a l)
  rw [outs13]

theorem final13 : (dats m 0 c).arrAt 13 cfg0.N = (Proj.blocked 4 (Proj.qryS (argX m c) (argIn m c) 1) : S2x4x4x4x128x1024.Idx → EReal) := by
  refine (dats m 0 c).arrAt_eq_of_covers 13 _ (by decide +kernel) fun t hf y => ?_
  blk_simp
  rw [after0_13]
  exact point13 m c t y

theorem outs14 (t : Fin cfg0.N) : (outsAt0 m c t).2.2.2.2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point14 (t : Fin cfg0.N) (y : S1x1x1x16x64x1024.Idx) : (outsAt0 m c t).2.2.2.2.2.2.2.2.1 y = (Proj.blocked 16 (Proj.qryS (argX m c) (argIn m c) 2) : S2x4x1x16x128x1024.Idx → EReal) ((win0_14.blk t).view.emb y) := by
  obtain ⟨r, a, l, hy⟩ : ∃ (r : Fin 16) (a : Fin 64) (l : Fin 1024), y = (ix6 0 0 0 r a l : S1x1x1x16x64x1024.Idx) := ⟨_, _, _, blk16_eta y⟩
  subst hy
  have ht := lt16 t
  have he : (win0_14.blk t).view.emb (ix6 0 0 0 r a l : S1x1x1x16x64x1024.Idx) = (ix6 ⟨t.val / 8, by omega⟩ ⟨t.val / 2 % 4, by omega⟩ 0 r ⟨t.val % 2 * 64 + a.val, by omega⟩ l : S2x4x1x16x128x1024.Idx) := by
    blk_ext [idx t]
  refine Eq.trans ?_ (congrArg (Proj.blocked 16 (Proj.qryS (argX m c) (argIn m c) 2) : S2x4x1x16x128x1024.Idx → EReal) he).symm
  refine Eq.trans ?_ (congrArg ((Proj.qryS (argX m c) (argIn m c) 2) l.val) (row16 t.val a.val r.val))
  refine Eq.trans ?_ (block14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) r a l)
  rw [outs14]

theorem final14 : (dats m 0 c).arrAt 14 cfg0.N = (Proj.blocked 16 (Proj.qryS (argX m c) (argIn m c) 2) : S2x4x1x16x128x1024.Idx → EReal) := by
  refine (dats m 0 c).arrAt_eq_of_covers 14 _ (by decide +kernel) fun t hf y => ?_
  blk_simp
  rw [after0_14]
  exact point14 m c t y

theorem outs15 (t : Fin cfg0.N) : (outsAt0 m c t).2.2.2.2.2.2.2.2.2 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) := by
  rw [outsAt0]

theorem point15 (t : Fin cfg0.N) (y : S1024x1024.Idx) : (outsAt0 m c t).2.2.2.2.2.2.2.2.2 y = Proj.byRow (Proj.gateS (argX m c) (argIn m c)) ((win0_15.blk t).view.emb y) := by
  obtain ⟨ρ, l, hy⟩ : ∃ ρ l : Fin 1024, y = (ix2 ρ l : S1024x1024.Idx) := ⟨y 0, y 1, funext fun d => match d with
    | ⟨0, _⟩ => rfl
    | ⟨1, _⟩ => rfl⟩
  subst hy
  have ht := lt16 t
  have he : (win0_15.blk t).view.emb (ix2 ρ l : S1024x1024.Idx) = (ix2 ⟨t.val * 1024 + ρ.val, by omega⟩ l : S16384x1024.Idx) := by
    blk_ext [idx t]
  refine Eq.trans ?_ (congrArg (Proj.byRow (Proj.gateS (argX m c) (argIn m c))) he).symm
  refine Eq.trans ?_ (block15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (reads m c t) ρ l)
  rw [outs15]

theorem final15 : (dats m 0 c).arrAt 15 cfg0.N = Proj.byRow (Proj.gateS (argX m c) (argIn m c)) := by
  refine (dats m 0 c).arrAt_eq_of_covers 15 _ (by decide +kernel) fun t hf y => ?_
  blk_simp
  rw [after0_15]
  exact point15 m c t y

end Cert.Kernel2Ideal.Val
-- ==== Proof.ProjStages.lean ====
module

public import proofs.«01_k».proof.Proof.Gen.Reference2Ideal.Run
public import Idealize.ShloMosaic.Lib.Pointwise

@[expose] public section

set_option maxRecDepth 16384

noncomputable section

/-! The reference's stages, named: the products with the two weights, the rotary angles, the rotary turn, and a group's
heads in units; and that its results are these stages one after the other. -/

namespace Cert.Reference2Ideal.RefVal

open Cert.Reference2Ideal Cert.Reference2Ideal.Gen Idealize.ShloMosaic Idealize.ShloMosaic.TcCoe Idealize.SL.Sem

variable {F : FTy → Type} [FloatOps F]

/-- The tokens' products with the key and value weights, and with the input weights. -/
def dotKv (x : FVec F S2x8192x1024 .f32) (w : FVec F S1024x1536 .f32) : FVec F S2x8192x1536 .f32 :=
  Host.dotGeneral dot_S2x8192x1024_S1024x1536_S2x8192x1536_2_0_01_1_n_n none x w
def dotIn (x : FVec F S2x8192x1024 .f32) (w : FVec F S1024x4096 .f32) : FVec F S2x8192x4096 .f32 :=
  Host.dotGeneral dot_S2x8192x1024_S1024x4096_S2x8192x4096_2_0_01_1_n_n none x w

/-- The angle of each position and lane pair. -/
def ang : FVec F S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.powf (broadcastInDim S64 ![] bcast_S_S64 (constant S_ .f32 0x461C4000#32)) (Host.divf (Host.negf (mulf (sitofp .f32 (iotaInDim S64 32 0))
        (broadcastInDim S64 ![] bcast_S_S64 (constant S_ .f32 0x40000000#32)))) (broadcastInDim S64 ![] bcast_S_S64 (constant S_ .f32 0x43000000#32))))))

/-- The rotary turn of six heads, and of twenty-four. -/
def rope6 (y : FVec F S2x8192x6x128 .f32) : FVec F S2x8192x6x128 .f32 :=
  concatenate S2x8192x6x128 3 [⟨S2x8192x6x64, subf
      (mulf (extractStridedSlice S2x8192x6x64 ![0, 0, 0, 0] y slices_S2x8192x6x128_S2x8192x6x64_0_0_0_0)
        (broadcastInDim S2x8192x6x64 ![0, 1, 2, 3] bcast_S1x8192x1x64_S2x8192x6x64_0_1_2_3 (broadcastInDim S1x8192x1x64 ![1, 3] bcast_S8192x64_S1x8192x1x64_1_3 (Host.cos ang))))
      (mulf (extractStridedSlice S2x8192x6x64 ![0, 0, 0, 64] y slices_S2x8192x6x128_S2x8192x6x64_0_0_0_64)
        (broadcastInDim S2x8192x6x64 ![0, 1, 2, 3] bcast_S1x8192x1x64_S2x8192x6x64_0_1_2_3 (broadcastInDim S1x8192x1x64 ![1, 3] bcast_S8192x64_S1x8192x1x64_1_3 (Host.sin ang))))⟩,
    ⟨S2x8192x6x64, addf
      (mulf (extractStridedSlice S2x8192x6x64 ![0, 0, 0, 64] y slices_S2x8192x6x128_S2x8192x6x64_0_0_0_64)
        (broadcastInDim S2x8192x6x64 ![0, 1, 2, 3] bcast_S1x8192x1x64_S2x8192x6x64_0_1_2_3 (broadcastInDim S1x8192x1x64 ![1, 3] bcast_S8192x64_S1x8192x1x64_1_3 (Host.cos ang))))
      (mulf (extractStridedSlice S2x8192x6x64 ![0, 0, 0, 0] y slices_S2x8192x6x128_S2x8192x6x64_0_0_0_0)
        (broadcastInDim S2x8192x6x64 ![0, 1, 2, 3] bcast_S1x8192x1x64_S2x8192x6x64_0_1_2_3 (broadcastInDim S1x8192x1x64 ![1, 3] bcast_S8192x64_S1x8192x1x64_1_3 (Host.sin ang))))⟩]
    concatenates_S2x8192x6x64_S2x8192x6x64_S2x8192x6x128_d3

def rope24 (y : FVec F S2x8192x24x128 .f32) : FVec F S2x8192x24x128 .f32 :=
  concatenate S2x8192x24x128 3 [⟨S2x8192x24x64, subf
      (mulf (extractStridedSlice S2x8192x24x64 ![0, 0, 0, 0] y slices_S2x8192x24x128_S2x8192x24x64_0_0_0_0)
        (broadcastInDim S2x8192x24x64 ![0, 1, 2, 3] bcast_S1x8192x1x64_S2x8192x24x64_0_1_2_3 (broadcastInDim S1x8192x1x64 ![1, 3] bcast_S8192x64_S1x8192x1x64_1_3 (Host.cos ang))))
      (mulf (extractStridedSlice S2x8192x24x64 ![0, 0, 0, 64] y slices_S2x8192x24x128_S2x8192x24x64_0_0_0_64)
        (broadcastInDim S2x8192x24x64 ![0, 1, 2, 3] bcast_S1x8192x1x64_S2x8192x24x64_0_1_2_3 (broadcastInDim S1x8192x1x64 ![1, 3] bcast_S8192x64_S1x8192x1x64_1_3 (Host.sin ang))))⟩,
    ⟨S2x8192x24x64, addf
      (mulf (extractStridedSlice S2x8192x24x64 ![0, 0, 0, 64] y slices_S2x8192x24x128_S2x8192x24x64_0_0_0_64)
        (broadcastInDim S2x8192x24x64 ![0, 1, 2, 3] bcast_S1x8192x1x64_S2x8192x24x64_0_1_2_3 (broadcastInDim S1x8192x1x64 ![1, 3] bcast_S8192x64_S1x8192x1x64_1_3 (Host.cos ang))))
      (mulf (extractStridedSlice S2x8192x24x64 ![0, 0, 0, 0] y slices_S2x8192x24x128_S2x8192x24x64_0_0_0_0)
        (broadcastInDim S2x8192x24x64 ![0, 1, 2, 3] bcast_S1x8192x1x64_S2x8192x24x64_0_1_2_3 (broadcastInDim S1x8192x1x64 ![1, 3] bcast_S8192x64_S1x8192x1x64_1_3 (Host.sin ang))))⟩]
    concatenates_S2x8192x24x64_S2x8192x24x64_S2x8192x24x128_d3

/-- The keys', values' and queries' heads by group, and the gate. -/
def keyR (y : FVec F S2x8192x1536 .f32) : FVec F S2x8192x3x2x128 .f32 :=
  shapeCast _ (rope6 (shapeCast _ (extractStridedSlice S2x8192x768 ![0, 0, 0] y slices_S2x8192x1536_S2x8192x768_0_0_0) shapeCasts_S2x8192x768_S2x8192x6x128))
    shapeCasts_S2x8192x6x128_S2x8192x3x2x128
def valR (y : FVec F S2x8192x1536 .f32) : FVec F S2x8192x3x2x128 .f32 :=
  shapeCast _ (extractStridedSlice S2x8192x768 ![0, 0, 768] y slices_S2x8192x1536_S2x8192x768_0_0_768) shapeCasts_S2x8192x768_S2x8192x3x2x128
def qryR (y : FVec F S2x8192x4096 .f32) : FVec F S2x8192x3x8x128 .f32 :=
  shapeCast _ (mulf (rope24 (shapeCast _ (extractStridedSlice S2x8192x3072 ![0, 0, 0] y slices_S2x8192x4096_S2x8192x3072_0_0_0) shapeCasts_S2x8192x3072_S2x8192x24x128))
    (broadcastInDim S2x8192x24x128 ![] bcast_S_S2x8192x24x128 (constant S_ .f32 0x3DB504F3#32))) shapeCasts_S2x8192x24x128_S2x8192x3x8x128
def gateR (y : FVec F S2x8192x4096 .f32) : FVec F S16384x1024 .bf16 :=
  truncf .bf16 (shapeCast S16384x1024 (extractStridedSlice S2x8192x1024 ![0, 0, 3072] y slices_S2x8192x4096_S2x8192x1024_0_0_3072) shapeCasts_S2x8192x1024_S16384x1024 : FVec F S16384x1024 .f32) bitsLt_bf16_f32

/-- A group's heads in units of its dilation: two heads, and eight. -/
def tailK0 (y : FVec F S2x8192x3x2x128 .f32) : FVec F S2x4x16x1x128x256 .bf16 :=
  transpose S2x4x16x1x128x256 [0, 1, 2, 4, 3, 5] (shapeCast _ (truncf .bf16 (shapeCast S2x8192x2x128 (extractStridedSlice S2x8192x1x2x128 ![0, 0, 0, 0, 0] y
    slices_S2x8192x3x2x128_S2x8192x1x2x128_0_0_0_0_0) shapeCasts_S2x8192x1x2x128_S2x8192x2x128 : FVec F S2x8192x2x128 .f32) bitsLt_bf16_f32)
    shapeCasts_S2x8192x2x128_S2x4x16x128x1x256) transposes_S2x4x16x128x1x256_S2x4x16x1x128x256_0_1_2_4_3_5

def tailK1 (y : FVec F S2x8192x3x2x128 .f32) : FVec F S2x4x4x4x128x256 .bf16 :=
  transpose S2x4x4x4x128x256 [0, 1, 2, 4, 3, 5] (shapeCast _ (truncf .bf16 (shapeCast S2x8192x2x128 (extractStridedSlice S2x8192x1x2x128 ![0, 0, 1, 0, 0] y
    slices_S2x8192x3x2x128_S2x8192x1x2x128_0_0_1_0_0) shapeCasts_S2x8192x1x2x128_S2x8192x2x128 : FVec F S2x8192x2x128 .f32) bitsLt_bf16_f32)
    shapeCasts_S2x8192x2x128_S2x4x4x128x4x256) transposes_S2x4x4x128x4x256_S2x4x4x4x128x256_0_1_2_4_3_5

def tailK2 (y : FVec F S2x8192x3x2x128 .f32) : FVec F S2x4x1x16x128x256 .bf16 :=
  transpose S2x4x1x16x128x256 [0, 1, 2, 4, 3, 5] (shapeCast _ (truncf .bf16 (shapeCast S2x8192x2x128 (extractStridedSlice S2x8192x1x2x128 ![0, 0, 2, 0, 0] y
    slices_S2x8192x3x2x128_S2x8192x1x2x128_0_0_2_0_0) shapeCasts_S2x8192x1x2x128_S2x8192x2x128 : FVec F S2x8192x2x128 .f32) bitsLt_bf16_f32)
    shapeCasts_S2x8192x2x128_S2x4x1x128x16x256) transposes_S2x4x1x128x16x256_S2x4x1x16x128x256_0_1_2_4_3_5

def tailQ0 (y : FVec F S2x8192x3x8x128 .f32) : FVec F S2x4x16x1x128x1024 .bf16 :=
  transpose S2x4x16x1x128x1024 [0, 1, 2, 4, 3, 5] (shapeCast _ (truncf .bf16 (shapeCast S2x8192x8x128 (extractStridedSlice S2x8192x1x8x128 ![0, 0, 0, 0, 0] y
    slices_S2x8192x3x8x128_S2x8192x1x8x128_0_0_0_0_0) shapeCasts_S2x8192x1x8x128_S2x8192x8x128 : FVec F S2x8192x8x128 .f32) bitsLt_bf16_f32)
    shapeCasts_S2x8192x8x128_S2x4x16x128x1x1024) transposes_S2x4x16x128x1x1024_S2x4x16x1x128x1024_0_1_2_4_3_5

def tailQ1 (y : FVec F S2x8192x3x8x128 .f32) : FVec F S2x4x4x4x128x1024 .bf16 :=
  transpose S2x4x4x4x128x1024 [0, 1, 2, 4, 3, 5] (shapeCast _ (truncf .bf16 (shapeCast S2x8192x8x128 (extractStridedSlice S2x8192x1x8x128 ![0, 0, 1, 0, 0] y
    slices_S2x8192x3x8x128_S2x8192x1x8x128_0_0_1_0_0) shapeCasts_S2x8192x1x8x128_S2x8192x8x128 : FVec F S2x8192x8x128 .f32) bitsLt_bf16_f32)
    shapeCasts_S2x8192x8x128_S2x4x4x128x4x1024) transposes_S2x4x4x128x4x1024_S2x4x4x4x128x1024_0_1_2_4_3_5

def tailQ2 (y : FVec F S2x8192x3x8x128 .f32) : FVec F S2x4x1x16x128x1024 .bf16 :=
  transpose S2x4x1x16x128x1024 [0, 1, 2, 4, 3, 5] (shapeCast _ (truncf .bf16 (shapeCast S2x8192x8x128 (extractStridedSlice S2x8192x1x8x128 ![0, 0, 2, 0, 0] y
    slices_S2x8192x3x8x128_S2x8192x1x8x128_0_0_2_0_0) shapeCasts_S2x8192x1x8x128_S2x8192x8x128 : FVec F S2x8192x8x128 .f32) bitsLt_bf16_f32)
    shapeCasts_S2x8192x8x128_S2x4x1x128x16x1024) transposes_S2x4x1x128x16x1024_S2x4x1x16x128x1024_0_1_2_4_3_5

variable (m : (ℓ : Loc nD τ sig) → Buf (Elt F) ℓ) (c : Dev nD)

theorem res80_eq : Value.res_main_v80 m c = tailK0 (keyR (dotKv (m ((c.tc : Thread nD τ).loc main_arg0)) (m ((c.tc : Thread nD τ).loc main_arg1)))) := rfl
theorem res85_eq : Value.res_main_v85 m c = tailK1 (keyR (dotKv (m ((c.tc : Thread nD τ).loc main_arg0)) (m ((c.tc : Thread nD τ).loc main_arg1)))) := rfl
theorem res90_eq : Value.res_main_v90 m c = tailK2 (keyR (dotKv (m ((c.tc : Thread nD τ).loc main_arg0)) (m ((c.tc : Thread nD τ).loc main_arg1)))) := rfl
theorem res110_eq : Value.res_main_v110 m c = tailQ0 (qryR (dotIn (m ((c.tc : Thread nD τ).loc main_arg0)) (m ((c.tc : Thread nD τ).loc main_arg2)))) := rfl
theorem res115_eq : Value.res_main_v115 m c = tailQ1 (qryR (dotIn (m ((c.tc : Thread nD τ).loc main_arg0)) (m ((c.tc : Thread nD τ).loc main_arg2)))) := rfl
theorem res120_eq : Value.res_main_v120 m c = tailQ2 (qryR (dotIn (m ((c.tc : Thread nD τ).loc main_arg0)) (m ((c.tc : Thread nD τ).loc main_arg2)))) := rfl

end Cert.Reference2Ideal.RefVal
-- ==== Proof.ProjRef.lean ====
module

public import proofs.«01_k».proof.Proof.ProjStages
public import proofs.«01_k».proof.Proof.ProjSpec
public import Idealize.ShloMosaic.Lib.IdealHost
public import Idealize.ShloMosaic.Lib.KernelVsHost

@[expose] public section

set_option maxRecDepth 16384

noncomputable section

/-! The reference's stages at an index, and its results. -/

namespace Cert.Reference2Ideal.RefVal

open Cert.Reference2Ideal Cert.Reference2Ideal.Gen Idealize.ShloMosaic Idealize.ShloMosaic.TcCoe Idealize.SL.Sem Pointwise

variable (b : Fin 2) (p : Fin 8192)

theorem tok_of (x : FVec Ideal S2x8192x1024 .f32) (k : Fin 1024) : Proj.tok x (b.val * 8192 + p.val) k = x (ix3 b p k) :=
  congrArg₂ (fun (u : Fin 2) (v : Fin 8192) => x (ix3 u v k)) (Fin.ext (by dsimp only; omega)) (Fin.ext (by dsimp only; omega))

theorem wcol_of {n : Nat} (hn : 0 < n) (w : (⟨2, ![1024, n]⟩ : Shape).Idx → EReal) (c : Fin n) (k : Fin 1024) : Proj.wcol hn w c.val k = w (ix2 k c) :=
  congrArg (fun u : Fin n => w (ix2 k u)) (Fin.ext (Nat.mod_eq_of_lt c.isLt))

theorem dotKv_apply (x : FVec Ideal S2x8192x1024 .f32) (w : FVec Ideal S1024x1536 .f32) (c : Fin 1536) :
    dotKv x w (ix3 b p c) = Proj.lin (by decide) x w (b.val * 8192 + p.val) c.val := by
  unfold Proj.lin
  simp only [tok_of, wcol_of]
  pointwise [dotKv]

theorem dotIn_apply (x : FVec Ideal S2x8192x1024 .f32) (w : FVec Ideal S1024x4096 .f32) (c : Fin 4096) :
    dotIn x w (ix3 b p c) = Proj.lin (by decide) x w (b.val * 8192 + p.val) c.val := by
  unfold Proj.lin
  simp only [tok_of, wcol_of]
  pointwise [dotIn]

theorem ang_apply (i : Fin 64) : ang (F := Ideal) (ix2 p i) = ((p.val : ℝ) : EReal) * Proj.freq i := by
  pointwise [ang]
  exact congrArg (fun u : EReal => u * Proj.freq i) (Proj.pos_real p.val (by omega))

/-- A turned lane from its two halves. -/
theorem turned_halves (q : Nat) (f : Fin 128 → EReal) (e : Fin 128) :
    (if h : e.val < 64 then f e * Ideal.cos (((q : ℝ) : EReal) * Proj.freq ⟨e.val, h⟩) - f ⟨64 + e.val, by omega⟩ * Ideal.sin (((q : ℝ) : EReal) * Proj.freq ⟨e.val, h⟩)
      else f ⟨64 + (e.val - 64), by omega⟩ * Ideal.cos (((q : ℝ) : EReal) * Proj.freq ⟨e.val - 64, by omega⟩)
        + f ⟨e.val - 64, by omega⟩ * Ideal.sin (((q : ℝ) : EReal) * Proj.freq ⟨e.val - 64, by omega⟩)) = Proj.turned q f e := by
  by_cases h : e.val < 64
  · have hp : Proj.pair e = ⟨e.val, h⟩ := Fin.ext (Nat.mod_eq_of_lt h)
    have hm : Proj.mate e = ⟨64 + e.val, by omega⟩ := Fin.ext (by dsimp only [Proj.mate]; omega)
    rw [dif_pos h, Proj.turned, if_pos h, hp, hm]; rfl
  · have hp : Proj.pair e = ⟨e.val - 64, by omega⟩ := Fin.ext (by dsimp only [Proj.pair]; omega)
    have hm : Proj.mate e = ⟨e.val - 64, by omega⟩ := Fin.ext (by dsimp only [Proj.mate]; omega)
    have he : (⟨64 + (e.val - 64), by omega⟩ : Fin 128) = e := Fin.ext (by dsimp only; omega)
    rw [dif_neg h, Proj.turned, if_neg h, hp, hm, he]; rfl

theorem rope6_apply (y : FVec Ideal S2x8192x6x128 .f32) (h : Fin 6) (e : Fin 128) :
    rope6 y (ix4 b p h e) = Proj.turned p.val (fun e => y (ix4 b p h e)) e := by
  have ha := ang_apply p
  pointwise [rope6]
  simp only [ha]
  exact turned_halves p.val (fun e => y (ix4 b p h e)) e

theorem rope24_apply (y : FVec Ideal S2x8192x24x128 .f32) (h : Fin 24) (e : Fin 128) :
    rope24 y (ix4 b p h e) = Proj.turned p.val (fun e => y (ix4 b p h e)) e := by
  have ha := ang_apply p
  pointwise [rope24]
  simp only [ha]
  exact turned_halves p.val (fun e => y (ix4 b p h e)) e

theorem tailK0_apply (y : FVec Ideal S2x8192x3x2x128 .f32) (n : Fin 4) (j : Fin 16) (r : Fin 1) (a : Fin 128) (l : Fin 256) :
    tailK0 y (ix6 b n j r a l) = y (ix5 b ⟨n.val * 2048 + j.val * (128 * 1) + a.val * 1 + r.val, by omega⟩ 0 ⟨l.val / 128, by omega⟩ ⟨l.val % 128, by omega⟩) := by
  pointwise [tailK0]

theorem tailK1_apply (y : FVec Ideal S2x8192x3x2x128 .f32) (n : Fin 4) (j : Fin 4) (r : Fin 4) (a : Fin 128) (l : Fin 256) :
    tailK1 y (ix6 b n j r a l) = y (ix5 b ⟨n.val * 2048 + j.val * (128 * 4) + a.val * 4 + r.val, by omega⟩ 1 ⟨l.val / 128, by omega⟩ ⟨l.val % 128, by omega⟩) := by
  pointwise [tailK1]

theorem tailK2_apply (y : FVec Ideal S2x8192x3x2x128 .f32) (n : Fin 4) (j : Fin 1) (r : Fin 16) (a : Fin 128) (l : Fin 256) :
    tailK2 y (ix6 b n j r a l) = y (ix5 b ⟨n.val * 2048 + j.val * (128 * 16) + a.val * 16 + r.val, by omega⟩ 2 ⟨l.val / 128, by omega⟩ ⟨l.val % 128, by omega⟩) := by
  pointwise [tailK2]

theorem tailQ0_apply (y : FVec Ideal S2x8192x3x8x128 .f32) (n : Fin 4) (j : Fin 16) (r : Fin 1) (a : Fin 128) (l : Fin 1024) :
    tailQ0 y (ix6 b n j r a l) = y (ix5 b ⟨n.val * 2048 + j.val * (128 * 1) + a.val * 1 + r.val, by omega⟩ 0 ⟨l.val / 128, by omega⟩ ⟨l.val % 128, by omega⟩) := by
  pointwise [tailQ0]

theorem tailQ1_apply (y : FVec Ideal S2x8192x3x8x128 .f32) (n : Fin 4) (j : Fin 4) (r : Fin 4) (a : Fin 128) (l : Fin 1024) :
    tailQ1 y (ix6 b n j r a l) = y (ix5 b ⟨n.val * 2048 + j.val * (128 * 4) + a.val * 4 + r.val, by omega⟩ 1 ⟨l.val / 128, by omega⟩ ⟨l.val % 128, by omega⟩) := by
  pointwise [tailQ1]

theorem tailQ2_apply (y : FVec Ideal S2x8192x3x8x128 .f32) (n : Fin 4) (j : Fin 1) (r : Fin 16) (a : Fin 128) (l : Fin 1024) :
    tailQ2 y (ix6 b n j r a l) = y (ix5 b ⟨n.val * 2048 + j.val * (128 * 16) + a.val * 16 + r.val, by omega⟩ 2 ⟨l.val / 128, by omega⟩ ⟨l.val % 128, by omega⟩) := by
  pointwise [tailQ2]

theorem keyH_apply (y : FVec Ideal S2x8192x1536 .f32) (h : Fin 6) (e : Fin 128) :
    (shapeCast S2x8192x6x128 (extractStridedSlice S2x8192x768 ![0, 0, 0] y slices_S2x8192x1536_S2x8192x768_0_0_0) shapeCasts_S2x8192x768_S2x8192x6x128 : FVec Ideal _ .f32) (ix4 b p h e)
      = y (ix3 b p ⟨h.val * 128 + e.val, by omega⟩) := by
  pointwise

theorem qryH_apply (y : FVec Ideal S2x8192x4096 .f32) (h : Fin 24) (e : Fin 128) :
    (shapeCast S2x8192x24x128 (extractStridedSlice S2x8192x3072 ![0, 0, 0] y slices_S2x8192x4096_S2x8192x3072_0_0_0) shapeCasts_S2x8192x3072_S2x8192x24x128 : FVec Ideal _ .f32) (ix4 b p h e)
      = y (ix3 b p ⟨h.val * 128 + e.val, by omega⟩) := by
  pointwise

variable (x : FVec Ideal S2x8192x1024 .f32) (wkv : FVec Ideal S1024x1536 .f32) (win : FVec Ideal S1024x4096 .f32)

theorem valR_apply (g : Fin 3) (h : Fin 2) (e : Fin 128) (l : Nat) (hl : l = h.val * 128 + e.val) :
    valR (dotKv x wkv) (ix5 b p g h e) = Proj.valS x wkv g.val l (b.val * 8192 + p.val) := by
  have hd := dotKv_apply b p x wkv
  pointwise [valR]
  rw [hd]
  exact congrArg (Proj.lin (by decide) x wkv _) (by dsimp only; omega)

theorem keyR_apply (g : Fin 3) (h : Fin 2) (e : Fin 128) (l : Nat) (hl : l = h.val * 128 + e.val) :
    keyR (dotKv x wkv) (ix5 b p g h e) = Proj.keyS x wkv g.val l (b.val * 8192 + p.val) := by
  pointwise [keyR]
  rw [rope6_apply]
  unfold Proj.keyS
  refine (congrArg₂ (fun (f : Fin 128 → EReal) (q : Nat) => Proj.turned q f e) (funext fun e' => ?_) (?_ : p.val = (b.val * 8192 + p.val) % 8192)).trans
    (congrArg (Proj.turned _ _) (Fin.ext (by dsimp only; omega)))
  · exact (keyH_apply b p _ _ e').trans ((dotKv_apply b p x wkv _).trans (congrArg (Proj.lin (by decide) x wkv _) (by dsimp only; omega)))
  · omega

theorem qryR_apply (g : Fin 3) (h : Fin 8) (e : Fin 128) (l : Nat) (hl : l = h.val * 128 + e.val) :
    qryR (dotIn x win) (ix5 b p g h e) = Proj.qryS x win g.val l (b.val * 8192 + p.val) := by
  pointwise [qryR]
  rw [rope24_apply]
  unfold Proj.qryS
  refine congrArg (fun u : EReal => u * Proj.scale) ?_
  refine (congrArg₂ (fun (f : Fin 128 → EReal) (q : Nat) => Proj.turned q f e) (funext fun e' => ?_) (?_ : p.val = (b.val * 8192 + p.val) % 8192)).trans
    (congrArg (Proj.turned _ _) (Fin.ext (by dsimp only; omega)))
  · exact (qryH_apply b p _ _ e').trans ((dotIn_apply b p x win _).trans (congrArg (Proj.lin (by decide) x win _) (by dsimp only; omega)))
  · omega

theorem gateR_eq : gateR (dotIn x win) = Proj.byRow (Proj.gateS x win) := by
  funext i
  obtain ⟨R, l, hi⟩ : ∃ (R : Fin 16384) (l : Fin 1024), i = (ix2 R l : S16384x1024.Idx) := ⟨i 0, i 1, funext fun d => match d with
    | ⟨0, _⟩ => rfl
    | ⟨1, _⟩ => rfl⟩
  subst hi
  have hd := fun b p => dotIn_apply b p x win
  pointwise [gateR]
  rw [hd]
  exact congrArg (fun q => Proj.lin (by decide) x win q (3072 + l.val)) (by omega : R.val / 8192 * 8192 + R.val % 8192 = R.val)

theorem eta_blocked {J D W : Nat} (i : (⟨6, ![2, 4, J, D, 128, W]⟩ : Shape).Idx) :
    i = ix6 (i 0 : Fin 2) (i 1 : Fin 4) (i 2 : Fin J) (i 3 : Fin D) (i 4 : Fin 128) (i 5 : Fin W) := by
  funext d
  match d with
  | ⟨0, _⟩ => rfl
  | ⟨1, _⟩ => rfl
  | ⟨2, _⟩ => rfl
  | ⟨3, _⟩ => rfl
  | ⟨4, _⟩ => rfl
  | ⟨5, _⟩ => rfl

/-- An array is blocked when it is so at every index written out. -/
theorem blocked_ext {J D W : Nat} (d : Nat) (f : Nat → Nat → EReal) (y : (⟨6, ![2, 4, J, D, 128, W]⟩ : Shape).Idx → EReal)
    (h : ∀ (b : Fin 2) (n : Fin 4) (j : Fin J) (r : Fin D) (a : Fin 128) (l : Fin W),
      y (ix6 b n j r a l) = f l.val (b.val * 8192 + (n.val * 2048 + j.val * (128 * d) + a.val * d + r.val))) : y = Proj.blocked d f := by
  funext i
  obtain ⟨b, n, j, r, a, l, hi⟩ : ∃ (b : Fin 2) (n : Fin 4) (j : Fin J) (r : Fin D) (a : Fin 128) (l : Fin W), i = ix6 b n j r a l :=
    ⟨_, _, _, _, _, _, eta_blocked i⟩
  subst hi
  exact (h b n j r a l).trans (congrArg (f l.val) (by simp only [Proj.rowOf, Nat.add_assoc] :
    b.val * 8192 + (n.val * 2048 + j.val * (128 * d) + a.val * d + r.val) = Proj.rowOf d b.val n.val j.val r.val a.val))

theorem refK0 : tailK0 (keyR (dotKv x wkv)) = Proj.blocked 1 (Proj.keyS x wkv 0) :=
  blocked_ext _ _ _ fun b n j r a l => (tailK0_apply b _ n j r a l).trans (keyR_apply b _ x wkv 0 _ _ l.val (by dsimp only; omega))

theorem refK1 : tailK1 (keyR (dotKv x wkv)) = Proj.blocked 4 (Proj.keyS x wkv 1) :=
  blocked_ext _ _ _ fun b n j r a l => (tailK1_apply b _ n j r a l).trans (keyR_apply b _ x wkv 1 _ _ l.val (by dsimp only; omega))

theorem refK2 : tailK2 (keyR (dotKv x wkv)) = Proj.blocked 16 (Proj.keyS x wkv 2) :=
  blocked_ext _ _ _ fun b n j r a l => (tailK2_apply b _ n j r a l).trans (keyR_apply b _ x wkv 2 _ _ l.val (by dsimp only; omega))

theorem refV0 : tailK0 (valR (dotKv x wkv)) = Proj.blocked 1 (Proj.valS x wkv 0) :=
  blocked_ext _ _ _ fun b n j r a l => (tailK0_apply b _ n j r a l).trans (valR_apply b _ x wkv 0 _ _ l.val (by dsimp only; omega))

theorem refV1 : tailK1 (valR (dotKv x wkv)) = Proj.blocked 4 (Proj.valS x wkv 1) :=
  blocked_ext _ _ _ fun b n j r a l => (tailK1_apply b _ n j r a l).trans (valR_apply b _ x wkv 1 _ _ l.val (by dsimp only; omega))

theorem refV2 : tailK2 (valR (dotKv x wkv)) = Proj.blocked 16 (Proj.valS x wkv 2) :=
  blocked_ext _ _ _ fun b n j r a l => (tailK2_apply b _ n j r a l).trans (valR_apply b _ x wkv 2 _ _ l.val (by dsimp only; omega))

theorem refQ0 : tailQ0 (qryR (dotIn x win)) = Proj.blocked 1 (Proj.qryS x win 0) :=
  blocked_ext _ _ _ fun b n j r a l => (tailQ0_apply b _ n j r a l).trans (qryR_apply b _ x win 0 _ _ l.val (by dsimp only; omega))

theorem refQ1 : tailQ1 (qryR (dotIn x win)) = Proj.blocked 4 (Proj.qryS x win 1) :=
  blocked_ext _ _ _ fun b n j r a l => (tailQ1_apply b _ n j r a l).trans (qryR_apply b _ x win 1 _ _ l.val (by dsimp only; omega))

theorem refQ2 : tailQ2 (qryR (dotIn x win)) = Proj.blocked 16 (Proj.qryS x win 2) :=
  blocked_ext _ _ _ fun b n j r a l => (tailQ2_apply b _ n j r a l).trans (qryR_apply b _ x win 2 _ _ l.val (by dsimp only; omega))

end Cert.Reference2Ideal.RefVal
-- ==== Proof.ProjAlgebra.lean ====
module

public import proofs.«01_k».proof.Proof.ProjFinal
public import proofs.«01_k».proof.Proof.ProjRef
public import proofs.«01_k».proof.Defs

@[expose] public section

set_option maxRecDepth 16384

noncomputable section

/-! The projection call and its reference end with the same arrays. -/

namespace Cert.ProofProj

open Idealize.ShloMosaic Idealize.SL.Sem Cert.Kernel2Ideal.Val Cert.Reference2Ideal.RefVal

variable (m : (ℓ : Loc Cert.Kernel2Ideal.nD Cert.Kernel2Ideal.τ Cert.Kernel2Ideal.sig) → Buf (Elt Ideal) ℓ) (c : Dev Cert.Kernel2Ideal.nD)
  (x : FVec Ideal Cert.Reference2Ideal.S2x8192x1024 .f32)
  (wkv : FVec Ideal Cert.Reference2Ideal.S1024x1536 .f32) (win : FVec Ideal Cert.Reference2Ideal.S1024x4096 .f32)

section Kv

variable (h0 : x = argX m c) (h1 : wkv = argKv m c)

include h0 h1

theorem sameK0 : tailK0 (keyR (dotKv x wkv)) = Proj.blocked 1 (Proj.keyS (argX m c) (argKv m c) 0) := by
  subst h0 h1; exact refK0 _ _

theorem sameK1 : tailK1 (keyR (dotKv x wkv)) = Proj.blocked 4 (Proj.keyS (argX m c) (argKv m c) 1) := by
  subst h0 h1; exact refK1 _ _

theorem sameK2 : tailK2 (keyR (dotKv x wkv)) = Proj.blocked 16 (Proj.keyS (argX m c) (argKv m c) 2) := by
  subst h0 h1; exact refK2 _ _

theorem sameV0 : tailK0 (valR (dotKv x wkv)) = Proj.blocked 1 (Proj.valS (argX m c) (argKv m c) 0) := by
  subst h0 h1; exact refV0 _ _

theorem sameV1 : tailK1 (valR (dotKv x wkv)) = Proj.blocked 4 (Proj.valS (argX m c) (argKv m c) 1) := by
  subst h0 h1; exact refV1 _ _

theorem sameV2 : tailK2 (valR (dotKv x wkv)) = Proj.blocked 16 (Proj.valS (argX m c) (argKv m c) 2) := by
  subst h0 h1; exact refV2 _ _

end Kv

section In

variable (h0 : x = argX m c) (h1 : win = argIn m c)

include h0 h1

theorem sameQ0 : tailQ0 (qryR (dotIn x win)) = Proj.blocked 1 (Proj.qryS (argX m c) (argIn m c) 0) := by
  subst h0 h1; exact refQ0 _ _

theorem sameQ1 : tailQ1 (qryR (dotIn x win)) = Proj.blocked 4 (Proj.qryS (argX m c) (argIn m c) 1) := by
  subst h0 h1; exact refQ1 _ _

theorem sameQ2 : tailQ2 (qryR (dotIn x win)) = Proj.blocked 16 (Proj.qryS (argX m c) (argIn m c) 2) := by
  subst h0 h1; exact refQ2 _ _

theorem sameG : gateR (dotIn x win) = Proj.byRow (Proj.gateS (argX m c) (argIn m c)) := by
  subst h0 h1; exact gateR_eq _ _

end In

end Cert.ProofProj
-- ==== Proof.MergePieces.lean ====
module

public import proofs.«01_k».proof.Proof.Gen.Kernel3Ideal.Frame

@[expose] public section

set_option maxRecDepth 16384

noncomputable section

/-! The one store a grid point of the merge makes. The statistics and the attention of the dilations 4 and 16 are first
brought into token order by strided stores in scratch. -/

namespace Cert.Kernel3Ideal.Val
open Cert.Kernel3Ideal Cert.Kernel3Ideal.Gen Idealize.ShloMosaic Idealize.ShloMosaic.TcCoe Idealize.SL.Sem Idealize.ShloMosaic.Tactic

variable {F : FTy → Type} [FloatOps F]

/-- What a grid point loads: the statistics, the attention, the gate, the hidden state, the weights, the norm's scale and shift. -/
structure Src (F : FTy → Type) [FloatOps F] where
  s1 : Vec F S1x1x8x1x128x128 .f32
  s4 : Fin 2 → Fin 4 → Vec F S1x1x1x1x128x128 .f32
  s16 : Fin 16 → Vec F S1x1x1x1x64x128 .f32
  o1 : Vec F S1x1x8x1x128x1024 .bf16
  o4 : Fin 2 → Fin 4 → Fin 8 → Vec F S1x1x1x1x128x128 .bf16
  o16 : Fin 16 → Fin 8 → Vec F S1x1x1x1x64x128 .bf16
  g : Vec F S1024x1024 .bf16
  x : Vec F S1024x1024 .f32
  w : Vec F S1024x1024 .bf16
  gm : Vec F S1x1024 .f32
  bt : Vec F S1x1024 .f32

/-- Stores made after those of `L`, the last first. -/
def hist {s : Shape} {e : EltTy} (p : Nat → View.Piece (Elt F) s e) (L : List (View.Piece (Elt F) s e)) : Nat → List (View.Piece (Elt F) s e)
  | 0 => L
  | n + 1 => p n :: hist p L n

/-- The strided rows a store fills. -/
def rows4 {N : Nat} (k : Fin N) (j : Fin 2) (r : Fin 4) : Rect (⟨3, ![N, 1024, 128]⟩ : Shape) where
  off := ![k.val, j.val * 512 + r.val, 0]
  size := S1x128x128.size
  stride := ![1, 4, 1]
  inb a := Or.inr (by
    match a with
    | ⟨0, _⟩ => exact (Nat.add_zero k.val).symm ▸ k.isLt
    | ⟨1, _⟩ => show j.val * 512 + r.val + 4 * (128 - 1) < 1024; omega
    | ⟨2, _⟩ => exact (by decide : 0 + 1 * (128 - 1) < 128))
  stride_pos a := (by decide : ∀ a : Fin 3, 0 < (![1, 4, 1] : Fin 3 → Nat) a) a
def rows16 {N : Nat} (k : Fin N) (r : Fin 16) : Rect (⟨3, ![N, 1024, 128]⟩ : Shape) where
  off := ![k.val, r.val, 0]
  size := S1x64x128.size
  stride := ![1, 16, 1]
  inb a := Or.inr (by
    match a with
    | ⟨0, _⟩ => exact (Nat.add_zero k.val).symm ▸ k.isLt
    | ⟨1, _⟩ => show r.val + 16 * (64 - 1) < 1024; omega
    | ⟨2, _⟩ => exact (by decide : 0 + 1 * (128 - 1) < 128))
  stride_pos a := (by decide : ∀ a : Fin 3, 0 < (![1, 16, 1] : Fin 3 → Nat) a) a

/-- What the stores hold. -/
def sv4 (y : Vec F S1x1x1x1x128x128 .f32) : Vec F S1x128x128 .f32 :=
  shapeCast S1x128x128 (shapeCast S128x128 y shapeCasts_S1x1x1x1x128x128_S128x128) shapeCasts_S128x128_S1x128x128
def sv16 (y : Vec F S1x1x1x1x64x128 .f32) : Vec F S1x64x128 .f32 :=
  shapeCast S1x64x128 (shapeCast S64x128 y shapeCasts_S1x1x1x1x64x128_S64x128) shapeCasts_S64x128_S1x64x128
def ov4 (y : Vec F S1x1x1x1x128x128 .bf16) : Vec F S1x128x128 .f32 :=
  shapeCast S1x128x128 (extf .f32 (shapeCast S128x128 y shapeCasts_S1x1x1x1x128x128_S128x128 : FVec F S128x128 .bf16) bitsLt_bf16_f32 : FVec F S128x128 .f32) shapeCasts_S128x128_S1x128x128
def ov16 (y : Vec F S1x1x1x1x64x128 .bf16) : Vec F S1x64x128 .f32 :=
  shapeCast S1x64x128 (extf .f32 (shapeCast S64x128 y shapeCasts_S1x1x1x1x64x128_S64x128 : FVec F S64x128 .bf16) bitsLt_bf16_f32 : FVec F S64x128 .f32) shapeCasts_S64x128_S1x64x128

/-- The statistics' slab of a dilation. -/
abbrev slab (k : Fin 3) : Rect S3x1024x128 :=
  Rect.unit ![k.val, 0, 0] S1x1024x128.size ((by decide : ∀ (k : Fin 3) a, (![k.val, 0, 0] : Fin 3 → Nat) a + S1x1024x128.size a ≤ S3x1024x128.size a) k)

def ps4 (S : Src F) (n : Nat) : View.Piece (Elt F) S3x1024x128 .f32 :=
  ⟨(slab 1).within (rows4 (N := 1) 0 ⟨n / 4 % 2, Nat.mod_lt _ (by decide)⟩ ⟨n % 4, Nat.mod_lt _ (by decide)⟩) (fun _ => rfl),
    sv4 (S.s4 ⟨n / 4 % 2, Nat.mod_lt _ (by decide)⟩ ⟨n % 4, Nat.mod_lt _ (by decide)⟩)⟩
def ps16 (S : Src F) (n : Nat) : View.Piece (Elt F) S3x1024x128 .f32 :=
  ⟨(slab 2).within (rows16 (N := 1) 0 ⟨n % 16, Nat.mod_lt _ (by decide)⟩) (fun _ => rfl), sv16 (S.s16 ⟨n % 16, Nat.mod_lt _ (by decide)⟩)⟩
def po4 (S : Src F) (n : Nat) : View.Piece (Elt F) S8x1024x128 .f32 :=
  ⟨rows4 (N := 8) ⟨n % 8, Nat.mod_lt _ (by decide)⟩ ⟨n / 32 % 2, Nat.mod_lt _ (by decide)⟩ ⟨n / 8 % 4, Nat.mod_lt _ (by decide)⟩,
    ov4 (S.o4 ⟨n / 32 % 2, Nat.mod_lt _ (by decide)⟩ ⟨n / 8 % 4, Nat.mod_lt _ (by decide)⟩ ⟨n % 8, Nat.mod_lt _ (by decide)⟩)⟩
def po16 (S : Src F) (n : Nat) : View.Piece (Elt F) S8x1024x128 .f32 :=
  ⟨rows16 (N := 8) ⟨n % 8, Nat.mod_lt _ (by decide)⟩ ⟨n / 8 % 16, Nat.mod_lt _ (by decide)⟩,
    ov16 (S.o16 ⟨n / 8 % 16, Nat.mod_lt _ (by decide)⟩ ⟨n % 8, Nat.mod_lt _ (by decide)⟩)⟩

/-- The slabs read back. -/
def ls4 (S : Src F) (v : Memref sig .tc .vmem S3x1024x128 .f32) : Vec F S1x1024x128 .f32 :=
  v.view.readCov (hist (ps4 S) [] 8) ((slab 1).withinL (Rect.unit (s := S1x1024x128) ![0, 0, 0] S1x1024x128.size (by decide)).toLoadRect (fun _ => rfl))
def ls16 (S : Src F) (v : Memref sig .tc .vmem S3x1024x128 .f32) : Vec F S1x1024x128 .f32 :=
  v.view.readCov (hist (ps16 S) (hist (ps4 S) [] 8) 16) ((slab 2).withinL (Rect.unit (s := S1x1024x128) ![0, 0, 0] S1x1024x128.size (by decide)).toLoadRect (fun _ => rfl))
def lo4 (S : Src F) (v : Memref sig .tc .vmem S8x1024x128 .f32) (k : Fin 8) : Vec F S1x1024x128 .f32 :=
  v.view.readCov (hist (po4 S) [] 64)
    (Rect.unit (s := S8x1024x128) ![k.val, 0, 0] S1x1024x128.size ((by decide : ∀ (k : Fin 8) a, (![k.val, 0, 0] : Fin 3 → Nat) a + S1x1024x128.size a ≤ S8x1024x128.size a) k)).toLoadRect
def lo16 (S : Src F) (v : Memref sig .tc .vmem S8x1024x128 .f32) (k : Fin 8) : Vec F S1x1024x128 .f32 :=
  v.view.readCov (hist (po16 S) (hist (po4 S) [] 64) 128)
    (Rect.unit (s := S8x1024x128) ![k.val, 0, 0] S1x1024x128.size ((by decide : ∀ (k : Fin 8) a, (![k.val, 0, 0] : Fin 3 → Nat) a + S1x1024x128.size a ≤ S8x1024x128.size a) k)).toLoadRect

/-- A slab as rows of 128 lanes, and eight slabs side by side. -/
def flat (y : Vec F S1x1024x128 .f32) : FVec F S1024x128 .f32 := shapeCast S1024x128 y shapeCasts_S1x1024x128_S1024x128
def wide {e : FTy} (y : Fin 8 → FVec F S1024x128 e) : FVec F S1024x1024 e :=
  concatenate S1024x1024 1 [⟨S1024x128, y 0⟩, ⟨S1024x128, y 1⟩, ⟨S1024x128, y 2⟩, ⟨S1024x128, y 3⟩, ⟨S1024x128, y 4⟩, ⟨S1024x128, y 5⟩, ⟨S1024x128, y 6⟩, ⟨S1024x128, y 7⟩]
    concatenates_S1024x128_S1024x128_S1024x128_S1024x128_S1024x128_S1024x128_S1024x128_S1024x128_S1024x1024_d1

/-- The lanes that hold row maxima, and the matrix that copies each head's first of them to its 128 lanes. -/
def maxMask : IVec S1024x128 1 := k0_pay40 k0_pay39
def spread : FVec F S128x1024 .bf16 := k0_pay43 (iota .tc S128x1024 32 [0] iota_S128x1024_d0_w32) k0_pay41 k0_pay42

/-- The numerators' weights `e` over the sum of the row sums, at every lane of a head. -/
def weight (e inv : FVec F S1024x128 .f32) : FVec F S1024x1024 .bf16 := k0_pay122 e inv maxMask spread

/-- The attention of dilation 1 as rows. -/
def flat1 (y : Vec F S1x1x8x1x128x1024 .bf16) : FVec F S1024x1024 .bf16 :=
  shapeCast S1024x1024 (shapeCast S8x1x128x1024 y shapeCasts_S1x1x8x1x128x1024_S8x1x128x1024 : FVec F S8x1x128x1024 .bf16) shapeCasts_S8x1x128x1024_S1024x1024
def part (y : FVec F S1024x1024 .bf16) (k : Fin 8) : FVec F S1024x128 .bf16 :=
  extractStridedSlice S1024x128 ![0, 128 * k.val] y ((by decide : ∀ k : Fin 8, S1024x1024.Slices ![0, 128 * k.val] S1024x128) k)

/-- The three statistics as rows. -/
def st (S : Src F) (v : Memref sig .tc .vmem S3x1024x128 .f32) (d : Fin 3) : FVec F S1024x128 .f32 :=
  match d with
  | ⟨0, _⟩ => k0_pay2 S.s1
  | ⟨1, _⟩ => flat (ls4 S v)
  | ⟨2, _⟩ => flat (ls16 S v)

/-- The merge of the three attentions. -/
def num (t : Fin 3 → FVec F S1024x128 .f32) (d : Fin 3) : FVec F S1024x128 .f32 := exp (subf (t d) (maximumf (maximumf (t 0) (t 1)) (t 2)))
def roll (y : FVec F S1024x128 .f32) : FVec F S1024x128 .f32 := dynamicRotate 1 120#32 none y rotates_S1024x128_d1
def inv (t : Fin 3 → FVec F S1024x128 .f32) : FVec F S1024x128 .f32 :=
  divf (broadcast S1024x128 (Scalar.ofBits .f32 0x3F800000#32))
    (addf (addf (mulf (num t 0) (roll (t 0))) (mulf (num t 1) (roll (t 1)))) (mulf (num t 2) (roll (t 2))))
def merged (t : Fin 3 → FVec F S1024x128 .f32) (o1 o4 o16 : FVec F S1024x1024 .bf16) : FVec F S1024x1024 .bf16 :=
  addf (addf (mulf (weight (num t 0) (inv t)) o1) (mulf (weight (num t 1) (inv t)) o4)) (mulf (weight (num t 2) (inv t)) o16)

/-- The gate, and the projection of the gated merge added to the scaled hidden state. -/
def gated (y g : FVec F S1024x1024 .bf16) : FVec F S1024x1024 .bf16 :=
  mulf y (mulf g (addf (broadcast S1024x1024 (Scalar.ofBits .bf16 0x3F00#16))
    (mulf (broadcast S1024x1024 (Scalar.ofBits .bf16 0x3F00#16)) (tanh (mulf (broadcast S1024x1024 (Scalar.ofBits .bf16 0x3F00#16)) g)))))
def projected (y w : FVec F S1024x1024 .bf16) : FVec F S1024x1024 .f32 :=
  matmul dot_S1024x1024_S1024x1024_S1024x1024_1_0_0_1_n_n none y w (constant S1024x1024 .f32 0x00000000#32)

/-- The block a grid point stores. -/
def block (S : Src F) (v : Memref sig .tc .vmem S3x1024x128 .f32) (v' : Memref sig .tc .vmem S8x1024x128 .f32) : FVec F S1024x1024 .f32 :=
  k0_pay1 (projected (gated (merged (st S v) (wide (part (flat1 S.o1))) (truncf .bf16 (wide fun k => flat (lo4 S v' k)) bitsLt_bf16_f32)
      (truncf .bf16 (wide fun k => flat (lo16 S v' k)) bitsLt_bf16_f32)) S.g) S.w)
    (k0_pay271 S.x) S.gm S.bt

/-- The loads of a grid point. -/
def srcOf (arg3 : Memref sig .tc .vmem S1x1x8x1x128x1024 .bf16) (harg3 : arg3.IsWhole) (arg4 : Memref sig .tc .vmem S1x1x2x4x128x1024 .bf16) (harg4 : arg4.IsWhole)
    (arg5 : Memref sig .tc .vmem S1x1x1x16x64x1024 .bf16) (harg5 : arg5.IsWhole) (arg6 : Memref sig .tc .vmem S1x1x8x1x128x128 .f32) (harg6 : arg6.IsWhole)
    (arg7 : Memref sig .tc .vmem S1x1x2x4x128x128 .f32) (harg7 : arg7.IsWhole) (arg8 : Memref sig .tc .vmem S1x1x1x16x64x128 .f32) (harg8 : arg8.IsWhole)
    (arg9 : Memref sig .tc .vmem S1024x1024 .bf16) (harg9 : arg9.IsWhole) (arg10 : Memref sig .tc .vmem S1024x1024 .f32) (harg10 : arg10.IsWhole)
    (arg11 : Memref sig .tc .vmem S1024x1024 .bf16) (harg11 : arg11.IsWhole) (arg12 : Memref sig .tc .vmem S2x1024 .f32) (harg12 : arg12.IsWhole)
    (arg13 : Memref sig .tc .vmem S2x1024 .f32) (harg13 : arg13.IsWhole)
    (x0 : Vec F S1x1x8x1x128x1024 .bf16) (x1 : Vec F S1x1x2x4x128x1024 .bf16) (x2 : Vec F S1x1x1x16x64x1024 .bf16)
    (x3 : Vec F S1x1x8x1x128x128 .f32) (x4 : Vec F S1x1x2x4x128x128 .f32) (x5 : Vec F S1x1x1x16x64x128 .f32)
    (x6 : Vec F S1024x1024 .bf16) (x7 : Vec F S1024x1024 .f32) (x8 : Vec F S1024x1024 .bf16) (x9 x10 : Vec F S2x1024 .f32) : Src F where
  s1 := View.readAt (Elt F) arg6.view (Rect.unit ![0, 0, 0, 0, 0, 0] S1x1x8x1x128x128.size (by decide)).toLoadRect (harg6.unread x3)
  s4 j r := View.readAt (Elt F) arg7.view (Rect.unit (s := S1x1x2x4x128x128) ![0, 0, j.val, r.val, 0, 0] S1x1x1x1x128x128.size
    ((by decide : ∀ (j : Fin 2) (r : Fin 4) a, (![0, 0, j.val, r.val, 0, 0] : Fin 6 → Nat) a + S1x1x1x1x128x128.size a ≤ S1x1x2x4x128x128.size a) j r)).toLoadRect (harg7.unread x4)
  s16 r := View.readAt (Elt F) arg8.view (Rect.unit (s := S1x1x1x16x64x128) ![0, 0, 0, r.val, 0, 0] S1x1x1x1x64x128.size
    ((by decide : ∀ (r : Fin 16) a, (![0, 0, 0, r.val, 0, 0] : Fin 6 → Nat) a + S1x1x1x1x64x128.size a ≤ S1x1x1x16x64x128.size a) r)).toLoadRect (harg8.unread x5)
  o1 := View.readAt (Elt F) arg3.view (Rect.unit ![0, 0, 0, 0, 0, 0] S1x1x8x1x128x1024.size (by decide)).toLoadRect (harg3.unread x0)
  o4 j r k := View.readAt (Elt F) arg4.view (Rect.unit (s := S1x1x2x4x128x1024) ![0, 0, j.val, r.val, 0, 128 * k.val] S1x1x1x1x128x128.size
    ((by decide +kernel : ∀ (j : Fin 2) (r : Fin 4) (k : Fin 8) a, (![0, 0, j.val, r.val, 0, 128 * k.val] : Fin 6 → Nat) a + S1x1x1x1x128x128.size a ≤ S1x1x2x4x128x1024.size a) j r k)).toLoadRect (harg4.unread x1)
  o16 r k := View.readAt (Elt F) arg5.view (Rect.unit (s := S1x1x1x16x64x1024) ![0, 0, 0, r.val, 0, 128 * k.val] S1x1x1x1x64x128.size
    ((by decide +kernel : ∀ (r : Fin 16) (k : Fin 8) a, (![0, 0, 0, r.val, 0, 128 * k.val] : Fin 6 → Nat) a + S1x1x1x1x64x128.size a ≤ S1x1x1x16x64x1024.size a) r k)).toLoadRect (harg5.unread x2)
  g := View.readAt (Elt F) arg9.view (Rect.unit ![0, 0] S1024x1024.size (by decide)).toLoadRect (harg9.unread x6)
  x := View.readAt (Elt F) arg10.view (Rect.unit ![0, 0] S1024x1024.size (by decide)).toLoadRect (harg10.unread x7)
  w := View.readAt (Elt F) arg11.view (Rect.unit ![0, 0] S1024x1024.size (by decide)).toLoadRect (harg11.unread x8)
  gm := View.readAt (Elt F) arg12.view (Rect.unit (s := S2x1024) ![1, 0] S1x1024.size (by decide)).toLoadRect (harg12.unread x9)
  bt := View.readAt (Elt F) arg13.view (Rect.unit (s := S2x1024) ![1, 0] S1x1024.size (by decide)).toLoadRect (harg13.unread x10)

section Pieces

variable (c : Dev nD) (i : grid0.Coords) (arg3 : Memref sig .tc .vmem S1x1x8x1x128x1024 .bf16) (harg3 : arg3.IsWhole) (arg4 : Memref sig .tc .vmem S1x1x2x4x128x1024 .bf16) (harg4 : arg4.IsWhole)
    (arg5 : Memref sig .tc .vmem S1x1x1x16x64x1024 .bf16) (harg5 : arg5.IsWhole) (arg6 : Memref sig .tc .vmem S1x1x8x1x128x128 .f32) (harg6 : arg6.IsWhole)
    (arg7 : Memref sig .tc .vmem S1x1x2x4x128x128 .f32) (harg7 : arg7.IsWhole) (arg8 : Memref sig .tc .vmem S1x1x1x16x64x128 .f32) (harg8 : arg8.IsWhole)
    (arg9 : Memref sig .tc .vmem S1024x1024 .bf16) (harg9 : arg9.IsWhole) (arg10 : Memref sig .tc .vmem S1024x1024 .f32) (harg10 : arg10.IsWhole)
    (arg11 : Memref sig .tc .vmem S1024x1024 .bf16) (harg11 : arg11.IsWhole) (arg12 : Memref sig .tc .vmem S2x1024 .f32) (harg12 : arg12.IsWhole)
    (arg13 : Memref sig .tc .vmem S2x1024 .f32) (harg13 : arg13.IsWhole) (arg14 : Memref sig .tc .vmem S1024x1024 .f32) (harg14 : arg14.IsWhole)
    (arg15 : Memref sig .tc .vmem S3x1024x128 .f32) (harg15 : arg15.IsWhole) (arg16 : Memref sig .tc .vmem S8x1024x128 .f32) (harg16 : arg16.IsWhole)
    (x0 : Vec F S1x1x8x1x128x1024 .bf16) (x1 : Vec F S1x1x2x4x128x1024 .bf16) (x2 : Vec F S1x1x1x16x64x1024 .bf16)
    (x3 : Vec F S1x1x8x1x128x128 .f32) (x4 : Vec F S1x1x2x4x128x128 .f32) (x5 : Vec F S1x1x1x16x64x128 .f32)
    (x6 : Vec F S1024x1024 .bf16) (x7 : Vec F S1024x1024 .f32) (x8 : Vec F S1024x1024 .bf16) (x9 x10 : Vec F S2x1024 .f32)

set_option maxHeartbeats 4000000 in
theorem pieces11 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1 =
    [⟨Rect.unit ![0, 0] S1024x1024.size inb_S1024x1024_S1024x1024_0_0,
      block (srcOf arg3 harg3 arg4 harg4 arg5 harg5 arg6 harg6 arg7 harg7 arg8 harg8 arg9 harg9 arg10 harg10 arg11 harg11 arg12 harg12 arg13 harg13 x0 x1 x2 x3 x4 x5 x6 x7 x8 x9 x10) arg15 arg16⟩] := by
  sl_kernel_rfl

end Pieces

end Cert.Kernel3Ideal.Val
-- ==== Proof.MergeSpec.lean ====
module

public import Idealize.ShloMosaic.Lib.Pointwise

@[expose] public section

set_option maxRecDepth 16384

noncomputable section

/-! The merge of the three dilations' attention at one token, the gate, the closing projection and the layer norm, over
the extended reals: as the kernel computes them and as the reference does, and that the two agree where the row maxima
are real and the row sums real and positive. -/

namespace Merge

open Idealize.ShloMosaic Pointwise

theorem half_eq : Ideal.ofBits .bf16 0x3F00#16 = ((1 / 2 : ℝ) : EReal) := by
  have h : Ideal.ofBits .bf16 0x3F00#16 = (((128 : ℝ) * (2 ^ 8)⁻¹ : ℝ) : EReal) := by
    rw [EReal.coe_mul]; simp [Ideal.ofBits, Ideal.ieee]
  rw [h]; norm_num
theorem one_eq : Ideal.ofBits .f32 0x3F800000#32 = 1 := by
  have h : Ideal.ofBits .f32 0x3F800000#32 = (((8388608 : ℝ) * (2 ^ 23)⁻¹ : ℝ) : EReal) := by
    rw [EReal.coe_mul]; simp [Ideal.ofBits, Ideal.ieee]
  rw [h]; norm_num
theorem bot_eq : Ideal.ofBits .f32 0xFF800000#32 = ⊥ := by
  simp [Ideal.ofBits, Ideal.ieee]

/-- A group's array read at a token: by unit, phase and row of the dilations 1, 4 and 16. -/
def at1 {W : Nat} (A : (⟨6, ![2, 4, 16, 1, 128, W]⟩ : Shape).Idx → EReal) (R : Nat) (l : Fin W) : EReal :=
  A (ix6 ⟨R / 8192 % 2, Nat.mod_lt _ (by decide)⟩ ⟨R / 2048 % 4, Nat.mod_lt _ (by decide)⟩ ⟨R / 128 % 16, Nat.mod_lt _ (by decide)⟩ 0
    ⟨R % 128, Nat.mod_lt _ (by decide)⟩ l)
def at4 {W : Nat} (A : (⟨6, ![2, 4, 4, 4, 128, W]⟩ : Shape).Idx → EReal) (R : Nat) (l : Fin W) : EReal :=
  A (ix6 ⟨R / 8192 % 2, Nat.mod_lt _ (by decide)⟩ ⟨R / 2048 % 4, Nat.mod_lt _ (by decide)⟩ ⟨R / 512 % 4, Nat.mod_lt _ (by decide)⟩
    ⟨R % 4, Nat.mod_lt _ (by decide)⟩ ⟨R / 4 % 128, Nat.mod_lt _ (by decide)⟩ l)
def at16 {W : Nat} (A : (⟨6, ![2, 4, 1, 16, 128, W]⟩ : Shape).Idx → EReal) (R : Nat) (l : Fin W) : EReal :=
  A (ix6 ⟨R / 8192 % 2, Nat.mod_lt _ (by decide)⟩ ⟨R / 2048 % 4, Nat.mod_lt _ (by decide)⟩ 0
    ⟨R % 16, Nat.mod_lt _ (by decide)⟩ ⟨R / 16 % 128, Nat.mod_lt _ (by decide)⟩ l)

/-- The lanes of a head's row maximum and of its row sum. -/
def maxLane (l : Fin 1024) : Fin 128 := ⟨16 * (l.val / 128), by omega⟩
def sumLane (l : Fin 1024) : Fin 128 := ⟨16 * (l.val / 128) + 8, by omega⟩

section Row

variable (m d o : Fin 3 → EReal)

/-- A group's share as the kernel computes it, from the row maxima and the row sums. -/
def top3 : EReal := max (max (m 0) (m 1)) (m 2)
def e3 (g : Fin 3) : EReal := Ideal.exp (m g - top3 m)
def inv3 : EReal := Ideal.div 1 (e3 m 0 * d 0 + e3 m 1 * d 1 + e3 m 2 * d 2)
def accK : EReal := e3 m 0 * inv3 m d * o 0 + e3 m 1 * inv3 m d * o 1 + e3 m 2 * inv3 m d * o 2

/-- The reference's: the softmax over the groups of the logarithms of their sums. -/
def lse (g : Fin 3) : EReal := m g + Ideal.log (d g)
def topL : EReal := max ⊥ (Finset.univ.fold max ⊥ (lse m d))
def wR (g : Fin 3) : EReal := Ideal.div (Ideal.exp (lse m d g - topL m d)) (∑ j, Ideal.exp (lse m d j - topL m d))
def accR : EReal := ∑ g, wR m d g * Ideal.div (o g) (d g)

end Row

theorem real_max (a b : ℝ) : ∃ c : ℝ, max (a : EReal) (b : EReal) = (c : EReal) := by
  rcases le_total a b with h | h
  · exact ⟨b, max_eq_right (EReal.coe_le_coe_iff.2 h)⟩
  · exact ⟨a, max_eq_left (EReal.coe_le_coe_iff.2 h)⟩

theorem real_top (m : Fin 3 → ℝ) : ∃ c : ℝ, top3 (fun g => (m g : EReal)) = (c : EReal) := by
  obtain ⟨a, ha⟩ := real_max (m 0) (m 1)
  obtain ⟨b, hb⟩ := real_max a (m 2)
  exact ⟨b, (congrArg (fun x => max x (m 2 : EReal)) ha).trans hb⟩

theorem fold3 (f : Fin 3 → EReal) : Finset.univ.fold max ⊥ f = max (f 0) (max (f 1) (f 2)) := by
  have h : (Finset.univ : Finset (Fin 3)) = insert 0 (insert 1 (insert 2 ∅)) := by decide
  rw [h, Finset.fold_insert (by decide), Finset.fold_insert (by decide), Finset.fold_insert (by decide), Finset.fold_empty, max_bot_right]

theorem real_topL (m : Fin 3 → ℝ) : ∃ c : ℝ, max ⊥ (Finset.univ.fold max ⊥ fun g => (m g : EReal)) = (c : EReal) := by
  rw [fold3, max_bot_left]
  obtain ⟨a, ha⟩ := real_max (m 1) (m 2)
  obtain ⟨b, hb⟩ := real_max (m 0) a
  exact ⟨b, (congrArg (fun x => max (m 0 : EReal) x) ha).trans hb⟩

theorem share (m d : Fin 3 → ℝ) (hd : ∀ g, 0 < d g) (M T : ℝ) (g : Fin 3) :
    Real.exp (m g - M) * (1 / (Real.exp (m 0 - M) * d 0 + Real.exp (m 1 - M) * d 1 + Real.exp (m 2 - M) * d 2))
      = Real.exp (m g + Real.log (d g) - T) * (1 / (Real.exp (m 0 + Real.log (d 0) - T) + Real.exp (m 1 + Real.log (d 1) - T)
        + Real.exp (m 2 + Real.log (d 2) - T))) * (1 / d g) := by
  have hT : ∀ j, Real.exp (m j + Real.log (d j) - T) = Real.exp (m j) * d j / Real.exp T := fun j => by
    rw [Real.exp_sub, Real.exp_add, Real.exp_log (hd j)]
  have hM : ∀ j, Real.exp (m j - M) = Real.exp (m j) / Real.exp M := fun j => Real.exp_sub _ _
  simp only [hT, hM]
  have hs : 0 < Real.exp (m 0) * d 0 + Real.exp (m 1) * d 1 + Real.exp (m 2) * d 2 := by
    have := hd 0; have := hd 1; have := hd 2; positivity
  have h1 : Real.exp (m 0) / Real.exp M * d 0 + Real.exp (m 1) / Real.exp M * d 1 + Real.exp (m 2) / Real.exp M * d 2
      = (Real.exp (m 0) * d 0 + Real.exp (m 1) * d 1 + Real.exp (m 2) * d 2) / Real.exp M := by ring
  have h2 : Real.exp (m 0) * d 0 / Real.exp T + Real.exp (m 1) * d 1 / Real.exp T + Real.exp (m 2) * d 2 / Real.exp T
      = (Real.exp (m 0) * d 0 + Real.exp (m 1) * d 1 + Real.exp (m 2) * d 2) / Real.exp T := by ring
  rw [h1, h2]
  have hg := (hd g).ne'
  have := Real.exp_pos M; have := Real.exp_pos T
  field_simp

/-- The kernel's merge is the reference's. -/
theorem acc_eq (m d : Fin 3 → ℝ) (hd : ∀ g, 0 < d g) (o : Fin 3 → EReal) :
    accK (fun g => (m g : EReal)) (fun g => (d g : EReal)) o = accR (fun g => (m g : EReal)) (fun g => (d g : EReal)) o := by
  obtain ⟨M, hM⟩ := real_top m
  have hl : lse (fun g => (m g : EReal)) (fun g => (d g : EReal)) = fun g => ((m g + Real.log (d g) : ℝ) : EReal) := funext fun g => by
    rw [lse, Ideal.log_coe, if_neg (not_le.2 (hd g)), EReal.coe_add]
  obtain ⟨T, hT⟩ := real_topL fun g => m g + Real.log (d g)
  have hT' : topL (fun g => (m g : EReal)) (fun g => (d g : EReal)) = (T : EReal) := by rw [topL, hl]; exact hT
  have he : ∀ g, e3 (fun g => (m g : EReal)) g = ((Real.exp (m g - M) : ℝ) : EReal) := fun g => by
    rw [e3, hM, ← EReal.coe_sub, Ideal.exp_coe]
  have hx : ∀ g, Ideal.exp (lse (fun g => (m g : EReal)) (fun g => (d g : EReal)) g - topL (fun g => (m g : EReal)) (fun g => (d g : EReal)))
      = ((Real.exp (m g + Real.log (d g) - T) : ℝ) : EReal) := fun g => by
    rw [hT', hl, ← EReal.coe_sub, Ideal.exp_coe]
  have hs : 0 < Real.exp (m 0 - M) * d 0 + Real.exp (m 1 - M) * d 1 + Real.exp (m 2 - M) * d 2 := by
    have := hd 0; have := hd 1; have := hd 2; positivity
  have hi : inv3 (fun g => (m g : EReal)) (fun g => (d g : EReal))
      = ((1 / (Real.exp (m 0 - M) * d 0 + Real.exp (m 1 - M) * d 1 + Real.exp (m 2 - M) * d 2) : ℝ) : EReal) := by
    rw [inv3, he, he, he, ← EReal.coe_mul, ← EReal.coe_mul, ← EReal.coe_mul, ← EReal.coe_add, ← EReal.coe_add, Ideal.div_coe hs.ne', one_mul]
  have hw : ∀ g, wR (fun g => (m g : EReal)) (fun g => (d g : EReal)) g
      = ((Real.exp (m g + Real.log (d g) - T) * (1 / (Real.exp (m 0 + Real.log (d 0) - T) + Real.exp (m 1 + Real.log (d 1) - T)
        + Real.exp (m 2 + Real.log (d 2) - T))) : ℝ) : EReal) := fun g => by
    have hp : 0 < Real.exp (m 0 + Real.log (d 0) - T) + Real.exp (m 1 + Real.log (d 1) - T) + Real.exp (m 2 + Real.log (d 2) - T) := by positivity
    rw [wR, Fin.sum_univ_three, hx, hx, hx, hx, ← EReal.coe_add, ← EReal.coe_add, Ideal.div_coe hp.ne', ← EReal.coe_mul]
  have ht : ∀ g, e3 (fun g => (m g : EReal)) g * inv3 (fun g => (m g : EReal)) (fun g => (d g : EReal)) * o g
      = wR (fun g => (m g : EReal)) (fun g => (d g : EReal)) g * Ideal.div (o g) (d g : EReal) := fun g => by
    rw [he, hi, hw, Ideal.div_coe (hd g).ne', mul_comm (o g), ← mul_assoc, ← EReal.coe_mul, ← EReal.coe_mul, share m d hd M T g]
  rw [accK, accR, Fin.sum_univ_three, ht, ht, ht]

/-- The gate as the kernel computes it, and as the reference does. -/
def gateK (g : EReal) : EReal := g * (Ideal.ofBits .bf16 0x3F00#16 + Ideal.ofBits .bf16 0x3F00#16 * Ideal.tanh (Ideal.ofBits .bf16 0x3F00#16 * g))
def gateR (g : EReal) : EReal := g * Ideal.div 1 (1 + Ideal.exp (-g))

theorem logistic_real (r : ℝ) : 1 / 2 + 1 / 2 * Real.tanh (1 / 2 * r) = 1 / (1 + Real.exp (-r)) := by
  have h : Real.exp (-r) = Real.exp (-(1 / 2 * r)) * Real.exp (-(1 / 2 * r)) := by rw [← Real.exp_add]; congr 1; ring
  have h1 : Real.exp (-(1 / 2 * r)) = (Real.exp (1 / 2 * r))⁻¹ := Real.exp_neg _
  rw [Real.tanh_eq_sinh_div_cosh, Real.sinh_eq, Real.cosh_eq, h, h1]
  have hp := Real.exp_pos (1 / 2 * r)
  field_simp
  ring

theorem gate_eq (g : EReal) : gateK g = gateR g := by
  unfold gateK gateR
  rw [half_eq]
  refine congrArg (fun s => g * s) ?_
  induction g using EReal.rec with
  | bot =>
    rw [EReal.coe_mul_bot_of_pos (by norm_num), Ideal.tanh_bot, EReal.neg_bot, Ideal.exp_top, ← EReal.coe_one, EReal.coe_add_top, ← EReal.coe_neg, ← EReal.coe_mul,
      ← EReal.coe_add, Ideal.div, if_neg (by simp), EReal.inv_top, mul_zero]
    norm_num
  | coe r =>
    have hp : 0 < 1 + Real.exp (-r) := by positivity
    rw [← EReal.coe_mul, Ideal.tanh_coe, ← EReal.coe_mul, ← EReal.coe_add, ← EReal.coe_neg, Ideal.exp_coe, ← EReal.coe_one, ← EReal.coe_add,
      Ideal.div_coe hp.ne', ← EReal.coe_mul, one_mul, logistic_real]
  | top =>
    rw [EReal.coe_mul_top_of_pos (by norm_num), Ideal.tanh_top, EReal.neg_top, Ideal.exp_bot, add_zero, ← EReal.coe_one, ← EReal.coe_mul,
      ← EReal.coe_add, Ideal.div_coe one_ne_zero, ← EReal.coe_mul]
    norm_num

/-- The layer norm of a row. -/
def mean (v : Fin 1024 → EReal) : EReal := Ideal.div (∑ k, v k) (Ideal.ofBits .f32 0x44800000#32)
def centred (v : Fin 1024 → EReal) (l : Fin 1024) : EReal := v l - mean v
def norm (v gm bt : Fin 1024 → EReal) (l : Fin 1024) : EReal :=
  centred v l * Ideal.rsqrt (mean (fun k => centred v k * centred v k) + Ideal.ofBits .f32 0x3727C5AC#32) * gm l + bt l

/-- The row before the layer norm: the residual plus the gated row times the closing weights. -/
def hid (a x : Fin 1024 → EReal) (w : Fin 1024 → Fin 1024 → EReal) (l : Fin 1024) : EReal :=
  Ideal.ofBits .f32 0x3FB504F3#32 * x l + ∑ k, a k * w k l

/-- The three groups' arrays at a token, and a row of a matrix. -/
def pick {W : Nat} (A : (⟨6, ![2, 4, 16, 1, 128, W]⟩ : Shape).Idx → EReal) (B : (⟨6, ![2, 4, 4, 4, 128, W]⟩ : Shape).Idx → EReal)
    (C : (⟨6, ![2, 4, 1, 16, 128, W]⟩ : Shape).Idx → EReal) (R : Nat) (l : Fin W) (g : Fin 3) : EReal :=
  match g with
  | ⟨0, _⟩ => at1 A R l
  | ⟨1, _⟩ => at4 B R l
  | ⟨2, _⟩ => at16 C R l
def row (A : (⟨2, ![16384, 1024]⟩ : Shape).Idx → EReal) (R : Nat) (l : Fin 1024) : EReal := A (ix2 ⟨R % 16384, Nat.mod_lt _ (by decide)⟩ l)

/-- The arrays the merge reads. -/
structure Args where
  o1 : (⟨6, ![2, 4, 16, 1, 128, 1024]⟩ : Shape).Idx → EReal
  o4 : (⟨6, ![2, 4, 4, 4, 128, 1024]⟩ : Shape).Idx → EReal
  o16 : (⟨6, ![2, 4, 1, 16, 128, 1024]⟩ : Shape).Idx → EReal
  s1 : (⟨6, ![2, 4, 16, 1, 128, 128]⟩ : Shape).Idx → EReal
  s4 : (⟨6, ![2, 4, 4, 4, 128, 128]⟩ : Shape).Idx → EReal
  s16 : (⟨6, ![2, 4, 1, 16, 128, 128]⟩ : Shape).Idx → EReal
  g : (⟨2, ![16384, 1024]⟩ : Shape).Idx → EReal
  x : (⟨2, ![16384, 1024]⟩ : Shape).Idx → EReal
  w : (⟨2, ![1024, 1024]⟩ : Shape).Idx → EReal
  gm : (⟨2, ![2, 1024]⟩ : Shape).Idx → EReal
  bt : (⟨2, ![2, 1024]⟩ : Shape).Idx → EReal

/-- A token's result, from the way the groups are merged and the gate is computed. -/
def result (acc : (Fin 3 → EReal) → (Fin 3 → EReal) → (Fin 3 → EReal) → EReal) (gate : EReal → EReal) (A : Args) (R : Nat) (l : Fin 1024) : EReal :=
  norm (hid (fun k => acc (pick A.s1 A.s4 A.s16 R (maxLane k)) (pick A.s1 A.s4 A.s16 R (sumLane k)) (pick A.o1 A.o4 A.o16 R k) * gate (row A.g R k))
    (row A.x R) fun k l => A.w (ix2 k l)) (fun l => A.gm (ix2 1 l)) (fun l => A.bt (ix2 1 l)) l

/-- The array whose rows are the tokens. -/
def byRow (f : Nat → Fin 1024 → EReal) (z : (⟨2, ![16384, 1024]⟩ : Shape).Idx) : EReal := f (z 0).val (z 1)

end Merge
-- ==== Proof.MergeRead.lean ====
module

public import proofs.«01_k».proof.Proof.MergePieces
public import proofs.«01_k».proof.Proof.MergeSpec

@[expose] public section

set_option maxRecDepth 16384

noncomputable section

/-! The block a grid point of the merge stores, over the extended reals, at an index. -/

namespace Cert.Kernel3Ideal.Val

open Cert.Kernel3Ideal Cert.Kernel3Ideal.Gen Idealize.ShloMosaic Idealize.ShloMosaic.TcCoe Idealize.SL.Sem Idealize.ShloMosaic.Tactic Pointwise

theorem sv4_apply (y : Vec Ideal S1x1x1x1x128x128 .f32) (i e : Fin 128) : sv4 y (ix3 0 i e) = y (ix6 0 0 0 0 i e) := by
  pointwise [sv4]
theorem sv16_apply (y : Vec Ideal S1x1x1x1x64x128 .f32) (i : Fin 64) (e : Fin 128) : sv16 y (ix3 0 i e) = y (ix6 0 0 0 0 i e) := by
  pointwise [sv16]
theorem ov4_apply (y : Vec Ideal S1x1x1x1x128x128 .bf16) (i e : Fin 128) : ov4 y (ix3 0 i e) = y (ix6 0 0 0 0 i e) := by
  pointwise [ov4]
theorem ov16_apply (y : Vec Ideal S1x1x1x1x64x128 .bf16) (i : Fin 64) (e : Fin 128) : ov16 y (ix3 0 i e) = y (ix6 0 0 0 0 i e) := by
  pointwise [ov16]

theorem flat_apply (y : Vec Ideal S1x1024x128 .f32) (ρ : Fin 1024) (e : Fin 128) : flat y (ix2 ρ e) = y (ix3 0 ρ e) := by
  pointwise [flat]

theorem stat1_apply (y : Vec Ideal S1x1x8x1x128x128 .f32) (ρ : Fin 1024) (e : Fin 128) :
    k0_pay2 y (ix2 ρ e) = y (ix6 0 0 ⟨ρ.val / 128, by omega⟩ 0 ⟨ρ.val % 128, Nat.mod_lt _ (by decide)⟩ e) := by
  pointwise [k0_pay2]

theorem part_apply (y : FVec Ideal S1024x1024 .bf16) (k : Fin 8) (ρ : Fin 1024) (e : Fin 128) :
    part y k (ix2 ρ e) = y (ix2 ρ ⟨128 * k.val + e.val, by omega⟩) := by
  pointwise [part]

theorem flat1_apply (y : Vec Ideal S1x1x8x1x128x1024 .bf16) (ρ l : Fin 1024) :
    flat1 y (ix2 ρ l) = y (ix6 0 0 ⟨ρ.val / 128, by omega⟩ 0 ⟨ρ.val % 128, Nat.mod_lt _ (by decide)⟩ l) := by
  pointwise [flat1]

theorem wide_apply {φ : FTy} (y : Fin 8 → FVec Ideal S1024x128 φ) (ρ : Fin 1024) (k : Fin 8) (e : Fin 128) :
    wide y (ix2 ρ ⟨128 * k.val + e.val, by omega⟩) = y k (ix2 ρ e) := by
  refine concatenate_ofFn_apply (t := S1024x1024) (s₁ := S1024x128) 1 y
    concatenates_S1024x128_S1024x128_S1024x128_S1024x128_S1024x128_S1024x128_S1024x128_S1024x128_S1024x1024_d1 rfl 128 rfl
    (ix2 ρ ⟨128 * k.val + e.val, by omega⟩ : S1024x1024.Idx) k ?_ (ix2 ρ e : S1024x128.Idx) ?_ ?_
  · show (128 * k.val + e.val) / 128 = k.val
    omega
  · show e.val = (128 * k.val + e.val) % 128
    omega
  · intro b hb
    match b with
    | ⟨0, _⟩ => rfl
    | ⟨1, _⟩ => exact absurd rfl hb

theorem roll_apply (y : FVec Ideal S1024x128 .f32) (ρ : Fin 1024) (e : Fin 128) :
    roll y (ix2 ρ e) = y (ix2 ρ ⟨(e.val + 8) % 128, Nat.mod_lt _ (by decide)⟩) := by
  pointwise [roll]
  exact congrArg (fun q : Fin 128 => y (ix2 ρ q)) (Fin.ext (by dsimp only; omega))

theorem num_apply (t : Fin 3 → FVec Ideal S1024x128 .f32) (d : Fin 3) (ρ : Fin 1024) (e : Fin 128) :
    num t d (ix2 ρ e) = Merge.e3 (fun g => t g (ix2 ρ e)) d := by
  pointwise [num]
  rfl

theorem inv_apply (t : Fin 3 → FVec Ideal S1024x128 .f32) (ρ : Fin 1024) (e : Fin 128) :
    inv t (ix2 ρ e) = Merge.inv3 (fun g => t g (ix2 ρ e)) (fun g => t g (ix2 ρ ⟨(e.val + 8) % 128, Nat.mod_lt _ (by decide)⟩)) := by
  pointwise [inv]
  simp only [num_apply, roll_apply, Merge.one_eq]
  rfl

theorem maxMask_max (ρ : Fin 1024) (l : Fin 1024) : maxMask (ix2 ρ (Merge.maxLane l)) = 1#1 := by
  pointwise [maxMask, k0_pay40, k0_pay39]
  revert l; decide +kernel

/-- Sixteen times the head of a lane, as the kernel finds it. -/
theorem head_lane (l : Fin 1024) : IntOp.muli (IntOp.muli (Scalar.select
      (IntOp.andi (IntOp.cmpi CmpIPredicate.ne (IntOp.subi (BitVec.setWidth 32 (IntOp.cmpi CmpIPredicate.sgt (BitVec.ofNat 32 l.val) 0#32))
          (BitVec.setWidth 32 (IntOp.cmpi CmpIPredicate.slt (BitVec.ofNat 32 l.val) 0#32)))
          (Scalar.subi (Scalar.extui (Scalar.cmpi CmpIPredicate.sgt 128#32 0#32)) (Scalar.extui (Scalar.cmpi CmpIPredicate.slt 128#32 0#32))))
        (IntOp.cmpi CmpIPredicate.ne (IntOp.remsi ArithUnit.vector (BitVec.ofNat 32 l.val) 128#32) 0#32))
      (IntOp.subi (IntOp.divsi ArithUnit.vector (BitVec.ofNat 32 l.val) 128#32) 1#32)
      (IntOp.divsi ArithUnit.vector (BitVec.ofNat 32 l.val) 128#32)) 2#32) 8#32 = BitVec.ofNat 32 (Merge.maxLane l).val := by
  revert l; decide +kernel

theorem same_lane (e k : Fin 128) : IntOp.cmpi CmpIPredicate.eq (BitVec.ofNat 32 e.val) (BitVec.ofNat 32 k.val) = if e = k then 1#1 else 0#1 := by
  revert e k; decide +kernel

theorem spread_apply (e : Fin 128) (l : Fin 1024) : (spread (F := Ideal)) (ix2 e l) = if e = Merge.maxLane l then (1 : EReal) else 0 := by
  pointwise [spread, k0_pay43, k0_pay41, k0_pay42]
  rw [head_lane, same_lane]
  by_cases h : e = Merge.maxLane l
  · rw [if_pos h, if_pos h]; rfl
  · rw [if_neg h, if_neg h]; rfl

theorem weight_apply (e v : FVec Ideal S1024x128 .f32) (ρ l : Fin 1024) :
    weight e v (ix2 ρ l) = (e (ix2 ρ (Merge.maxLane l)) : EReal) * v (ix2 ρ (Merge.maxLane l)) := by
  have h : weight e v (ix2 ρ l) = ∑ k : Fin 128, (Scalar.select (maxMask (ix2 ρ k)) ((e (ix2 ρ k) : EReal) * v (ix2 ρ k)) 0 : EReal) * spread (F := Ideal) (ix2 k l) := by
    pointwise [weight, k0_pay122]
  rw [h, Finset.sum_eq_single (Merge.maxLane l)]
  · rw [spread_apply, if_pos rfl, mul_one, maxMask_max]; rfl
  · intro k _ hk
    rw [spread_apply, if_neg hk, mul_zero]
  · intro hk
    exact absurd (Finset.mem_univ _) hk

/-- The three attentions side by side. -/
def pick3 (o1 o4 o16 : FVec Ideal S1024x1024 .bf16) (ρ l : Fin 1024) (g : Fin 3) : EReal :=
  match g with
  | ⟨0, _⟩ => o1 (ix2 ρ l)
  | ⟨1, _⟩ => o4 (ix2 ρ l)
  | ⟨2, _⟩ => o16 (ix2 ρ l)

theorem merged_apply (t : Fin 3 → FVec Ideal S1024x128 .f32) (o1 o4 o16 : FVec Ideal S1024x1024 .bf16) (ρ l : Fin 1024) :
    merged t o1 o4 o16 (ix2 ρ l) = Merge.accK (fun g => t g (ix2 ρ (Merge.maxLane l))) (fun g => t g (ix2 ρ (Merge.sumLane l))) (pick3 o1 o4 o16 ρ l) := by
  have hs : (⟨((Merge.maxLane l).val + 8) % 128, Nat.mod_lt _ (by decide)⟩ : Fin 128) = Merge.sumLane l :=
    Fin.ext (by dsimp only [Merge.maxLane, Merge.sumLane]; omega)
  pointwise [merged]
  simp only [weight_apply, num_apply, inv_apply, hs]
  rfl

theorem gated_apply (y g : FVec Ideal S1024x1024 .bf16) (ρ l : Fin 1024) :
    gated y g (ix2 ρ l) = (y (ix2 ρ l) : EReal) * Merge.gateK (g (ix2 ρ l)) := by
  pointwise [gated, Merge.gateK]

theorem projected_apply (y w : FVec Ideal S1024x1024 .bf16) (ρ l : Fin 1024) :
    projected y w (ix2 ρ l) = ∑ k : Fin 1024, (y (ix2 ρ k) : EReal) * w (ix2 k l) := by
  pointwise [projected]

theorem scaled_apply (x : FVec Ideal S1024x1024 .f32) (ρ l : Fin 1024) :
    k0_pay271 x (ix2 ρ l) = Ideal.ofBits .f32 0x3FB504F3#32 * (x (ix2 ρ l) : EReal) := by
  pointwise [k0_pay271]

theorem norm_apply (p x : FVec Ideal S1024x1024 .f32) (gm bt : Vec Ideal S1x1024 .f32) (ρ l : Fin 1024) :
    k0_pay1 p x gm bt (ix2 ρ l) = Merge.norm (fun l => (x (ix2 ρ l) : EReal) + p (ix2 ρ l)) (fun l => gm (ix2 0 l)) (fun l => bt (ix2 0 l)) l := by
  pointwise [k0_pay1, Merge.norm, Merge.centred, Merge.mean]

end Cert.Kernel3Ideal.Val
-- ==== Proof.MergeCanon.lean ====
module

public import proofs.«01_k».proof.Proof.MergeRead
public import Idealize.ShloMosaic.Lib.Pipeline.ValueKit

@[expose] public section

set_option maxRecDepth 16384

noncomputable section

/-! The scratch of a grid point of the merge, read back: the rows of each dilation in token order. -/

namespace Cert.Kernel3Ideal.Val

open Cert.Kernel3Ideal Cert.Kernel3Ideal.Gen Idealize.ShloMosaic Idealize.ShloMosaic.TcCoe Idealize.SL.Sem Idealize.ShloMosaic.Tactic Pointwise

/-- Where no later store falls, a store's value is what is read. -/
theorem canon_hist {s : Shape} {e : EltTy} (p : Nat → View.Piece (Elt Ideal) s e) (L : List (View.Piece (Elt Ideal) s e)) (n : Nat) (w : (p n).1.shape.Idx) :
    ∀ N, n < N → (∀ k, n < k → k < N → (p n).1.emb w ∉ (p k).1.set) → View.canon (hist p L N) ((p n).1.emb w) = (p n).2 w
  | 0, h, _ => absurd h (Nat.not_lt_zero n)
  | N + 1, h, hk => by
    by_cases hn : n = N
    · subst hn
      exact View.canon_cons_emb (p n).1 (p n).2 _ w
    · exact (View.canon_cons_of_not_mem (p N) _ (hk N (by omega) (Nat.lt_succ_self N))).trans
        (canon_hist p L n w N (by omega) fun k h1 h2 => hk k h1 (by omega))

theorem mem_rows4 {N : Nat} (k : Fin N) (j : Fin 2) (r : Fin 4) (b : Fin N) (ρ : Fin 1024) (e : Fin 128)
    (h : (ix3 b ρ e : (⟨3, ![N, 1024, 128]⟩ : Shape).Idx) ∈ (rows4 k j r).set) : b.val = k.val ∧ j.val = ρ.val / 512 ∧ r.val = ρ.val % 4 := by
  have h0 := (LoadRect.mem_set _).mp h (0 : Fin 3)
  have h1 := (LoadRect.mem_set _).mp h (1 : Fin 3)
  obtain ⟨i0, hi0, he0⟩ := h0
  obtain ⟨i1, hi1, he1⟩ := h1
  have hi0' : i0 < 1 := hi0
  have hi1' : i1 < 128 := hi1
  have he0' : b.val = k.val + 1 * i0 := he0
  have he1' : ρ.val = (j.val * 512 + r.val) + 4 * i1 := he1
  omega

theorem mem_rows16 {N : Nat} (k : Fin N) (r : Fin 16) (b : Fin N) (ρ : Fin 1024) (e : Fin 128)
    (h : (ix3 b ρ e : (⟨3, ![N, 1024, 128]⟩ : Shape).Idx) ∈ (rows16 k r).set) : b.val = k.val ∧ r.val = ρ.val % 16 := by
  have h0 := (LoadRect.mem_set _).mp h (0 : Fin 3)
  have h1 := (LoadRect.mem_set _).mp h (1 : Fin 3)
  obtain ⟨i0, hi0, he0⟩ := h0
  obtain ⟨i1, hi1, he1⟩ := h1
  have hi0' : i0 < 1 := hi0
  have hi1' : i1 < 64 := hi1
  have he0' : b.val = k.val + 1 * i0 := he0
  have he1' : ρ.val = r.val + 16 * i1 := he1
  omega

theorem emb_rows4 {N : Nat} (k : Fin N) (j : Fin 2) (r : Fin 4) (i e : Fin 128) (ρ : Fin 1024) (h : ρ.val = j.val * 512 + r.val + 4 * i.val) :
    (rows4 k j r).emb (ix3 0 i e : S1x128x128.Idx) = (ix3 k ρ e : (⟨3, ![N, 1024, 128]⟩ : Shape).Idx) := by
  funext a
  match a with
  | ⟨0, _⟩ => exact Fin.ext (show k.val + 1 * 0 = k.val by omega)
  | ⟨1, _⟩ => exact Fin.ext h.symm
  | ⟨2, _⟩ => exact Fin.ext (show 0 + 1 * e.val = e.val by omega)

theorem emb_rows16 {N : Nat} (k : Fin N) (r : Fin 16) (i : Fin 64) (e : Fin 128) (ρ : Fin 1024) (h : ρ.val = r.val + 16 * i.val) :
    (rows16 k r).emb (ix3 0 i e : S1x64x128.Idx) = (ix3 k ρ e : (⟨3, ![N, 1024, 128]⟩ : Shape).Idx) := by
  funext a
  match a with
  | ⟨0, _⟩ => exact Fin.ext (show k.val + 1 * 0 = k.val by omega)
  | ⟨1, _⟩ => exact Fin.ext h.symm
  | ⟨2, _⟩ => exact Fin.ext (show 0 + 1 * e.val = e.val by omega)

theorem emb_slab (k : Fin 3) (ρ : Fin 1024) (e : Fin 128) : (slab k).emb (ix3 0 ρ e : S1x1024x128.Idx) = (ix3 k ρ e : S3x1024x128.Idx) := by
  funext a
  match a with
  | ⟨0, _⟩ => exact Fin.ext (show k.val + 1 * 0 = k.val by omega)
  | ⟨1, _⟩ => exact Fin.ext (show 0 + 1 * ρ.val = ρ.val by omega)
  | ⟨2, _⟩ => exact Fin.ext (show 0 + 1 * e.val = e.val by omega)

theorem idx_all (x : S1x1024x128.Idx) : (Rect.unit (s := S1x1024x128) ![0, 0, 0] S1x1024x128.size (by decide)).toLoadRect.idx x = x := by
  funext a
  match a with
  | ⟨0, _⟩ => exact Fin.ext (show 0 + 1 * (x 0).val = (x 0).val by omega)
  | ⟨1, _⟩ => exact Fin.ext (show 0 + 1 * (x 1).val = (x 1).val by omega)
  | ⟨2, _⟩ => exact Fin.ext (show 0 + 1 * (x 2).val = (x 2).val by omega)

/-- A rectangle of a slab holds an index of the slab only if it holds it there. -/
theorem mem_within (k : Fin 3) (r : Rect S1x1024x128) (x : S1x1024x128.Idx) (h : (slab k).emb x ∈ ((slab k).within r (fun _ => rfl)).set) : x ∈ r.set := by
  refine (LoadRect.mem_set _).mpr fun a => ?_
  obtain ⟨i, hi, he⟩ := (LoadRect.mem_set _).mp h a
  have he' : (slab k).off a + 1 * (x a).val = (slab k).off a + r.off a + r.stride a * i := he
  exact ⟨i, hi, by omega⟩

variable (S : Src Ideal) (v : Memref sig .tc .vmem S3x1024x128 .f32) (v' : Memref sig .tc .vmem S8x1024x128 .f32)

theorem ls4_apply (ρ : Fin 1024) (e : Fin 128) : ls4 S v (ix3 0 ρ e)
    = S.s4 ⟨ρ.val / 512, by omega⟩ ⟨ρ.val % 4, Nat.mod_lt _ (by decide)⟩ (ix6 0 0 0 0 ⟨ρ.val / 4 % 128, Nat.mod_lt _ (by decide)⟩ e) := by
  have hρ := ρ.isLt
  have hj : (⟨(4 * (ρ.val / 512) + ρ.val % 4) / 4 % 2, Nat.mod_lt _ (by decide)⟩ : Fin 2) = ⟨ρ.val / 512, by omega⟩ := Fin.ext (by dsimp only; omega)
  have hr : (⟨(4 * (ρ.val / 512) + ρ.val % 4) % 4, Nat.mod_lt _ (by decide)⟩ : Fin 4) = ⟨ρ.val % 4, Nat.mod_lt _ (by decide)⟩ := Fin.ext (by dsimp only; omega)
  have hi : (ps4 S (4 * (ρ.val / 512) + ρ.val % 4)).1.emb (ix3 0 ⟨ρ.val / 4 % 128, Nat.mod_lt _ (by decide)⟩ e : S1x128x128.Idx) = (slab 1).emb (ix3 0 ρ e : S1x1024x128.Idx) :=
    (Rect.emb_within (slab 1) _ (fun _ => rfl) _).trans (congrArg (slab 1).emb (emb_rows4 0 _ _ _ e ρ (by dsimp only; omega)))
  unfold ls4
  rw [View.readCov_eq_canon']
  refine (congrArg (View.canon (hist (ps4 S) [] 8)) ((Rect.idx_withinL (slab 1) _ (fun _ => rfl) _).trans ((congrArg (slab 1).emb (idx_all _)).trans hi.symm))).trans ?_
  refine (canon_hist (ps4 S) [] _ _ 8 (by omega) fun k h1 h2 hm => ?_).trans ?_
  · rw [hi] at hm
    have hm' := mem_rows4 0 _ _ 0 ρ e (mem_within 1 _ _ hm)
    have h3 : k / 4 % 2 = ρ.val / 512 := hm'.2.1
    have h4 : k % 4 = ρ.val % 4 := hm'.2.2
    omega
  · refine (sv4_apply _ _ e).trans ?_
    rw [hj, hr]

theorem ls16_apply (ρ : Fin 1024) (e : Fin 128) : ls16 S v (ix3 0 ρ e)
    = S.s16 ⟨ρ.val % 16, Nat.mod_lt _ (by decide)⟩ (ix6 0 0 0 0 ⟨ρ.val / 16, by omega⟩ e) := by
  have hρ := ρ.isLt
  have hr : (⟨ρ.val % 16 % 16, Nat.mod_lt _ (by decide)⟩ : Fin 16) = ⟨ρ.val % 16, Nat.mod_lt _ (by decide)⟩ := Fin.ext (by dsimp only; omega)
  have hi : (ps16 S (ρ.val % 16)).1.emb (ix3 0 ⟨ρ.val / 16, by omega⟩ e : S1x64x128.Idx) = (slab 2).emb (ix3 0 ρ e : S1x1024x128.Idx) :=
    (Rect.emb_within (slab 2) _ (fun _ => rfl) _).trans (congrArg (slab 2).emb (emb_rows16 0 _ _ e ρ (by dsimp only; omega)))
  unfold ls16
  rw [View.readCov_eq_canon']
  refine (congrArg (View.canon (hist (ps16 S) _ 16)) ((Rect.idx_withinL (slab 2) _ (fun _ => rfl) _).trans ((congrArg (slab 2).emb (idx_all _)).trans hi.symm))).trans ?_
  refine (canon_hist (ps16 S) _ _ _ 16 (by omega) fun k h1 h2 hm => ?_).trans ?_
  · rw [hi] at hm
    have hm' := mem_rows16 0 _ 0 ρ e (mem_within 2 _ _ hm)
    have h4 : k % 16 = ρ.val % 16 := hm'.2
    omega
  · refine (sv16_apply _ _ e).trans ?_
    rw [hr]

theorem idx_row (k : Fin 8) (ρ : Fin 1024) (e : Fin 128) (inb) :
    (Rect.unit (s := S8x1024x128) ![k.val, 0, 0] S1x1024x128.size inb).toLoadRect.idx (ix3 0 ρ e : S1x1024x128.Idx) = (ix3 k ρ e : S8x1024x128.Idx) := by
  funext a
  match a with
  | ⟨0, _⟩ => exact Fin.ext (show k.val + 1 * 0 = k.val by omega)
  | ⟨1, _⟩ => exact Fin.ext (show 0 + 1 * ρ.val = ρ.val by omega)
  | ⟨2, _⟩ => exact Fin.ext (show 0 + 1 * e.val = e.val by omega)

/-- What the stores of the attention hold. -/
theorem po4_val (n : Nat) (i e : Fin 128) : (po4 S n).2 (ix3 0 i e : S1x128x128.Idx)
    = S.o4 ⟨n / 32 % 2, Nat.mod_lt _ (by decide)⟩ ⟨n / 8 % 4, Nat.mod_lt _ (by decide)⟩ ⟨n % 8, Nat.mod_lt _ (by decide)⟩ (ix6 0 0 0 0 i e) := by
  have h : (po4 S n).2 = ov4 (S.o4 ⟨n / 32 % 2, Nat.mod_lt _ (by decide)⟩ ⟨n / 8 % 4, Nat.mod_lt _ (by decide)⟩ ⟨n % 8, Nat.mod_lt _ (by decide)⟩) := rfl
  exact (congrFun h _).trans (ov4_apply (S.o4 ⟨n / 32 % 2, Nat.mod_lt _ (by decide)⟩ ⟨n / 8 % 4, Nat.mod_lt _ (by decide)⟩ ⟨n % 8, Nat.mod_lt _ (by decide)⟩) i e)
theorem po16_val (n : Nat) (i : Fin 64) (e : Fin 128) : (po16 S n).2 (ix3 0 i e : S1x64x128.Idx)
    = S.o16 ⟨n / 8 % 16, Nat.mod_lt _ (by decide)⟩ ⟨n % 8, Nat.mod_lt _ (by decide)⟩ (ix6 0 0 0 0 i e) := by
  have h : (po16 S n).2 = ov16 (S.o16 ⟨n / 8 % 16, Nat.mod_lt _ (by decide)⟩ ⟨n % 8, Nat.mod_lt _ (by decide)⟩) := rfl
  exact (congrFun h _).trans (ov16_apply (S.o16 ⟨n / 8 % 16, Nat.mod_lt _ (by decide)⟩ ⟨n % 8, Nat.mod_lt _ (by decide)⟩) i e)

theorem lo4_apply (q : Fin 8) (ρ : Fin 1024) (e : Fin 128) : lo4 S v' q (ix3 0 ρ e)
    = S.o4 ⟨ρ.val / 512, by omega⟩ ⟨ρ.val % 4, Nat.mod_lt _ (by decide)⟩ q (ix6 0 0 0 0 ⟨ρ.val / 4 % 128, Nat.mod_lt _ (by decide)⟩ e) := by
  have hρ := ρ.isLt
  have hq := q.isLt
  have hk : (⟨(32 * (ρ.val / 512) + 8 * (ρ.val % 4) + q.val) % 8, Nat.mod_lt _ (by decide)⟩ : Fin 8) = q := Fin.ext (by dsimp only; omega)
  have hj : (⟨(32 * (ρ.val / 512) + 8 * (ρ.val % 4) + q.val) / 32 % 2, Nat.mod_lt _ (by decide)⟩ : Fin 2) = ⟨ρ.val / 512, by omega⟩ := Fin.ext (by dsimp only; omega)
  have hr : (⟨(32 * (ρ.val / 512) + 8 * (ρ.val % 4) + q.val) / 8 % 4, Nat.mod_lt _ (by decide)⟩ : Fin 4) = ⟨ρ.val % 4, Nat.mod_lt _ (by decide)⟩ := Fin.ext (by dsimp only; omega)
  have hi : (po4 S (32 * (ρ.val / 512) + 8 * (ρ.val % 4) + q.val)).1.emb (ix3 0 ⟨ρ.val / 4 % 128, Nat.mod_lt _ (by decide)⟩ e : S1x128x128.Idx) = (ix3 q ρ e : S8x1024x128.Idx) :=
    (emb_rows4 _ _ _ _ e ρ (by dsimp only; omega)).trans (congrArg (fun b : Fin 8 => (ix3 b ρ e : S8x1024x128.Idx)) hk)
  unfold lo4
  rw [View.readCov_eq_canon']
  refine (congrArg (View.canon (hist (po4 S) [] 64)) ((idx_row q ρ e _).trans hi.symm)).trans ?_
  refine (canon_hist (po4 S) [] (32 * (ρ.val / 512) + 8 * (ρ.val % 4) + q.val)
    (ix3 0 ⟨ρ.val / 4 % 128, Nat.mod_lt _ (by decide)⟩ e : S1x128x128.Idx) 64 (by omega) fun k h1 h2 hm => ?_).trans ?_
  · rw [hi] at hm
    have hm' := mem_rows4 _ _ _ q ρ e hm
    have h3 : q.val = k % 8 := hm'.1
    have h4 : k / 32 % 2 = ρ.val / 512 := hm'.2.1
    have h5 : k / 8 % 4 = ρ.val % 4 := hm'.2.2
    omega
  · refine (po4_val S _ _ e).trans ?_
    rw [hj, hr, hk]

theorem lo16_apply (q : Fin 8) (ρ : Fin 1024) (e : Fin 128) : lo16 S v' q (ix3 0 ρ e)
    = S.o16 ⟨ρ.val % 16, Nat.mod_lt _ (by decide)⟩ q (ix6 0 0 0 0 ⟨ρ.val / 16, by omega⟩ e) := by
  have hρ := ρ.isLt
  have hq := q.isLt
  have hk : (⟨(8 * (ρ.val % 16) + q.val) % 8, Nat.mod_lt _ (by decide)⟩ : Fin 8) = q := Fin.ext (by dsimp only; omega)
  have hr : (⟨(8 * (ρ.val % 16) + q.val) / 8 % 16, Nat.mod_lt _ (by decide)⟩ : Fin 16) = ⟨ρ.val % 16, Nat.mod_lt _ (by decide)⟩ := Fin.ext (by dsimp only; omega)
  have hi : (po16 S (8 * (ρ.val % 16) + q.val)).1.emb (ix3 0 ⟨ρ.val / 16, by omega⟩ e : S1x64x128.Idx) = (ix3 q ρ e : S8x1024x128.Idx) :=
    (emb_rows16 _ _ _ e ρ (by dsimp only; omega)).trans (congrArg (fun b : Fin 8 => (ix3 b ρ e : S8x1024x128.Idx)) hk)
  unfold lo16
  rw [View.readCov_eq_canon']
  refine (congrArg (View.canon (hist (po16 S) (hist (po4 S) [] 64) 128)) ((idx_row q ρ e _).trans hi.symm)).trans ?_
  refine (canon_hist (po16 S) (hist (po4 S) [] 64) (8 * (ρ.val % 16) + q.val) (ix3 0 ⟨ρ.val / 16, by omega⟩ e : S1x64x128.Idx) 128 (by omega) fun k h1 h2 hm => ?_).trans ?_
  · rw [hi] at hm
    have hm' := mem_rows16 _ _ q ρ e hm
    have h3 : q.val = k % 8 := hm'.1
    have h5 : k / 8 % 16 = ρ.val % 16 := hm'.2
    omega
  · refine (po16_val S _ _ e).trans ?_
    rw [hr, hk]

end Cert.Kernel3Ideal.Val
-- ==== Proof.MergeBlock.lean ====
module

public import proofs.«01_k».proof.Proof.MergeCanon

@[expose] public section

set_option maxRecDepth 16384

noncomputable section

/-! The block a grid point of the merge stores, from the arrays. -/

namespace Cert.Kernel3Ideal.Val

open Cert.Kernel3Ideal Cert.Kernel3Ideal.Gen Idealize.ShloMosaic Idealize.ShloMosaic.TcCoe Idealize.SL.Sem Idealize.ShloMosaic.Tactic Pointwise

/-- What point `T` loads, from the arrays. -/
structure Reads (S : Src Ideal) (A : Merge.Args) (T : Nat) : Prop where
  s1 (j : Fin 8) (a e : Fin 128) : S.s1 (ix6 0 0 j 0 a e) = Merge.at1 A.s1 (T * 1024 + (j.val * 128 + a.val)) e
  s4 (j : Fin 2) (r : Fin 4) (a e : Fin 128) : S.s4 j r (ix6 0 0 0 0 a e) = Merge.at4 A.s4 (T * 1024 + (j.val * 512 + a.val * 4 + r.val)) e
  s16 (r : Fin 16) (a : Fin 64) (e : Fin 128) : S.s16 r (ix6 0 0 0 0 a e) = Merge.at16 A.s16 (T * 1024 + (a.val * 16 + r.val)) e
  o1 (j : Fin 8) (a : Fin 128) (l : Fin 1024) : S.o1 (ix6 0 0 j 0 a l) = Merge.at1 A.o1 (T * 1024 + (j.val * 128 + a.val)) l
  o4 (j : Fin 2) (r : Fin 4) (k : Fin 8) (a e : Fin 128) : S.o4 j r k (ix6 0 0 0 0 a e)
    = Merge.at4 A.o4 (T * 1024 + (j.val * 512 + a.val * 4 + r.val)) ⟨128 * k.val + e.val, by omega⟩
  o16 (r : Fin 16) (k : Fin 8) (a : Fin 64) (e : Fin 128) : S.o16 r k (ix6 0 0 0 0 a e)
    = Merge.at16 A.o16 (T * 1024 + (a.val * 16 + r.val)) ⟨128 * k.val + e.val, by omega⟩
  g (ρ l : Fin 1024) : S.g (ix2 ρ l) = Merge.row A.g (T * 1024 + ρ.val) l
  x (ρ l : Fin 1024) : S.x (ix2 ρ l) = Merge.row A.x (T * 1024 + ρ.val) l
  w (k l : Fin 1024) : S.w (ix2 k l) = A.w (ix2 k l)
  gm (l : Fin 1024) : S.gm (ix2 0 l) = A.gm (ix2 1 l)
  bt (l : Fin 1024) : S.bt (ix2 0 l) = A.bt (ix2 1 l)

theorem tok1 (ρ : Nat) : ρ / 128 * 128 + ρ % 128 = ρ := by omega
theorem tok4 (ρ : Nat) (h : ρ < 1024) : ρ / 512 * 512 + ρ / 4 % 128 * 4 + ρ % 4 = ρ := by omega
theorem tok16 (ρ : Nat) : ρ / 16 * 16 + ρ % 16 = ρ := by omega

section Point

variable {S : Src Ideal} {A : Merge.Args} {T : Nat} (H : Reads S A T) (v : Memref sig .tc .vmem S3x1024x128 .f32) (v' : Memref sig .tc .vmem S8x1024x128 .f32)
include H

theorem st_read (ρ : Fin 1024) (e : Fin 128) (d : Fin 3) : st S v d (ix2 ρ e) = Merge.pick A.s1 A.s4 A.s16 (T * 1024 + ρ.val) e d := by
  match d with
  | ⟨0, _⟩ =>
    refine (stat1_apply S.s1 ρ e).trans ((H.s1 _ _ _).trans ?_)
    exact congrArg (fun n => Merge.at1 A.s1 (T * 1024 + n) e) (tok1 ρ.val)
  | ⟨1, _⟩ =>
    refine (flat_apply _ ρ e).trans ((ls4_apply S v ρ e).trans ((H.s4 _ _ _ _).trans ?_))
    exact congrArg (fun n => Merge.at4 A.s4 (T * 1024 + n) e) (tok4 ρ.val ρ.isLt)
  | ⟨2, _⟩ =>
    refine (flat_apply _ ρ e).trans ((ls16_apply S v ρ e).trans ((H.s16 _ _ _).trans ?_))
    exact congrArg (fun n => Merge.at16 A.s16 (T * 1024 + n) e) (tok16 ρ.val)

theorem o_read (ρ l : Fin 1024) : pick3 (wide (part (flat1 S.o1))) (truncf .bf16 (wide fun k => flat (lo4 S v' k)) bitsLt_bf16_f32)
      (truncf .bf16 (wide fun k => flat (lo16 S v' k)) bitsLt_bf16_f32) ρ l = Merge.pick A.o1 A.o4 A.o16 (T * 1024 + ρ.val) l := by
  obtain ⟨k, e, hl⟩ : ∃ (k : Fin 8) (e : Fin 128), l = ⟨128 * k.val + e.val, by omega⟩ :=
    ⟨⟨l.val / 128, by omega⟩, ⟨l.val % 128, Nat.mod_lt _ (by decide)⟩, Fin.ext (Nat.div_add_mod l.val 128).symm⟩
  subst hl
  funext d
  match d with
  | ⟨0, _⟩ =>
    refine (wide_apply (part (flat1 S.o1)) ρ k e).trans ((part_apply _ k ρ e).trans ((flat1_apply _ ρ _).trans ((H.o1 _ _ _).trans ?_)))
    exact congrArg (fun n => Merge.at1 A.o1 (T * 1024 + n) _) (tok1 ρ.val)
  | ⟨1, _⟩ =>
    refine Eq.trans (b := wide (fun k => flat (lo4 S v' k)) (ix2 ρ ⟨128 * k.val + e.val, by omega⟩)) rfl ?_
    refine (wide_apply (fun k => flat (lo4 S v' k)) ρ k e).trans ((flat_apply _ ρ e).trans ((lo4_apply S v' k ρ e).trans ((H.o4 _ _ _ _ _).trans ?_)))
    exact congrArg (fun n => Merge.at4 A.o4 (T * 1024 + n) _) (tok4 ρ.val ρ.isLt)
  | ⟨2, _⟩ =>
    refine Eq.trans (b := wide (fun k => flat (lo16 S v' k)) (ix2 ρ ⟨128 * k.val + e.val, by omega⟩)) rfl ?_
    refine (wide_apply (fun k => flat (lo16 S v' k)) ρ k e).trans ((flat_apply _ ρ e).trans ((lo16_apply S v' k ρ e).trans ((H.o16 _ _ _ _).trans ?_)))
    exact congrArg (fun n => Merge.at16 A.o16 (T * 1024 + n) _) (tok16 ρ.val)

theorem block_read (ρ l : Fin 1024) : block S v v' (ix2 ρ l) = Merge.result Merge.accK Merge.gateK A (T * 1024 + ρ.val) l := by
  have hst : ∀ e : Fin 128, (fun d => st S v d (ix2 ρ e)) = Merge.pick A.s1 A.s4 A.s16 (T * 1024 + ρ.val) e := fun e => funext (st_read H v ρ e)
  refine (norm_apply _ _ S.gm S.bt ρ l).trans ?_
  unfold Merge.result
  have h1 : (fun l => (S.gm (ix2 0 l) : EReal)) = fun l => A.gm (ix2 1 l) := funext H.gm
  have h2 : (fun l => (S.bt (ix2 0 l) : EReal)) = fun l => A.bt (ix2 1 l) := funext H.bt
  refine congrFun (congr (congr (congrArg Merge.norm ?_) h1) h2) l
  funext l
  unfold Merge.hid
  refine congr (congrArg HAdd.hAdd ?_) ?_
  · exact (scaled_apply S.x ρ l).trans (congrArg (fun z : EReal => Ideal.ofBits .f32 0x3FB504F3#32 * z) (H.x ρ l))
  · refine (projected_apply _ S.w ρ l).trans (Finset.sum_congr rfl fun k _ => ?_)
    refine congr (congrArg HMul.hMul ?_) (H.w k l)
    refine (gated_apply _ S.g ρ k).trans ?_
    refine congr (congrArg HMul.hMul ?_) (congrArg Merge.gateK (H.g ρ k))
    refine (merged_apply _ _ _ _ ρ k).trans ?_
    exact congr (congr (congrArg Merge.accK (hst _)) (hst _)) (o_read H v' ρ k)

end Point

end Cert.Kernel3Ideal.Val
-- ==== Proof.MergeArray.lean ====
module

public import proofs.«01_k».proof.Proof.MergeBlock
public import proofs.«01_k».proof.Proof.Gen.Kernel3Ideal.Value
public import Idealize.ShloMosaic.Lib.Claim

@[expose] public section

set_option maxRecDepth 16384

noncomputable section

/-! The merge's result array, from its argument arrays. -/

namespace Cert.Kernel3Ideal.Val

open Cert.Kernel3Ideal Cert.Kernel3Ideal.Gen Idealize.ShloMosaic Idealize.ShloMosaic.TcCoe Idealize.SL.Sem Pointwise

/-- A load at unit stride, at an index. -/
theorem unit_ld {s : Shape} {e : EltTy} (mr : Memref sig .tc .vmem s e) (hm : mr.IsWhole) (x : Vec Ideal s e) (off size : Fin s.rank → Nat) (inb)
    (y : (⟨s.rank, size⟩ : Shape).Idx) (z : s.Idx) (h : ∀ a, (z a).val = off a + (y a).val) :
    (View.readAt (Elt Ideal) mr.view (Rect.unit (s := s) off size inb).toLoadRect (hm.unread x) : Vec Ideal ⟨s.rank, size⟩ e) y = x z := by
  rw [View.readAt_eq_ld, hm.read_unread]
  exact View.ld_unit_apply_of x _ _ _ _ _ h

section Tile

variable {W : Nat} (t : Nat) (ht : t < 16)
include ht

theorem at1_tile (A : (⟨6, ![2, 4, 16, 1, 128, W]⟩ : Shape).Idx → EReal) (j : Fin 8) (a : Fin 128) (l : Fin W) :
    Merge.at1 A (t * 1024 + (j.val * 128 + a.val)) l = A (ix6 ⟨t / 8, by omega⟩ ⟨t / 2 % 4, by omega⟩ ⟨t % 2 * 8 + j.val, by omega⟩ 0 a l) := by
  unfold Merge.at1
  rw [show (⟨(t * 1024 + (j.val * 128 + a.val)) / 8192 % 2, Nat.mod_lt _ (by decide)⟩ : Fin 2) = ⟨t / 8, by omega⟩ from Fin.ext (by dsimp only; omega),
    show (⟨(t * 1024 + (j.val * 128 + a.val)) / 2048 % 4, Nat.mod_lt _ (by decide)⟩ : Fin 4) = ⟨t / 2 % 4, by omega⟩ from Fin.ext (by dsimp only; omega),
    show (⟨(t * 1024 + (j.val * 128 + a.val)) / 128 % 16, Nat.mod_lt _ (by decide)⟩ : Fin 16) = ⟨t % 2 * 8 + j.val, by omega⟩ from Fin.ext (by dsimp only; omega),
    show (⟨(t * 1024 + (j.val * 128 + a.val)) % 128, Nat.mod_lt _ (by decide)⟩ : Fin 128) = a from Fin.ext (by dsimp only; omega)]

theorem at4_tile (A : (⟨6, ![2, 4, 4, 4, 128, W]⟩ : Shape).Idx → EReal) (j : Fin 2) (r : Fin 4) (a : Fin 128) (l : Fin W) :
    Merge.at4 A (t * 1024 + (j.val * 512 + a.val * 4 + r.val)) l = A (ix6 ⟨t / 8, by omega⟩ ⟨t / 2 % 4, by omega⟩ ⟨t % 2 * 2 + j.val, by omega⟩ r a l) := by
  unfold Merge.at4
  rw [show (⟨(t * 1024 + (j.val * 512 + a.val * 4 + r.val)) / 8192 % 2, Nat.mod_lt _ (by decide)⟩ : Fin 2) = ⟨t / 8, by omega⟩ from Fin.ext (by dsimp only; omega),
    show (⟨(t * 1024 + (j.val * 512 + a.val * 4 + r.val)) / 2048 % 4, Nat.mod_lt _ (by decide)⟩ : Fin 4) = ⟨t / 2 % 4, by omega⟩ from Fin.ext (by dsimp only; omega),
    show (⟨(t * 1024 + (j.val * 512 + a.val * 4 + r.val)) / 512 % 4, Nat.mod_lt _ (by decide)⟩ : Fin 4) = ⟨t % 2 * 2 + j.val, by omega⟩ from Fin.ext (by dsimp only; omega),
    show (⟨(t * 1024 + (j.val * 512 + a.val * 4 + r.val)) % 4, Nat.mod_lt _ (by decide)⟩ : Fin 4) = r from Fin.ext (by dsimp only; omega),
    show (⟨(t * 1024 + (j.val * 512 + a.val * 4 + r.val)) / 4 % 128, Nat.mod_lt _ (by decide)⟩ : Fin 128) = a from Fin.ext (by dsimp only; omega)]

theorem at16_tile (A : (⟨6, ![2, 4, 1, 16, 128, W]⟩ : Shape).Idx → EReal) (r : Fin 16) (a : Fin 64) (l : Fin W) :
    Merge.at16 A (t * 1024 + (a.val * 16 + r.val)) l = A (ix6 ⟨t / 8, by omega⟩ ⟨t / 2 % 4, by omega⟩ 0 r ⟨t % 2 * 64 + a.val, by omega⟩ l) := by
  unfold Merge.at16
  rw [show (⟨(t * 1024 + (a.val * 16 + r.val)) / 8192 % 2, Nat.mod_lt _ (by decide)⟩ : Fin 2) = ⟨t / 8, by omega⟩ from Fin.ext (by dsimp only; omega),
    show (⟨(t * 1024 + (a.val * 16 + r.val)) / 2048 % 4, Nat.mod_lt _ (by decide)⟩ : Fin 4) = ⟨t / 2 % 4, by omega⟩ from Fin.ext (by dsimp only; omega),
    show (⟨(t * 1024 + (a.val * 16 + r.val)) % 16, Nat.mod_lt _ (by decide)⟩ : Fin 16) = r from Fin.ext (by dsimp only; omega),
    show (⟨(t * 1024 + (a.val * 16 + r.val)) / 16 % 128, Nat.mod_lt _ (by decide)⟩ : Fin 128) = ⟨t % 2 * 64 + a.val, by omega⟩ from Fin.ext (by dsimp only; omega)]

theorem row_tile (A : (⟨2, ![16384, 1024]⟩ : Shape).Idx → EReal) (ρ l : Fin 1024) :
    Merge.row A (t * 1024 + ρ.val) l = A (ix2 ⟨t * 1024 + ρ.val, by omega⟩ l) := by
  unfold Merge.row
  rw [show (⟨(t * 1024 + ρ.val) % 16384, Nat.mod_lt _ (by decide)⟩ : Fin 16384) = ⟨t * 1024 + ρ.val, by omega⟩ from Fin.ext (Nat.mod_eq_of_lt (by omega))]

end Tile

section Block

variable (c : Dev nD) (i : grid0.Coords) (arg3 : Memref sig .tc .vmem S1x1x8x1x128x1024 .bf16) (harg3 : arg3.IsWhole) (arg4 : Memref sig .tc .vmem S1x1x2x4x128x1024 .bf16) (harg4 : arg4.IsWhole)
    (arg5 : Memref sig .tc .vmem S1x1x1x16x64x1024 .bf16) (harg5 : arg5.IsWhole) (arg6 : Memref sig .tc .vmem S1x1x8x1x128x128 .f32) (harg6 : arg6.IsWhole)
    (arg7 : Memref sig .tc .vmem S1x1x2x4x128x128 .f32) (harg7 : arg7.IsWhole) (arg8 : Memref sig .tc .vmem S1x1x1x16x64x128 .f32) (harg8 : arg8.IsWhole)
    (arg9 : Memref sig .tc .vmem S1024x1024 .bf16) (harg9 : arg9.IsWhole) (arg10 : Memref sig .tc .vmem S1024x1024 .f32) (harg10 : arg10.IsWhole)
    (arg11 : Memref sig .tc .vmem S1024x1024 .bf16) (harg11 : arg11.IsWhole) (arg12 : Memref sig .tc .vmem S2x1024 .f32) (harg12 : arg12.IsWhole)
    (arg13 : Memref sig .tc .vmem S2x1024 .f32) (harg13 : arg13.IsWhole) (arg14 : Memref sig .tc .vmem S1024x1024 .f32) (harg14 : arg14.IsWhole)
    (arg15 : Memref sig .tc .vmem S3x1024x128 .f32) (harg15 : arg15.IsWhole) (arg16 : Memref sig .tc .vmem S8x1024x128 .f32) (harg16 : arg16.IsWhole)
    (x0 : Vec Ideal S1x1x8x1x128x1024 .bf16) (x1 : Vec Ideal S1x1x2x4x128x1024 .bf16) (x2 : Vec Ideal S1x1x1x16x64x1024 .bf16)
    (x3 : Vec Ideal S1x1x8x1x128x128 .f32) (x4 : Vec Ideal S1x1x2x4x128x128 .f32) (x5 : Vec Ideal S1x1x1x16x64x128 .f32)
    (x6 : Vec Ideal S1024x1024 .bf16) (x7 : Vec Ideal S1024x1024 .f32) (x8 : Vec Ideal S1024x1024 .bf16) (x9 x10 : Vec Ideal S2x1024 .f32)

set_option maxHeartbeats 1000000 in
/-- What a point loads, from its blocks. -/
theorem reads_of (A : Merge.Args) (T : Nat)
    (h0 : ∀ (j : Fin 8) (a : Fin 128) (l : Fin 1024), x0 (ix6 0 0 j 0 a l) = Merge.at1 A.o1 (T * 1024 + (j.val * 128 + a.val)) l)
    (h1 : ∀ (j : Fin 2) (r : Fin 4) (a : Fin 128) (l : Fin 1024), x1 (ix6 0 0 j r a l) = Merge.at4 A.o4 (T * 1024 + (j.val * 512 + a.val * 4 + r.val)) l)
    (h2 : ∀ (r : Fin 16) (a : Fin 64) (l : Fin 1024), x2 (ix6 0 0 0 r a l) = Merge.at16 A.o16 (T * 1024 + (a.val * 16 + r.val)) l)
    (h3 : ∀ (j : Fin 8) (a l : Fin 128), x3 (ix6 0 0 j 0 a l) = Merge.at1 A.s1 (T * 1024 + (j.val * 128 + a.val)) l)
    (h4 : ∀ (j : Fin 2) (r : Fin 4) (a l : Fin 128), x4 (ix6 0 0 j r a l) = Merge.at4 A.s4 (T * 1024 + (j.val * 512 + a.val * 4 + r.val)) l)
    (h5 : ∀ (r : Fin 16) (a : Fin 64) (l : Fin 128), x5 (ix6 0 0 0 r a l) = Merge.at16 A.s16 (T * 1024 + (a.val * 16 + r.val)) l)
    (h6 : ∀ ρ l : Fin 1024, x6 (ix2 ρ l) = Merge.row A.g (T * 1024 + ρ.val) l)
    (h7 : ∀ ρ l : Fin 1024, x7 (ix2 ρ l) = Merge.row A.x (T * 1024 + ρ.val) l)
    (h8 : ∀ k l : Fin 1024, x8 (ix2 k l) = A.w (ix2 k l))
    (h9 : ∀ l : Fin 1024, x9 (ix2 1 l) = A.gm (ix2 1 l))
    (h10 : ∀ l : Fin 1024, x10 (ix2 1 l) = A.bt (ix2 1 l)) :
    Reads (srcOf arg3 harg3 arg4 harg4 arg5 harg5 arg6 harg6 arg7 harg7 arg8 harg8 arg9 harg9 arg10 harg10 arg11 harg11 arg12 harg12 arg13 harg13 x0 x1 x2 x3 x4 x5 x6 x7 x8 x9 x10) A T where
  s1 j a e := (unit_ld arg6 harg6 x3 ![0, 0, 0, 0, 0, 0] S1x1x8x1x128x128.size _ (ix6 0 0 j 0 a e) (ix6 0 0 j 0 a e) fun d => (match d with
    | ⟨0, _⟩ => rfl
    | ⟨1, _⟩ => rfl
    | ⟨2, _⟩ => (Nat.zero_add _).symm
    | ⟨3, _⟩ => rfl
    | ⟨4, _⟩ => (Nat.zero_add _).symm
    | ⟨5, _⟩ => (Nat.zero_add _).symm)).trans (h3 j a e)
  s4 j r a e := (unit_ld arg7 harg7 x4 ![0, 0, j.val, r.val, 0, 0] S1x1x1x1x128x128.size _ (ix6 0 0 0 0 a e) (ix6 0 0 j r a e) fun d => (match d with
    | ⟨0, _⟩ => rfl
    | ⟨1, _⟩ => rfl
    | ⟨2, _⟩ => rfl
    | ⟨3, _⟩ => rfl
    | ⟨4, _⟩ => (Nat.zero_add _).symm
    | ⟨5, _⟩ => (Nat.zero_add _).symm)).trans (h4 j r a e)
  s16 r a e := (unit_ld arg8 harg8 x5 ![0, 0, 0, r.val, 0, 0] S1x1x1x1x64x128.size _ (ix6 0 0 0 0 a e) (ix6 0 0 0 r a e) fun d => (match d with
    | ⟨0, _⟩ => rfl
    | ⟨1, _⟩ => rfl
    | ⟨2, _⟩ => rfl
    | ⟨3, _⟩ => rfl
    | ⟨4, _⟩ => (Nat.zero_add _).symm
    | ⟨5, _⟩ => (Nat.zero_add _).symm)).trans (h5 r a e)
  o1 j a l := (unit_ld arg3 harg3 x0 ![0, 0, 0, 0, 0, 0] S1x1x8x1x128x1024.size _ (ix6 0 0 j 0 a l) (ix6 0 0 j 0 a l) fun d => (match d with
    | ⟨0, _⟩ => rfl
    | ⟨1, _⟩ => rfl
    | ⟨2, _⟩ => (Nat.zero_add _).symm
    | ⟨3, _⟩ => rfl
    | ⟨4, _⟩ => (Nat.zero_add _).symm
    | ⟨5, _⟩ => (Nat.zero_add _).symm)).trans (h0 j a l)
  o4 j r k a e := (unit_ld arg4 harg4 x1 ![0, 0, j.val, r.val, 0, 128 * k.val] S1x1x1x1x128x128.size _ (ix6 0 0 0 0 a e) (ix6 0 0 j r a ⟨128 * k.val + e.val, by omega⟩) fun d => (match d with
    | ⟨0, _⟩ => rfl
    | ⟨1, _⟩ => rfl
    | ⟨2, _⟩ => rfl
    | ⟨3, _⟩ => rfl
    | ⟨4, _⟩ => (Nat.zero_add _).symm
    | ⟨5, _⟩ => rfl)).trans (h1 j r a _)
  o16 r k a e := (unit_ld arg5 harg5 x2 ![0, 0, 0, r.val, 0, 128 * k.val] S1x1x1x1x64x128.size _ (ix6 0 0 0 0 a e) (ix6 0 0 0 r a ⟨128 * k.val + e.val, by omega⟩) fun d => (match d with
    | ⟨0, _⟩ => rfl
    | ⟨1, _⟩ => rfl
    | ⟨2, _⟩ => rfl
    | ⟨3, _⟩ => rfl
    | ⟨4, _⟩ => (Nat.zero_add _).symm
    | ⟨5, _⟩ => rfl)).trans (h2 r a _)
  g ρ l := (unit_ld arg9 harg9 x6 ![0, 0] S1024x1024.size _ (ix2 ρ l) (ix2 ρ l) fun d => (match d with
    | ⟨0, _⟩ => (Nat.zero_add _).symm
    | ⟨1, _⟩ => (Nat.zero_add _).symm)).trans (h6 ρ l)
  x ρ l := (unit_ld arg10 harg10 x7 ![0, 0] S1024x1024.size _ (ix2 ρ l) (ix2 ρ l) fun d => (match d with
    | ⟨0, _⟩ => (Nat.zero_add _).symm
    | ⟨1, _⟩ => (Nat.zero_add _).symm)).trans (h7 ρ l)
  w k l := (unit_ld arg11 harg11 x8 ![0, 0] S1024x1024.size _ (ix2 k l) (ix2 k l) fun d => (match d with
    | ⟨0, _⟩ => (Nat.zero_add _).symm
    | ⟨1, _⟩ => (Nat.zero_add _).symm)).trans (h8 k l)
  gm l := (unit_ld arg12 harg12 x9 ![1, 0] S1x1024.size _ (ix2 0 l) (ix2 1 l) fun d => (match d with
    | ⟨0, _⟩ => rfl
    | ⟨1, _⟩ => (Nat.zero_add _).symm)).trans (h9 l)
  bt l := (unit_ld arg13 harg13 x10 ![1, 0] S1x1024.size _ (ix2 0 l) (ix2 1 l) fun d => (match d with
    | ⟨0, _⟩ => rfl
    | ⟨1, _⟩ => (Nat.zero_add _).symm)).trans (h10 l)

theorem block11 (A : Merge.Args) (T : Nat) (H : Reads (srcOf arg3 harg3 arg4 harg4 arg5 harg5 arg6 harg6 arg7 harg7 arg8 harg8 arg9 harg9 arg10 harg10 arg11 harg11 arg12 harg12 arg13 harg13 x0 x1 x2 x3 x4 x5 x6 x7 x8 x9 x10) A T) (ρ l : Fin 1024) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 ρ l) = Merge.result Merge.accK Merge.gateK A (T * 1024 + ρ.val) l := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10), pieces11]
  have hi : (Rect.unit (s := S1024x1024) ![0, 0] S1024x1024.size inb_S1024x1024_S1024x1024_0_0).emb (ix2 ρ l : S1024x1024.Idx) = (ix2 ρ l : S1024x1024.Idx) := by
    funext d
    match d with
    | ⟨0, _⟩ => exact Fin.ext (show 0 + 1 * ρ.val = ρ.val by omega)
    | ⟨1, _⟩ => exact Fin.ext (show 0 + 1 * l.val = l.val by omega)
  refine (congrArg (View.canon _) hi.symm).trans ?_
  exact (View.canon_cons_emb _ _ _ _).trans (block_read H arg15 arg16 ρ l)

end Block

variable (m : (ℓ : Loc nD τ sig) → Buf (Elt Ideal) ℓ) (c : Dev nD)

/-- The argument arrays. -/
def args : Merge.Args where
  o1 := (m ((c.tc : Thread nD τ).loc main_arg0) : FVec Ideal S2x4x16x1x128x1024 .bf16)
  o4 := (m ((c.tc : Thread nD τ).loc main_arg1) : FVec Ideal S2x4x4x4x128x1024 .bf16)
  o16 := (m ((c.tc : Thread nD τ).loc main_arg2) : FVec Ideal S2x4x1x16x128x1024 .bf16)
  s1 := (m ((c.tc : Thread nD τ).loc main_arg3) : FVec Ideal S2x4x16x1x128x128 .f32)
  s4 := (m ((c.tc : Thread nD τ).loc main_arg4) : FVec Ideal S2x4x4x4x128x128 .f32)
  s16 := (m ((c.tc : Thread nD τ).loc main_arg5) : FVec Ideal S2x4x1x16x128x128 .f32)
  g := (m ((c.tc : Thread nD τ).loc main_arg6) : FVec Ideal S16384x1024 .bf16)
  x := (m ((c.tc : Thread nD τ).loc main_arg7) : FVec Ideal S16384x1024 .f32)
  w := (m ((c.tc : Thread nD τ).loc main_arg8) : FVec Ideal S1024x1024 .bf16)
  gm := (m ((c.tc : Thread nD τ).loc main_arg9) : FVec Ideal S2x1024 .f32)
  bt := (m ((c.tc : Thread nD τ).loc main_arg10) : FVec Ideal S2x1024 .f32)

/-- The windows' block indices. -/
theorem idx : ∀ t : Fin cfg0.N, win0_0.index t = ![t.val / 8, t.val / 2 % 4, t.val % 2, 0, 0, 0] ∧ win0_1.index t = ![t.val / 8, t.val / 2 % 4, t.val % 2, 0, 0, 0]
    ∧ win0_2.index t = ![t.val / 8, t.val / 2 % 4, 0, 0, t.val % 2, 0]
    ∧ win0_3.index t = ![t.val / 8, t.val / 2 % 4, t.val % 2, 0, 0, 0] ∧ win0_4.index t = ![t.val / 8, t.val / 2 % 4, t.val % 2, 0, 0, 0]
    ∧ win0_5.index t = ![t.val / 8, t.val / 2 % 4, 0, 0, t.val % 2, 0]
    ∧ win0_6.index t = ![t.val, 0] ∧ win0_7.index t = ![t.val, 0] ∧ win0_8.index t = ![0, 0] ∧ win0_9.index t = ![0, 0] ∧ win0_10.index t = ![0, 0]
    ∧ win0_11.index t = ![t.val, 0] :=
  (by decide +kernel : ∀ t : Fin grid0.N, _)

theorem lt16 (t : Fin cfg0.N) : t.val < 16 := t.isLt

theorem blk0 (t : Fin cfg0.N) (j : Fin 8) (a : Fin 128) (l : Fin 1024) : (iblk m c 0 t : Vec Ideal S1x1x8x1x128x1024 .bf16) (ix6 0 0 j 0 a l) = Merge.at1 (args m c).o1 (t.val * 1024 + (j.val * 128 + a.val)) l := by
  have ht := lt16 t
  refine Eq.trans ?_ (at1_tile t.val ht (args m c).o1 j a l).symm
  have h : ((args m c).o1 : S2x4x16x1x128x1024.Idx → EReal) = (V m c main_arg0 : Vec Ideal S2x4x16x1x128x1024 .bf16) := (V_main_arg0 m c).symm
  rw [h]
  blk_ext [iblk, idx t]

theorem blk1 (t : Fin cfg0.N) (j : Fin 2) (r : Fin 4) (a : Fin 128) (l : Fin 1024) : (iblk m c 1 t : Vec Ideal S1x1x2x4x128x1024 .bf16) (ix6 0 0 j r a l) = Merge.at4 (args m c).o4 (t.val * 1024 + (j.val * 512 + a.val * 4 + r.val)) l := by
  have ht := lt16 t
  refine Eq.trans ?_ (at4_tile t.val ht (args m c).o4 j r a l).symm
  have h : ((args m c).o4 : S2x4x4x4x128x1024.Idx → EReal) = (V m c main_arg1 : Vec Ideal S2x4x4x4x128x1024 .bf16) := (V_main_arg1 m c).symm
  rw [h]
  blk_ext [iblk, idx t]

theorem blk2 (t : Fin cfg0.N) (r : Fin 16) (a : Fin 64) (l : Fin 1024) : (iblk m c 2 t : Vec Ideal S1x1x1x16x64x1024 .bf16) (ix6 0 0 0 r a l) = Merge.at16 (args m c).o16 (t.val * 1024 + (a.val * 16 + r.val)) l := by
  have ht := lt16 t
  refine Eq.trans ?_ (at16_tile t.val ht (args m c).o16 r a l).symm
  have h : ((args m c).o16 : S2x4x1x16x128x1024.Idx → EReal) = (V m c main_arg2 : Vec Ideal S2x4x1x16x128x1024 .bf16) := (V_main_arg2 m c).symm
  rw [h]
  blk_ext [iblk, idx t]

theorem blk3 (t : Fin cfg0.N) (j : Fin 8) (a : Fin 128) (l : Fin 128) : (iblk m c 3 t : Vec Ideal S1x1x8x1x128x128 .f32) (ix6 0 0 j 0 a l) = Merge.at1 (args m c).s1 (t.val * 1024 + (j.val * 128 + a.val)) l := by
  have ht := lt16 t
  refine Eq.trans ?_ (at1_tile t.val ht (args m c).s1 j a l).symm
  have h : ((args m c).s1 : S2x4x16x1x128x128.Idx → EReal) = (V m c main_arg3 : Vec Ideal S2x4x16x1x128x128 .f32) := (V_main_arg3 m c).symm
  rw [h]
  blk_ext [iblk, idx t]

theorem blk4 (t : Fin cfg0.N) (j : Fin 2) (r : Fin 4) (a : Fin 128) (l : Fin 128) : (iblk m c 4 t : Vec Ideal S1x1x2x4x128x128 .f32) (ix6 0 0 j r a l) = Merge.at4 (args m c).s4 (t.val * 1024 + (j.val * 512 + a.val * 4 + r.val)) l := by
  have ht := lt16 t
  refine Eq.trans ?_ (at4_tile t.val ht (args m c).s4 j r a l).symm
  have h : ((args m c).s4 : S2x4x4x4x128x128.Idx → EReal) = (V m c main_arg4 : Vec Ideal S2x4x4x4x128x128 .f32) := (V_main_arg4 m c).symm
  rw [h]
  blk_ext [iblk, idx t]

theorem blk5 (t : Fin cfg0.N) (r : Fin 16) (a : Fin 64) (l : Fin 128) : (iblk m c 5 t : Vec Ideal S1x1x1x16x64x128 .f32) (ix6 0 0 0 r a l) = Merge.at16 (args m c).s16 (t.val * 1024 + (a.val * 16 + r.val)) l := by
  have ht := lt16 t
  refine Eq.trans ?_ (at16_tile t.val ht (args m c).s16 r a l).symm
  have h : ((args m c).s16 : S2x4x1x16x128x128.Idx → EReal) = (V m c main_arg5 : Vec Ideal S2x4x1x16x128x128 .f32) := (V_main_arg5 m c).symm
  rw [h]
  blk_ext [iblk, idx t]

theorem blk6 (t : Fin cfg0.N) (ρ l : Fin 1024) : (iblk m c 6 t : Vec Ideal S1024x1024 .bf16) (ix2 ρ l) = Merge.row (args m c).g (t.val * 1024 + ρ.val) l := by
  have ht := lt16 t
  refine Eq.trans ?_ (row_tile t.val ht (args m c).g ρ l).symm
  have h : ((args m c).g : S16384x1024.Idx → EReal) = (V m c main_arg6 : Vec Ideal S16384x1024 .bf16) := (V_main_arg6 m c).symm
  rw [h]
  blk_ext [iblk, idx t]

theorem blk7 (t : Fin cfg0.N) (ρ l : Fin 1024) : (iblk m c 7 t : Vec Ideal S1024x1024 .f32) (ix2 ρ l) = Merge.row (args m c).x (t.val * 1024 + ρ.val) l := by
  have ht := lt16 t
  refine Eq.trans ?_ (row_tile t.val ht (args m c).x ρ l).symm
  have h : ((args m c).x : S16384x1024.Idx → EReal) = (V m c main_arg7 : Vec Ideal S16384x1024 .f32) := (V_main_arg7 m c).symm
  rw [h]
  blk_ext [iblk, idx t]

theorem blk8 (t : Fin cfg0.N) (k l : Fin 1024) : (iblk m c 8 t : Vec Ideal S1024x1024 .bf16) (ix2 k l) = (args m c).w (ix2 k l) := by
  have ht := lt16 t
  refine Eq.trans ?_ rfl
  have h : ((args m c).w : S1024x1024.Idx → EReal) = (V m c main_arg8 : Vec Ideal S1024x1024 .bf16) := (V_main_arg8 m c).symm
  rw [h]
  blk_ext [iblk, idx t]

theorem blk9 (t : Fin cfg0.N) (l : Fin 1024) : (iblk m c 9 t : Vec Ideal S2x1024 .f32) (ix2 1 l) = (args m c).gm (ix2 1 l) := by
  have ht := lt16 t
  refine Eq.trans ?_ rfl
  have h : ((args m c).gm : S2x1024.Idx → EReal) = (V m c main_arg9 : Vec Ideal S2x1024 .f32) := (V_main_arg9 m c).symm
  rw [h]
  blk_ext [iblk, idx t]

theorem blk10 (t : Fin cfg0.N) (l : Fin 1024) : (iblk m c 10 t : Vec Ideal S2x1024 .f32) (ix2 1 l) = (args m c).bt (ix2 1 l) := by
  have ht := lt16 t
  refine Eq.trans ?_ rfl
  have h : ((args m c).bt : S2x1024.Idx → EReal) = (V m c main_arg10 : Vec Ideal S2x1024 .f32) := (V_main_arg10 m c).symm
  rw [h]
  blk_ext [iblk, idx t]

theorem reads (t : Fin cfg0.N) : Reads (srcOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (args m c) t.val :=
  reads_of (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (args m c) t.val (blk0 m c t) (blk1 m c t) (blk2 m c t) (blk3 m c t) (blk4 m c t) (blk5 m c t) (blk6 m c t) (blk7 m c t) (blk8 m c t) (blk9 m c t) (blk10 m c t)

theorem point11 (t : Fin cfg0.N) (y : S1024x1024.Idx) : outsAt0 m c t y
    = Merge.byRow (Merge.result Merge.accK Merge.gateK (args m c)) ((win0_11.blk t).view.emb y) := by
  obtain ⟨ρ, l, hy⟩ : ∃ ρ l : Fin 1024, y = (ix2 ρ l : S1024x1024.Idx) := ⟨y 0, y 1, funext fun d => match d with
    | ⟨0, _⟩ => rfl
    | ⟨1, _⟩ => rfl⟩
  subst hy
  have ht := lt16 t
  have he : (win0_11.blk t).view.emb (ix2 ρ l : S1024x1024.Idx) = (ix2 ⟨t.val * 1024 + ρ.val, by omega⟩ l : S16384x1024.Idx) := by
    blk_ext [idx t]
  refine Eq.trans ?_ (congrArg (Merge.byRow (Merge.result Merge.accK Merge.gateK (args m c))) he).symm
  unfold outsAt0
  exact block11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (args m c) t.val (reads m c t) ρ l

/-- The result array. -/
theorem final11 : (dats m 0 c).arrAt 11 cfg0.N = Merge.byRow (Merge.result Merge.accK Merge.gateK (args m c)) := by
  refine (dats m 0 c).arrAt_eq_of_covers 11 _ (by decide +kernel) fun t hf y => ?_
  blk_simp
  rw [after0_11]
  exact point11 m c t y

end Cert.Kernel3Ideal.Val
-- ==== Proof.MergeStages.lean ====
module

public import proofs.«01_k».proof.Proof.Gen.Reference3Ideal.Run
public import Idealize.ShloMosaic.Lib.Pointwise

@[expose] public section

set_option maxRecDepth 16384

noncomputable section

/-! The merge's reference in stages: the statistics and the attention by token, the softmax over the groups, the gated
projection and the layer norm. -/

namespace Cert.Reference3Ideal.RefVal

open Cert.Reference3Ideal Cert.Reference3Ideal.Gen Idealize.ShloMosaic Idealize.ShloMosaic.TcCoe Idealize.SL.Sem

variable {F : FTy → Type} [FloatOps F]

/-- A group's statistics and attention, by token. -/
def tok1 (y : FVec F S2x4x16x1x128x128 .f32) : FVec F S2x8192x8x16 .f32 :=
  shapeCast _ (transpose S2x4x16x128x1x128 [0, 1, 2, 4, 3, 5] y transposes_S2x4x16x1x128x128_S2x4x16x128x1x128_0_1_2_4_3_5) shapeCasts_S2x4x16x128x1x128_S2x8192x8x16
def tok4 (y : FVec F S2x4x4x4x128x128 .f32) : FVec F S2x8192x8x16 .f32 :=
  shapeCast _ (transpose S2x4x4x128x4x128 [0, 1, 2, 4, 3, 5] y transposes_S2x4x4x4x128x128_S2x4x4x128x4x128_0_1_2_4_3_5) shapeCasts_S2x4x4x128x4x128_S2x8192x8x16
def tok16 (y : FVec F S2x4x1x16x128x128 .f32) : FVec F S2x8192x8x16 .f32 :=
  shapeCast _ (transpose S2x4x1x128x16x128 [0, 1, 2, 4, 3, 5] y transposes_S2x4x1x16x128x128_S2x4x1x128x16x128_0_1_2_4_3_5) shapeCasts_S2x4x1x128x16x128_S2x8192x8x16
def att1 (y : FVec F S2x4x16x1x128x1024 .bf16) : FVec F S2x8192x8x128 .f32 :=
  shapeCast _ (transpose S2x4x16x128x1x1024 [0, 1, 2, 4, 3, 5] (extf .f32 y bitsLt_bf16_f32) transposes_S2x4x16x1x128x1024_S2x4x16x128x1x1024_0_1_2_4_3_5) shapeCasts_S2x4x16x128x1x1024_S2x8192x8x128
def att4 (y : FVec F S2x4x4x4x128x1024 .bf16) : FVec F S2x8192x8x128 .f32 :=
  shapeCast _ (transpose S2x4x4x128x4x1024 [0, 1, 2, 4, 3, 5] (extf .f32 y bitsLt_bf16_f32) transposes_S2x4x4x4x128x1024_S2x4x4x128x4x1024_0_1_2_4_3_5) shapeCasts_S2x4x4x128x4x1024_S2x8192x8x128
def att16 (y : FVec F S2x4x1x16x128x1024 .bf16) : FVec F S2x8192x8x128 .f32 :=
  shapeCast _ (transpose S2x4x1x128x16x1024 [0, 1, 2, 4, 3, 5] (extf .f32 y bitsLt_bf16_f32) transposes_S2x4x1x16x128x1024_S2x4x1x128x16x1024_0_1_2_4_3_5) shapeCasts_S2x4x1x128x16x1024_S2x8192x8x128

/-- The row maximum and the row sum of every token and head, the logarithm of the weights' sum, and the normalised attention. -/
def rowMax (s : FVec F S2x8192x8x16 .f32) : FVec F S2x8192x8 .f32 :=
  shapeCast _ (extractStridedSlice S2x8192x8x1 ![0, 0, 0, 0] s slices_S2x8192x8x16_S2x8192x8x1_0_0_0_0) shapeCasts_S2x8192x8x1_S2x8192x8
def rowSum (s : FVec F S2x8192x8x16 .f32) : FVec F S2x8192x8 .f32 :=
  shapeCast _ (extractStridedSlice S2x8192x8x1 ![0, 0, 0, 8] s slices_S2x8192x8x16_S2x8192x8x1_0_0_0_8) shapeCasts_S2x8192x8x1_S2x8192x8
def lseOf (s : FVec F S2x8192x8x16 .f32) : FVec F S1x2x8192x8 .f32 :=
  broadcastInDim S1x2x8192x8 ![1, 2, 3] bcast_S2x8192x8_S1x2x8192x8_1_2_3 (addf (rowMax s) (Host.log (rowSum s)))
def outOf (o : FVec F S2x8192x8x128 .f32) (s : FVec F S2x8192x8x16 .f32) : FVec F S1x2x8192x8x128 .f32 :=
  broadcastInDim S1x2x8192x8x128 ![1, 2, 3, 4] bcast_S2x8192x8x128_S1x2x8192x8x128_1_2_3_4 (Host.divf o (broadcastInDim S2x8192x8x128 ![0, 1, 2, 3] bcast_S2x8192x8x1_S2x8192x8x128_0_1_2_3
    (broadcastInDim S2x8192x8x1 ![0, 1, 2] bcast_S2x8192x8_S2x8192x8x1_0_1_2 (rowSum s))))

/-- The three groups stacked, and the softmax over them. -/
def stackL (a b c : FVec F S1x2x8192x8 .f32) : FVec F S3x2x8192x8 .f32 :=
  concatenate S3x2x8192x8 0 [⟨S1x2x8192x8, a⟩, ⟨S1x2x8192x8, b⟩, ⟨S1x2x8192x8, c⟩] concatenates_S1x2x8192x8_S1x2x8192x8_S1x2x8192x8_S3x2x8192x8_d0
def stackO (a b c : FVec F S1x2x8192x8x128 .f32) : FVec F S3x2x8192x8x128 .f32 :=
  concatenate S3x2x8192x8x128 0 [⟨S1x2x8192x8x128, a⟩, ⟨S1x2x8192x8x128, b⟩, ⟨S1x2x8192x8x128, c⟩] concatenates_S1x2x8192x8x128_S1x2x8192x8x128_S1x2x8192x8x128_S3x2x8192x8x128_d0
def top (L : FVec F S3x2x8192x8 .f32) : FVec F S2x8192x8 .f32 :=
  maximumf (broadcastInDim S2x8192x8 ![] bcast_S_S2x8192x8 (constant S_ .f32 0xFF800000#32))
    (Host.reduce FloatOps.maximumf L (constant S_ .f32 0xFF800000#32) reducesTo_S3x2x8192x8_S2x8192x8_d0 h_S_)
def over3 (y : FVec F S2x8192x8 .f32) : FVec F S3x2x8192x8 .f32 :=
  broadcastInDim S3x2x8192x8 ![0, 1, 2, 3] bcast_S1x2x8192x8_S3x2x8192x8_0_1_2_3 (broadcastInDim S1x2x8192x8 ![1, 2, 3] bcast_S2x8192x8_S1x2x8192x8_1_2_3 y)
def num (L : FVec F S3x2x8192x8 .f32) : FVec F S3x2x8192x8 .f32 := Host.exp (subf L (over3 (top L)))
def total (y : FVec F S3x2x8192x8 .f32) : FVec F S2x8192x8 .f32 :=
  Host.reduceAdd y (constant S_ .f32 0x00000000#32) reducesTo_S3x2x8192x8_S2x8192x8_d0 h_S_
def share (L : FVec F S3x2x8192x8 .f32) : FVec F S3x2x8192x8 .f32 := Host.divf (num L) (over3 (total (num L)))
def weighted (w : FVec F S3x2x8192x8 .f32) (O : FVec F S3x2x8192x8x128 .f32) : FVec F S3x2x8192x8x128 .f32 :=
  mulf (broadcastInDim S3x2x8192x8x128 ![0, 1, 2, 3, 4] bcast_S3x2x8192x8x1_S3x2x8192x8x128_0_1_2_3_4
    (broadcastInDim S3x2x8192x8x1 ![0, 1, 2, 3] bcast_S3x2x8192x8_S3x2x8192x8x1_0_1_2_3 w)) O
def total3 (y : FVec F S3x2x8192x8x128 .f32) : FVec F S2x8192x8x128 .f32 :=
  Host.reduceAdd y (constant S_ .f32 0x00000000#32) reducesTo_S3x2x8192x8x128_S2x8192x8x128_d0 h_S_
def merged (L : FVec F S3x2x8192x8 .f32) (O : FVec F S3x2x8192x8x128 .f32) : FVec F S16384x1024 .f32 :=
  shapeCast _ (total3 (weighted (share L) O)) shapeCasts_S2x8192x8x128_S16384x1024

/-- The gate, the closing projection and the residual. -/
def gate (g : FVec F S16384x1024 .bf16) : FVec F S16384x1024 .f32 :=
  mulf (extf .f32 g bitsLt_bf16_f32) (Host.divf (broadcastInDim S16384x1024 ![] bcast_S_S16384x1024 (constant S_ .f32 0x3F800000#32))
    (addf (broadcastInDim S16384x1024 ![] bcast_S_S16384x1024 (constant S_ .f32 0x3F800000#32)) (Host.exp (Host.negf (extf .f32 g bitsLt_bf16_f32)))))
def hidden (y : FVec F S16384x1024 .f32) (g : FVec F S16384x1024 .bf16) (x : FVec F S16384x1024 .f32) (w : FVec F S1024x1024 .bf16) : FVec F S16384x1024 .f32 :=
  addf (mulf (broadcastInDim S16384x1024 ![] bcast_S_S16384x1024 (constant S_ .f32 0x3FB504F3#32)) x)
    (Host.dotGeneral dot_S16384x1024_S1024x1024_S16384x1024_1_0_0_1_n_n none (mulf y (gate g)) (extf .f32 w bitsLt_bf16_f32))

/-- The layer norm. -/
def rowTotal (y : FVec F S16384x1024 .f32) : FVec F S16384 .f32 :=
  Host.reduceAdd y (constant S_ .f32 0x00000000#32) reducesTo_S16384x1024_S16384_d1 h_S_
def mean (y : FVec F S16384x1024 .f32) : FVec F S16384x1 .f32 :=
  Host.divf (broadcastInDim S16384x1 ![0] bcast_S16384_S16384x1_0 (rowTotal y)) (broadcastInDim S16384x1 ![] bcast_S_S16384x1 (constant S_ .f32 0x44800000#32))
def centred (y : FVec F S16384x1024 .f32) : FVec F S16384x1024 .f32 :=
  subf y (broadcastInDim S16384x1024 ![0, 1] bcast_S16384x1_S16384x1024_0_1 (mean y))
def lane (y : FVec F S2x1024 .f32) : FVec F S16384x1024 .f32 :=
  broadcastInDim S16384x1024 ![0, 1] bcast_S1x1024_S16384x1024_0_1 (broadcastInDim S1x1024 ![1] bcast_S1024_S1x1024_1
    (shapeCast _ (extractStridedSlice S1x1024 ![1, 0] y slices_S2x1024_S1x1024_1_0) shapeCasts_S1x1024_S1024))
def norm (y : FVec F S16384x1024 .f32) (gm bt : FVec F S2x1024 .f32) : FVec F S16384x1024 .f32 :=
  addf (mulf (mulf (centred y) (broadcastInDim S16384x1024 ![0, 1] bcast_S16384x1_S16384x1024_0_1 (Host.rsqrt (addf (mean (mulf (centred y) (centred y)))
    (broadcastInDim S16384x1 ![] bcast_S_S16384x1 (constant S_ .f32 0x3727C5AC#32)))))) (lane gm)) (lane bt)

def stages (o1 : FVec F S2x4x16x1x128x1024 .bf16) (o4 : FVec F S2x4x4x4x128x1024 .bf16) (o16 : FVec F S2x4x1x16x128x1024 .bf16)
    (s1 : FVec F S2x4x16x1x128x128 .f32) (s4 : FVec F S2x4x4x4x128x128 .f32) (s16 : FVec F S2x4x1x16x128x128 .f32)
    (g : FVec F S16384x1024 .bf16) (x : FVec F S16384x1024 .f32) (w : FVec F S1024x1024 .bf16) (gm bt : FVec F S2x1024 .f32) : FVec F S16384x1024 .f32 :=
  norm (hidden (merged (stackL (lseOf (tok1 s1)) (lseOf (tok4 s4)) (lseOf (tok16 s16)))
    (stackO (outOf (att1 o1) (tok1 s1)) (outOf (att4 o4) (tok4 s4)) (outOf (att16 o16) (tok16 s16)))) g x w) gm bt

theorem res_eq (m : (ℓ : Loc nD τ sig) → Buf (Elt F) ℓ) (c : Dev nD) : Value.res_main_v99 m c
    = stages (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
  rfl

end Cert.Reference3Ideal.RefVal
-- ==== Proof.MergeRef.lean ====
module

public import proofs.«01_k».proof.Proof.MergeStages
public import proofs.«01_k».proof.Proof.MergeSpec
public import Idealize.ShloMosaic.Lib.IdealHost
public import Idealize.ShloMosaic.Lib.KernelVsHost

@[expose] public section

set_option maxRecDepth 16384

noncomputable section

/-! The merge's reference at an index. -/

namespace Cert.Reference3Ideal.RefVal

open Cert.Reference3Ideal Cert.Reference3Ideal.Gen Idealize.ShloMosaic Idealize.ShloMosaic.TcCoe Idealize.SL.Sem Pointwise

theorem ix6_val {n0 n1 n2 n3 n4 n5 : Nat} {a a' : Fin n0} {b b' : Fin n1} {c c' : Fin n2} {d d' : Fin n3} {e e' : Fin n4} {f f' : Fin n5}
    (ha : a.val = a'.val) (hb : b.val = b'.val) (hc : c.val = c'.val) (hd : d.val = d'.val) (he : e.val = e'.val) (hf : f.val = f'.val) :
    (ix6 a b c d e f : (⟨6, ![n0, n1, n2, n3, n4, n5]⟩ : Shape).Idx) = ix6 a' b' c' d' e' f' := by
  rw [Fin.ext ha, Fin.ext hb, Fin.ext hc, Fin.ext hd, Fin.ext he, Fin.ext hf]

section Token

variable (R : Fin 16384) (h : Fin 8)

theorem tok1_apply (y : FVec Ideal S2x4x16x1x128x128 .f32) (e : Fin 16) :
    tok1 y (ix4 ⟨R.val / 8192, by omega⟩ ⟨R.val % 8192, Nat.mod_lt _ (by decide)⟩ h e) = Merge.at1 y R.val ⟨16 * h.val + e.val, by omega⟩ := by
  have hR := R.isLt
  have hh := h.isLt
  have he := e.isLt
  pointwise [tok1, Merge.at1]
  refine congrArg y (ix6_val ?_ ?_ ?_ ?_ ?_ ?_) <;> first | rfl | (dsimp only; omega)
theorem att1_apply (y : FVec Ideal S2x4x16x1x128x1024 .bf16) (e : Fin 128) :
    att1 y (ix4 ⟨R.val / 8192, by omega⟩ ⟨R.val % 8192, Nat.mod_lt _ (by decide)⟩ h e) = Merge.at1 y R.val ⟨128 * h.val + e.val, by omega⟩ := by
  have hR := R.isLt
  have hh := h.isLt
  have he := e.isLt
  pointwise [att1, Merge.at1]
  refine congrArg y (ix6_val ?_ ?_ ?_ ?_ ?_ ?_) <;> first | rfl | (dsimp only; omega)
theorem tok4_apply (y : FVec Ideal S2x4x4x4x128x128 .f32) (e : Fin 16) :
    tok4 y (ix4 ⟨R.val / 8192, by omega⟩ ⟨R.val % 8192, Nat.mod_lt _ (by decide)⟩ h e) = Merge.at4 y R.val ⟨16 * h.val + e.val, by omega⟩ := by
  have hR := R.isLt
  have hh := h.isLt
  have he := e.isLt
  pointwise [tok4, Merge.at4]
  refine congrArg y (ix6_val ?_ ?_ ?_ ?_ ?_ ?_) <;> first | rfl | (dsimp only; omega)
theorem att4_apply (y : FVec Ideal S2x4x4x4x128x1024 .bf16) (e : Fin 128) :
    att4 y (ix4 ⟨R.val / 8192, by omega⟩ ⟨R.val % 8192, Nat.mod_lt _ (by decide)⟩ h e) = Merge.at4 y R.val ⟨128 * h.val + e.val, by omega⟩ := by
  have hR := R.isLt
  have hh := h.isLt
  have he := e.isLt
  pointwise [att4, Merge.at4]
  refine congrArg y (ix6_val ?_ ?_ ?_ ?_ ?_ ?_) <;> first | rfl | (dsimp only; omega)
theorem tok16_apply (y : FVec Ideal S2x4x1x16x128x128 .f32) (e : Fin 16) :
    tok16 y (ix4 ⟨R.val / 8192, by omega⟩ ⟨R.val % 8192, Nat.mod_lt _ (by decide)⟩ h e) = Merge.at16 y R.val ⟨16 * h.val + e.val, by omega⟩ := by
  have hR := R.isLt
  have hh := h.isLt
  have he := e.isLt
  pointwise [tok16, Merge.at16]
  refine congrArg y (ix6_val ?_ ?_ ?_ ?_ ?_ ?_) <;> first | rfl | (dsimp only; omega)
theorem att16_apply (y : FVec Ideal S2x4x1x16x128x1024 .bf16) (e : Fin 128) :
    att16 y (ix4 ⟨R.val / 8192, by omega⟩ ⟨R.val % 8192, Nat.mod_lt _ (by decide)⟩ h e) = Merge.at16 y R.val ⟨128 * h.val + e.val, by omega⟩ := by
  have hR := R.isLt
  have hh := h.isLt
  have he := e.isLt
  pointwise [att16, Merge.at16]
  refine congrArg y (ix6_val ?_ ?_ ?_ ?_ ?_ ?_) <;> first | rfl | (dsimp only; omega)

end Token

theorem rowMax_apply (y : FVec Ideal S2x8192x8x16 .f32) (b : Fin 2) (s : Fin 8192) (h : Fin 8) : rowMax y (ix3 b s h) = y (ix4 b s h 0) := by
  pointwise [rowMax]
theorem rowSum_apply (y : FVec Ideal S2x8192x8x16 .f32) (b : Fin 2) (s : Fin 8192) (h : Fin 8) : rowSum y (ix3 b s h) = y (ix4 b s h 8) := by
  pointwise [rowSum]
theorem lseOf_apply (y : FVec Ideal S2x8192x8x16 .f32) (b : Fin 2) (s : Fin 8192) (h : Fin 8) :
    lseOf y (ix4 0 b s h) = (y (ix4 b s h 0) : EReal) + Ideal.log (y (ix4 b s h 8)) := by
  rw [← rowMax_apply y b s h, ← rowSum_apply y b s h]
  pointwise [lseOf]
theorem outOf_apply (o : FVec Ideal S2x8192x8x128 .f32) (y : FVec Ideal S2x8192x8x16 .f32) (b : Fin 2) (s : Fin 8192) (h : Fin 8) (e : Fin 128) :
    outOf o y (ix5 0 b s h e) = Ideal.div (o (ix4 b s h e)) (y (ix4 b s h 8)) := by
  rw [← rowSum_apply y b s h]
  pointwise [outOf]

/-- Three values by group. -/
def by3 (a b c : EReal) (g : Fin 3) : EReal :=
  match g with
  | ⟨0, _⟩ => a
  | ⟨1, _⟩ => b
  | ⟨2, _⟩ => c

theorem stackL_apply (u v w : FVec Ideal S1x2x8192x8 .f32) (g : Fin 3) (b : Fin 2) (s : Fin 8192) (h : Fin 8) :
    stackL u v w (ix4 g b s h) = by3 (u (ix4 0 b s h)) (v (ix4 0 b s h)) (w (ix4 0 b s h)) g := by
  match g with
  | ⟨0, _⟩ => pointwise [stackL]; rfl
  | ⟨1, _⟩ => pointwise [stackL]; rfl
  | ⟨2, _⟩ => pointwise [stackL]; rfl
theorem stackO_apply (u v w : FVec Ideal S1x2x8192x8x128 .f32) (g : Fin 3) (b : Fin 2) (s : Fin 8192) (h : Fin 8) (e : Fin 128) :
    stackO u v w (ix5 g b s h e) = by3 (u (ix5 0 b s h e)) (v (ix5 0 b s h e)) (w (ix5 0 b s h e)) g := by
  match g with
  | ⟨0, _⟩ => pointwise [stackO]; rfl
  | ⟨1, _⟩ => pointwise [stackO]; rfl
  | ⟨2, _⟩ => pointwise [stackO]; rfl

theorem red0 : S3x2x8192x8.Reduces [0] S2x8192x8 := by decide
theorem lift0 (b : Fin 2) (s : Fin 8192) (h : Fin 8) (g : Fin 3) : red0.lift (ix3 b s h) g = ix4 g b s h := by
  funext a
  match a with
  | ⟨0, _⟩ => rfl
  | ⟨1, _⟩ => rfl
  | ⟨2, _⟩ => rfl
  | ⟨3, _⟩ => rfl
theorem red0' : S3x2x8192x8x128.Reduces [0] S2x8192x8x128 := by decide
theorem lift0' (b : Fin 2) (s : Fin 8192) (h : Fin 8) (e : Fin 128) (g : Fin 3) : red0'.lift (ix4 b s h e) g = ix5 g b s h e := by
  funext a
  match a with
  | ⟨0, _⟩ => rfl
  | ⟨1, _⟩ => rfl
  | ⟨2, _⟩ => rfl
  | ⟨3, _⟩ => rfl
  | ⟨4, _⟩ => rfl
theorem red1 : S16384x1024.Reduces [1] S16384 := by decide
theorem lift1 (R : Fin 16384) (k : Fin 1024) : red1.lift (ix1 R) k = ix2 R k := by
  funext a
  match a with
  | ⟨0, _⟩ => rfl
  | ⟨1, _⟩ => rfl

theorem top_apply (L : FVec Ideal S3x2x8192x8 .f32) (b : Fin 2) (s : Fin 8192) (h : Fin 8) :
    top L (ix3 b s h) = max ⊥ (Finset.univ.fold max ⊥ fun g : Fin 3 => L (ix4 g b s h)) := by
  unfold top
  rw [hostReduce_maximumf_eq_multiReduction L _ _ _ red0 (by decide) (by decide)]
  refine congrArg₂ (max : EReal → EReal → EReal) Merge.bot_eq ?_
  refine (Ideal.multiReduction_maximumf_single ..).trans ?_
  rw [show (FloatOps.ofBits .f32 0xFF800000#32 : Ideal .f32) = ⊥ from Merge.bot_eq]
  exact congrArg (fun f => Finset.univ.fold max ⊥ f) (funext fun g => congrArg L (lift0 b s h g))
theorem total_apply (L : FVec Ideal S3x2x8192x8 .f32) (b : Fin 2) (s : Fin 8192) (h : Fin 8) :
    total L (ix3 b s h) = ∑ g : Fin 3, (L (ix4 g b s h) : EReal) := by
  unfold total
  rw [ValueIdx.hostReduceAdd_apply, Ideal.hostReduceAdd_single _ red0]
  rw [show (constant S_ .f32 0x00000000#32 : FVec Ideal S_ .f32) (Shape.Idx.first h_S_) = 0 from Ideal.ofBits_zero_f32, zero_add]
  exact Finset.sum_congr rfl fun g _ => congrArg L (lift0 b s h g)
theorem total3_apply (L : FVec Ideal S3x2x8192x8x128 .f32) (b : Fin 2) (s : Fin 8192) (h : Fin 8) (e : Fin 128) :
    total3 L (ix4 b s h e) = ∑ g : Fin 3, (L (ix5 g b s h e) : EReal) := by
  unfold total3
  rw [ValueIdx.hostReduceAdd_apply, Ideal.hostReduceAdd_single _ red0']
  rw [show (constant S_ .f32 0x00000000#32 : FVec Ideal S_ .f32) (Shape.Idx.first h_S_) = 0 from Ideal.ofBits_zero_f32, zero_add]
  exact Finset.sum_congr rfl fun g _ => congrArg L (lift0' b s h e g)
theorem rowTotal_apply (y : FVec Ideal S16384x1024 .f32) (R : Fin 16384) : rowTotal y (ix1 R) = ∑ k : Fin 1024, (y (ix2 R k) : EReal) := by
  unfold rowTotal
  rw [ValueIdx.hostReduceAdd_apply, Ideal.hostReduceAdd_single _ red1]
  rw [show (constant S_ .f32 0x00000000#32 : FVec Ideal S_ .f32) (Shape.Idx.first h_S_) = 0 from Ideal.ofBits_zero_f32, zero_add]
  exact Finset.sum_congr rfl fun k _ => congrArg y (lift1 R k)

theorem over3_apply (y : FVec Ideal S2x8192x8 .f32) (g : Fin 3) (b : Fin 2) (s : Fin 8192) (h : Fin 8) : over3 y (ix4 g b s h) = y (ix3 b s h) := by
  pointwise [over3]
theorem num_apply (L : FVec Ideal S3x2x8192x8 .f32) (g : Fin 3) (b : Fin 2) (s : Fin 8192) (h : Fin 8) :
    num L (ix4 g b s h) = Ideal.exp ((L (ix4 g b s h) : EReal) - top L (ix3 b s h)) := by
  rw [← over3_apply (top L) g b s h]
  pointwise [num]
theorem share_apply (L : FVec Ideal S3x2x8192x8 .f32) (g : Fin 3) (b : Fin 2) (s : Fin 8192) (h : Fin 8) :
    share L (ix4 g b s h) = Ideal.div (num L (ix4 g b s h)) (total (num L) (ix3 b s h)) := by
  rw [← over3_apply (total (num L)) g b s h]
  pointwise [share]
theorem weighted_apply (w : FVec Ideal S3x2x8192x8 .f32) (O : FVec Ideal S3x2x8192x8x128 .f32) (g : Fin 3) (b : Fin 2) (s : Fin 8192) (h : Fin 8) (e : Fin 128) :
    weighted w O (ix5 g b s h e) = (w (ix4 g b s h) : EReal) * O (ix5 g b s h e) := by
  pointwise [weighted]
theorem flat_apply (y : FVec Ideal S2x8192x8x128 .f32) (R : Fin 16384) (l : Fin 1024) :
    (shapeCast S16384x1024 y shapeCasts_S2x8192x8x128_S16384x1024 : FVec Ideal S16384x1024 .f32) (ix2 R l)
      = y (ix4 ⟨R.val / 8192, by omega⟩ ⟨R.val % 8192, Nat.mod_lt _ (by decide)⟩ ⟨l.val / 128, by omega⟩ ⟨l.val % 128, Nat.mod_lt _ (by decide)⟩) := by
  pointwise
theorem gate_apply (g : FVec Ideal S16384x1024 .bf16) (R : Fin 16384) (l : Fin 1024) : gate g (ix2 R l) = Merge.gateR (g (ix2 R l)) := by
  pointwise [gate, Merge.gateR]
theorem hidden_apply (y : FVec Ideal S16384x1024 .f32) (g : FVec Ideal S16384x1024 .bf16) (x : FVec Ideal S16384x1024 .f32) (w : FVec Ideal S1024x1024 .bf16)
    (R : Fin 16384) (l : Fin 1024) : hidden y g x w (ix2 R l)
      = Ideal.ofBits .f32 0x3FB504F3#32 * (x (ix2 R l) : EReal) + ∑ k : Fin 1024, (y (ix2 R k) : EReal) * gate g (ix2 R k) * w (ix2 k l) := by
  pointwise [hidden]
theorem mean_apply (y : FVec Ideal S16384x1024 .f32) (R : Fin 16384) : mean y (ix2 R 0) = Merge.mean fun k => y (ix2 R k) := by
  unfold Merge.mean
  rw [← rowTotal_apply]
  pointwise [mean]
theorem centred_apply (y : FVec Ideal S16384x1024 .f32) (R : Fin 16384) (l : Fin 1024) : centred y (ix2 R l) = Merge.centred (fun k => y (ix2 R k)) l := by
  unfold Merge.centred
  rw [← mean_apply]
  pointwise [centred]
theorem lane_apply (y : FVec Ideal S2x1024 .f32) (R : Fin 16384) (l : Fin 1024) : lane y (ix2 R l) = y (ix2 1 l) := by
  pointwise [lane]
theorem norm_apply (y : FVec Ideal S16384x1024 .f32) (gm bt : FVec Ideal S2x1024 .f32) (R : Fin 16384) (l : Fin 1024) :
    norm y gm bt (ix2 R l) = Merge.norm (fun k => y (ix2 R k)) (fun l => gm (ix2 1 l)) (fun l => bt (ix2 1 l)) l := by
  have hv : mean (mulf (centred y) (centred y)) (ix2 R 0) = Merge.mean fun k => Merge.centred (fun k => y (ix2 R k)) k * Merge.centred (fun k => y (ix2 R k)) k := by
    rw [mean_apply]
    refine congrArg Merge.mean (funext fun k => ?_)
    exact congrArg₂ (fun u v : EReal => u * v) (centred_apply y R k) (centred_apply y R k)
  unfold Merge.norm
  dsimp only
  rw [← hv, ← centred_apply, ← lane_apply gm R l, ← lane_apply bt R l]
  pointwise [norm]

section Result

variable (R : Fin 16384) (l : Fin 1024) (A : Merge.Args)

/-- The logarithms of the sums, and the normalised attention, at a token and lane. -/
theorem lses_read (g : Fin 3) : stackL (lseOf (F := Ideal) (tok1 A.s1)) (lseOf (F := Ideal) (tok4 A.s4)) (lseOf (F := Ideal) (tok16 A.s16))
      (ix4 g ⟨R.val / 8192, by omega⟩ ⟨R.val % 8192, Nat.mod_lt _ (by decide)⟩ ⟨l.val / 128, by omega⟩)
    = Merge.lse (Merge.pick A.s1 A.s4 A.s16 R.val (Merge.maxLane l)) (Merge.pick A.s1 A.s4 A.s16 R.val (Merge.sumLane l)) g := by
  rw [stackL_apply, lseOf_apply, lseOf_apply, lseOf_apply, tok1_apply, tok1_apply, tok4_apply, tok4_apply, tok16_apply, tok16_apply]
  match g with
  | ⟨0, _⟩ => rfl
  | ⟨1, _⟩ => rfl
  | ⟨2, _⟩ => rfl
theorem outs_read (g : Fin 3) : stackO (outOf (F := Ideal) (att1 A.o1) (tok1 A.s1)) (outOf (F := Ideal) (att4 A.o4) (tok4 A.s4)) (outOf (F := Ideal) (att16 A.o16) (tok16 A.s16))
      (ix5 g ⟨R.val / 8192, by omega⟩ ⟨R.val % 8192, Nat.mod_lt _ (by decide)⟩ ⟨l.val / 128, by omega⟩ ⟨l.val % 128, Nat.mod_lt _ (by decide)⟩)
    = Ideal.div (Merge.pick A.o1 A.o4 A.o16 R.val l g) (Merge.pick A.s1 A.s4 A.s16 R.val (Merge.sumLane l) g) := by
  have hl : (⟨128 * (l.val / 128) + l.val % 128, by omega⟩ : Fin 1024) = l := Fin.ext (Nat.div_add_mod l.val 128)
  rw [stackO_apply, outOf_apply, outOf_apply, outOf_apply, tok1_apply, tok4_apply, tok16_apply, att1_apply, att4_apply, att16_apply]
  dsimp only
  rw [hl]
  match g with
  | ⟨0, _⟩ => rfl
  | ⟨1, _⟩ => rfl
  | ⟨2, _⟩ => rfl

theorem merged_read : merged (stackL (lseOf (F := Ideal) (tok1 A.s1)) (lseOf (F := Ideal) (tok4 A.s4)) (lseOf (F := Ideal) (tok16 A.s16)))
      (stackO (outOf (F := Ideal) (att1 A.o1) (tok1 A.s1)) (outOf (F := Ideal) (att4 A.o4) (tok4 A.s4)) (outOf (F := Ideal) (att16 A.o16) (tok16 A.s16))) (ix2 R l)
    = Merge.accR (Merge.pick A.s1 A.s4 A.s16 R.val (Merge.maxLane l)) (Merge.pick A.s1 A.s4 A.s16 R.val (Merge.sumLane l)) (Merge.pick A.o1 A.o4 A.o16 R.val l) := by
  refine (flat_apply _ R l).trans ?_
  rw [total3_apply]
  unfold Merge.accR
  refine Finset.sum_congr rfl fun g _ => ?_
  rw [weighted_apply, outs_read R l A g]
  refine congrArg (fun u : EReal => u * _) ?_
  have hn : ∀ g : Fin 3, num (stackL (lseOf (F := Ideal) (tok1 A.s1)) (lseOf (F := Ideal) (tok4 A.s4)) (lseOf (F := Ideal) (tok16 A.s16)))
        (ix4 g ⟨R.val / 8192, by omega⟩ ⟨R.val % 8192, Nat.mod_lt _ (by decide)⟩ ⟨l.val / 128, by omega⟩)
      = Ideal.exp (Merge.lse (Merge.pick A.s1 A.s4 A.s16 R.val (Merge.maxLane l)) (Merge.pick A.s1 A.s4 A.s16 R.val (Merge.sumLane l)) g
        - Merge.topL (Merge.pick A.s1 A.s4 A.s16 R.val (Merge.maxLane l)) (Merge.pick A.s1 A.s4 A.s16 R.val (Merge.sumLane l))) := fun g => by
    rw [num_apply, lses_read R l A g, top_apply]
    exact congrArg (fun f : Fin 3 → EReal => Ideal.exp (_ - max ⊥ (Finset.univ.fold max ⊥ f))) (funext fun g => lses_read R l A g)
  rw [share_apply, hn, total_apply]
  exact congrArg (Ideal.div _) (Finset.sum_congr rfl fun j _ => hn j)

/-- The reference's result at a token and lane. -/
theorem stages_read : stages (F := Ideal) A.o1 A.o4 A.o16 A.s1 A.s4 A.s16 A.g A.x A.w A.gm A.bt (ix2 R l) = Merge.result Merge.accR Merge.gateR A R.val l := by
  unfold stages
  refine (norm_apply _ _ _ R l).trans ?_
  unfold Merge.result
  refine congrArg (fun v => Merge.norm v _ _ l) (funext fun k => ?_)
  have hR : (⟨R.val % 16384, Nat.mod_lt _ (by decide)⟩ : Fin 16384) = R := Fin.ext (Nat.mod_eq_of_lt R.isLt)
  unfold Merge.hid Merge.row
  rw [hidden_apply, hR]
  refine congrArg (fun u : EReal => _ + u) (Finset.sum_congr rfl fun j _ => ?_)
  exact congrArg (fun u : EReal => u * _) (congrArg₂ (fun u v : EReal => u * v) (merged_read R j A) (gate_apply _ R j))

end Result

end Cert.Reference3Ideal.RefVal
-- ==== Proof.MergePre.lean ====
module

public import proofs.«01_k».proof.Proof.MergeSpec
public import proofs.«01_k».proof.Defs
public import Idealize.ShloMosaic.Lib.Pointwise

@[expose] public section

set_option maxRecDepth 16384

noncomputable section

/-! What the precondition says of the statistics: at every token and head a real row maximum and a real positive row sum. -/

namespace Cert.Pre_real_statistics

open Idealize.ShloMosaic Pointwise

variable [Facts]

open Facts

theorem top_eq : Ideal.ofBits .f32 0x7F800000#32 = ⊤ := by
  simp [Ideal.ofBits, Ideal.ieee]
theorem zero_eq : Ideal.ofBits .f32 0x00000000#32 = 0 := by
  simp [Ideal.ofBits, Ideal.ieee]

theorem and_one (a b : Bool) (h : (BitVec.ofBool a &&& BitVec.ofBool b) = 1#1) : a = true ∧ b = true := by
  revert h; cases a <;> cases b <;> decide

/-- An array whose elements lie strictly between two constants. -/
def between {S : Shape} (hb : S_.BroadcastsInDim S (![] : Fin 0 → Fin S.rank)) (lo hi : BitVec 32) (y : FVec Ideal S .f32) : IVec S 1 :=
  andi (cmpf .ogt y (broadcastInDim S ![] hb (constant S_ .f32 lo))) (cmpf .olt y (broadcastInDim S ![] hb (constant S_ .f32 hi)))

theorem between_read {S : Shape} (hb : S_.BroadcastsInDim S (![] : Fin 0 → Fin S.rank)) (lo hi : BitVec 32) (y : FVec Ideal S .f32)
    (h : between hb lo hi y = fun _ => 1#1) (i : S.Idx) : Ideal.ofBits .f32 lo < y i ∧ y i < Ideal.ofBits .f32 hi := by
  have h1 : (BitVec.ofBool (decide (Ideal.ofBits .f32 lo < y i)) &&& BitVec.ofBool (decide (y i < Ideal.ofBits .f32 hi))) = 1#1 := congrFun h i
  obtain ⟨p, q⟩ := and_one _ _ h1
  exact ⟨of_decide_eq_true p, of_decide_eq_true q⟩

/-- A head's row maximum and its row sum. -/
def max1 (y : FVec Ideal S2x4x16x1x128x128 .f32) : FVec Ideal S2x4x16x1x128x8 .f32 :=
  shapeCast _ (extractStridedSlice S2x4x16x1x128x8x1 ![0, 0, 0, 0, 0, 0, 0] (shapeCast S2x4x16x1x128x8x16 y shapeCasts_S2x4x16x1x128x128_S2x4x16x1x128x8x16)
    slices_S2x4x16x1x128x8x16_S2x4x16x1x128x8x1_0_0_0_0_0_0_0) shapeCasts_S2x4x16x1x128x8x1_S2x4x16x1x128x8
def sum1 (y : FVec Ideal S2x4x16x1x128x128 .f32) : FVec Ideal S2x4x16x1x128x8 .f32 :=
  shapeCast _ (extractStridedSlice S2x4x16x1x128x8x1 ![0, 0, 0, 0, 0, 0, 8] (shapeCast S2x4x16x1x128x8x16 y shapeCasts_S2x4x16x1x128x128_S2x4x16x1x128x8x16)
    slices_S2x4x16x1x128x8x16_S2x4x16x1x128x8x1_0_0_0_0_0_0_8) shapeCasts_S2x4x16x1x128x8x1_S2x4x16x1x128x8
def max4 (y : FVec Ideal S2x4x4x4x128x128 .f32) : FVec Ideal S2x4x4x4x128x8 .f32 :=
  shapeCast _ (extractStridedSlice S2x4x4x4x128x8x1 ![0, 0, 0, 0, 0, 0, 0] (shapeCast S2x4x4x4x128x8x16 y shapeCasts_S2x4x4x4x128x128_S2x4x4x4x128x8x16)
    slices_S2x4x4x4x128x8x16_S2x4x4x4x128x8x1_0_0_0_0_0_0_0) shapeCasts_S2x4x4x4x128x8x1_S2x4x4x4x128x8
def sum4 (y : FVec Ideal S2x4x4x4x128x128 .f32) : FVec Ideal S2x4x4x4x128x8 .f32 :=
  shapeCast _ (extractStridedSlice S2x4x4x4x128x8x1 ![0, 0, 0, 0, 0, 0, 8] (shapeCast S2x4x4x4x128x8x16 y shapeCasts_S2x4x4x4x128x128_S2x4x4x4x128x8x16)
    slices_S2x4x4x4x128x8x16_S2x4x4x4x128x8x1_0_0_0_0_0_0_8) shapeCasts_S2x4x4x4x128x8x1_S2x4x4x4x128x8
def max16 (y : FVec Ideal S2x4x1x16x128x128 .f32) : FVec Ideal S2x4x1x16x128x8 .f32 :=
  shapeCast _ (extractStridedSlice S2x4x1x16x128x8x1 ![0, 0, 0, 0, 0, 0, 0] (shapeCast S2x4x1x16x128x8x16 y shapeCasts_S2x4x1x16x128x128_S2x4x1x16x128x8x16)
    slices_S2x4x1x16x128x8x16_S2x4x1x16x128x8x1_0_0_0_0_0_0_0) shapeCasts_S2x4x1x16x128x8x1_S2x4x1x16x128x8
def sum16 (y : FVec Ideal S2x4x1x16x128x128 .f32) : FVec Ideal S2x4x1x16x128x8 .f32 :=
  shapeCast _ (extractStridedSlice S2x4x1x16x128x8x1 ![0, 0, 0, 0, 0, 0, 8] (shapeCast S2x4x1x16x128x8x16 y shapeCasts_S2x4x1x16x128x128_S2x4x1x16x128x8x16)
    slices_S2x4x1x16x128x8x16_S2x4x1x16x128x8x1_0_0_0_0_0_0_8) shapeCasts_S2x4x1x16x128x8x1_S2x4x1x16x128x8

section Read

variable (a : Fin 2) (b : Fin 4) (e : Fin 128) (l : Fin 1024)

theorem max1_read (y : FVec Ideal S2x4x16x1x128x128 .f32) (u : Fin 16) :
    y (ix6 a b u 0 e (Merge.maxLane l)) = max1 y (ix6 a b u 0 e ⟨l.val / 128, by omega⟩) := by
  pointwise [max1, Merge.maxLane]
  exact congrArg (fun q => y (ix6 a b u 0 e q)) (Fin.ext (Nat.mul_comm 16 (l.val / 128)))
theorem sum1_read (y : FVec Ideal S2x4x16x1x128x128 .f32) (u : Fin 16) :
    y (ix6 a b u 0 e (Merge.sumLane l)) = sum1 y (ix6 a b u 0 e ⟨l.val / 128, by omega⟩) := by
  pointwise [sum1, Merge.sumLane]
  exact congrArg (fun q => y (ix6 a b u 0 e q)) (Fin.ext (congrArg (· + 8) (Nat.mul_comm 16 (l.val / 128))))
theorem max4_read (y : FVec Ideal S2x4x4x4x128x128 .f32) (u r : Fin 4) :
    y (ix6 a b u r e (Merge.maxLane l)) = max4 y (ix6 a b u r e ⟨l.val / 128, by omega⟩) := by
  pointwise [max4, Merge.maxLane]
  exact congrArg (fun q => y (ix6 a b u r e q)) (Fin.ext (Nat.mul_comm 16 (l.val / 128)))
theorem sum4_read (y : FVec Ideal S2x4x4x4x128x128 .f32) (u r : Fin 4) :
    y (ix6 a b u r e (Merge.sumLane l)) = sum4 y (ix6 a b u r e ⟨l.val / 128, by omega⟩) := by
  pointwise [sum4, Merge.sumLane]
  exact congrArg (fun q => y (ix6 a b u r e q)) (Fin.ext (congrArg (· + 8) (Nat.mul_comm 16 (l.val / 128))))
theorem max16_read (y : FVec Ideal S2x4x1x16x128x128 .f32) (r : Fin 16) :
    y (ix6 a b 0 r e (Merge.maxLane l)) = max16 y (ix6 a b 0 r e ⟨l.val / 128, by omega⟩) := by
  pointwise [max16, Merge.maxLane]
  exact congrArg (fun q => y (ix6 a b 0 r e q)) (Fin.ext (Nat.mul_comm 16 (l.val / 128)))
theorem sum16_read (y : FVec Ideal S2x4x1x16x128x128 .f32) (r : Fin 16) :
    y (ix6 a b 0 r e (Merge.sumLane l)) = sum16 y (ix6 a b 0 r e ⟨l.val / 128, by omega⟩) := by
  pointwise [sum16, Merge.sumLane]
  exact congrArg (fun q => y (ix6 a b 0 r e q)) (Fin.ext (congrArg (· + 8) (Nat.mul_comm 16 (l.val / 128))))

end Read

theorem real_of {z x : EReal} (e : z = x) (h : Ideal.ofBits .f32 0xFF800000#32 < x ∧ x < Ideal.ofBits .f32 0x7F800000#32) : ∃ r : ℝ, z = (r : EReal) := by
  subst e
  rw [Merge.bot_eq, top_eq] at h
  exact ⟨z.toReal, (EReal.coe_toReal h.2.ne h.1.ne').symm⟩
theorem pos_of {z x : EReal} (e : z = x) (h : Ideal.ofBits .f32 0x00000000#32 < x ∧ x < Ideal.ofBits .f32 0x7F800000#32) : ∃ r : ℝ, 0 < r ∧ z = (r : EReal) := by
  subst e
  rw [zero_eq, top_eq] at h
  have hx : z = (z.toReal : EReal) := (EReal.coe_toReal h.2.ne (lt_of_le_of_lt bot_le h.1).ne').symm
  exact ⟨z.toReal, EReal.coe_pos.1 (lt_of_lt_of_eq h.1 hx), hx⟩

variable (o1 : FVec Ideal S2x4x16x1x128x1024 .bf16) (o4 : FVec Ideal S2x4x4x4x128x1024 .bf16) (o16 : FVec Ideal S2x4x1x16x128x1024 .bf16)
  (s1 : FVec Ideal S2x4x16x1x128x128 .f32) (s4 : FVec Ideal S2x4x4x4x128x128 .f32) (s16 : FVec Ideal S2x4x1x16x128x128 .f32)
  (g : FVec Ideal S16384x1024 .bf16) (x : FVec Ideal S16384x1024 .f32) (w : FVec Ideal S1024x1024 .bf16) (gm bt : FVec Ideal S2x1024 .f32)

theorem fn_eq : fn (F := Ideal) o1 o4 o16 s1 s4 s16 g x w gm bt
    = (between bcast_S_S2x4x16x1x128x8 0xFF800000#32 0x7F800000#32 (max1 s1), between bcast_S_S2x4x16x1x128x8 0x00000000#32 0x7F800000#32 (sum1 s1),
      between bcast_S_S2x4x4x4x128x8 0xFF800000#32 0x7F800000#32 (max4 s4), between bcast_S_S2x4x4x4x128x8 0x00000000#32 0x7F800000#32 (sum4 s4),
      between bcast_S_S2x4x1x16x128x8 0xFF800000#32 0x7F800000#32 (max16 s16), between bcast_S_S2x4x1x16x128x8 0x00000000#32 0x7F800000#32 (sum16 s16)) := rfl

/-- The precondition at a token, a lane and a group. -/
theorem reals (h : (fn (F := Ideal) o1 o4 o16 s1 s4 s16 g x w gm bt).1 = (fun _ => 1#1)
      ∧ (fn (F := Ideal) o1 o4 o16 s1 s4 s16 g x w gm bt).2.1 = (fun _ => 1#1)
      ∧ (fn (F := Ideal) o1 o4 o16 s1 s4 s16 g x w gm bt).2.2.1 = (fun _ => 1#1)
      ∧ (fn (F := Ideal) o1 o4 o16 s1 s4 s16 g x w gm bt).2.2.2.1 = (fun _ => 1#1)
      ∧ (fn (F := Ideal) o1 o4 o16 s1 s4 s16 g x w gm bt).2.2.2.2.1 = (fun _ => 1#1)
      ∧ (fn (F := Ideal) o1 o4 o16 s1 s4 s16 g x w gm bt).2.2.2.2.2 = (fun _ => 1#1)) (R : Nat) (l : Fin 1024) (q : Fin 3) :
    (∃ r : ℝ, Merge.pick s1 s4 s16 R (Merge.maxLane l) q = (r : EReal)) ∧ ∃ r : ℝ, 0 < r ∧ Merge.pick s1 s4 s16 R (Merge.sumLane l) q = (r : EReal) := by
  rw [fn_eq] at h
  obtain ⟨h1, h2, h3, h4, h5, h6⟩ := h
  match q with
  | ⟨0, _⟩ => exact ⟨real_of (max1_read _ _ _ _ s1 _) (between_read _ _ _ _ h1 _), pos_of (sum1_read _ _ _ _ s1 _) (between_read _ _ _ _ h2 _)⟩
  | ⟨1, _⟩ => exact ⟨real_of (max4_read _ _ _ _ s4 _ _) (between_read _ _ _ _ h3 _), pos_of (sum4_read _ _ _ _ s4 _ _) (between_read _ _ _ _ h4 _)⟩
  | ⟨2, _⟩ => exact ⟨real_of (max16_read _ _ _ _ s16 _) (between_read _ _ _ _ h5 _), pos_of (sum16_read _ _ _ _ s16 _) (between_read _ _ _ _ h6 _)⟩

end Cert.Pre_real_statistics
-- ==== Proof.MergeAlgebra.lean ====
module

public import proofs.«01_k».proof.Proof.MergeArray
public import proofs.«01_k».proof.Proof.MergeRef
public import proofs.«01_k».proof.Proof.MergePre
public import proofs.«01_k».proof.Defs

@[expose] public section

set_option maxRecDepth 16384

noncomputable section

/-! The merge call and its reference end with the same array. -/

namespace Merge

/-- Where the row maxima are real and the row sums real and positive, the kernel's merge and gate give the reference's result. -/
theorem result_eq (A : Args) (hA : ∀ (R : Nat) (l : Fin 1024) (q : Fin 3), (∃ r : ℝ, pick A.s1 A.s4 A.s16 R (maxLane l) q = (r : EReal))
      ∧ ∃ r : ℝ, 0 < r ∧ pick A.s1 A.s4 A.s16 R (sumLane l) q = (r : EReal)) (R : Nat) (l : Fin 1024) :
    result accR gateR A R l = result accK gateK A R l := by
  have hacc : ∀ k : Fin 1024, accR (pick A.s1 A.s4 A.s16 R (maxLane k)) (pick A.s1 A.s4 A.s16 R (sumLane k)) (pick A.o1 A.o4 A.o16 R k)
      = accK (pick A.s1 A.s4 A.s16 R (maxLane k)) (pick A.s1 A.s4 A.s16 R (sumLane k)) (pick A.o1 A.o4 A.o16 R k) := fun k => by
    choose m hm using fun q => (hA R k q).1
    choose d hd using fun q => (hA R k q).2
    rw [show pick A.s1 A.s4 A.s16 R (maxLane k) = fun q => (m q : EReal) from funext hm,
      show pick A.s1 A.s4 A.s16 R (sumLane k) = fun q => (d q : EReal) from funext fun q => (hd q).2]
    exact (acc_eq m d (fun q => (hd q).1) _).symm
  unfold result
  refine congrArg (fun v => norm v _ _ l) (congrArg (fun a => hid a _ _) (funext fun k => ?_))
  exact congrArg₂ (fun u v : EReal => u * v) (hacc k) (gate_eq _).symm

end Merge

namespace Cert.ProofMerge

open Idealize.ShloMosaic Idealize.SL.Sem Pointwise Cert.Kernel3Ideal.Val Cert.Reference3Ideal.RefVal

variable (A : Merge.Args)

theorem stages_byRow : stages (F := Ideal) A.o1 A.o4 A.o16 A.s1 A.s4 A.s16 A.g A.x A.w A.gm A.bt = Merge.byRow (Merge.result Merge.accR Merge.gateR A) := by
  funext z
  obtain ⟨R, l, rfl⟩ : ∃ (R : Fin 16384) (l : Fin 1024), z = ix2 R l := ⟨z 0, z 1, eq_ix2 z⟩
  exact stages_read R l A

variable (m : (ℓ : Loc Cert.Kernel3Ideal.nD Cert.Kernel3Ideal.τ Cert.Kernel3Ideal.sig) → Buf (Elt Ideal) ℓ) (c : Dev Cert.Kernel3Ideal.nD)

theorem same [Cert.Pre_real_statistics.Facts] (hpre : Cert.Pre_Kernel3Ideal_real_statistics m) :
    stages (F := Ideal) (args m c).o1 (args m c).o4 (args m c).o16 (args m c).s1 (args m c).s4 (args m c).s16 (args m c).g (args m c).x (args m c).w (args m c).gm (args m c).bt
      = Merge.byRow (Merge.result Merge.accK Merge.gateK (args m c)) :=
  (stages_byRow (args m c)).trans (congrArg Merge.byRow (funext fun R => funext fun l =>
    Merge.result_eq (args m c) (Cert.Pre_real_statistics.reals _ _ _ _ _ _ _ _ _ _ _ (hpre c)) R l))

/-- The reference's result from arrays equal to the kernel's arguments. -/
theorem sameResult [Cert.Pre_real_statistics.Facts] (hpre : Cert.Pre_Kernel3Ideal_real_statistics m)
    (o1 : FVec Ideal Cert.Reference3Ideal.S2x4x16x1x128x1024 .bf16) (o4 : FVec Ideal Cert.Reference3Ideal.S2x4x4x4x128x1024 .bf16)
    (o16 : FVec Ideal Cert.Reference3Ideal.S2x4x1x16x128x1024 .bf16) (s1 : FVec Ideal Cert.Reference3Ideal.S2x4x16x1x128x128 .f32)
    (s4 : FVec Ideal Cert.Reference3Ideal.S2x4x4x4x128x128 .f32) (s16 : FVec Ideal Cert.Reference3Ideal.S2x4x1x16x128x128 .f32)
    (g : FVec Ideal Cert.Reference3Ideal.S16384x1024 .bf16) (x : FVec Ideal Cert.Reference3Ideal.S16384x1024 .f32)
    (w : FVec Ideal Cert.Reference3Ideal.S1024x1024 .bf16) (gm bt : FVec Ideal Cert.Reference3Ideal.S2x1024 .f32)
    (h0 : o1 = (args m c).o1) (h1 : o4 = (args m c).o4) (h2 : o16 = (args m c).o16) (h3 : s1 = (args m c).s1) (h4 : s4 = (args m c).s4) (h5 : s16 = (args m c).s16) (h6 : g = (args m c).g) (h7 : x = (args m c).x) (h8 : w = (args m c).w) (h9 : gm = (args m c).gm) (h10 : bt = (args m c).bt) :
    stages (F := Ideal) o1 o4 o16 s1 s4 s16 g x w gm bt = Merge.byRow (Merge.result Merge.accK Merge.gateK (args m c)) := by
  subst h0 h1 h2 h3 h4 h5 h6 h7 h8 h9 h10
  exact same m c hpre

end Cert.ProofMerge
-- ==== Proof.lean ====
/- The claims about the attention call and the projection call: the frames of the programs, and that each kernel and its
   reference, read at the extended reals, end with the same arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_real_statistics
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Span
public import proofs.«01_k».proof.Proof.Att4
public import proofs.«01_k».proof.Proof.RefDil4
public import proofs.«01_k».proof.Proof.Att1
public import proofs.«01_k».proof.Proof.RefDil1
public import proofs.«01_k».proof.Proof.Algebra
public import proofs.«01_k».proof.Proof.ProjAlgebra
public import proofs.«01_k».proof.Proof.MergeAlgebra
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two programs end with equal results. -/
theorem algebraic [Cert.KernelIdeal.Facts] [Cert.ReferenceIdeal.Facts] :
    Cert.algebraic_KernelIdeal_ReferenceIdeal := by
  pair_intro
  · run_from Cert.KernelIdeal.Gen.run_main m g
  · run_from Cert.ReferenceIdeal.Value.run m' g'
    · refine Eq.trans ?_ (Cert.KernelIdeal.Val.final5 m c).symm
      exact (Cert.ReferenceIdeal.RefVal.res0_eq m' c).trans (refO m c _ _ _ (hagree c).1 (hagree c).2.1 (hagree c).2.2)
    · refine Eq.trans ?_ (Cert.KernelIdeal.Val.final6 m c).symm
      exact (Cert.ReferenceIdeal.RefVal.res1_eq m' c).trans (refS m c _ _ (hagree c).1 (hagree c).2.1)

set_option maxHeartbeats 2000000 in
/-- The two projection programs end with equal results. -/
theorem algebraic2 [Cert.Kernel2Ideal.Facts] [Cert.Reference2Ideal.Facts] :
    Cert.algebraic_Kernel2Ideal_Reference2Ideal := by
  pair_intro
  · run_from Cert.Kernel2Ideal.Gen.run_main m g
  · run_from Cert.Reference2Ideal.Value.run m' g'
    · refine Eq.trans ?_ (Cert.Kernel2Ideal.Val.final6 m c).symm
      exact (Cert.Reference2Ideal.RefVal.res80_eq m' c).trans (Cert.ProofProj.sameK0 m c _ _ (hagree c).1 (hagree c).2.1)
    · refine Eq.trans ?_ (Cert.Kernel2Ideal.Val.final7 m c).symm
      exact (Cert.Reference2Ideal.RefVal.res85_eq m' c).trans (Cert.ProofProj.sameK1 m c _ _ (hagree c).1 (hagree c).2.1)
    · refine Eq.trans ?_ (Cert.Kernel2Ideal.Val.final8 m c).symm
      exact (Cert.Reference2Ideal.RefVal.res90_eq m' c).trans (Cert.ProofProj.sameK2 m c _ _ (hagree c).1 (hagree c).2.1)
    · refine Eq.trans ?_ (Cert.Kernel2Ideal.Val.final9 m c).symm
      exact (Cert.ProofProj.sameV0 m c _ _ rfl rfl)
    · refine Eq.trans ?_ (Cert.Kernel2Ideal.Val.final10 m c).symm
      exact (Cert.ProofProj.sameV1 m c _ _ rfl rfl)
    · refine Eq.trans ?_ (Cert.Kernel2Ideal.Val.final11 m c).symm
      exact (Cert.ProofProj.sameV2 m c _ _ rfl rfl)
    · refine Eq.trans ?_ (Cert.Kernel2Ideal.Val.final12 m c).symm
      exact (Cert.Reference2Ideal.RefVal.res110_eq m' c).trans (Cert.ProofProj.sameQ0 m c _ _ (hagree c).1 (hagree c).2.2)
    · refine Eq.trans ?_ (Cert.Kernel2Ideal.Val.final13 m c).symm
      exact (Cert.Reference2Ideal.RefVal.res115_eq m' c).trans (Cert.ProofProj.sameQ1 m c _ _ (hagree c).1 (hagree c).2.2)
    · refine Eq.trans ?_ (Cert.Kernel2Ideal.Val.final14 m c).symm
      exact (Cert.Reference2Ideal.RefVal.res120_eq m' c).trans (Cert.ProofProj.sameQ2 m c _ _ (hagree c).1 (hagree c).2.2)
    · refine Eq.trans ?_ (Cert.Kernel2Ideal.Val.final15 m c).symm
      exact (Cert.ProofProj.sameG m c _ _ rfl rfl)

set_option maxHeartbeats 2000000 in
/-- The two merge programs end with equal results, from statistics that are real and row sums that are positive. -/
theorem algebraic3 [Cert.Kernel3Ideal.Facts] [Cert.Reference3Ideal.Facts] [Cert.Pre_real_statistics.Facts] :
    Cert.algebraic_Kernel3Ideal_Reference3Ideal_pre_real_statistics := by
  pair_intro
  · run_from Cert.Kernel3Ideal.Gen.run_main m g
  · run_from Cert.Reference3Ideal.Value.run m' g'
    · refine Eq.trans ?_ (Cert.Kernel3Ideal.Val.final11 m c).symm
      exact (Cert.Reference3Ideal.RefVal.res_eq m' c).trans (Cert.ProofMerge.sameResult m c hpre _ _ _ _ _ _ _ _ _ _ _
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2)

set_option maxHeartbeats 2000000 in
/-- The two programs of the attention at dilation 4 end with equal results. -/
theorem algebraic4 [Cert.Kernel4Ideal.Facts] [Cert.Reference4Ideal.Facts] :
    Cert.algebraic_Kernel4Ideal_Reference4Ideal := by
  pair_intro
  · run_from Cert.Kernel4Ideal.Gen.run_main m g
  · run_from Cert.Reference4Ideal.Value.run m' g'
    · refine Eq.trans ?_ (Cert.Kernel4Ideal.Val.final5 m c).symm
      exact ((Cert.Reference4Ideal.RefVal.res0_eq m' c).trans (Cert.Reference4Ideal.RefVal.outO_eq _ _ _)).trans
        (Cert.Swa.spanO_congr 4 4 (hagree c).1 (hagree c).2.1 (hagree c).2.2)
    · refine Eq.trans ?_ (Cert.Kernel4Ideal.Val.final6 m c).symm
      exact ((Cert.Reference4Ideal.RefVal.res1_eq m' c).trans (Cert.Reference4Ideal.RefVal.outS_eq _ _)).trans
        (Cert.Swa.spanS_congr 4 4 (hagree c).1 (hagree c).2.1)

set_option maxHeartbeats 2000000 in
/-- The two programs of the attention at dilation 1 end with equal results. -/
theorem algebraic5 [Cert.Kernel5Ideal.Facts] [Cert.Reference5Ideal.Facts] :
    Cert.algebraic_Kernel5Ideal_Reference5Ideal := by
  pair_intro
  · run_from Cert.Kernel5Ideal.Gen.run_main m g
  · run_from Cert.Reference5Ideal.Value.run m' g'
    · refine Eq.trans ?_ (Cert.Kernel5Ideal.Val.final5 m c).symm
      exact ((Cert.Reference5Ideal.RefVal.res0_eq m' c).trans (Cert.Reference5Ideal.RefVal.outO_eq _ _ _)).trans
        (Cert.Swa.spanO_congr 16 1 (hagree c).1 (hagree c).2.1 (hagree c).2.2)
    · refine Eq.trans ?_ (Cert.Kernel5Ideal.Val.final6 m c).symm
      exact ((Cert.Reference5Ideal.RefVal.res1_eq m' c).trans (Cert.Reference5Ideal.RefVal.outS_eq _ _)).trans
        (Cert.Swa.spanS_congr 16 1 (hagree c).1 (hagree c).2.1)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_real_statistics.Gen.facts,
  fun m ρ _ => Cert.Kernel.Gen.frame m ρ,
  fun m ρ _ => Cert.KernelIdeal.Gen.frame m ρ,
  fun m ρ _ => (θ_run _ _ _).mono
    (fun r h => ⟨fun c => (h c).2.2, sem_eq_zero_of_no_sems rfl r.2⟩) (Cert.ReferenceIdeal.Value.run m ρ),
  fun m ρ _ => Cert.Kernel2.Gen.frame m ρ,
  fun m ρ _ => Cert.Kernel2Ideal.Gen.frame m ρ,
  fun m ρ _ => (θ_run _ _ _).mono
    (fun r h => ⟨fun c => (h c).2.2.2.2.2.2.2.2.2.2, sem_eq_zero_of_no_sems rfl r.2⟩) (Cert.Reference2Ideal.Value.run m ρ),
  fun m ρ _ => Cert.Kernel3.Gen.frame m ρ,
  fun m ρ _ => Cert.Kernel3Ideal.Gen.frame m ρ,
  fun m ρ _ => Cert.Kernel3Ideal.Gen.frame m ρ,
  fun m ρ _ => (θ_run _ _ _).mono
    (fun r h => ⟨fun c => (h c).2, sem_eq_zero_of_no_sems rfl r.2⟩) (Cert.Reference3Ideal.Value.run m ρ),
  fun m ρ _ => (θ_run _ _ _).mono
    (fun r h => ⟨fun c => (h c).2, sem_eq_zero_of_no_sems rfl r.2⟩) (Cert.Reference3Ideal.Value.run m ρ),
  fun m ρ _ => Cert.Kernel4.Gen.frame m ρ,
  fun m ρ _ => Cert.Kernel4Ideal.Gen.frame m ρ,
  fun m ρ _ => (θ_run _ _ _).mono
    (fun r h => ⟨fun c => (h c).2.2, sem_eq_zero_of_no_sems rfl r.2⟩) (Cert.Reference4Ideal.Value.run m ρ),
  fun m ρ _ => Cert.Kernel5.Gen.frame m ρ,
  fun m ρ _ => Cert.Kernel5Ideal.Gen.frame m ρ,
  fun m ρ _ => (θ_run _ _ _).mono
    (fun r h => ⟨fun c => (h c).2.2, sem_eq_zero_of_no_sems rfl r.2⟩) (Cert.Reference5Ideal.Value.run m ρ),
  trivial,
  algebraic,
  trivial,
  algebraic2,
  trivial,
  algebraic3,
  trivial,
  algebraic4,
  trivial,
  algebraic5⟩

end Cert.Proof

end
